-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_PromptKernel (m : (ℓ : Loc Cert.PromptKernel.nD Cert.PromptKernel.τ Cert.PromptKernel.sig) → Buf (Elt Bits) ℓ) : Prop :=
  True

def Pre_PromptKernelIdeal (m : (ℓ : Loc Cert.PromptKernelIdeal.nD Cert.PromptKernelIdeal.τ Cert.PromptKernelIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8)
      ∧ r.2.mem ((c.tc : Thread Cert.TailKernel.nD Cert.TailKernel.τ).loc Cert.TailKernel.main_arg9) = m ((c.tc : Thread Cert.TailKernel.nD Cert.TailKernel.τ).loc Cert.TailKernel.main_arg9)
      ∧ r.2.mem ((c.tc : Thread Cert.TailKernel.nD Cert.TailKernel.τ).loc Cert.TailKernel.main_arg10) = m ((c.tc : Thread Cert.TailKernel.nD Cert.TailKernel.τ).loc Cert.TailKernel.main_arg10)
      ∧ r.2.mem ((c.tc : Thread Cert.TailKernel.nD Cert.TailKernel.τ).loc Cert.TailKernel.main_arg11) = m ((c.tc : Thread Cert.TailKernel.nD Cert.TailKernel.τ).loc Cert.TailKernel.main_arg11))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
      ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10)
      ∧ r.2.mem ((c.tc : Thread Cert.TailKernelIdeal.nD Cert.TailKernelIdeal.τ).loc Cert.TailKernelIdeal.main_arg11) = m ((c.tc : Thread Cert.TailKernelIdeal.nD Cert.TailKernelIdeal.τ).loc Cert.TailKernelIdeal.main_arg11))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11))
      ∧ r.2.sem = fun _ => 0)

def quiescent_PromptKernel [hPromptKernel : Cert.PromptKernel.Facts] : Prop :=
  ∀ (m : (ℓ : Loc Cert.PromptKernel.nD Cert.PromptKernel.τ Cert.PromptKernel.sig) → Buf (Elt Bits) ℓ) (g : Dev Cert.PromptKernel.nD → PrngReg), Pre_PromptKernel m →
    θ_run (Cert.PromptKernel.defs (F := Bits)) (onTc (τ := Cert.PromptKernel.τ) (Cert.PromptKernel.main (F := Bits))) ⟨m, fun _ => 0, g⟩ (fun r => (∀ c : Dev Cert.PromptKernel.nD,
      r.2.mem ((c.tc : Thread Cert.PromptKernel.nD Cert.PromptKernel.τ).loc Cert.PromptKernel.main_arg0) = m ((c.tc : Thread Cert.PromptKernel.nD Cert.PromptKernel.τ).loc Cert.PromptKernel.main_arg0)
      ∧ r.2.mem ((c.tc : Thread Cert.PromptKernel.nD Cert.PromptKernel.τ).loc Cert.PromptKernel.main_arg1) = m ((c.tc : Thread Cert.PromptKernel.nD Cert.PromptKernel.τ).loc Cert.PromptKernel.main_arg1)
      ∧ r.2.mem ((c.tc : Thread Cert.PromptKernel.nD Cert.PromptKernel.τ).loc Cert.PromptKernel.main_arg2) = m ((c.tc : Thread Cert.PromptKernel.nD Cert.PromptKernel.τ).loc Cert.PromptKernel.main_arg2)
      ∧ r.2.mem ((c.tc : Thread Cert.PromptKernel.nD Cert.PromptKernel.τ).loc Cert.PromptKernel.main_arg3) = m ((c.tc : Thread Cert.PromptKernel.nD Cert.PromptKernel.τ).loc Cert.PromptKernel.main_arg3)
      ∧ r.2.mem ((c.tc : Thread Cert.PromptKernel.nD Cert.PromptKernel.τ).loc Cert.PromptKernel.main_arg4) = m ((c.tc : Thread Cert.PromptKernel.nD Cert.PromptKernel.τ).loc Cert.PromptKernel.main_arg4)
      ∧ r.2.mem ((c.tc : Thread Cert.PromptKernel.nD Cert.PromptKernel.τ).loc Cert.PromptKernel.main_arg5) = m ((c.tc : Thread Cert.PromptKernel.nD Cert.PromptKernel.τ).loc Cert.PromptKernel.main_arg5)
      ∧ r.2.mem ((c.tc : Thread Cert.PromptKernel.nD Cert.PromptKernel.τ).loc Cert.PromptKernel.main_arg6) = m ((c.tc : Thread Cert.PromptKernel.nD Cert.PromptKernel.τ).loc Cert.PromptKernel.main_arg6)
      ∧ r.2.mem ((c.tc : Thread Cert.PromptKernel.nD Cert.PromptKernel.τ).loc Cert.PromptKernel.main_arg7) = m ((c.tc : Thread Cert.PromptKernel.nD Cert.PromptKernel.τ).loc Cert.PromptKernel.main_arg7)
      ∧ r.2.mem ((c.tc : Thread Cert.PromptKernel.nD Cert.PromptKernel.τ).loc Cert.PromptKernel.main_arg8) = m ((c.tc : Thread Cert.PromptKernel.nD Cert.PromptKernel.τ).loc Cert.PromptKernel.main_arg8)
      ∧ r.2.mem ((c.tc : Thread Cert.PromptKernel.nD Cert.PromptKernel.τ).loc Cert.PromptKernel.main_arg9) = m ((c.tc : Thread Cert.PromptKernel.nD Cert.PromptKernel.τ).loc Cert.PromptKernel.main_arg9)
      ∧ r.2.mem ((c.tc : Thread Cert.PromptKernel.nD Cert.PromptKernel.τ).loc Cert.PromptKernel.main_arg10) = m ((c.tc : Thread Cert.PromptKernel.nD Cert.PromptKernel.τ).loc Cert.PromptKernel.main_arg10)
      ∧ r.2.mem ((c.tc : Thread Cert.PromptKernel.nD Cert.PromptKernel.τ).loc Cert.PromptKernel.main_arg11) = m ((c.tc : Thread Cert.PromptKernel.nD Cert.PromptKernel.τ).loc Cert.PromptKernel.main_arg11))
      ∧ r.2.sem = fun _ => 0)

def quiescent_PromptKernelIdeal [hPromptKernelIdeal : Cert.PromptKernelIdeal.Facts] : Prop :=
  ∀ (m : (ℓ : Loc Cert.PromptKernelIdeal.nD Cert.PromptKernelIdeal.τ Cert.PromptKernelIdeal.sig) → Buf (Elt Ideal) ℓ) (g : Dev Cert.PromptKernelIdeal.nD → PrngReg), Pre_PromptKernelIdeal m →
    θ_run (Cert.PromptKernelIdeal.defs (F := Ideal)) (onTc (τ := Cert.PromptKernelIdeal.τ) (Cert.PromptKernelIdeal.main (F := Ideal))) ⟨m, fun _ => 0, g⟩ (fun r => (∀ c : Dev Cert.PromptKernelIdeal.nD,
      r.2.mem ((c.tc : Thread Cert.PromptKernelIdeal.nD Cert.PromptKernelIdeal.τ).loc Cert.PromptKernelIdeal.main_arg0) = m ((c.tc : Thread Cert.PromptKernelIdeal.nD Cert.PromptKernelIdeal.τ).loc Cert.PromptKernelIdeal.main_arg0)
      ∧ r.2.mem ((c.tc : Thread Cert.PromptKernelIdeal.nD Cert.PromptKernelIdeal.τ).loc Cert.PromptKernelIdeal.main_arg1) = m ((c.tc : Thread Cert.PromptKernelIdeal.nD Cert.PromptKernelIdeal.τ).loc Cert.PromptKernelIdeal.main_arg1)
      ∧ r.2.mem ((c.tc : Thread Cert.PromptKernelIdeal.nD Cert.PromptKernelIdeal.τ).loc Cert.PromptKernelIdeal.main_arg2) = m ((c.tc : Thread Cert.PromptKernelIdeal.nD Cert.PromptKernelIdeal.τ).loc Cert.PromptKernelIdeal.main_arg2)
      ∧ r.2.mem ((c.tc : Thread Cert.PromptKernelIdeal.nD Cert.PromptKernelIdeal.τ).loc Cert.PromptKernelIdeal.main_arg3) = m ((c.tc : Thread Cert.PromptKernelIdeal.nD Cert.PromptKernelIdeal.τ).loc Cert.PromptKernelIdeal.main_arg3)
      ∧ r.2.mem ((c.tc : Thread Cert.PromptKernelIdeal.nD Cert.PromptKernelIdeal.τ).loc Cert.PromptKernelIdeal.main_arg4) = m ((c.tc : Thread Cert.PromptKernelIdeal.nD Cert.PromptKernelIdeal.τ).loc Cert.PromptKernelIdeal.main_arg4)
      ∧ r.2.mem ((c.tc : Thread Cert.PromptKernelIdeal.nD Cert.PromptKernelIdeal.τ).loc Cert.PromptKernelIdeal.main_arg5) = m ((c.tc : Thread Cert.PromptKernelIdeal.nD Cert.PromptKernelIdeal.τ).loc Cert.PromptKernelIdeal.main_arg5)
      ∧ r.2.mem ((c.tc : Thread Cert.PromptKernelIdeal.nD Cert.PromptKernelIdeal.τ).loc Cert.PromptKernelIdeal.main_arg6) = m ((c.tc : Thread Cert.PromptKernelIdeal.nD Cert.PromptKernelIdeal.τ).loc Cert.PromptKernelIdeal.main_arg6)
      ∧ r.2.mem ((c.tc : Thread Cert.PromptKernelIdeal.nD Cert.PromptKernelIdeal.τ).loc Cert.PromptKernelIdeal.main_arg7) = m ((c.tc : Thread Cert.PromptKernelIdeal.nD Cert.PromptKernelIdeal.τ).loc Cert.PromptKernelIdeal.main_arg7)
      ∧ r.2.mem ((c.tc : Thread Cert.PromptKernelIdeal.nD Cert.PromptKernelIdeal.τ).loc Cert.PromptKernelIdeal.main_arg8) = m ((c.tc : Thread Cert.PromptKernelIdeal.nD Cert.PromptKernelIdeal.τ).loc Cert.PromptKernelIdeal.main_arg8)
      ∧ r.2.mem ((c.tc : Thread Cert.PromptKernelIdeal.nD Cert.PromptKernelIdeal.τ).loc Cert.PromptKernelIdeal.main_arg9) = m ((c.tc : Thread Cert.PromptKernelIdeal.nD Cert.PromptKernelIdeal.τ).loc Cert.PromptKernelIdeal.main_arg9)
      ∧ r.2.mem ((c.tc : Thread Cert.PromptKernelIdeal.nD Cert.PromptKernelIdeal.τ).loc Cert.PromptKernelIdeal.main_arg10) = m ((c.tc : Thread Cert.PromptKernelIdeal.nD Cert.PromptKernelIdeal.τ).loc Cert.PromptKernelIdeal.main_arg10)
      ∧ r.2.mem ((c.tc : Thread Cert.PromptKernelIdeal.nD Cert.PromptKernelIdeal.τ).loc Cert.PromptKernelIdeal.main_arg11) = m ((c.tc : Thread Cert.PromptKernelIdeal.nD Cert.PromptKernelIdeal.τ).loc Cert.PromptKernelIdeal.main_arg11))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9)
      ∧ r.2.mem ((c.tc : Thread Cert.PromptReferenceIdeal.nD Cert.PromptReferenceIdeal.τ).loc Cert.PromptReferenceIdeal.main_arg10) = m ((c.tc : Thread Cert.PromptReferenceIdeal.nD Cert.PromptReferenceIdeal.τ).loc Cert.PromptReferenceIdeal.main_arg10)
      ∧ r.2.mem ((c.tc : Thread Cert.PromptReferenceIdeal.nD Cert.PromptReferenceIdeal.τ).loc Cert.PromptReferenceIdeal.main_arg11) = m ((c.tc : Thread Cert.PromptReferenceIdeal.nD Cert.PromptReferenceIdeal.τ).loc Cert.PromptReferenceIdeal.main_arg11))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9)
      ∧ r.2.mem ((c.tc : Thread Cert.MidKernel.nD Cert.MidKernel.τ).loc Cert.MidKernel.main_arg10) = m ((c.tc : Thread Cert.MidKernel.nD Cert.MidKernel.τ).loc Cert.MidKernel.main_arg10))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
      ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6)
      ∧ r.2.mem ((c.tc : Thread Cert.EvenKernel.nD Cert.EvenKernel.τ).loc Cert.EvenKernel.main_arg7) = m ((c.tc : Thread Cert.EvenKernel.nD Cert.EvenKernel.τ).loc Cert.EvenKernel.main_arg7)
      ∧ r.2.mem ((c.tc : Thread Cert.EvenKernel.nD Cert.EvenKernel.τ).loc Cert.EvenKernel.main_arg8) = m ((c.tc : Thread Cert.EvenKernel.nD Cert.EvenKernel.τ).loc Cert.EvenKernel.main_arg8)
      ∧ r.2.mem ((c.tc : Thread Cert.EvenKernel.nD Cert.EvenKernel.τ).loc Cert.EvenKernel.main_arg9) = m ((c.tc : Thread Cert.EvenKernel.nD Cert.EvenKernel.τ).loc Cert.EvenKernel.main_arg9)
      ∧ r.2.mem ((c.tc : Thread Cert.EvenKernel.nD Cert.EvenKernel.τ).loc Cert.EvenKernel.main_arg10) = m ((c.tc : Thread Cert.EvenKernel.nD Cert.EvenKernel.τ).loc Cert.EvenKernel.main_arg10)
      ∧ r.2.mem ((c.tc : Thread Cert.EvenKernel.nD Cert.EvenKernel.τ).loc Cert.EvenKernel.main_arg11) = m ((c.tc : Thread Cert.EvenKernel.nD Cert.EvenKernel.τ).loc Cert.EvenKernel.main_arg11)
      ∧ r.2.mem ((c.tc : Thread Cert.EvenKernel.nD Cert.EvenKernel.τ).loc Cert.EvenKernel.main_arg12) = m ((c.tc : Thread Cert.EvenKernel.nD Cert.EvenKernel.τ).loc Cert.EvenKernel.main_arg12))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
      ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
      ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
      ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10)
      ∧ r.2.mem ((c.tc : Thread Cert.EvenKernelIdeal.nD Cert.EvenKernelIdeal.τ).loc Cert.EvenKernelIdeal.main_arg11) = m ((c.tc : Thread Cert.EvenKernelIdeal.nD Cert.EvenKernelIdeal.τ).loc Cert.EvenKernelIdeal.main_arg11)
      ∧ r.2.mem ((c.tc : Thread Cert.EvenKernelIdeal.nD Cert.EvenKernelIdeal.τ).loc Cert.EvenKernelIdeal.main_arg12) = m ((c.tc : Thread Cert.EvenKernelIdeal.nD Cert.EvenKernelIdeal.τ).loc Cert.EvenKernelIdeal.main_arg12))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8)
      ∧ r.2.mem ((c.tc : Thread Cert.EvenReferenceIdeal.nD Cert.EvenReferenceIdeal.τ).loc Cert.EvenReferenceIdeal.main_arg9) = m ((c.tc : Thread Cert.EvenReferenceIdeal.nD Cert.EvenReferenceIdeal.τ).loc Cert.EvenReferenceIdeal.main_arg9)
      ∧ r.2.mem ((c.tc : Thread Cert.EvenReferenceIdeal.nD Cert.EvenReferenceIdeal.τ).loc Cert.EvenReferenceIdeal.main_arg10) = m ((c.tc : Thread Cert.EvenReferenceIdeal.nD Cert.EvenReferenceIdeal.τ).loc Cert.EvenReferenceIdeal.main_arg10)
      ∧ r.2.mem ((c.tc : Thread Cert.EvenReferenceIdeal.nD Cert.EvenReferenceIdeal.τ).loc Cert.EvenReferenceIdeal.main_arg11) = m ((c.tc : Thread Cert.EvenReferenceIdeal.nD Cert.EvenReferenceIdeal.τ).loc Cert.EvenReferenceIdeal.main_arg11)
      ∧ r.2.mem ((c.tc : Thread Cert.EvenReferenceIdeal.nD Cert.EvenReferenceIdeal.τ).loc Cert.EvenReferenceIdeal.main_arg12) = m ((c.tc : Thread Cert.EvenReferenceIdeal.nD Cert.EvenReferenceIdeal.τ).loc Cert.EvenReferenceIdeal.main_arg12))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4)
      ∧ r.2.mem ((c.tc : Thread Cert.FirstKernel.nD Cert.FirstKernel.τ).loc Cert.FirstKernel.main_arg5) = m ((c.tc : Thread Cert.FirstKernel.nD Cert.FirstKernel.τ).loc Cert.FirstKernel.main_arg5)
      ∧ r.2.mem ((c.tc : Thread Cert.FirstKernel.nD Cert.FirstKernel.τ).loc Cert.FirstKernel.main_arg6) = m ((c.tc : Thread Cert.FirstKernel.nD Cert.FirstKernel.τ).loc Cert.FirstKernel.main_arg6)
      ∧ r.2.mem ((c.tc : Thread Cert.FirstKernel.nD Cert.FirstKernel.τ).loc Cert.FirstKernel.main_arg7) = m ((c.tc : Thread Cert.FirstKernel.nD Cert.FirstKernel.τ).loc Cert.FirstKernel.main_arg7)
      ∧ r.2.mem ((c.tc : Thread Cert.FirstKernel.nD Cert.FirstKernel.τ).loc Cert.FirstKernel.main_arg8) = m ((c.tc : Thread Cert.FirstKernel.nD Cert.FirstKernel.τ).loc Cert.FirstKernel.main_arg8)
      ∧ r.2.mem ((c.tc : Thread Cert.FirstKernel.nD Cert.FirstKernel.τ).loc Cert.FirstKernel.main_arg9) = m ((c.tc : Thread Cert.FirstKernel.nD Cert.FirstKernel.τ).loc Cert.FirstKernel.main_arg9)
      ∧ r.2.mem ((c.tc : Thread Cert.FirstKernel.nD Cert.FirstKernel.τ).loc Cert.FirstKernel.main_arg10) = m ((c.tc : Thread Cert.FirstKernel.nD Cert.FirstKernel.τ).loc Cert.FirstKernel.main_arg10)
      ∧ r.2.mem ((c.tc : Thread Cert.FirstKernel.nD Cert.FirstKernel.τ).loc Cert.FirstKernel.main_arg11) = m ((c.tc : Thread Cert.FirstKernel.nD Cert.FirstKernel.τ).loc Cert.FirstKernel.main_arg11)
      ∧ r.2.mem ((c.tc : Thread Cert.FirstKernel.nD Cert.FirstKernel.τ).loc Cert.FirstKernel.main_arg12) = m ((c.tc : Thread Cert.FirstKernel.nD Cert.FirstKernel.τ).loc Cert.FirstKernel.main_arg12))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
      ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
      ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8)
      ∧ r.2.mem ((c.tc : Thread Cert.FirstKernelIdeal.nD Cert.FirstKernelIdeal.τ).loc Cert.FirstKernelIdeal.main_arg9) = m ((c.tc : Thread Cert.FirstKernelIdeal.nD Cert.FirstKernelIdeal.τ).loc Cert.FirstKernelIdeal.main_arg9)
      ∧ r.2.mem ((c.tc : Thread Cert.FirstKernelIdeal.nD Cert.FirstKernelIdeal.τ).loc Cert.FirstKernelIdeal.main_arg10) = m ((c.tc : Thread Cert.FirstKernelIdeal.nD Cert.FirstKernelIdeal.τ).loc Cert.FirstKernelIdeal.main_arg10)
      ∧ r.2.mem ((c.tc : Thread Cert.FirstKernelIdeal.nD Cert.FirstKernelIdeal.τ).loc Cert.FirstKernelIdeal.main_arg11) = m ((c.tc : Thread Cert.FirstKernelIdeal.nD Cert.FirstKernelIdeal.τ).loc Cert.FirstKernelIdeal.main_arg11)
      ∧ r.2.mem ((c.tc : Thread Cert.FirstKernelIdeal.nD Cert.FirstKernelIdeal.τ).loc Cert.FirstKernelIdeal.main_arg12) = m ((c.tc : Thread Cert.FirstKernelIdeal.nD Cert.FirstKernelIdeal.τ).loc Cert.FirstKernelIdeal.main_arg12))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11)
      ∧ r.2.mem ((c.tc : Thread Cert.FirstReferenceIdeal.nD Cert.FirstReferenceIdeal.τ).loc Cert.FirstReferenceIdeal.main_arg12) = m ((c.tc : Thread Cert.FirstReferenceIdeal.nD Cert.FirstReferenceIdeal.τ).loc Cert.FirstReferenceIdeal.main_arg12))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_TailKernel_TailKernelIdeal : Prop :=
  True

def algebraic_TailKernelIdeal_TailReferenceIdeal [hTailKernelIdeal : Cert.TailKernelIdeal.Facts] [hTailReferenceIdeal : Cert.TailReferenceIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)
      ∧ m' ((c.tc : Thread Cert.TailReferenceIdeal.nD Cert.TailReferenceIdeal.τ).loc Cert.TailReferenceIdeal.main_arg10) = m ((c.tc : Thread Cert.TailKernelIdeal.nD Cert.TailKernelIdeal.τ).loc Cert.TailKernelIdeal.main_arg10)
      ∧ m' ((c.tc : Thread Cert.TailReferenceIdeal.nD Cert.TailReferenceIdeal.τ).loc Cert.TailReferenceIdeal.main_arg11) = m ((c.tc : Thread Cert.TailKernelIdeal.nD Cert.TailKernelIdeal.τ).loc Cert.TailKernelIdeal.main_arg11)) →
    ∃ (v0 : (c : Dev Cert.TailKernelIdeal.nD) → Buf (Elt Ideal) ((c.tc : Thread Cert.TailKernelIdeal.nD Cert.TailKernelIdeal.τ).loc Cert.TailKernelIdeal.main_v8)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v8) = v0 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
          ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
          ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10)
          ∧ r.2.mem ((c.tc : Thread Cert.TailKernelIdeal.nD Cert.TailKernelIdeal.τ).loc Cert.TailKernelIdeal.main_arg11) = m ((c.tc : Thread Cert.TailKernelIdeal.nD Cert.TailKernelIdeal.τ).loc Cert.TailKernelIdeal.main_arg11))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v115) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11))

def preserves_PromptKernel_PromptKernelIdeal : Prop :=
  True

def algebraic_PromptKernelIdeal_PromptReferenceIdeal [hPromptKernelIdeal : Cert.PromptKernelIdeal.Facts] [hPromptReferenceIdeal : Cert.PromptReferenceIdeal.Facts] : Prop :=
  ∀ (m : (ℓ : Loc Cert.PromptKernelIdeal.nD Cert.PromptKernelIdeal.τ Cert.PromptKernelIdeal.sig) → Buf (Elt Ideal) ℓ) (g : Dev Cert.PromptKernelIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptKernelIdeal m →
    (∀ c : Dev Cert.PromptKernelIdeal.nD,
      m' ((c.tc : Thread Cert.PromptReferenceIdeal.nD Cert.PromptReferenceIdeal.τ).loc Cert.PromptReferenceIdeal.main_arg0) = m ((c.tc : Thread Cert.PromptKernelIdeal.nD Cert.PromptKernelIdeal.τ).loc Cert.PromptKernelIdeal.main_arg0)
      ∧ m' ((c.tc : Thread Cert.PromptReferenceIdeal.nD Cert.PromptReferenceIdeal.τ).loc Cert.PromptReferenceIdeal.main_arg1) = m ((c.tc : Thread Cert.PromptKernelIdeal.nD Cert.PromptKernelIdeal.τ).loc Cert.PromptKernelIdeal.main_arg1)
      ∧ m' ((c.tc : Thread Cert.PromptReferenceIdeal.nD Cert.PromptReferenceIdeal.τ).loc Cert.PromptReferenceIdeal.main_arg2) = m ((c.tc : Thread Cert.PromptKernelIdeal.nD Cert.PromptKernelIdeal.τ).loc Cert.PromptKernelIdeal.main_arg2)
      ∧ m' ((c.tc : Thread Cert.PromptReferenceIdeal.nD Cert.PromptReferenceIdeal.τ).loc Cert.PromptReferenceIdeal.main_arg3) = m ((c.tc : Thread Cert.PromptKernelIdeal.nD Cert.PromptKernelIdeal.τ).loc Cert.PromptKernelIdeal.main_arg3)
      ∧ m' ((c.tc : Thread Cert.PromptReferenceIdeal.nD Cert.PromptReferenceIdeal.τ).loc Cert.PromptReferenceIdeal.main_arg4) = m ((c.tc : Thread Cert.PromptKernelIdeal.nD Cert.PromptKernelIdeal.τ).loc Cert.PromptKernelIdeal.main_arg4)
      ∧ m' ((c.tc : Thread Cert.PromptReferenceIdeal.nD Cert.PromptReferenceIdeal.τ).loc Cert.PromptReferenceIdeal.main_arg5) = m ((c.tc : Thread Cert.PromptKernelIdeal.nD Cert.PromptKernelIdeal.τ).loc Cert.PromptKernelIdeal.main_arg5)
      ∧ m' ((c.tc : Thread Cert.PromptReferenceIdeal.nD Cert.PromptReferenceIdeal.τ).loc Cert.PromptReferenceIdeal.main_arg6) = m ((c.tc : Thread Cert.PromptKernelIdeal.nD Cert.PromptKernelIdeal.τ).loc Cert.PromptKernelIdeal.main_arg6)
      ∧ m' ((c.tc : Thread Cert.PromptReferenceIdeal.nD Cert.PromptReferenceIdeal.τ).loc Cert.PromptReferenceIdeal.main_arg7) = m ((c.tc : Thread Cert.PromptKernelIdeal.nD Cert.PromptKernelIdeal.τ).loc Cert.PromptKernelIdeal.main_arg7)
      ∧ m' ((c.tc : Thread Cert.PromptReferenceIdeal.nD Cert.PromptReferenceIdeal.τ).loc Cert.PromptReferenceIdeal.main_arg8) = m ((c.tc : Thread Cert.PromptKernelIdeal.nD Cert.PromptKernelIdeal.τ).loc Cert.PromptKernelIdeal.main_arg8)
      ∧ m' ((c.tc : Thread Cert.PromptReferenceIdeal.nD Cert.PromptReferenceIdeal.τ).loc Cert.PromptReferenceIdeal.main_arg9) = m ((c.tc : Thread Cert.PromptKernelIdeal.nD Cert.PromptKernelIdeal.τ).loc Cert.PromptKernelIdeal.main_arg9)
      ∧ m' ((c.tc : Thread Cert.PromptReferenceIdeal.nD Cert.PromptReferenceIdeal.τ).loc Cert.PromptReferenceIdeal.main_arg10) = m ((c.tc : Thread Cert.PromptKernelIdeal.nD Cert.PromptKernelIdeal.τ).loc Cert.PromptKernelIdeal.main_arg10)
      ∧ m' ((c.tc : Thread Cert.PromptReferenceIdeal.nD Cert.PromptReferenceIdeal.τ).loc Cert.PromptReferenceIdeal.main_arg11) = m ((c.tc : Thread Cert.PromptKernelIdeal.nD Cert.PromptKernelIdeal.τ).loc Cert.PromptKernelIdeal.main_arg11)) →
    ∃ (v0 : (c : Dev Cert.PromptKernelIdeal.nD) → Buf (Elt Ideal) ((c.tc : Thread Cert.PromptKernelIdeal.nD Cert.PromptKernelIdeal.τ).loc Cert.PromptKernelIdeal.main_v8)),
      θ_run (Cert.PromptKernelIdeal.defs (F := Ideal)) (onTc (τ := Cert.PromptKernelIdeal.τ) (Cert.PromptKernelIdeal.main (F := Ideal))) ⟨m, fun _ => 0, g⟩ (fun r => ∀ c : Dev Cert.PromptKernelIdeal.nD,
          r.2.mem ((c.tc : Thread Cert.PromptKernelIdeal.nD Cert.PromptKernelIdeal.τ).loc Cert.PromptKernelIdeal.main_v8) = v0 c
          ∧ r.2.mem ((c.tc : Thread Cert.PromptKernelIdeal.nD Cert.PromptKernelIdeal.τ).loc Cert.PromptKernelIdeal.main_arg0) = m ((c.tc : Thread Cert.PromptKernelIdeal.nD Cert.PromptKernelIdeal.τ).loc Cert.PromptKernelIdeal.main_arg0)
          ∧ r.2.mem ((c.tc : Thread Cert.PromptKernelIdeal.nD Cert.PromptKernelIdeal.τ).loc Cert.PromptKernelIdeal.main_arg1) = m ((c.tc : Thread Cert.PromptKernelIdeal.nD Cert.PromptKernelIdeal.τ).loc Cert.PromptKernelIdeal.main_arg1)
          ∧ r.2.mem ((c.tc : Thread Cert.PromptKernelIdeal.nD Cert.PromptKernelIdeal.τ).loc Cert.PromptKernelIdeal.main_arg2) = m ((c.tc : Thread Cert.PromptKernelIdeal.nD Cert.PromptKernelIdeal.τ).loc Cert.PromptKernelIdeal.main_arg2)
          ∧ r.2.mem ((c.tc : Thread Cert.PromptKernelIdeal.nD Cert.PromptKernelIdeal.τ).loc Cert.PromptKernelIdeal.main_arg3) = m ((c.tc : Thread Cert.PromptKernelIdeal.nD Cert.PromptKernelIdeal.τ).loc Cert.PromptKernelIdeal.main_arg3)
          ∧ r.2.mem ((c.tc : Thread Cert.PromptKernelIdeal.nD Cert.PromptKernelIdeal.τ).loc Cert.PromptKernelIdeal.main_arg4) = m ((c.tc : Thread Cert.PromptKernelIdeal.nD Cert.PromptKernelIdeal.τ).loc Cert.PromptKernelIdeal.main_arg4)
          ∧ r.2.mem ((c.tc : Thread Cert.PromptKernelIdeal.nD Cert.PromptKernelIdeal.τ).loc Cert.PromptKernelIdeal.main_arg5) = m ((c.tc : Thread Cert.PromptKernelIdeal.nD Cert.PromptKernelIdeal.τ).loc Cert.PromptKernelIdeal.main_arg5)
          ∧ r.2.mem ((c.tc : Thread Cert.PromptKernelIdeal.nD Cert.PromptKernelIdeal.τ).loc Cert.PromptKernelIdeal.main_arg6) = m ((c.tc : Thread Cert.PromptKernelIdeal.nD Cert.PromptKernelIdeal.τ).loc Cert.PromptKernelIdeal.main_arg6)
          ∧ r.2.mem ((c.tc : Thread Cert.PromptKernelIdeal.nD Cert.PromptKernelIdeal.τ).loc Cert.PromptKernelIdeal.main_arg7) = m ((c.tc : Thread Cert.PromptKernelIdeal.nD Cert.PromptKernelIdeal.τ).loc Cert.PromptKernelIdeal.main_arg7)
          ∧ r.2.mem ((c.tc : Thread Cert.PromptKernelIdeal.nD Cert.PromptKernelIdeal.τ).loc Cert.PromptKernelIdeal.main_arg8) = m ((c.tc : Thread Cert.PromptKernelIdeal.nD Cert.PromptKernelIdeal.τ).loc Cert.PromptKernelIdeal.main_arg8)
          ∧ r.2.mem ((c.tc : Thread Cert.PromptKernelIdeal.nD Cert.PromptKernelIdeal.τ).loc Cert.PromptKernelIdeal.main_arg9) = m ((c.tc : Thread Cert.PromptKernelIdeal.nD Cert.PromptKernelIdeal.τ).loc Cert.PromptKernelIdeal.main_arg9)
          ∧ r.2.mem ((c.tc : Thread Cert.PromptKernelIdeal.nD Cert.PromptKernelIdeal.τ).loc Cert.PromptKernelIdeal.main_arg10) = m ((c.tc : Thread Cert.PromptKernelIdeal.nD Cert.PromptKernelIdeal.τ).loc Cert.PromptKernelIdeal.main_arg10)
          ∧ r.2.mem ((c.tc : Thread Cert.PromptKernelIdeal.nD Cert.PromptKernelIdeal.τ).loc Cert.PromptKernelIdeal.main_arg11) = m ((c.tc : Thread Cert.PromptKernelIdeal.nD Cert.PromptKernelIdeal.τ).loc Cert.PromptKernelIdeal.main_arg11))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v115) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7)
          ∧ r.2.mem ((c.tc : Thread Cert.PromptReferenceIdeal.nD Cert.PromptReferenceIdeal.τ).loc Cert.PromptReferenceIdeal.main_arg8) = m' ((c.tc : Thread Cert.PromptReferenceIdeal.nD Cert.PromptReferenceIdeal.τ).loc Cert.PromptReferenceIdeal.main_arg8)
          ∧ r.2.mem ((c.tc : Thread Cert.PromptReferenceIdeal.nD Cert.PromptReferenceIdeal.τ).loc Cert.PromptReferenceIdeal.main_arg9) = m' ((c.tc : Thread Cert.PromptReferenceIdeal.nD Cert.PromptReferenceIdeal.τ).loc Cert.PromptReferenceIdeal.main_arg9)
          ∧ r.2.mem ((c.tc : Thread Cert.PromptReferenceIdeal.nD Cert.PromptReferenceIdeal.τ).loc Cert.PromptReferenceIdeal.main_arg10) = m' ((c.tc : Thread Cert.PromptReferenceIdeal.nD Cert.PromptReferenceIdeal.τ).loc Cert.PromptReferenceIdeal.main_arg10)
          ∧ r.2.mem ((c.tc : Thread Cert.PromptReferenceIdeal.nD Cert.PromptReferenceIdeal.τ).loc Cert.PromptReferenceIdeal.main_arg11) = m' ((c.tc : Thread Cert.PromptReferenceIdeal.nD Cert.PromptReferenceIdeal.τ).loc Cert.PromptReferenceIdeal.main_arg11))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)
      ∧ m' ((c.tc : Thread Cert.MidReferenceIdeal.nD Cert.MidReferenceIdeal.τ).loc Cert.MidReferenceIdeal.main_arg10) = m ((c.tc : Thread Cert.MidKernelIdeal.nD Cert.MidKernelIdeal.τ).loc Cert.MidKernelIdeal.main_arg10)) →
    ∃ (v0 : (c : Dev Cert.MidKernelIdeal.nD) → Buf (Elt Ideal) ((c.tc : Thread Cert.MidKernelIdeal.nD Cert.MidKernelIdeal.τ).loc Cert.MidKernelIdeal.main_v7)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v7) = v0 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
          ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
          ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
          ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
          ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9)
          ∧ r.2.mem ((c.tc : Thread Cert.MidKernelIdeal.nD Cert.MidKernelIdeal.τ).loc Cert.MidKernelIdeal.main_arg10) = m ((c.tc : Thread Cert.MidKernelIdeal.nD Cert.MidKernelIdeal.τ).loc Cert.MidKernelIdeal.main_arg10))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v102) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10))

def preserves_EvenKernel_EvenKernelIdeal : Prop :=
  True

def algebraic_EvenKernelIdeal_EvenReferenceIdeal [hEvenKernelIdeal : Cert.EvenKernelIdeal.Facts] [hEvenReferenceIdeal : Cert.EvenReferenceIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)
      ∧ m' ((c.tc : Thread Cert.EvenReferenceIdeal.nD Cert.EvenReferenceIdeal.τ).loc Cert.EvenReferenceIdeal.main_arg7) = m ((c.tc : Thread Cert.EvenKernelIdeal.nD Cert.EvenKernelIdeal.τ).loc Cert.EvenKernelIdeal.main_arg7)
      ∧ m' ((c.tc : Thread Cert.EvenReferenceIdeal.nD Cert.EvenReferenceIdeal.τ).loc Cert.EvenReferenceIdeal.main_arg8) = m ((c.tc : Thread Cert.EvenKernelIdeal.nD Cert.EvenKernelIdeal.τ).loc Cert.EvenKernelIdeal.main_arg8)
      ∧ m' ((c.tc : Thread Cert.EvenReferenceIdeal.nD Cert.EvenReferenceIdeal.τ).loc Cert.EvenReferenceIdeal.main_arg9) = m ((c.tc : Thread Cert.EvenKernelIdeal.nD Cert.EvenKernelIdeal.τ).loc Cert.EvenKernelIdeal.main_arg9)
      ∧ m' ((c.tc : Thread Cert.EvenReferenceIdeal.nD Cert.EvenReferenceIdeal.τ).loc Cert.EvenReferenceIdeal.main_arg10) = m ((c.tc : Thread Cert.EvenKernelIdeal.nD Cert.EvenKernelIdeal.τ).loc Cert.EvenKernelIdeal.main_arg10)
      ∧ m' ((c.tc : Thread Cert.EvenReferenceIdeal.nD Cert.EvenReferenceIdeal.τ).loc Cert.EvenReferenceIdeal.main_arg11) = m ((c.tc : Thread Cert.EvenKernelIdeal.nD Cert.EvenKernelIdeal.τ).loc Cert.EvenKernelIdeal.main_arg11)
      ∧ m' ((c.tc : Thread Cert.EvenReferenceIdeal.nD Cert.EvenReferenceIdeal.τ).loc Cert.EvenReferenceIdeal.main_arg12) = m ((c.tc : Thread Cert.EvenKernelIdeal.nD Cert.EvenKernelIdeal.τ).loc Cert.EvenKernelIdeal.main_arg12)) →
    ∃ (v0 : (c : Dev Cert.EvenKernelIdeal.nD) → Buf (Elt Ideal) ((c.tc : Thread Cert.EvenKernelIdeal.nD Cert.EvenKernelIdeal.τ).loc Cert.EvenKernelIdeal.main_v10)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v10) = v0 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
          ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
          ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
          ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
          ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
          ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
          ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10)
          ∧ r.2.mem ((c.tc : Thread Cert.EvenKernelIdeal.nD Cert.EvenKernelIdeal.τ).loc Cert.EvenKernelIdeal.main_arg11) = m ((c.tc : Thread Cert.EvenKernelIdeal.nD Cert.EvenKernelIdeal.τ).loc Cert.EvenKernelIdeal.main_arg11)
          ∧ r.2.mem ((c.tc : Thread Cert.EvenKernelIdeal.nD Cert.EvenKernelIdeal.τ).loc Cert.EvenKernelIdeal.main_arg12) = m ((c.tc : Thread Cert.EvenKernelIdeal.nD Cert.EvenKernelIdeal.τ).loc Cert.EvenKernelIdeal.main_arg12))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v110) = v0 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7)
          ∧ r.2.mem ((c.tc : Thread Cert.EvenReferenceIdeal.nD Cert.EvenReferenceIdeal.τ).loc Cert.EvenReferenceIdeal.main_arg8) = m' ((c.tc : Thread Cert.EvenReferenceIdeal.nD Cert.EvenReferenceIdeal.τ).loc Cert.EvenReferenceIdeal.main_arg8)
          ∧ r.2.mem ((c.tc : Thread Cert.EvenReferenceIdeal.nD Cert.EvenReferenceIdeal.τ).loc Cert.EvenReferenceIdeal.main_arg9) = m' ((c.tc : Thread Cert.EvenReferenceIdeal.nD Cert.EvenReferenceIdeal.τ).loc Cert.EvenReferenceIdeal.main_arg9)
          ∧ r.2.mem ((c.tc : Thread Cert.EvenReferenceIdeal.nD Cert.EvenReferenceIdeal.τ).loc Cert.EvenReferenceIdeal.main_arg10) = m' ((c.tc : Thread Cert.EvenReferenceIdeal.nD Cert.EvenReferenceIdeal.τ).loc Cert.EvenReferenceIdeal.main_arg10)
          ∧ r.2.mem ((c.tc : Thread Cert.EvenReferenceIdeal.nD Cert.EvenReferenceIdeal.τ).loc Cert.EvenReferenceIdeal.main_arg11) = m' ((c.tc : Thread Cert.EvenReferenceIdeal.nD Cert.EvenReferenceIdeal.τ).loc Cert.EvenReferenceIdeal.main_arg11)
          ∧ r.2.mem ((c.tc : Thread Cert.EvenReferenceIdeal.nD Cert.EvenReferenceIdeal.τ).loc Cert.EvenReferenceIdeal.main_arg12) = m' ((c.tc : Thread Cert.EvenReferenceIdeal.nD Cert.EvenReferenceIdeal.τ).loc Cert.EvenReferenceIdeal.main_arg12))

def preserves_FirstKernel_FirstKernelIdeal : Prop :=
  True

def algebraic_FirstKernelIdeal_FirstReferenceIdeal [hFirstKernelIdeal : Cert.FirstKernelIdeal.Facts] [hFirstReferenceIdeal : Cert.FirstReferenceIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)
      ∧ m' ((c.tc : Thread Cert.FirstReferenceIdeal.nD Cert.FirstReferenceIdeal.τ).loc Cert.FirstReferenceIdeal.main_arg7) = m ((c.tc : Thread Cert.FirstKernelIdeal.nD Cert.FirstKernelIdeal.τ).loc Cert.FirstKernelIdeal.main_arg7)
      ∧ m' ((c.tc : Thread Cert.FirstReferenceIdeal.nD Cert.FirstReferenceIdeal.τ).loc Cert.FirstReferenceIdeal.main_arg8) = m ((c.tc : Thread Cert.FirstKernelIdeal.nD Cert.FirstKernelIdeal.τ).loc Cert.FirstKernelIdeal.main_arg8)
      ∧ m' ((c.tc : Thread Cert.FirstReferenceIdeal.nD Cert.FirstReferenceIdeal.τ).loc Cert.FirstReferenceIdeal.main_arg9) = m ((c.tc : Thread Cert.FirstKernelIdeal.nD Cert.FirstKernelIdeal.τ).loc Cert.FirstKernelIdeal.main_arg9)
      ∧ m' ((c.tc : Thread Cert.FirstReferenceIdeal.nD Cert.FirstReferenceIdeal.τ).loc Cert.FirstReferenceIdeal.main_arg10) = m ((c.tc : Thread Cert.FirstKernelIdeal.nD Cert.FirstKernelIdeal.τ).loc Cert.FirstKernelIdeal.main_arg10)
      ∧ m' ((c.tc : Thread Cert.FirstReferenceIdeal.nD Cert.FirstReferenceIdeal.τ).loc Cert.FirstReferenceIdeal.main_arg11) = m ((c.tc : Thread Cert.FirstKernelIdeal.nD Cert.FirstKernelIdeal.τ).loc Cert.FirstKernelIdeal.main_arg11)
      ∧ m' ((c.tc : Thread Cert.FirstReferenceIdeal.nD Cert.FirstReferenceIdeal.τ).loc Cert.FirstReferenceIdeal.main_arg12) = m ((c.tc : Thread Cert.FirstKernelIdeal.nD Cert.FirstKernelIdeal.τ).loc Cert.FirstKernelIdeal.main_arg12)) →
    ∃ (v0 : (c : Dev Cert.FirstKernelIdeal.nD) → Buf (Elt Ideal) ((c.tc : Thread Cert.FirstKernelIdeal.nD Cert.FirstKernelIdeal.τ).loc Cert.FirstKernelIdeal.main_v10)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v10) = v0 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
          ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
          ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
          ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
          ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8)
          ∧ r.2.mem ((c.tc : Thread Cert.FirstKernelIdeal.nD Cert.FirstKernelIdeal.τ).loc Cert.FirstKernelIdeal.main_arg9) = m ((c.tc : Thread Cert.FirstKernelIdeal.nD Cert.FirstKernelIdeal.τ).loc Cert.FirstKernelIdeal.main_arg9)
          ∧ r.2.mem ((c.tc : Thread Cert.FirstKernelIdeal.nD Cert.FirstKernelIdeal.τ).loc Cert.FirstKernelIdeal.main_arg10) = m ((c.tc : Thread Cert.FirstKernelIdeal.nD Cert.FirstKernelIdeal.τ).loc Cert.FirstKernelIdeal.main_arg10)
          ∧ r.2.mem ((c.tc : Thread Cert.FirstKernelIdeal.nD Cert.FirstKernelIdeal.τ).loc Cert.FirstKernelIdeal.main_arg11) = m ((c.tc : Thread Cert.FirstKernelIdeal.nD Cert.FirstKernelIdeal.τ).loc Cert.FirstKernelIdeal.main_arg11)
          ∧ r.2.mem ((c.tc : Thread Cert.FirstKernelIdeal.nD Cert.FirstKernelIdeal.τ).loc Cert.FirstKernelIdeal.main_arg12) = m ((c.tc : Thread Cert.FirstKernelIdeal.nD Cert.FirstKernelIdeal.τ).loc Cert.FirstKernelIdeal.main_arg12))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v110) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10)
          ∧ r.2.mem ((c.tc : Thread Cert.FirstReferenceIdeal.nD Cert.FirstReferenceIdeal.τ).loc Cert.FirstReferenceIdeal.main_arg11) = m' ((c.tc : Thread Cert.FirstReferenceIdeal.nD Cert.FirstReferenceIdeal.τ).loc Cert.FirstReferenceIdeal.main_arg11)
          ∧ r.2.mem ((c.tc : Thread Cert.FirstReferenceIdeal.nD Cert.FirstReferenceIdeal.τ).loc Cert.FirstReferenceIdeal.main_arg12) = m' ((c.tc : Thread Cert.FirstReferenceIdeal.nD Cert.FirstReferenceIdeal.τ).loc Cert.FirstReferenceIdeal.main_arg12))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)) →
    ∃ (v0 : (c : Dev Cert.InKernelIdeal.nD) → Buf (Elt Ideal) ((c.tc : Thread Cert.InKernelIdeal.nD Cert.InKernelIdeal.τ).loc Cert.InKernelIdeal.main_v23_0)) (v1 : (c : Dev Cert.InKernelIdeal.nD) → Buf (Elt Ideal) ((c.tc : Thread Cert.InKernelIdeal.nD Cert.InKernelIdeal.τ).loc Cert.InKernelIdeal.main_v23_1)) (v2 : (c : Dev Cert.InKernelIdeal.nD) → Buf (Elt Ideal) ((c.tc : Thread Cert.InKernelIdeal.nD Cert.InKernelIdeal.τ).loc Cert.InKernelIdeal.main_v23_2)) (v3 : (c : Dev Cert.InKernelIdeal.nD) → Buf (Elt Ideal) ((c.tc : Thread Cert.InKernelIdeal.nD Cert.InKernelIdeal.τ).loc Cert.InKernelIdeal.main_v23_3)) (v4 : (c : Dev Cert.InKernelIdeal.nD) → Buf (Elt Ideal) ((c.tc : Thread Cert.InKernelIdeal.nD Cert.InKernelIdeal.τ).loc Cert.InKernelIdeal.main_v23_4)) (v5 : (c : Dev Cert.InKernelIdeal.nD) → Buf (Elt Ideal) ((c.tc : Thread Cert.InKernelIdeal.nD Cert.InKernelIdeal.τ).loc Cert.InKernelIdeal.main_v23_5)) (v6 : (c : Dev Cert.InKernelIdeal.nD) → Buf (Elt Ideal) ((c.tc : Thread Cert.InKernelIdeal.nD Cert.InKernelIdeal.τ).loc Cert.InKernelIdeal.main_v23_6)) (v7 : (c : Dev Cert.InKernelIdeal.nD) → Buf (Elt Ideal) ((c.tc : Thread Cert.InKernelIdeal.nD Cert.InKernelIdeal.τ).loc Cert.InKernelIdeal.main_v23_7)) (v8 : (c : Dev Cert.InKernelIdeal.nD) → Buf (Elt Ideal) ((c.tc : Thread Cert.InKernelIdeal.nD Cert.InKernelIdeal.τ).loc Cert.InKernelIdeal.main_v23_8)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v23_0) = v0 c
          ∧ r.2.mem ((c.tc : Thread Cert.InKernelIdeal.nD Cert.InKernelIdeal.τ).loc Cert.InKernelIdeal.main_v23_1) = v1 c
          ∧ r.2.mem ((c.tc : Thread Cert.InKernelIdeal.nD Cert.InKernelIdeal.τ).loc Cert.InKernelIdeal.main_v23_2) = v2 c
          ∧ r.2.mem ((c.tc : Thread Cert.InKernelIdeal.nD Cert.InKernelIdeal.τ).loc Cert.InKernelIdeal.main_v23_3) = v3 c
          ∧ r.2.mem ((c.tc : Thread Cert.InKernelIdeal.nD Cert.InKernelIdeal.τ).loc Cert.InKernelIdeal.main_v23_4) = v4 c
          ∧ r.2.mem ((c.tc : Thread Cert.InKernelIdeal.nD Cert.InKernelIdeal.τ).loc Cert.InKernelIdeal.main_v23_5) = v5 c
          ∧ r.2.mem ((c.tc : Thread Cert.InKernelIdeal.nD Cert.InKernelIdeal.τ).loc Cert.InKernelIdeal.main_v23_6) = v6 c
          ∧ r.2.mem ((c.tc : Thread Cert.InKernelIdeal.nD Cert.InKernelIdeal.τ).loc Cert.InKernelIdeal.main_v23_7) = v7 c
          ∧ r.2.mem ((c.tc : Thread Cert.InKernelIdeal.nD Cert.InKernelIdeal.τ).loc Cert.InKernelIdeal.main_v23_8) = v8 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v59) = v0 c
          ∧ r.2.mem ((c.tc : Thread Cert.InReferenceIdeal.nD Cert.InReferenceIdeal.τ).loc Cert.InReferenceIdeal.main_v29) = v1 c
          ∧ r.2.mem ((c.tc : Thread Cert.InReferenceIdeal.nD Cert.InReferenceIdeal.τ).loc Cert.InReferenceIdeal.main_v30) = v2 c
          ∧ r.2.mem ((c.tc : Thread Cert.InReferenceIdeal.nD Cert.InReferenceIdeal.τ).loc Cert.InReferenceIdeal.main_v62) = v3 c
          ∧ r.2.mem ((c.tc : Thread Cert.InReferenceIdeal.nD Cert.InReferenceIdeal.τ).loc Cert.InReferenceIdeal.main_v63) = v4 c
          ∧ r.2.mem ((c.tc : Thread Cert.InReferenceIdeal.nD Cert.InReferenceIdeal.τ).loc Cert.InReferenceIdeal.main_v64) = v5 c
          ∧ r.2.mem ((c.tc : Thread Cert.InReferenceIdeal.nD Cert.InReferenceIdeal.τ).loc Cert.InReferenceIdeal.main_v65) = v6 c
          ∧ r.2.mem ((c.tc : Thread Cert.InReferenceIdeal.nD Cert.InReferenceIdeal.τ).loc Cert.InReferenceIdeal.main_v47) = v7 c
          ∧ r.2.mem ((c.tc : Thread Cert.InReferenceIdeal.nD Cert.InReferenceIdeal.τ).loc Cert.InReferenceIdeal.main_v58) = v8 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7))

def Claim : Prop :=
  ∃ (hKernel : Cert.Kernel.Facts) (hKernelIdeal : Cert.KernelIdeal.Facts) (hReferenceIdeal : Cert.ReferenceIdeal.Facts) (hTailKernel : Cert.TailKernel.Facts) (hTailKernelIdeal : Cert.TailKernelIdeal.Facts) (hTailReferenceIdeal : Cert.TailReferenceIdeal.Facts) (hPromptKernel : Cert.PromptKernel.Facts) (hPromptKernelIdeal : Cert.PromptKernelIdeal.Facts) (hPromptReferenceIdeal : Cert.PromptReferenceIdeal.Facts) (hMidKernel : Cert.MidKernel.Facts) (hMidKernelIdeal : Cert.MidKernelIdeal.Facts) (hMidReferenceIdeal : Cert.MidReferenceIdeal.Facts) (hEvenKernel : Cert.EvenKernel.Facts) (hEvenKernelIdeal : Cert.EvenKernelIdeal.Facts) (hEvenReferenceIdeal : Cert.EvenReferenceIdeal.Facts) (hFirstKernel : Cert.FirstKernel.Facts) (hFirstKernelIdeal : Cert.FirstKernelIdeal.Facts) (hFirstReferenceIdeal : Cert.FirstReferenceIdeal.Facts) (hInKernel : Cert.InKernel.Facts) (hInKernelIdeal : Cert.InKernelIdeal.Facts) (hInReferenceIdeal : Cert.InReferenceIdeal.Facts),
    quiescent_Kernel (hKernel := hKernel)
    ∧ quiescent_KernelIdeal (hKernelIdeal := hKernelIdeal)
    ∧ quiescent_ReferenceIdeal (hReferenceIdeal := hReferenceIdeal)
    ∧ quiescent_TailKernel (hTailKernel := hTailKernel)
    ∧ quiescent_TailKernelIdeal (hTailKernelIdeal := hTailKernelIdeal)
    ∧ quiescent_TailReferenceIdeal (hTailReferenceIdeal := hTailReferenceIdeal)
    ∧ quiescent_PromptKernel (hPromptKernel := hPromptKernel)
    ∧ quiescent_PromptKernelIdeal (hPromptKernelIdeal := hPromptKernelIdeal)
    ∧ quiescent_PromptReferenceIdeal (hPromptReferenceIdeal := hPromptReferenceIdeal)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_EvenKernel (hEvenKernel := hEvenKernel)
    ∧ quiescent_EvenKernelIdeal (hEvenKernelIdeal := hEvenKernelIdeal)
    ∧ quiescent_EvenReferenceIdeal (hEvenReferenceIdeal := hEvenReferenceIdeal)
    ∧ quiescent_FirstKernel (hFirstKernel := hFirstKernel)
    ∧ quiescent_FirstKernelIdeal (hFirstKernelIdeal := hFirstKernelIdeal)
    ∧ quiescent_FirstReferenceIdeal (hFirstReferenceIdeal := hFirstReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ preserves_Kernel_KernelIdeal
    ∧ algebraic_KernelIdeal_ReferenceIdeal (hKernelIdeal := hKernelIdeal) (hReferenceIdeal := hReferenceIdeal)
    ∧ preserves_TailKernel_TailKernelIdeal
    ∧ algebraic_TailKernelIdeal_TailReferenceIdeal (hTailKernelIdeal := hTailKernelIdeal) (hTailReferenceIdeal := hTailReferenceIdeal)
    ∧ preserves_PromptKernel_PromptKernelIdeal
    ∧ algebraic_PromptKernelIdeal_PromptReferenceIdeal (hPromptKernelIdeal := hPromptKernelIdeal) (hPromptReferenceIdeal := hPromptReferenceIdeal)
    ∧ preserves_MidKernel_MidKernelIdeal
    ∧ algebraic_MidKernelIdeal_MidReferenceIdeal (hMidKernelIdeal := hMidKernelIdeal) (hMidReferenceIdeal := hMidReferenceIdeal)
    ∧ preserves_EvenKernel_EvenKernelIdeal
    ∧ algebraic_EvenKernelIdeal_EvenReferenceIdeal (hEvenKernelIdeal := hEvenKernelIdeal) (hEvenReferenceIdeal := hEvenReferenceIdeal)
    ∧ preserves_FirstKernel_FirstKernelIdeal
    ∧ algebraic_FirstKernelIdeal_FirstReferenceIdeal (hFirstKernelIdeal := hFirstKernelIdeal) (hFirstReferenceIdeal := hFirstReferenceIdeal)
    ∧ preserves_InKernel_InKernelIdeal
    ∧ algebraic_InKernelIdeal_InReferenceIdeal (hInKernelIdeal := hInKernelIdeal) (hInReferenceIdeal := hInReferenceIdeal)
-- ==== Kernel.lean ====
abbrev S8192x1024 : Shape := ⟨2, ![8192, 1024]⟩
abbrev S2x16x64x64 : Shape := ⟨4, ![2, 16, 64, 64]⟩
abbrev S2x1024 : Shape := ⟨2, ![2, 1024]⟩
abbrev S1x16x64x64 : Shape := ⟨4, ![1, 16, 64, 64]⟩
abbrev S16x64x64 : Shape := ⟨3, ![16, 64, 64]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S32x2x1024 : Shape := ⟨3, ![32, 2, 1024]⟩
abbrev S256x1024 : Shape := ⟨2, ![256, 1024]⟩
abbrev S1x2x1024 : Shape := ⟨3, ![1, 2, 1024]⟩
abbrev S2x8x1024 : Shape := ⟨3, ![2, 8, 1024]⟩
abbrev S8x1024 : Shape := ⟨2, ![8, 1024]⟩
abbrev S1x8x1024 : Shape := ⟨3, ![1, 8, 1024]⟩
abbrev S256x256 : Shape := ⟨2, ![256, 256]⟩
abbrev S1x256x512 : Shape := ⟨3, ![1, 256, 512]⟩
abbrev S256x512 : Shape := ⟨2, ![256, 512]⟩
abbrev S1x1024 : Shape := ⟨2, ![1, 1024]⟩
abbrev S32x8x1024 : Shape := ⟨3, ![32, 8, 1024]⟩
abbrev S1x1x1024 : Shape := ⟨3, ![1, 1, 1024]⟩

abbrev nBuf : Space → Nat
  | .hbm => 77
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S2x16x64x64, .f32⟩
  | .hbm, ⟨2, _⟩ => ⟨S2x1024, .f32⟩
  | .hbm, ⟨3, _⟩ => ⟨S2x16x64x64, .f32⟩
  | .hbm, ⟨4, _⟩ => ⟨S2x1024, .f32⟩
  | .hbm, ⟨5, _⟩ => ⟨S2x1024, .f32⟩
  | .hbm, ⟨6, _⟩ => ⟨S1x16x64x64, .f32⟩
  | .hbm, ⟨7, _⟩ => ⟨S16x64x64, .f32⟩
  | .hbm, ⟨8, _⟩ => ⟨S1x16x64x64, .f32⟩
  | .hbm, ⟨9, _⟩ => ⟨S16x64x64, .f32⟩
  | .hbm, ⟨10, _⟩ => ⟨S4x4x64x64, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x4x64x1x64, .f32⟩
  | .hbm, ⟨19, _⟩ => ⟨S1x4x1x4x1, .f32⟩
  | .hbm, ⟨20, _⟩ => ⟨S4x4x64x4x64, .f32⟩
  | .hbm, ⟨21, _⟩ => ⟨S4x4x64x4x64, .f32⟩
  | .hbm, ⟨22, _⟩ => ⟨S4x4x64x4x64, .f32⟩
  | .hbm, ⟨23, _⟩ => ⟨S4x256x256, .f32⟩
  | .hbm, ⟨24, _⟩ => ⟨S4x4x64x64, .f32⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S4x4x64x1x64, .f32⟩
  | .hbm, ⟨33, _⟩ => ⟨S1x4x1x4x1, .f32⟩
  | .hbm, ⟨34, _⟩ => ⟨S4x4x64x4x64, .f32⟩
  | .hbm, ⟨35, _⟩ => ⟨S4x4x64x4x64, .f32⟩
  | .hbm, ⟨36, _⟩ => ⟨S4x4x64x4x64, .f32⟩
  | .hbm, ⟨37, _⟩ => ⟨S4x256x256, .f32⟩
  | .hbm, ⟨38, _⟩ => ⟨S4x256x512, .f32⟩
  | .hbm, ⟨39, _⟩ => ⟨S4x256x512, .bf16⟩
  | .hbm, ⟨40, _⟩ => ⟨S1x16x64x64, .f32⟩
  | .hbm, ⟨41, _⟩ => ⟨S16x64x64, .f32⟩
  | .hbm, ⟨42, _⟩ => ⟨S1x16x64x64, .f32⟩
  | .hbm, ⟨43, _⟩ => ⟨S16x64x64, .f32⟩
  | .hbm, ⟨44, _⟩ => ⟨S4x4x64x64, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S4x4x64x1x64, .f32⟩
  | .hbm, ⟨53, _⟩ => ⟨S1x4x1x4x1, .f32⟩
  | .hbm, ⟨54, _⟩ => ⟨S4x4x64x4x64, .f32⟩
  | .hbm, ⟨55, _⟩ => ⟨S4x4x64x4x64, .f32⟩
  | .hbm, ⟨56, _⟩ => ⟨S4x4x64x4x64, .f32⟩
  | .hbm, ⟨57, _⟩ => ⟨S4x256x256, .f32⟩
  | .hbm, ⟨58, _⟩ => ⟨S4x4x64x64, .f32⟩
  | .hbm, ⟨59, _⟩ => ⟨S4x4, .i32⟩
  | .hbm, ⟨60, _⟩ => ⟨S4x4, .i32⟩
  | .hbm, ⟨61, _⟩ => ⟨S_, .i32⟩
  | .hbm, ⟨62, _⟩ => ⟨S4x4, .i32⟩
  | .hbm, ⟨63, _⟩ => ⟨S4x4, .i32⟩
  | .hbm, ⟨64, _⟩ => ⟨S4x4, .i1⟩
  | .hbm, ⟨65, _⟩ => ⟨S4x4, .f32⟩
  | .hbm, ⟨66, _⟩ => ⟨S4x4x64x1x64, .f32⟩
  | .hbm, ⟨67, _⟩ => ⟨S1x4x1x4x1, .f32⟩
  | .hbm, ⟨68, _⟩ => ⟨S4x4x64x4x64, .f32⟩
  | .hbm, ⟨69, _⟩ => ⟨S4x4x64x4x64, .f32⟩
  | .hbm, ⟨70, _⟩ => ⟨S4x4x64x4x64, .f32⟩
  | .hbm, ⟨71, _⟩ => ⟨S4x256x256, .f32⟩
  | .hbm, ⟨72, _⟩ => ⟨S4x256x512, .f32⟩
  | .hbm, ⟨73, _⟩ => ⟨S4x256x512, .bf16⟩
  | .hbm, ⟨74, _⟩ => ⟨S8192x1024, .bf16⟩
  | .hbm, ⟨75, _⟩ => ⟨S8192x1024, .bf16⟩
  | .hbm, ⟨76, _⟩ => ⟨S32x2x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S4x256x512, .bf16⟩
  | .local _ .vmem, ⟨5, _⟩ => ⟨S4x256x512, .bf16⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1x2x1024, .f32⟩
  | .local _ .vmem, ⟨14, _⟩ => ⟨S1x2x1024, .f32⟩
  | .local _ .vmem, ⟨15, _⟩ => ⟨S2x8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_2 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64_0 : Ref sig .tc := ⟨.hbm, 74, rfl⟩
abbrev main_v64_1 : Ref sig .tc := ⟨.hbm, 75, rfl⟩
abbrev main_v64_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_107 : BitVec 32 := 0#32
  let v747 : BitVec 1 := Scalar.cmpi .eq arg1 c0_i32_107
  let v748 : BitVec 32 := Scalar.extui v747
  let c0_i32_108 : BitVec 32 := 0#32
  let v749 : BitVec 1 := Scalar.cmpi .ne v748 c0_i32_108
  v749

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c0_i32_0 : BitVec 32 := 0#32
  let c0_i32_1 : BitVec 32 := 0#32
  ![v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x1024 : Shape := ⟨2, ![8192, 1024]⟩
abbrev S2x16x64x64 : Shape := ⟨4, ![2, 16, 64, 64]⟩
abbrev S2x1024 : Shape := ⟨2, ![2, 1024]⟩
abbrev S32x256x1024 : Shape := ⟨3, ![32, 256, 1024]⟩
abbrev S1x32x256x1024 : Shape := ⟨4, ![1, 32, 256, 1024]⟩
abbrev S2x32x256x1024 : Shape := ⟨4, ![2, 32, 256, 1024]⟩
abbrev S2x32x256x16x64 : Shape := ⟨5, ![2, 32, 256, 16, 64]⟩
abbrev S2x16x64x32x256 : Shape := ⟨5, ![2, 16, 64, 32, 256]⟩
abbrev S2x1x1x1024 : Shape := ⟨4, ![2, 1, 1, 1024]⟩
abbrev S_ : Shape := ⟨0, ![]⟩
abbrev S2x32x1024 : Shape := ⟨3, ![2, 32, 1024]⟩
abbrev S256x2x32x1024 : Shape := ⟨4, ![256, 2, 32, 1024]⟩
abbrev S1x2x32x1024 : Shape := ⟨4, ![1, 2, 32, 1024]⟩
abbrev S256x1x32x1024 : Shape := ⟨4, ![256, 1, 32, 1024]⟩
abbrev S256x32x1024 : Shape := ⟨3, ![256, 32, 1024]⟩
abbrev S32x1x1024 : Shape := ⟨3, ![32, 1, 1024]⟩
abbrev S32x1024 : Shape := ⟨2, ![32, 1024]⟩
abbrev S32x2x1024 : Shape := ⟨3, ![32, 2, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x16x64x64, .f32⟩
  | .hbm, ⟨2, _⟩ => ⟨S2x1024, .f32⟩
  | .hbm, ⟨3, _⟩ => ⟨S2x16x64x64, .f32⟩
  | .hbm, ⟨4, _⟩ => ⟨S2x1024, .f32⟩
  | .hbm, ⟨5, _⟩ => ⟨S2x1024, .f32⟩
  | .hbm, ⟨6, _⟩ => ⟨S8192x1024, .f32⟩
  | .hbm, ⟨7, _⟩ => ⟨S32x256x1024, .f32⟩
  | .hbm, ⟨8, _⟩ => ⟨S32x256x1024, .f32⟩
  | .hbm, ⟨9, _⟩ => ⟨S1x32x256x1024, .f32⟩
  | .hbm, ⟨10, _⟩ => ⟨S1x32x256x1024, .f32⟩
  | .hbm, ⟨11, _⟩ => ⟨S2x32x256x1024, .f32⟩
  | .hbm, ⟨12, _⟩ => ⟨S2x32x256x16x64, .f32⟩
  | .hbm, ⟨13, _⟩ => ⟨S2x16x64x32x256, .f32⟩
  | .hbm, ⟨14, _⟩ => ⟨S2x32x256x16x64, .f32⟩
  | .hbm, ⟨15, _⟩ => ⟨S2x32x256x1024, .f32⟩
  | .hbm, ⟨16, _⟩ => ⟨S2x1x1x1024, .f32⟩
  | .hbm, ⟨17, _⟩ => ⟨S2x32x256x1024, .f32⟩
  | .hbm, ⟨18, _⟩ => ⟨S2x32x256x1024, .f32⟩
  | .hbm, ⟨19, _⟩ => ⟨S2x32x256x1024, .f32⟩
  | .hbm, ⟨20, _⟩ => ⟨S2x32x256x1024, .f32⟩
  | .hbm, ⟨21, _⟩ => ⟨S_, .f32⟩
  | .hbm, ⟨22, _⟩ => ⟨S2x32x256x1024, .f32⟩
  | .hbm, ⟨23, _⟩ => ⟨S2x32x256x1024, .f32⟩
  | .hbm, ⟨24, _⟩ => ⟨S_, .f32⟩
  | .hbm, ⟨25, _⟩ => ⟨S2x32x256x1024, .f32⟩
  | .hbm, ⟨26, _⟩ => ⟨S2x32x256x1024, .f32⟩
  | .hbm, ⟨27, _⟩ => ⟨S2x32x256x16x64, .f32⟩
  | .hbm, ⟨28, _⟩ => ⟨S2x16x64x32x256, .f32⟩
  | .hbm, ⟨29, _⟩ => ⟨S2x32x256x16x64, .f32⟩
  | .hbm, ⟨30, _⟩ => ⟨S2x32x256x1024, .f32⟩
  | .hbm, ⟨31, _⟩ => ⟨S2x1x1x1024, .f32⟩
  | .hbm, ⟨32, _⟩ => ⟨S2x32x256x1024, .f32⟩
  | .hbm, ⟨33, _⟩ => ⟨S2x32x256x1024, .f32⟩
  | .hbm, ⟨34, _⟩ => ⟨S2x32x256x1024, .f32⟩
  | .hbm, ⟨35, _⟩ => ⟨S2x32x256x1024, .f32⟩
  | .hbm, ⟨36, _⟩ => ⟨S_, .f32⟩
  | .hbm, ⟨37, _⟩ => ⟨S2x32x256x1024, .f32⟩
  | .hbm, ⟨38, _⟩ => ⟨S2x32x256x1024, .f32⟩
  | .hbm, ⟨39, _⟩ => ⟨S_, .f32⟩
  | .hbm, ⟨40, _⟩ => ⟨S2x32x256x1024, .f32⟩
  | .hbm, ⟨41, _⟩ => ⟨S2x32x256x1024, .f32⟩
  | .hbm, ⟨42, _⟩ => ⟨S_, .f32⟩
  | .hbm, ⟨43, _⟩ => ⟨S2x32x256x1024, .f32⟩
  | .hbm, ⟨44, _⟩ => ⟨S2x32x256x1024, .f32⟩
  | .hbm, ⟨45, _⟩ => ⟨S2x1024, .f32⟩
  | .hbm, ⟨46, _⟩ => ⟨S_, .f32⟩
  | .hbm, ⟨47, _⟩ => ⟨S2x1024, .f32⟩
  | .hbm, ⟨48, _⟩ => ⟨S2x1024, .f32⟩
  | .hbm, ⟨49, _⟩ => ⟨S2x1024, .f32⟩
  | .hbm, ⟨50, _⟩ => ⟨S2x1024, .f32⟩
  | .hbm, ⟨51, _⟩ => ⟨S2x1024, .i1⟩
  | .hbm, ⟨52, _⟩ => ⟨S2x1024, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S2x1024, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S2x1024, .f32⟩
  | .hbm, ⟨61, _⟩ => ⟨S2x1x1x1024, .f32⟩
  | .hbm, ⟨62, _⟩ => ⟨S2x32x256x1024, .f32⟩
  | .hbm, ⟨63, _⟩ => ⟨S2x32x256x1024, .f32⟩
  | .hbm, ⟨64, _⟩ => ⟨S2x32x256x1024, .f32⟩
  | .hbm, ⟨65, _⟩ => ⟨S_, .f32⟩
  | .hbm, ⟨66, _⟩ => ⟨S2x32x256x1024, .f32⟩
  | .hbm, ⟨67, _⟩ => ⟨S2x32x256x1024, .f32⟩
  | .hbm, ⟨68, _⟩ => ⟨S2x32x256x1024, .f32⟩
  | .hbm, ⟨69, _⟩ => ⟨S2x32x256x1024, .f32⟩
  | .hbm, ⟨70, _⟩ => ⟨S2x32x256x1024, .f32⟩
  | .hbm, ⟨71, _⟩ => ⟨S2x32x256x1024, .f32⟩
  | .hbm, ⟨72, _⟩ => ⟨S2x32x256x1024, .f32⟩
  | .hbm, ⟨73, _⟩ => ⟨S_, .f32⟩
  | .hbm, ⟨74, _⟩ => ⟨S2x32x1024, .f32⟩
  | .hbm, ⟨75, _⟩ => ⟨S256x2x32x1024, .f32⟩
  | .hbm, ⟨76, _⟩ => ⟨S256x2x32x1024, .f32⟩
  | .hbm, ⟨77, _⟩ => ⟨S_, .f32⟩
  | .hbm, ⟨78, _⟩ => ⟨S256x2x32x1024, .f32⟩
  | .hbm, ⟨79, _⟩ => ⟨S_, .i32⟩
  | .hbm, ⟨80, _⟩ => ⟨S256x2x32x1024, .f32⟩
  | .hbm, ⟨81, _⟩ => ⟨S256x2x32x1024, .f32⟩
  | .hbm, ⟨82, _⟩ => ⟨S_, .i32⟩
  | .hbm, ⟨83, _⟩ => ⟨S2x32x1024, .f32⟩
  | .hbm, ⟨84, _⟩ => ⟨S256x2x32x1024, .f32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1x2x32x1024, .f32⟩
  | .hbm, ⟨91, _⟩ => ⟨S2x32x1024, .f32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S1x2x32x1024, .f32⟩
  | .hbm, ⟨96, _⟩ => ⟨S2x32x1024, .f32⟩
  | .hbm, ⟨97, _⟩ => ⟨S2x32x1024, .f32⟩
  | .hbm, ⟨98, _⟩ => ⟨S2x32x1024, .f32⟩
  | .hbm, ⟨99, _⟩ => ⟨S1x2x32x1024, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S256x2x32x1024, .f32⟩
  | .hbm, ⟨104, _⟩ => ⟨S_, .i32⟩
  | .hbm, ⟨105, _⟩ => ⟨S_, .i32⟩
  | .hbm, ⟨106, _⟩ => ⟨S256x1x32x1024, .f32⟩
  | .hbm, ⟨107, _⟩ => ⟨S256x32x1024, .f32⟩
  | .hbm, ⟨108, _⟩ => ⟨S32x256x1024, .f32⟩
  | .hbm, ⟨109, _⟩ => ⟨S256x1x32x1024, .f32⟩
  | .hbm, ⟨110, _⟩ => ⟨S256x1x32x1024, .f32⟩
  | .hbm, ⟨111, _⟩ => ⟨S256x32x1024, .f32⟩
  | .hbm, ⟨112, _⟩ => ⟨S32x256x1024, .f32⟩
  | .hbm, ⟨113, _⟩ => ⟨S32x1x1024, .f32⟩
  | .hbm, ⟨114, _⟩ => ⟨S32x1024, .f32⟩
  | .hbm, ⟨115, _⟩ => ⟨S32x1x1024, .f32⟩
  | .hbm, ⟨116, _⟩ => ⟨S32x1024, .f32⟩
  | .hbm, ⟨117, _⟩ => ⟨S32x1x1024, .f32⟩
  | .hbm, ⟨118, _⟩ => ⟨S32x1x1024, .f32⟩
  | .hbm, ⟨119, _⟩ => ⟨S32x2x1024, .f32⟩
  | .hbm, ⟨120, _⟩ => ⟨S8192x1024, .f32⟩
  | .hbm, ⟨121, _⟩ => ⟨S8192x1024, .bf16⟩
  | .hbm, ⟨122, _⟩ => ⟨S8192x1024, .f32⟩
  | .hbm, ⟨123, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_c : Ref sig .tc := ⟨.hbm, 79, rfl⟩
abbrev main_v50_0 : Ref sig .tc := ⟨.hbm, 80, rfl⟩
abbrev main_v50_1 : Ref sig .tc := ⟨.hbm, 81, rfl⟩
abbrev main_v50_2 : Ref sig .tc := ⟨.hbm, 82, rfl⟩
abbrev main_v50_3 : Ref sig .tc := ⟨.hbm, 83, rfl⟩
abbrev main_v50_4 : Ref sig .tc := ⟨.hbm, 84, rfl⟩
abbrev main_while0c_c_11 : Ref sig .tc := ⟨.hbm, 85, rfl⟩
abbrev main_while0c_v69 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_c_1 : Ref sig .tc := ⟨.hbm, 89, rfl⟩
abbrev main_while0b_call1_v0 : Ref sig .tc := ⟨.hbm, 90, rfl⟩
abbrev main_while0b_v69 : Ref sig .tc := ⟨.hbm, 91, rfl⟩
abbrev main_while0b_call2_c : Ref sig .tc := ⟨.hbm, 92, rfl⟩
abbrev main_while0b_call2_c_0 : Ref sig .tc := ⟨.hbm, 93, rfl⟩
abbrev main_while0b_call2_c_1 : Ref sig .tc := ⟨.hbm, 94, rfl⟩
abbrev main_while0b_call2_v0 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_call3_v0 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_v73 : Ref sig .tc := ⟨.hbm, 103, rfl⟩
abbrev main_while0b_c_11 : Ref sig .tc := ⟨.hbm, 104, rfl⟩
abbrev main_while0b_v74 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩

abbrev nD : Nat := 1
abbrev τ : Topo := Topo.v7x

variable {F : FTy → Type} [FloatOps F]

abbrev main_while0_count : Scf.Loop 32 := ⟨0#32, 256#32, 1#32⟩
-- ==== TailKernel.lean ====
abbrev S16384x1024 : Shape := ⟨2, ![16384, 1024]⟩
abbrev S4x8x6x1024 : Shape := ⟨4, ![4, 8, 6, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S1x1024 : Shape := ⟨2, ![1, 1024]⟩
abbrev S4x1x5632 : Shape := ⟨3, ![4, 1, 5632]⟩
abbrev S16x1024 : Shape := ⟨2, ![16, 1024]⟩
abbrev S512x1024 : Shape := ⟨2, ![512, 1024]⟩
abbrev S1x1x6x1024 : Shape := ⟨4, ![1, 1, 6, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S8x1024 : Shape := ⟨2, ![8, 1024]⟩
abbrev S528x1024 : Shape := ⟨2, ![528, 1024]⟩
abbrev S1x1x1x1024 : Shape := ⟨4, ![1, 1, 1, 1024]⟩
abbrev S1024x1024 : Shape := ⟨2, ![1024, 1024]⟩
abbrev S528 : Shape := ⟨1, ![528]⟩
abbrev S528x1 : Shape := ⟨2, ![528, 1]⟩
abbrev S1x1024x256 : Shape := ⟨3, ![1, 1024, 256]⟩
abbrev S1024x256 : Shape := ⟨2, ![1024, 256]⟩
abbrev S528x256 : Shape := ⟨2, ![528, 256]⟩
abbrev S1x3x256 : Shape := ⟨3, ![1, 3, 256]⟩
abbrev S3x256 : Shape := ⟨2, ![3, 256]⟩
abbrev S512x256 : Shape := ⟨2, ![512, 256]⟩
abbrev S1x256 : Shape := ⟨2, ![1, 256]⟩
abbrev S1x1x256 : Shape := ⟨3, ![1, 1, 256]⟩
abbrev S2816x1024 : Shape := ⟨2, ![2816, 1024]⟩
abbrev S512 : Shape := ⟨1, ![512]⟩
abbrev S512x1 : Shape := ⟨2, ![512, 1]⟩

abbrev nBuf : Space → Nat
  | .hbm => 21
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x8x6x1024, .f32⟩
  | .hbm, ⟨5, _⟩ => ⟨S2x1024x1024, .f32⟩
  | .hbm, ⟨6, _⟩ => ⟨S4x1024, .f32⟩
  | .hbm, ⟨7, _⟩ => ⟨S4x1024x5632, .f32⟩
  | .hbm, ⟨8, _⟩ => ⟨S4x3x5632, .f32⟩
  | .hbm, ⟨9, _⟩ => ⟨S4x5632, .f32⟩
  | .hbm, ⟨10, _⟩ => ⟨S4x2816x1024, .f32⟩
  | .hbm, ⟨11, _⟩ => ⟨S1024, .f32⟩
  | .hbm, ⟨12, _⟩ => ⟨S2x1024x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4x1024x5632, .bf16⟩
  | .hbm, ⟨17, _⟩ => ⟨S4x1x5632, .f32⟩
  | .hbm, ⟨18, _⟩ => ⟨S4x2816x1024, .bf16⟩
  | .hbm, ⟨19, _⟩ => ⟨S1x1024, .f32⟩
  | .hbm, ⟨20, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S512x1024, .bf16⟩
  | .local _ .vmem, ⟨21, _⟩ => ⟨S512x1024, .bf16⟩
  | .local _ .vmem, ⟨22, _⟩ => ⟨S16x1024, .bf16⟩
  | .local _ .vmem, ⟨23, _⟩ => ⟨S16x1024, .bf16⟩
  | .local _ .vmem, ⟨24, _⟩ => ⟨S1x1x6x1024, .f32⟩
  | .local _ .vmem, ⟨25, _⟩ => ⟨S1x1x6x1024, .f32⟩
  | .local _ .vmem, ⟨26, _⟩ => ⟨S1x1024x1024, .bf16⟩
  | .local _ .vmem, ⟨27, _⟩ => ⟨S1x1024, .f32⟩
  | .local _ .vmem, ⟨28, _⟩ => ⟨S1x1024x5632, .bf16⟩
  | .local _ .vmem, ⟨29, _⟩ => ⟨S1x3x5632, .f32⟩
  | .local _ .vmem, ⟨30, _⟩ => ⟨S1x1x5632, .f32⟩
  | .local _ .vmem, ⟨31, _⟩ => ⟨S1x2816x1024, .bf16⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | .local _ .vmem, ⟨35, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli v17 c1_i32_4
  let c1_i32_5 : BitVec 32 := 1#32
  let v19 : BitVec 32 := Scalar.addi c1_i32_5 v18
  let c3_i32 : BitVec 32 := 3#32
  let c0_i32_6 : BitVec 32 := 0#32
  let c0_i32_7 : BitVec 32 := 0#32
  let c0_i32_8 : BitVec 32 := 0#32
  ![c3_i32.toNat, v19.toNat, c0_i32_6.toNat, c0_i32_7.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_18 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x6x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== TailReferenceIdeal.lean ====
abbrev S16384x1024 : Shape := ⟨2, ![16384, 1024]⟩
abbrev S4x8x6x1024 : Shape := ⟨4, ![4, 8, 6, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S4x4096x1024 : Shape := ⟨3, ![4, 4096, 1024]⟩
abbrev S1x4x1x1024 : Shape := ⟨4, ![1, 4, 1, 1024]⟩
abbrev S4x1x1024 : Shape := ⟨3, ![4, 1, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4098x5632 : Shape := ⟨3, ![4, 4098, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 149
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x1024, .bf16⟩
  | 3 => ⟨S16384x1024, .bf16⟩
  | 4 => ⟨S4x8x6x1024, .f32⟩
  | 5 => ⟨S2x1024x1024, .f32⟩
  | 6 => ⟨S4x1024, .f32⟩
  | 7 => ⟨S4x1024x5632, .f32⟩
  | 8 => ⟨S4x3x5632, .f32⟩
  | 9 => ⟨S4x5632, .f32⟩
  | 10 => ⟨S4x2816x1024, .f32⟩
  | 11 => ⟨S1024, .f32⟩
  | 12 => ⟨S4x4096x1024, .f32⟩
  | 13 => ⟨S4x4096x1024, .bf16⟩
  | 14 => ⟨S4x4096x1024, .bf16⟩
  | 15 => ⟨S4x4096x1024, .bf16⟩
  | 16 => ⟨S1x4x1x1024, .f32⟩
  | 17 => ⟨S4x1024, .f32⟩
  | 18 => ⟨S4x1x1024, .f32⟩
  | 19 => ⟨S1x4x1x1024, .f32⟩
  | 20 => ⟨S4x1024, .f32⟩
  | 21 => ⟨S4x1x1024, .f32⟩
  | 22 => ⟨S1x4x1x1024, .f32⟩
  | 23 => ⟨S4x1024, .f32⟩
  | 24 => ⟨S4x1x1024, .f32⟩
  | 25 => ⟨S1x4x1x1024, .f32⟩
  | 26 => ⟨S4x1024, .f32⟩
  | 27 => ⟨S4x1x1024, .f32⟩
  | 28 => ⟨S4x4096x1024, .f32⟩
  | 29 => ⟨S4x4096x1024, .f32⟩
  | 30 => ⟨S4x4096x1024, .f32⟩
  | 31 => ⟨S_, .f32⟩
  | 32 => ⟨S4x4096x1024, .f32⟩
  | 33 => ⟨S4x4096x1024, .f32⟩
  | 34 => ⟨S4x4096x1024, .f32⟩
  | 35 => ⟨S_, .f32⟩
  | 36 => ⟨S4x4096x1024, .f32⟩
  | 37 => ⟨S4x4096x1024, .f32⟩
  | 38 => ⟨S4x4096x1024, .f32⟩
  | 39 => ⟨S_, .f32⟩
  | 40 => ⟨S4x4096x1024, .f32⟩
  | 41 => ⟨S4x4096x1024, .f32⟩
  | 42 => ⟨S_, .f32⟩
  | 43 => ⟨S4x4096x1024, .f32⟩
  | 44 => ⟨S4x4096x1024, .f32⟩
  | 45 => ⟨S4x4096x1024, .f32⟩
  | 46 => ⟨S4x4096x1024, .f32⟩
  | 47 => ⟨S4x4096x1024, .f32⟩
  | 48 => ⟨S4x4096x1024, .f32⟩
  | 49 => ⟨S4x4096x1024, .f32⟩
  | 50 => ⟨S1x1024x1024, .f32⟩
  | 51 => ⟨S1024x1024, .f32⟩
  | 52 => ⟨S4x4096x1024, .f32⟩
  | 53 => ⟨S4x4096x1024, .f32⟩
  | 54 => ⟨S4x4096x1024, .f32⟩
  | 55 => ⟨S4x4096x1024, .f32⟩
  | 56 => ⟨S1x1024, .f32⟩
  | 57 => ⟨S1024, .f32⟩
  | 58 => ⟨S4x4096x1024, .f32⟩
  | 59 => ⟨S_, .f32⟩
  | 60 => ⟨S4x4096, .f32⟩
  | 61 => ⟨S4x4096x1, .f32⟩
  | 62 => ⟨S_, .f32⟩
  | 63 => ⟨S4x4096x1, .f32⟩
  | 64 => ⟨S4x4096x1, .f32⟩
  | 65 => ⟨S_, .f32⟩
  | 66 => ⟨S4x4096x1, .f32⟩
  | 67 => ⟨S4x4096x1, .f32⟩
  | 68 => ⟨S4x4096x1, .f32⟩
  | 69 => ⟨S4x4096x1024, .f32⟩
  | 70 => ⟨S4x4096x1024, .f32⟩
  | 71 => ⟨S1x1x1024, .f32⟩
  | 72 => ⟨S4x4096x1024, .f32⟩
  | 73 => ⟨S4x4096x1024, .f32⟩
  | 74 => ⟨S_, .f32⟩
  | 75 => ⟨S4x1x1024, .f32⟩
  | 76 => ⟨S4x1x1024, .f32⟩
  | 77 => ⟨S4x4096x1024, .f32⟩
  | 78 => ⟨S4x4096x1024, .f32⟩
  | 79 => ⟨S4x4096x1024, .f32⟩
  | 80 => ⟨S4x4096x1024, .f32⟩
  | 81 => ⟨S1x1024x5632, .f32⟩
  | 82 => ⟨S1024x5632, .f32⟩
  | 83 => ⟨S4x4096x5632, .f32⟩
  | 84 => ⟨S_, .i32⟩
  | 85 => ⟨S_, .f32⟩
  | 86 => ⟨S4x4098x5632, .f32⟩
  | 87 => ⟨S1x3x5632, .f32⟩
  | 88 => ⟨S3x5632, .f32⟩
  | 89 => ⟨S4x4096x5632, .f32⟩
  | 90 => ⟨S1x5632, .f32⟩
  | 91 => ⟨S5632, .f32⟩
  | 92 => ⟨S1x1x5632, .f32⟩
  | 93 => ⟨S4x4096x5632, .f32⟩
  | 94 => ⟨S4x4096x5632, .f32⟩
  | 95 => ⟨S4x4096x5632, .f32⟩
  | 96 => ⟨S1x5632, .f32⟩
  | 97 => ⟨S5632, .f32⟩
  | 98 => ⟨S1x1x5632, .f32⟩
  | 99 => ⟨S4x4096x5632, .f32⟩
  | 100 => ⟨S4x4096x5632, .f32⟩
  | 101 => ⟨S4x4096x5632, .f32⟩
  | 102 => ⟨S4x4096x5632, .f32⟩
  | 103 => ⟨S1x5632, .f32⟩
  | 104 => ⟨S5632, .f32⟩
  | 105 => ⟨S1x1x5632, .f32⟩
  | 106 => ⟨S4x4096x5632, .f32⟩
  | 107 => ⟨S4x4096x5632, .f32⟩
  | 108 => ⟨S4x4096x5632, .f32⟩
  | 109 => ⟨S1x5632, .f32⟩
  | 110 => ⟨S5632, .f32⟩
  | 111 => ⟨S1x1x5632, .f32⟩
  | 112 => ⟨S4x4096x5632, .f32⟩
  | 113 => ⟨S4x4096x5632, .f32⟩
  | 114 => ⟨S4x4096x2816, .f32⟩
  | 115 => ⟨S4x4096x2816, .f32⟩
  | 116 => ⟨S4x4096x2816, .f32⟩
  | 117 => ⟨S4x4096x2816, .f32⟩
  | 118 => ⟨S_, .f32⟩
  | 119 => ⟨S4x4096x2816, .f32⟩
  | 120 => ⟨S4x4096x2816, .f32⟩
  | 121 => ⟨S_, .f32⟩
  | 122 => ⟨S4x4096x2816, .f32⟩
  | 123 => ⟨S4x4096x2816, .f32⟩
  | 124 => ⟨S4x4096x2816, .f32⟩
  | 125 => ⟨S4x4096x2816, .f32⟩
  | 126 => ⟨S1x2816x1024, .f32⟩
  | 127 => ⟨S2816x1024, .f32⟩
  | _ => ⟨S16384x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S4x4096x1024, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S_, .f32⟩
  | 12 => ⟨S4x4096x1, .f32⟩
  | 13 => ⟨S4x4096x1, .f32⟩
  | 14 => ⟨S4x4096x1, .f32⟩
  | 15 => ⟨S4x4096x1024, .f32⟩
  | 16 => ⟨S4x4096x1024, .f32⟩
  | 17 => ⟨S1x1x1024, .f32⟩
  | 18 => ⟨S4x4096x1024, .f32⟩
  | 19 => ⟨S4x4096x1024, .f32⟩
  | 20 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_7 : Ref sig .tc := ⟨.hbm, 133, rfl⟩
abbrev main_v103 : Ref sig .tc := ⟨.hbm, 134, rfl⟩
abbrev main_v104 : Ref sig .tc := ⟨.hbm, 135, rfl⟩
abbrev main_cst_8 : Ref sig .tc := ⟨.hbm, 136, rfl⟩
abbrev main_v105 : Ref sig .tc := ⟨.hbm, 137, rfl⟩
abbrev main_v106 : Ref sig .tc := ⟨.hbm, 138, rfl⟩
abbrev main_cst_9 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩

abbrev nD : Nat := 1
abbrev τ : Topo := Topo.v7x

variable {F : FTy → Type} [FloatOps F]
-- ==== PromptKernel.lean ====
abbrev S8192x1024 : Shape := ⟨2, ![8192, 1024]⟩
abbrev S4x8x6x1024 : Shape := ⟨4, ![4, 8, 6, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S1x1024 : Shape := ⟨2, ![1, 1024]⟩
abbrev S4x1x5632 : Shape := ⟨3, ![4, 1, 5632]⟩
abbrev S512x1024 : Shape := ⟨2, ![512, 1024]⟩
abbrev S1x1x6x1024 : Shape := ⟨4, ![1, 1, 6, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S1x1x1x1024 : Shape := ⟨4, ![1, 1, 1, 1024]⟩
abbrev S1024x1024 : Shape := ⟨2, ![1024, 1024]⟩
abbrev S512 : Shape := ⟨1, ![512]⟩
abbrev S512x1 : Shape := ⟨2, ![512, 1]⟩
abbrev S8x1024 : Shape := ⟨2, ![8, 1024]⟩
abbrev S256x1024 : Shape := ⟨2, ![256, 1024]⟩
abbrev S544x1024 : Shape := ⟨2, ![544, 1024]⟩
abbrev S1x1024x256 : Shape := ⟨3, ![1, 1024, 256]⟩
abbrev S1024x256 : Shape := ⟨2, ![1024, 256]⟩
abbrev S544x256 : Shape := ⟨2, ![544, 256]⟩
abbrev S1x3x256 : Shape := ⟨3, ![1, 3, 256]⟩
abbrev S3x256 : Shape := ⟨2, ![3, 256]⟩
abbrev S528x256 : Shape := ⟨2, ![528, 256]⟩
abbrev S1x256 : Shape := ⟨2, ![1, 256]⟩
abbrev S256x256 : Shape := ⟨2, ![256, 256]⟩
abbrev S512x256 : Shape := ⟨2, ![512, 256]⟩
abbrev S1x1x256 : Shape := ⟨3, ![1, 1, 256]⟩
abbrev S2816x1024 : Shape := ⟨2, ![2816, 1024]⟩

abbrev nBuf : Space → Nat
  | .hbm => 21
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x8x6x1024, .f32⟩
  | .hbm, ⟨5, _⟩ => ⟨S2x1024x1024, .f32⟩
  | .hbm, ⟨6, _⟩ => ⟨S4x1024, .f32⟩
  | .hbm, ⟨7, _⟩ => ⟨S4x1024x5632, .f32⟩
  | .hbm, ⟨8, _⟩ => ⟨S4x3x5632, .f32⟩
  | .hbm, ⟨9, _⟩ => ⟨S4x5632, .f32⟩
  | .hbm, ⟨10, _⟩ => ⟨S4x2816x1024, .f32⟩
  | .hbm, ⟨11, _⟩ => ⟨S1024, .f32⟩
  | .hbm, ⟨12, _⟩ => ⟨S2x1024x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4x1024x5632, .bf16⟩
  | .hbm, ⟨17, _⟩ => ⟨S4x1x5632, .f32⟩
  | .hbm, ⟨18, _⟩ => ⟨S4x2816x1024, .bf16⟩
  | .hbm, ⟨19, _⟩ => ⟨S1x1024, .f32⟩
  | .hbm, ⟨20, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1x6x1024, .f32⟩
  | .local _ .vmem, ⟨9, _⟩ => ⟨S1x1024x1024, .bf16⟩
  | .local _ .vmem, ⟨10, _⟩ => ⟨S1x1024, .f32⟩
  | .local _ .vmem, ⟨11, _⟩ => ⟨S1x1024x5632, .bf16⟩
  | .local _ .vmem, ⟨12, _⟩ => ⟨S1x3x5632, .f32⟩
  | .local _ .vmem, ⟨13, _⟩ => ⟨S1x1x5632, .f32⟩
  | .local _ .vmem, ⟨14, _⟩ => ⟨S1x2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PromptReferenceIdeal.lean ====
abbrev S8192x1024 : Shape := ⟨2, ![8192, 1024]⟩
abbrev S4x8x6x1024 : Shape := ⟨4, ![4, 8, 6, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1024 : Shape := ⟨1, ![1024]⟩
abbrev S32x256x1024 : Shape := ⟨3, ![32, 256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S_ : Shape := ⟨0, ![]⟩
abbrev S1x1024x1024 : Shape := ⟨3, ![1, 1024, 1024]⟩
abbrev S1024x1024 : Shape := ⟨2, ![1024, 1024]⟩
abbrev S32x256 : Shape := ⟨2, ![32, 256]⟩
abbrev S32x256x1 : Shape := ⟨3, ![32, 256, 1]⟩
abbrev S1x1024x5632 : Shape := ⟨3, ![1, 1024, 5632]⟩
abbrev S1024x5632 : Shape := ⟨2, ![1024, 5632]⟩
abbrev S32x256x5632 : Shape := ⟨3, ![32, 256, 5632]⟩
abbrev S32x258x5632 : Shape := ⟨3, ![32, 258, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S32x256x2816 : Shape := ⟨3, ![32, 256, 2816]⟩
abbrev S1x2816x1024 : Shape := ⟨3, ![1, 2816, 1024]⟩
abbrev S2816x1024 : Shape := ⟨2, ![2816, 1024]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .bf16⟩
  | 3 => ⟨S8192x1024, .bf16⟩
  | 4 => ⟨S4x8x6x1024, .f32⟩
  | 5 => ⟨S2x1024x1024, .f32⟩
  | 6 => ⟨S4x1024, .f32⟩
  | 7 => ⟨S4x1024x5632, .f32⟩
  | 8 => ⟨S4x3x5632, .f32⟩
  | 9 => ⟨S4x5632, .f32⟩
  | 10 => ⟨S4x2816x1024, .f32⟩
  | 11 => ⟨S1024, .f32⟩
  | 12 => ⟨S32x256x1024, .f32⟩
  | 13 => ⟨S32x256x1024, .bf16⟩
  | 14 => ⟨S32x256x1024, .bf16⟩
  | 15 => ⟨S32x256x1024, .bf16⟩
  | 16 => ⟨S1x1x1x1024, .f32⟩
  | 17 => ⟨S1x1024, .f32⟩
  | 18 => ⟨S1x1x1024, .f32⟩
  | 19 => ⟨S1x1x1x1024, .f32⟩
  | 20 => ⟨S1x1024, .f32⟩
  | 21 => ⟨S1x1x1024, .f32⟩
  | 22 => ⟨S1x1x1x1024, .f32⟩
  | 23 => ⟨S1x1024, .f32⟩
  | 24 => ⟨S1x1x1024, .f32⟩
  | 25 => ⟨S1x1x1x1024, .f32⟩
  | 26 => ⟨S1x1024, .f32⟩
  | 27 => ⟨S1x1x1024, .f32⟩
  | 28 => ⟨S32x256x1024, .f32⟩
  | 29 => ⟨S32x256x1024, .f32⟩
  | 30 => ⟨S32x256x1024, .f32⟩
  | 31 => ⟨S_, .f32⟩
  | 32 => ⟨S32x256x1024, .f32⟩
  | 33 => ⟨S32x256x1024, .f32⟩
  | 34 => ⟨S32x256x1024, .f32⟩
  | 35 => ⟨S_, .f32⟩
  | 36 => ⟨S32x256x1024, .f32⟩
  | 37 => ⟨S32x256x1024, .f32⟩
  | 38 => ⟨S32x256x1024, .f32⟩
  | 39 => ⟨S_, .f32⟩
  | 40 => ⟨S32x256x1024, .f32⟩
  | 41 => ⟨S32x256x1024, .f32⟩
  | 42 => ⟨S_, .f32⟩
  | 43 => ⟨S32x256x1024, .f32⟩
  | 44 => ⟨S32x256x1024, .f32⟩
  | 45 => ⟨S32x256x1024, .f32⟩
  | 46 => ⟨S32x256x1024, .f32⟩
  | 47 => ⟨S32x256x1024, .f32⟩
  | 48 => ⟨S32x256x1024, .f32⟩
  | 49 => ⟨S32x256x1024, .f32⟩
  | 50 => ⟨S1x1024x1024, .f32⟩
  | 51 => ⟨S1024x1024, .f32⟩
  | 52 => ⟨S32x256x1024, .f32⟩
  | 53 => ⟨S32x256x1024, .f32⟩
  | 54 => ⟨S32x256x1024, .f32⟩
  | 55 => ⟨S32x256x1024, .f32⟩
  | 56 => ⟨S1x1024, .f32⟩
  | 57 => ⟨S1024, .f32⟩
  | 58 => ⟨S32x256x1024, .f32⟩
  | 59 => ⟨S_, .f32⟩
  | 60 => ⟨S32x256, .f32⟩
  | 61 => ⟨S32x256x1, .f32⟩
  | 62 => ⟨S_, .f32⟩
  | 63 => ⟨S32x256x1, .f32⟩
  | 64 => ⟨S32x256x1, .f32⟩
  | 65 => ⟨S_, .f32⟩
  | 66 => ⟨S32x256x1, .f32⟩
  | 67 => ⟨S32x256x1, .f32⟩
  | 68 => ⟨S32x256x1, .f32⟩
  | 69 => ⟨S32x256x1024, .f32⟩
  | 70 => ⟨S32x256x1024, .f32⟩
  | 71 => ⟨S1x1x1024, .f32⟩
  | 72 => ⟨S32x256x1024, .f32⟩
  | 73 => ⟨S32x256x1024, .f32⟩
  | 74 => ⟨S_, .f32⟩
  | 75 => ⟨S1x1x1024, .f32⟩
  | 76 => ⟨S1x1x1024, .f32⟩
  | 77 => ⟨S32x256x1024, .f32⟩
  | 78 => ⟨S32x256x1024, .f32⟩
  | 79 => ⟨S32x256x1024, .f32⟩
  | 80 => ⟨S32x256x1024, .f32⟩
  | 81 => ⟨S1x1024x5632, .f32⟩
  | 82 => ⟨S1024x5632, .f32⟩
  | 83 => ⟨S32x256x5632, .f32⟩
  | 84 => ⟨S_, .i32⟩
  | 85 => ⟨S_, .f32⟩
  | 86 => ⟨S32x258x5632, .f32⟩
  | 87 => ⟨S1x3x5632, .f32⟩
  | 88 => ⟨S3x5632, .f32⟩
  | 89 => ⟨S32x256x5632, .f32⟩
  | 90 => ⟨S1x5632, .f32⟩
  | 91 => ⟨S5632, .f32⟩
  | 92 => ⟨S1x1x5632, .f32⟩
  | 93 => ⟨S32x256x5632, .f32⟩
  | 94 => ⟨S32x256x5632, .f32⟩
  | 95 => ⟨S32x256x5632, .f32⟩
  | 96 => ⟨S1x5632, .f32⟩
  | 97 => ⟨S5632, .f32⟩
  | 98 => ⟨S1x1x5632, .f32⟩
  | 99 => ⟨S32x256x5632, .f32⟩
  | 100 => ⟨S32x256x5632, .f32⟩
  | 101 => ⟨S32x256x5632, .f32⟩
  | 102 => ⟨S32x256x5632, .f32⟩
  | 103 => ⟨S1x5632, .f32⟩
  | 104 => ⟨S5632, .f32⟩
  | 105 => ⟨S1x1x5632, .f32⟩
  | 106 => ⟨S32x256x5632, .f32⟩
  | 107 => ⟨S32x256x5632, .f32⟩
  | 108 => ⟨S32x256x5632, .f32⟩
  | 109 => ⟨S1x5632, .f32⟩
  | 110 => ⟨S5632, .f32⟩
  | 111 => ⟨S1x1x5632, .f32⟩
  | 112 => ⟨S32x256x5632, .f32⟩
  | 113 => ⟨S32x256x5632, .f32⟩
  | 114 => ⟨S32x256x2816, .f32⟩
  | 115 => ⟨S32x256x2816, .f32⟩
  | 116 => ⟨S32x256x2816, .f32⟩
  | 117 => ⟨S32x256x2816, .f32⟩
  | 118 => ⟨S_, .f32⟩
  | 119 => ⟨S32x256x2816, .f32⟩
  | 120 => ⟨S32x256x2816, .f32⟩
  | 121 => ⟨S_, .f32⟩
  | 122 => ⟨S32x256x2816, .f32⟩
  | 123 => ⟨S32x256x2816, .f32⟩
  | 124 => ⟨S32x256x2816, .f32⟩
  | 125 => ⟨S32x256x2816, .f32⟩
  | 126 => ⟨S1x2816x1024, .f32⟩
  | 127 => ⟨S2816x1024, .f32⟩
  | _ => ⟨S8192x1024, .f32⟩

abbrev hbmTy0_1 (i : Nat) : BufTy := match i % 128 with
  | 0 => ⟨S32x256x1024, .f32⟩
  | 1 => ⟨S32x256x1024, .f32⟩
  | 2 => ⟨S32x256x1024, .f32⟩
  | 3 => ⟨S32x256x1024, .f32⟩
  | 4 => ⟨S32x256x1024, .f32⟩
  | 5 => ⟨S_, .f32⟩
  | 6 => ⟨S32x256, .f32⟩
  | 7 => ⟨S32x256x1, .f32⟩
  | 8 => ⟨S_, .f32⟩
  | 9 => ⟨S32x256x1, .f32⟩
  | 10 => ⟨S32x256x1, .f32⟩
  | 11 => ⟨S_, .f32⟩
  | 12 => ⟨S32x256x1, .f32⟩
  | 13 => ⟨S32x256x1, .f32⟩
  | 14 => ⟨S32x256x1, .f32⟩
  | 15 => ⟨S32x256x1024, .f32⟩
  | 16 => ⟨S32x256x1024, .f32⟩
  | 17 => ⟨S1x1x1024, .f32⟩
  | 18 => ⟨S32x256x1024, .f32⟩
  | 19 => ⟨S32x256x1024, .f32⟩
  | 20 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_7 : Ref sig .tc := ⟨.hbm, 133, rfl⟩
abbrev main_v103 : Ref sig .tc := ⟨.hbm, 134, rfl⟩
abbrev main_v104 : Ref sig .tc := ⟨.hbm, 135, rfl⟩
abbrev main_cst_8 : Ref sig .tc := ⟨.hbm, 136, rfl⟩
abbrev main_v105 : Ref sig .tc := ⟨.hbm, 137, rfl⟩
abbrev main_v106 : Ref sig .tc := ⟨.hbm, 138, rfl⟩
abbrev main_cst_9 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩

abbrev nD : Nat := 1
abbrev τ : Topo := Topo.v7x

variable {F : FTy → Type} [FloatOps F]
-- ==== MidKernel.lean ====
abbrev S16384x1024 : Shape := ⟨2, ![16384, 1024]⟩
abbrev S4x8x6x1024 : Shape := ⟨4, ![4, 8, 6, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1x1024 : Shape := ⟨2, ![1, 1024]⟩
abbrev S1024 : Shape := ⟨1, ![1024]⟩
abbrev S4x1x5632 : Shape := ⟨3, ![4, 1, 5632]⟩
abbrev S16x1024 : Shape := ⟨2, ![16, 1024]⟩
abbrev S512x1024 : Shape := ⟨2, ![512, 1024]⟩
abbrev S1x1x6x1024 : Shape := ⟨4, ![1, 1, 6, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S8x1024 : Shape := ⟨2, ![8, 1024]⟩
abbrev S528x1024 : Shape := ⟨2, ![528, 1024]⟩
abbrev S1x1x1x1024 : Shape := ⟨4, ![1, 1, 1, 1024]⟩
abbrev S1024x1024 : Shape := ⟨2, ![1024, 1024]⟩
abbrev S528 : Shape := ⟨1, ![528]⟩
abbrev S528x1 : Shape := ⟨2, ![528, 1]⟩
abbrev S1x1024x256 : Shape := ⟨3, ![1, 1024, 256]⟩
abbrev S1024x256 : Shape := ⟨2, ![1024, 256]⟩
abbrev S528x256 : Shape := ⟨2, ![528, 256]⟩
abbrev S1x3x256 : Shape := ⟨3, ![1, 3, 256]⟩
abbrev S3x256 : Shape := ⟨2, ![3, 256]⟩
abbrev S512x256 : Shape := ⟨2, ![512, 256]⟩
abbrev S1x256 : Shape := ⟨2, ![1, 256]⟩
abbrev S1x1x256 : Shape := ⟨3, ![1, 1, 256]⟩
abbrev S2816x1024 : Shape := ⟨2, ![2816, 1024]⟩

abbrev nBuf : Space → Nat
  | .hbm => 19
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x8x6x1024, .f32⟩
  | .hbm, ⟨5, _⟩ => ⟨S2x1024x1024, .f32⟩
  | .hbm, ⟨6, _⟩ => ⟨S4x1024, .f32⟩
  | .hbm, ⟨7, _⟩ => ⟨S4x1024x5632, .f32⟩
  | .hbm, ⟨8, _⟩ => ⟨S4x3x5632, .f32⟩
  | .hbm, ⟨9, _⟩ => ⟨S4x5632, .f32⟩
  | .hbm, ⟨10, _⟩ => ⟨S4x2816x1024, .f32⟩
  | .hbm, ⟨11, _⟩ => ⟨S2x1024x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4x1024x5632, .bf16⟩
  | .hbm, ⟨16, _⟩ => ⟨S4x1x5632, .f32⟩
  | .hbm, ⟨17, _⟩ => ⟨S4x2816x1024, .bf16⟩
  | .hbm, ⟨18, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S512x1024, .bf16⟩
  | .local _ .vmem, ⟨21, _⟩ => ⟨S512x1024, .bf16⟩
  | .local _ .vmem, ⟨22, _⟩ => ⟨S16x1024, .bf16⟩
  | .local _ .vmem, ⟨23, _⟩ => ⟨S16x1024, .bf16⟩
  | .local _ .vmem, ⟨24, _⟩ => ⟨S1x1x6x1024, .f32⟩
  | .local _ .vmem, ⟨25, _⟩ => ⟨S1x1x6x1024, .f32⟩
  | .local _ .vmem, ⟨26, _⟩ => ⟨S1x1024x1024, .bf16⟩
  | .local _ .vmem, ⟨27, _⟩ => ⟨S1x1024, .f32⟩
  | .local _ .vmem, ⟨28, _⟩ => ⟨S1x1024x5632, .bf16⟩
  | .local _ .vmem, ⟨29, _⟩ => ⟨S1x3x5632, .f32⟩
  | .local _ .vmem, ⟨30, _⟩ => ⟨S1x1x5632, .f32⟩
  | .local _ .vmem, ⟨31, _⟩ => ⟨S1x2816x1024, .bf16⟩
  | .local _ .vmem, ⟨32, _⟩ => ⟨S512x1024, .f32⟩
  | .local _ .vmem, ⟨33, _⟩ => ⟨S512x1024, .f32⟩
  | .local _ .vmem, ⟨34, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli v17 c1_i32_4
  let c1_i32_5 : BitVec 32 := 1#32
  let v19 : BitVec 32 := Scalar.addi c1_i32_5 v18
  let c1_i32_6 : BitVec 32 := 1#32
  let c0_i32_7 : BitVec 32 := 0#32
  let c0_i32_8 : BitVec 32 := 0#32
  let c0_i32_9 : BitVec 32 := 0#32
  ![c1_i32_6.toNat, v19.toNat, c0_i32_7.toNat, c0_i32_8.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x6x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MidReferenceIdeal.lean ====
abbrev S16384x1024 : Shape := ⟨2, ![16384, 1024]⟩
abbrev S4x8x6x1024 : Shape := ⟨4, ![4, 8, 6, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x4096x1024 : Shape := ⟨3, ![4, 4096, 1024]⟩
abbrev S1x4x1x1024 : Shape := ⟨4, ![1, 4, 1, 1024]⟩
abbrev S4x1x1024 : Shape := ⟨3, ![4, 1, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4098x5632 : Shape := ⟨3, ![4, 4098, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x1024, .bf16⟩
  | 3 => ⟨S16384x1024, .bf16⟩
  | 4 => ⟨S4x8x6x1024, .f32⟩
  | 5 => ⟨S2x1024x1024, .f32⟩
  | 6 => ⟨S4x1024, .f32⟩
  | 7 => ⟨S4x1024x5632, .f32⟩
  | 8 => ⟨S4x3x5632, .f32⟩
  | 9 => ⟨S4x5632, .f32⟩
  | 10 => ⟨S4x2816x1024, .f32⟩
  | 11 => ⟨S4x4096x1024, .f32⟩
  | 12 => ⟨S4x4096x1024, .bf16⟩
  | 13 => ⟨S4x4096x1024, .bf16⟩
  | 14 => ⟨S4x4096x1024, .bf16⟩
  | 15 => ⟨S1x4x1x1024, .f32⟩
  | 16 => ⟨S4x1024, .f32⟩
  | 17 => ⟨S4x1x1024, .f32⟩
  | 18 => ⟨S1x4x1x1024, .f32⟩
  | 19 => ⟨S4x1024, .f32⟩
  | 20 => ⟨S4x1x1024, .f32⟩
  | 21 => ⟨S1x4x1x1024, .f32⟩
  | 22 => ⟨S4x1024, .f32⟩
  | 23 => ⟨S4x1x1024, .f32⟩
  | 24 => ⟨S1x4x1x1024, .f32⟩
  | 25 => ⟨S4x1024, .f32⟩
  | 26 => ⟨S4x1x1024, .f32⟩
  | 27 => ⟨S4x4096x1024, .f32⟩
  | 28 => ⟨S4x4096x1024, .f32⟩
  | 29 => ⟨S4x4096x1024, .f32⟩
  | 30 => ⟨S_, .f32⟩
  | 31 => ⟨S4x4096x1024, .f32⟩
  | 32 => ⟨S4x4096x1024, .f32⟩
  | 33 => ⟨S4x4096x1024, .f32⟩
  | 34 => ⟨S_, .f32⟩
  | 35 => ⟨S4x4096x1024, .f32⟩
  | 36 => ⟨S4x4096x1024, .f32⟩
  | 37 => ⟨S4x4096x1024, .f32⟩
  | 38 => ⟨S_, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S4x4096x1024, .f32⟩
  | 45 => ⟨S4x4096x1024, .f32⟩
  | 46 => ⟨S4x4096x1024, .f32⟩
  | 47 => ⟨S4x4096x1024, .f32⟩
  | 48 => ⟨S4x4096x1024, .f32⟩
  | 49 => ⟨S1x1024x1024, .f32⟩
  | 50 => ⟨S1024x1024, .f32⟩
  | 51 => ⟨S4x4096x1024, .f32⟩
  | 52 => ⟨S4x4096x1024, .f32⟩
  | 53 => ⟨S4x4096x1024, .f32⟩
  | 54 => ⟨S4x4096x1024, .f32⟩
  | 55 => ⟨S1x1024, .f32⟩
  | 56 => ⟨S1024, .f32⟩
  | 57 => ⟨S4x4096x1024, .f32⟩
  | 58 => ⟨S_, .f32⟩
  | 59 => ⟨S4x4096, .f32⟩
  | 60 => ⟨S4x4096x1, .f32⟩
  | 61 => ⟨S_, .f32⟩
  | 62 => ⟨S4x4096x1, .f32⟩
  | 63 => ⟨S4x4096x1, .f32⟩
  | 64 => ⟨S_, .f32⟩
  | 65 => ⟨S4x4096x1, .f32⟩
  | 66 => ⟨S4x4096x1, .f32⟩
  | 67 => ⟨S4x4096x1, .f32⟩
  | 68 => ⟨S4x4096x1024, .f32⟩
  | 69 => ⟨S4x4096x1024, .f32⟩
  | 70 => ⟨S1x1x1024, .f32⟩
  | 71 => ⟨S4x4096x1024, .f32⟩
  | 72 => ⟨S4x4096x1024, .f32⟩
  | 73 => ⟨S_, .f32⟩
  | 74 => ⟨S4x1x1024, .f32⟩
  | 75 => ⟨S4x1x1024, .f32⟩
  | 76 => ⟨S4x4096x1024, .f32⟩
  | 77 => ⟨S4x4096x1024, .f32⟩
  | 78 => ⟨S4x4096x1024, .f32⟩
  | 79 => ⟨S4x4096x1024, .f32⟩
  | 80 => ⟨S1x1024x5632, .f32⟩
  | 81 => ⟨S1024x5632, .f32⟩
  | 82 => ⟨S4x4096x5632, .f32⟩
  | 83 => ⟨S_, .i32⟩
  | 84 => ⟨S_, .f32⟩
  | 85 => ⟨S4x4098x5632, .f32⟩
  | 86 => ⟨S1x3x5632, .f32⟩
  | 87 => ⟨S3x5632, .f32⟩
  | 88 => ⟨S4x4096x5632, .f32⟩
  | 89 => ⟨S1x5632, .f32⟩
  | 90 => ⟨S5632, .f32⟩
  | 91 => ⟨S1x1x5632, .f32⟩
  | 92 => ⟨S4x4096x5632, .f32⟩
  | 93 => ⟨S4x4096x5632, .f32⟩
  | 94 => ⟨S4x4096x5632, .f32⟩
  | 95 => ⟨S1x5632, .f32⟩
  | 96 => ⟨S5632, .f32⟩
  | 97 => ⟨S1x1x5632, .f32⟩
  | 98 => ⟨S4x4096x5632, .f32⟩
  | 99 => ⟨S4x4096x5632, .f32⟩
  | 100 => ⟨S4x4096x5632, .f32⟩
  | 101 => ⟨S4x4096x5632, .f32⟩
  | 102 => ⟨S1x5632, .f32⟩
  | 103 => ⟨S5632, .f32⟩
  | 104 => ⟨S1x1x5632, .f32⟩
  | 105 => ⟨S4x4096x5632, .f32⟩
  | 106 => ⟨S4x4096x5632, .f32⟩
  | 107 => ⟨S4x4096x5632, .f32⟩
  | 108 => ⟨S1x5632, .f32⟩
  | 109 => ⟨S5632, .f32⟩
  | 110 => ⟨S1x1x5632, .f32⟩
  | 111 => ⟨S4x4096x5632, .f32⟩
  | 112 => ⟨S4x4096x5632, .f32⟩
  | 113 => ⟨S4x4096x2816, .f32⟩
  | 114 => ⟨S4x4096x2816, .f32⟩
  | 115 => ⟨S4x4096x2816, .f32⟩
  | 116 => ⟨S4x4096x2816, .f32⟩
  | 117 => ⟨S_, .f32⟩
  | 118 => ⟨S4x4096x2816, .f32⟩
  | 119 => ⟨S4x4096x2816, .f32⟩
  | 120 => ⟨S_, .f32⟩
  | 121 => ⟨S4x4096x2816, .f32⟩
  | 122 => ⟨S4x4096x2816, .f32⟩
  | 123 => ⟨S4x4096x2816, .f32⟩
  | 124 => ⟨S4x4096x2816, .f32⟩
  | 125 => ⟨S1x2816x1024, .f32⟩
  | 126 => ⟨S2816x1024, .f32⟩
  | 127 => ⟨S4x4096x1024, .f32⟩
  | _ => ⟨S16384x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c : Ref sig .tc := ⟨.hbm, 83, rfl⟩
abbrev main_call0_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== EvenKernel.lean ====
abbrev S16384x1024 : Shape := ⟨2, ![16384, 1024]⟩
abbrev S16384x512 : Shape := ⟨2, ![16384, 512]⟩
abbrev S4x8x6x1024 : Shape := ⟨4, ![4, 8, 6, 1024]⟩
abbrev S2x128 : Shape := ⟨2, ![2, 128]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1x1024 : Shape := ⟨2, ![1, 1024]⟩
abbrev S1024 : Shape := ⟨1, ![1024]⟩
abbrev S4x1x5632 : Shape := ⟨3, ![4, 1, 5632]⟩
abbrev S1x128 : Shape := ⟨2, ![1, 128]⟩
abbrev S128 : Shape := ⟨1, ![128]⟩
abbrev S16x1024 : Shape := ⟨2, ![16, 1024]⟩
abbrev S512x1024 : Shape := ⟨2, ![512, 1024]⟩
abbrev S16x512 : Shape := ⟨2, ![16, 512]⟩
abbrev S512x512 : Shape := ⟨2, ![512, 512]⟩
abbrev S1x1x6x1024 : Shape := ⟨4, ![1, 1, 6, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S8x1024 : Shape := ⟨2, ![8, 1024]⟩
abbrev S528x1024 : Shape := ⟨2, ![528, 1024]⟩
abbrev S8x512 : Shape := ⟨2, ![8, 512]⟩
abbrev S528x512 : Shape := ⟨2, ![528, 512]⟩
abbrev S528x128 : Shape := ⟨2, ![528, 128]⟩
abbrev S528 : Shape := ⟨1, ![528]⟩
abbrev S528x1 : Shape := ⟨2, ![528, 1]⟩
abbrev S1x1x1x1024 : Shape := ⟨4, ![1, 1, 1, 1024]⟩
abbrev S1024x1024 : Shape := ⟨2, ![1024, 1024]⟩
abbrev S1x1024x256 : Shape := ⟨3, ![1, 1024, 256]⟩
abbrev S1024x256 : Shape := ⟨2, ![1024, 256]⟩
abbrev S528x256 : Shape := ⟨2, ![528, 256]⟩
abbrev S1x3x256 : Shape := ⟨3, ![1, 3, 256]⟩
abbrev S3x256 : Shape := ⟨2, ![3, 256]⟩
abbrev S512x256 : Shape := ⟨2, ![512, 256]⟩
abbrev S1x256 : Shape := ⟨2, ![1, 256]⟩
abbrev S1x1x256 : Shape := ⟨3, ![1, 1, 256]⟩
abbrev S2816x1024 : Shape := ⟨2, ![2816, 1024]⟩

abbrev nBuf : Space → Nat
  | .hbm => 24
  | .vmem => 42
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x8x6x1024, .f32⟩
  | .hbm, ⟨6, _⟩ => ⟨S2x128, .f32⟩
  | .hbm, ⟨7, _⟩ => ⟨S2x1024x1024, .f32⟩
  | .hbm, ⟨8, _⟩ => ⟨S4x1024, .f32⟩
  | .hbm, ⟨9, _⟩ => ⟨S4x1024x5632, .f32⟩
  | .hbm, ⟨10, _⟩ => ⟨S4x3x5632, .f32⟩
  | .hbm, ⟨11, _⟩ => ⟨S4x5632, .f32⟩
  | .hbm, ⟨12, _⟩ => ⟨S4x2816x1024, .f32⟩
  | .hbm, ⟨13, _⟩ => ⟨S2x1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4x1024x5632, .bf16⟩
  | .hbm, ⟨18, _⟩ => ⟨S4x1x5632, .f32⟩
  | .hbm, ⟨19, _⟩ => ⟨S4x2816x1024, .bf16⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .bf16⟩
  | .local _ .vmem, ⟨15, _⟩ => ⟨S512x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S512x512, .bf16⟩
  | .local _ .vmem, ⟨21, _⟩ => ⟨S512x512, .bf16⟩
  | .local _ .vmem, ⟨22, _⟩ => ⟨S16x512, .bf16⟩
  | .local _ .vmem, ⟨23, _⟩ => ⟨S16x512, .bf16⟩
  | .local _ .vmem, ⟨24, _⟩ => ⟨S16x512, .bf16⟩
  | .local _ .vmem, ⟨25, _⟩ => ⟨S16x512, .bf16⟩
  | .local _ .vmem, ⟨26, _⟩ => ⟨S512x512, .bf16⟩
  | .local _ .vmem, ⟨27, _⟩ => ⟨S512x512, .bf16⟩
  | .local _ .vmem, ⟨28, _⟩ => ⟨S16x512, .bf16⟩
  | .local _ .vmem, ⟨29, _⟩ => ⟨S16x512, .bf16⟩
  | .local _ .vmem, ⟨30, _⟩ => ⟨S1x1x6x1024, .f32⟩
  | .local _ .vmem, ⟨31, _⟩ => ⟨S1x1x6x1024, .f32⟩
  | .local _ .vmem, ⟨32, _⟩ => ⟨S1x128, .f32⟩
  | .local _ .vmem, ⟨33, _⟩ => ⟨S1x1024x1024, .bf16⟩
  | .local _ .vmem, ⟨34, _⟩ => ⟨S1x1024, .f32⟩
  | .local _ .vmem, ⟨35, _⟩ => ⟨S1x1024x5632, .bf16⟩
  | .local _ .vmem, ⟨36, _⟩ => ⟨S1x3x5632, .f32⟩
  | .local _ .vmem, ⟨37, _⟩ => ⟨S1x1x5632, .f32⟩
  | .local _ .vmem, ⟨38, _⟩ => ⟨S1x2816x1024, .bf16⟩
  | .local _ .vmem, ⟨39, _⟩ => ⟨S512x1024, .f32⟩
  | .local _ .vmem, ⟨40, _⟩ => ⟨S512x1024, .f32⟩
  | .local _ .vmem, ⟨41, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg23_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_15 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli v17 c1_i32_4
  let c1_i32_5 : BitVec 32 := 1#32
  let v19 : BitVec 32 := Scalar.addi c1_i32_5 v18
  let c2_i32 : BitVec 32 := 2#32
  let c0_i32_6 : BitVec 32 := 0#32
  let c0_i32_7 : BitVec 32 := 0#32
  let c0_i32_8 : BitVec 32 := 0#32
  ![c2_i32.toNat, v19.toNat, c0_i32_6.toNat, c0_i32_7.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_20 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_21 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_22 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x6x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024x5632 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x3x5632 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1x5632 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2816x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== EvenReferenceIdeal.lean ====
abbrev S16384x1024 : Shape := ⟨2, ![16384, 1024]⟩
abbrev S16384x512 : Shape := ⟨2, ![16384, 512]⟩
abbrev S4x8x6x1024 : Shape := ⟨4, ![4, 8, 6, 1024]⟩
abbrev S2x128 : Shape := ⟨2, ![2, 128]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x4096x1024 : Shape := ⟨3, ![4, 4096, 1024]⟩
abbrev S4x4096x512 : Shape := ⟨3, ![4, 4096, 512]⟩
abbrev S1x4x1x1024 : Shape := ⟨4, ![1, 4, 1, 1024]⟩
abbrev S4x1x1024 : Shape := ⟨3, ![4, 1, 1024]⟩
abbrev S4x4096x4x128 : Shape := ⟨4, ![4, 4096, 4, 128]⟩
abbrev S1x128 : Shape := ⟨2, ![1, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4098x5632 : Shape := ⟨3, ![4, 4098, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 149
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x512, .bf16⟩
  | 4 => ⟨S16384x512, .bf16⟩
  | 5 => ⟨S4x8x6x1024, .f32⟩
  | 6 => ⟨S2x128, .f32⟩
  | 7 => ⟨S2x1024x1024, .f32⟩
  | 8 => ⟨S4x1024, .f32⟩
  | 9 => ⟨S4x1024x5632, .f32⟩
  | 10 => ⟨S4x3x5632, .f32⟩
  | 11 => ⟨S4x5632, .f32⟩
  | 12 => ⟨S4x2816x1024, .f32⟩
  | 13 => ⟨S4x4096x1024, .f32⟩
  | 14 => ⟨S16384x512, .f32⟩
  | 15 => ⟨S4x4096x512, .f32⟩
  | 16 => ⟨S16384x512, .f32⟩
  | 17 => ⟨S4x4096x512, .f32⟩
  | 18 => ⟨S16384x512, .f32⟩
  | 19 => ⟨S4x4096x512, .f32⟩
  | 20 => ⟨S16384x512, .f32⟩
  | 21 => ⟨S4x4096x512, .f32⟩
  | 22 => ⟨S1x4x1x1024, .f32⟩
  | 23 => ⟨S4x1024, .f32⟩
  | 24 => ⟨S4x1x1024, .f32⟩
  | 25 => ⟨S1x4x1x1024, .f32⟩
  | 26 => ⟨S4x1024, .f32⟩
  | 27 => ⟨S4x1x1024, .f32⟩
  | 28 => ⟨S1x4x1x1024, .f32⟩
  | 29 => ⟨S4x1024, .f32⟩
  | 30 => ⟨S4x1x1024, .f32⟩
  | 31 => ⟨S1x4x1x1024, .f32⟩
  | 32 => ⟨S4x1024, .f32⟩
  | 33 => ⟨S4x1x1024, .f32⟩
  | 34 => ⟨S4x4096x512, .f32⟩
  | 35 => ⟨S4x4096x4x128, .f32⟩
  | 36 => ⟨S1x128, .f32⟩
  | 37 => ⟨S128, .f32⟩
  | 38 => ⟨S4x4096x4x128, .f32⟩
  | 39 => ⟨S_, .f32⟩
  | 40 => ⟨S4x4096x4, .f32⟩
  | 41 => ⟨S4x4096x4x1, .f32⟩
  | 42 => ⟨S_, .f32⟩
  | 43 => ⟨S4x4096x4x1, .f32⟩
  | 44 => ⟨S4x4096x4x1, .f32⟩
  | 45 => ⟨S_, .f32⟩
  | 46 => ⟨S4x4096x4x1, .f32⟩
  | 47 => ⟨S4x4096x4x1, .f32⟩
  | 48 => ⟨S4x4096x4x1, .f32⟩
  | 49 => ⟨S4x4096x4x128, .f32⟩
  | 50 => ⟨S4x4096x4x128, .f32⟩
  | 51 => ⟨S1x1x1x128, .f32⟩
  | 52 => ⟨S4x4096x4x128, .f32⟩
  | 53 => ⟨S4x4096x4x128, .f32⟩
  | 54 => ⟨S4x4096x512, .f32⟩
  | 55 => ⟨S4x4096x512, .f32⟩
  | 56 => ⟨S4x4096x512, .f32⟩
  | 57 => ⟨S_, .f32⟩
  | 58 => ⟨S4x4096x512, .f32⟩
  | 59 => ⟨S4x4096x512, .f32⟩
  | 60 => ⟨S_, .f32⟩
  | 61 => ⟨S4x4096x512, .f32⟩
  | 62 => ⟨S4x4096x512, .f32⟩
  | 63 => ⟨S4x4096x512, .f32⟩
  | 64 => ⟨S4x4096x512, .f32⟩
  | 65 => ⟨S4x4096x1024, .f32⟩
  | 66 => ⟨S1x1024x1024, .f32⟩
  | 67 => ⟨S1024x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S1x1024, .f32⟩
  | 73 => ⟨S1024, .f32⟩
  | 74 => ⟨S4x4096x1024, .f32⟩
  | 75 => ⟨S_, .f32⟩
  | 76 => ⟨S4x4096, .f32⟩
  | 77 => ⟨S4x4096x1, .f32⟩
  | 78 => ⟨S_, .f32⟩
  | 79 => ⟨S4x4096x1, .f32⟩
  | 80 => ⟨S4x4096x1, .f32⟩
  | 81 => ⟨S_, .f32⟩
  | 82 => ⟨S4x4096x1, .f32⟩
  | 83 => ⟨S4x4096x1, .f32⟩
  | 84 => ⟨S4x4096x1, .f32⟩
  | 85 => ⟨S4x4096x1024, .f32⟩
  | 86 => ⟨S4x4096x1024, .f32⟩
  | 87 => ⟨S1x1x1024, .f32⟩
  | 88 => ⟨S4x4096x1024, .f32⟩
  | 89 => ⟨S4x4096x1024, .f32⟩
  | 90 => ⟨S_, .f32⟩
  | 91 => ⟨S4x1x1024, .f32⟩
  | 92 => ⟨S4x1x1024, .f32⟩
  | 93 => ⟨S4x4096x1024, .f32⟩
  | 94 => ⟨S4x4096x1024, .f32⟩
  | 95 => ⟨S4x4096x1024, .f32⟩
  | 96 => ⟨S4x4096x1024, .f32⟩
  | 97 => ⟨S1x1024x5632, .f32⟩
  | 98 => ⟨S1024x5632, .f32⟩
  | 99 => ⟨S4x4096x5632, .f32⟩
  | 100 => ⟨S_, .i32⟩
  | 101 => ⟨S_, .f32⟩
  | 102 => ⟨S4x4098x5632, .f32⟩
  | 103 => ⟨S1x3x5632, .f32⟩
  | 104 => ⟨S3x5632, .f32⟩
  | 105 => ⟨S4x4096x5632, .f32⟩
  | 106 => ⟨S1x5632, .f32⟩
  | 107 => ⟨S5632, .f32⟩
  | 108 => ⟨S1x1x5632, .f32⟩
  | 109 => ⟨S4x4096x5632, .f32⟩
  | 110 => ⟨S4x4096x5632, .f32⟩
  | 111 => ⟨S4x4096x5632, .f32⟩
  | 112 => ⟨S1x5632, .f32⟩
  | 113 => ⟨S5632, .f32⟩
  | 114 => ⟨S1x1x5632, .f32⟩
  | 115 => ⟨S4x4096x5632, .f32⟩
  | 116 => ⟨S4x4096x5632, .f32⟩
  | 117 => ⟨S4x4096x5632, .f32⟩
  | 118 => ⟨S4x4096x5632, .f32⟩
  | 119 => ⟨S1x5632, .f32⟩
  | 120 => ⟨S5632, .f32⟩
  | 121 => ⟨S1x1x5632, .f32⟩
  | 122 => ⟨S4x4096x5632, .f32⟩
  | 123 => ⟨S4x4096x5632, .f32⟩
  | 124 => ⟨S4x4096x5632, .f32⟩
  | 125 => ⟨S1x5632, .f32⟩
  | 126 => ⟨S5632, .f32⟩
  | 127 => ⟨S1x1x5632, .f32⟩
  | _ => ⟨S16384x1024, .f32⟩

abbrev hbmTy0_1 (i : Nat) : BufTy := match i % 128 with
  | 0 => ⟨S4x4096x5632, .f32⟩
  | 1 => ⟨S4x4096x5632, .f32⟩
  | 2 => ⟨S4x4096x2816, .f32⟩
  | 3 => ⟨S4x4096x2816, .f32⟩
  | 4 => ⟨S4x4096x2816, .f32⟩
  | 5 => ⟨S4x4096x2816, .f32⟩
  | 6 => ⟨S_, .f32⟩
  | 7 => ⟨S4x4096x2816, .f32⟩
  | 8 => ⟨S4x4096x2816, .f32⟩
  | 9 => ⟨S_, .f32⟩
  | 10 => ⟨S4x4096x2816, .f32⟩
  | 11 => ⟨S4x4096x2816, .f32⟩
  | 12 => ⟨S4x4096x2816, .f32⟩
  | 13 => ⟨S4x4096x2816, .f32⟩
  | 14 => ⟨S1x2816x1024, .f32⟩
  | 15 => ⟨S2816x1024, .f32⟩
  | 16 => ⟨S4x4096x1024, .f32⟩
  | 17 => ⟨S4x4096x1024, .f32⟩
  | 18 => ⟨S4x4096x1024, .f32⟩
  | 19 => ⟨S4x4096x1024, .f32⟩
  | 20 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_2 : Ref sig .tc := ⟨.hbm, 75, rfl⟩
abbrev main_v51 : Ref sig .tc := ⟨.hbm, 76, rfl⟩
abbrev main_v52 : Ref sig .tc := ⟨.hbm, 77, rfl⟩
abbrev main_cst_3 : Ref sig .tc := ⟨.hbm, 78, rfl⟩
abbrev main_v53 : Ref sig .tc := ⟨.hbm, 79, rfl⟩
abbrev main_v54 : Ref sig .tc := ⟨.hbm, 80, rfl⟩
abbrev main_cst_4 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_call1_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_call2_v5 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== FirstKernel.lean ====
abbrev S16384x1024 : Shape := ⟨2, ![16384, 1024]⟩
abbrev S16384x512 : Shape := ⟨2, ![16384, 512]⟩
abbrev S4x8x6x1024 : Shape := ⟨4, ![4, 8, 6, 1024]⟩
abbrev S2x128 : Shape := ⟨2, ![2, 128]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S1x1024 : Shape := ⟨2, ![1, 1024]⟩
abbrev S1024 : Shape := ⟨1, ![1024]⟩
abbrev S4x1x5632 : Shape := ⟨3, ![4, 1, 5632]⟩
abbrev S1x128 : Shape := ⟨2, ![1, 128]⟩
abbrev S128 : Shape := ⟨1, ![128]⟩
abbrev S16x1024 : Shape := ⟨2, ![16, 1024]⟩
abbrev S512x1024 : Shape := ⟨2, ![512, 1024]⟩
abbrev S16x512 : Shape := ⟨2, ![16, 512]⟩
abbrev S512x512 : Shape := ⟨2, ![512, 512]⟩
abbrev S1x1x6x1024 : Shape := ⟨4, ![1, 1, 6, 1024]⟩
abbrev S1x1024x1024 : Shape := ⟨3, ![1, 1024, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x2816 : Shape := ⟨2, ![512, 2816]⟩
abbrev S8x1024 : Shape := ⟨2, ![8, 1024]⟩
abbrev S528x1024 : Shape := ⟨2, ![528, 1024]⟩
abbrev S8x512 : Shape := ⟨2, ![8, 512]⟩
abbrev S528x512 : Shape := ⟨2, ![528, 512]⟩
abbrev S528x128 : Shape := ⟨2, ![528, 128]⟩
abbrev S528 : Shape := ⟨1, ![528]⟩
abbrev S528x1 : Shape := ⟨2, ![528, 1]⟩
abbrev S1x1x1x1024 : Shape := ⟨4, ![1, 1, 1, 1024]⟩
abbrev S1024x1024 : Shape := ⟨2, ![1024, 1024]⟩
abbrev S1x1024x256 : Shape := ⟨3, ![1, 1024, 256]⟩
abbrev S1024x256 : Shape := ⟨2, ![1024, 256]⟩
abbrev S528x256 : Shape := ⟨2, ![528, 256]⟩
abbrev S1x3x256 : Shape := ⟨3, ![1, 3, 256]⟩
abbrev S3x256 : Shape := ⟨2, ![3, 256]⟩
abbrev S512x256 : Shape := ⟨2, ![512, 256]⟩
abbrev S1x256 : Shape := ⟨2, ![1, 256]⟩
abbrev S1x1x256 : Shape := ⟨3, ![1, 1, 256]⟩
abbrev S2816x1024 : Shape := ⟨2, ![2816, 1024]⟩

abbrev nBuf : Space → Nat
  | .hbm => 24
  | .vmem => 42
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S4x8x6x1024, .f32⟩
  | .hbm, ⟨6, _⟩ => ⟨S2x128, .f32⟩
  | .hbm, ⟨7, _⟩ => ⟨S2x1024x1024, .f32⟩
  | .hbm, ⟨8, _⟩ => ⟨S4x1024, .f32⟩
  | .hbm, ⟨9, _⟩ => ⟨S4x1024x5632, .f32⟩
  | .hbm, ⟨10, _⟩ => ⟨S4x3x5632, .f32⟩
  | .hbm, ⟨11, _⟩ => ⟨S4x5632, .f32⟩
  | .hbm, ⟨12, _⟩ => ⟨S4x2816x1024, .f32⟩
  | .hbm, ⟨13, _⟩ => ⟨S2x1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4x1024x5632, .bf16⟩
  | .hbm, ⟨18, _⟩ => ⟨S4x1x5632, .f32⟩
  | .hbm, ⟨19, _⟩ => ⟨S4x2816x1024, .bf16⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .bf16⟩
  | .local _ .vmem, ⟨15, _⟩ => ⟨S512x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S512x512, .bf16⟩
  | .local _ .vmem, ⟨21, _⟩ => ⟨S512x512, .bf16⟩
  | .local _ .vmem, ⟨22, _⟩ => ⟨S16x512, .bf16⟩
  | .local _ .vmem, ⟨23, _⟩ => ⟨S16x512, .bf16⟩
  | .local _ .vmem, ⟨24, _⟩ => ⟨S16x512, .bf16⟩
  | .local _ .vmem, ⟨25, _⟩ => ⟨S16x512, .bf16⟩
  | .local _ .vmem, ⟨26, _⟩ => ⟨S512x512, .bf16⟩
  | .local _ .vmem, ⟨27, _⟩ => ⟨S512x512, .bf16⟩
  | .local _ .vmem, ⟨28, _⟩ => ⟨S16x512, .bf16⟩
  | .local _ .vmem, ⟨29, _⟩ => ⟨S16x512, .bf16⟩
  | .local _ .vmem, ⟨30, _⟩ => ⟨S1x1x6x1024, .f32⟩
  | .local _ .vmem, ⟨31, _⟩ => ⟨S1x1x6x1024, .f32⟩
  | .local _ .vmem, ⟨32, _⟩ => ⟨S1x128, .f32⟩
  | .local _ .vmem, ⟨33, _⟩ => ⟨S1x1024x1024, .bf16⟩
  | .local _ .vmem, ⟨34, _⟩ => ⟨S1x1024, .f32⟩
  | .local _ .vmem, ⟨35, _⟩ => ⟨S1x1024x5632, .bf16⟩
  | .local _ .vmem, ⟨36, _⟩ => ⟨S1x3x5632, .f32⟩
  | .local _ .vmem, ⟨37, _⟩ => ⟨S1x1x5632, .f32⟩
  | .local _ .vmem, ⟨38, _⟩ => ⟨S1x2816x1024, .bf16⟩
  | .local _ .vmem, ⟨39, _⟩ => ⟨S512x1024, .f32⟩
  | .local _ .vmem, ⟨40, _⟩ => ⟨S512x1024, .f32⟩
  | .local _ .vmem, ⟨41, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg23_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_15 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli v17 c1_i32_4
  let c1_i32_5 : BitVec 32 := 1#32
  let v19 : BitVec 32 := Scalar.addi c1_i32_5 v18
  let c0_i32_6 : BitVec 32 := 0#32
  let c0_i32_7 : BitVec 32 := 0#32
  let c0_i32_8 : BitVec 32 := 0#32
  let c0_i32_9 : BitVec 32 := 0#32
  ![c0_i32_6.toNat, v19.toNat, c0_i32_7.toNat, c0_i32_8.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x6x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024x5632 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x3x5632 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1x5632 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2816x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== FirstReferenceIdeal.lean ====
abbrev S16384x1024 : Shape := ⟨2, ![16384, 1024]⟩
abbrev S16384x512 : Shape := ⟨2, ![16384, 512]⟩
abbrev S4x8x6x1024 : Shape := ⟨4, ![4, 8, 6, 1024]⟩
abbrev S2x128 : Shape := ⟨2, ![2, 128]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x4096x1024 : Shape := ⟨3, ![4, 4096, 1024]⟩
abbrev S4x4096x512 : Shape := ⟨3, ![4, 4096, 512]⟩
abbrev S1x4x1x1024 : Shape := ⟨4, ![1, 4, 1, 1024]⟩
abbrev S4x1x1024 : Shape := ⟨3, ![4, 1, 1024]⟩
abbrev S4x4096x4x128 : Shape := ⟨4, ![4, 4096, 4, 128]⟩
abbrev S1x128 : Shape := ⟨2, ![1, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4098x5632 : Shape := ⟨3, ![4, 4098, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 149
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x512, .bf16⟩
  | 4 => ⟨S16384x512, .bf16⟩
  | 5 => ⟨S4x8x6x1024, .f32⟩
  | 6 => ⟨S2x128, .f32⟩
  | 7 => ⟨S2x1024x1024, .f32⟩
  | 8 => ⟨S4x1024, .f32⟩
  | 9 => ⟨S4x1024x5632, .f32⟩
  | 10 => ⟨S4x3x5632, .f32⟩
  | 11 => ⟨S4x5632, .f32⟩
  | 12 => ⟨S4x2816x1024, .f32⟩
  | 13 => ⟨S4x4096x1024, .f32⟩
  | 14 => ⟨S16384x512, .f32⟩
  | 15 => ⟨S4x4096x512, .f32⟩
  | 16 => ⟨S16384x512, .f32⟩
  | 17 => ⟨S4x4096x512, .f32⟩
  | 18 => ⟨S16384x512, .f32⟩
  | 19 => ⟨S4x4096x512, .f32⟩
  | 20 => ⟨S16384x512, .f32⟩
  | 21 => ⟨S4x4096x512, .f32⟩
  | 22 => ⟨S1x4x1x1024, .f32⟩
  | 23 => ⟨S4x1024, .f32⟩
  | 24 => ⟨S4x1x1024, .f32⟩
  | 25 => ⟨S1x4x1x1024, .f32⟩
  | 26 => ⟨S4x1024, .f32⟩
  | 27 => ⟨S4x1x1024, .f32⟩
  | 28 => ⟨S1x4x1x1024, .f32⟩
  | 29 => ⟨S4x1024, .f32⟩
  | 30 => ⟨S4x1x1024, .f32⟩
  | 31 => ⟨S1x4x1x1024, .f32⟩
  | 32 => ⟨S4x1024, .f32⟩
  | 33 => ⟨S4x1x1024, .f32⟩
  | 34 => ⟨S4x4096x512, .f32⟩
  | 35 => ⟨S4x4096x4x128, .f32⟩
  | 36 => ⟨S1x128, .f32⟩
  | 37 => ⟨S128, .f32⟩
  | 38 => ⟨S4x4096x4x128, .f32⟩
  | 39 => ⟨S_, .f32⟩
  | 40 => ⟨S4x4096x4, .f32⟩
  | 41 => ⟨S4x4096x4x1, .f32⟩
  | 42 => ⟨S_, .f32⟩
  | 43 => ⟨S4x4096x4x1, .f32⟩
  | 44 => ⟨S4x4096x4x1, .f32⟩
  | 45 => ⟨S_, .f32⟩
  | 46 => ⟨S4x4096x4x1, .f32⟩
  | 47 => ⟨S4x4096x4x1, .f32⟩
  | 48 => ⟨S4x4096x4x1, .f32⟩
  | 49 => ⟨S4x4096x4x128, .f32⟩
  | 50 => ⟨S4x4096x4x128, .f32⟩
  | 51 => ⟨S1x1x1x128, .f32⟩
  | 52 => ⟨S4x4096x4x128, .f32⟩
  | 53 => ⟨S4x4096x4x128, .f32⟩
  | 54 => ⟨S4x4096x512, .f32⟩
  | 55 => ⟨S4x4096x512, .f32⟩
  | 56 => ⟨S4x4096x512, .f32⟩
  | 57 => ⟨S_, .f32⟩
  | 58 => ⟨S4x4096x512, .f32⟩
  | 59 => ⟨S4x4096x512, .f32⟩
  | 60 => ⟨S_, .f32⟩
  | 61 => ⟨S4x4096x512, .f32⟩
  | 62 => ⟨S4x4096x512, .f32⟩
  | 63 => ⟨S4x4096x512, .f32⟩
  | 64 => ⟨S4x4096x512, .f32⟩
  | 65 => ⟨S4x4096x1024, .f32⟩
  | 66 => ⟨S1x1024x1024, .f32⟩
  | 67 => ⟨S1024x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S1x1024, .f32⟩
  | 73 => ⟨S1024, .f32⟩
  | 74 => ⟨S4x4096x1024, .f32⟩
  | 75 => ⟨S_, .f32⟩
  | 76 => ⟨S4x4096, .f32⟩
  | 77 => ⟨S4x4096x1, .f32⟩
  | 78 => ⟨S_, .f32⟩
  | 79 => ⟨S4x4096x1, .f32⟩
  | 80 => ⟨S4x4096x1, .f32⟩
  | 81 => ⟨S_, .f32⟩
  | 82 => ⟨S4x4096x1, .f32⟩
  | 83 => ⟨S4x4096x1, .f32⟩
  | 84 => ⟨S4x4096x1, .f32⟩
  | 85 => ⟨S4x4096x1024, .f32⟩
  | 86 => ⟨S4x4096x1024, .f32⟩
  | 87 => ⟨S1x1x1024, .f32⟩
  | 88 => ⟨S4x4096x1024, .f32⟩
  | 89 => ⟨S4x4096x1024, .f32⟩
  | 90 => ⟨S_, .f32⟩
  | 91 => ⟨S4x1x1024, .f32⟩
  | 92 => ⟨S4x1x1024, .f32⟩
  | 93 => ⟨S4x4096x1024, .f32⟩
  | 94 => ⟨S4x4096x1024, .f32⟩
  | 95 => ⟨S4x4096x1024, .f32⟩
  | 96 => ⟨S4x4096x1024, .f32⟩
  | 97 => ⟨S1x1024x5632, .f32⟩
  | 98 => ⟨S1024x5632, .f32⟩
  | 99 => ⟨S4x4096x5632, .f32⟩
  | 100 => ⟨S_, .i32⟩
  | 101 => ⟨S_, .f32⟩
  | 102 => ⟨S4x4098x5632, .f32⟩
  | 103 => ⟨S1x3x5632, .f32⟩
  | 104 => ⟨S3x5632, .f32⟩
  | 105 => ⟨S4x4096x5632, .f32⟩
  | 106 => ⟨S1x5632, .f32⟩
  | 107 => ⟨S5632, .f32⟩
  | 108 => ⟨S1x1x5632, .f32⟩
  | 109 => ⟨S4x4096x5632, .f32⟩
  | 110 => ⟨S4x4096x5632, .f32⟩
  | 111 => ⟨S4x4096x5632, .f32⟩
  | 112 => ⟨S1x5632, .f32⟩
  | 113 => ⟨S5632, .f32⟩
  | 114 => ⟨S1x1x5632, .f32⟩
  | 115 => ⟨S4x4096x5632, .f32⟩
  | 116 => ⟨S4x4096x5632, .f32⟩
  | 117 => ⟨S4x4096x5632, .f32⟩
  | 118 => ⟨S4x4096x5632, .f32⟩
  | 119 => ⟨S1x5632, .f32⟩
  | 120 => ⟨S5632, .f32⟩
  | 121 => ⟨S1x1x5632, .f32⟩
  | 122 => ⟨S4x4096x5632, .f32⟩
  | 123 => ⟨S4x4096x5632, .f32⟩
  | 124 => ⟨S4x4096x5632, .f32⟩
  | 125 => ⟨S1x5632, .f32⟩
  | 126 => ⟨S5632, .f32⟩
  | 127 => ⟨S1x1x5632, .f32⟩
  | _ => ⟨S16384x1024, .f32⟩

abbrev hbmTy0_1 (i : Nat) : BufTy := match i % 128 with
  | 0 => ⟨S4x4096x5632, .f32⟩
  | 1 => ⟨S4x4096x5632, .f32⟩
  | 2 => ⟨S4x4096x2816, .f32⟩
  | 3 => ⟨S4x4096x2816, .f32⟩
  | 4 => ⟨S4x4096x2816, .f32⟩
  | 5 => ⟨S4x4096x2816, .f32⟩
  | 6 => ⟨S_, .f32⟩
  | 7 => ⟨S4x4096x2816, .f32⟩
  | 8 => ⟨S4x4096x2816, .f32⟩
  | 9 => ⟨S_, .f32⟩
  | 10 => ⟨S4x4096x2816, .f32⟩
  | 11 => ⟨S4x4096x2816, .f32⟩
  | 12 => ⟨S4x4096x2816, .f32⟩
  | 13 => ⟨S4x4096x2816, .f32⟩
  | 14 => ⟨S1x2816x1024, .f32⟩
  | 15 => ⟨S2816x1024, .f32⟩
  | 16 => ⟨S4x4096x1024, .f32⟩
  | 17 => ⟨S4x4096x1024, .f32⟩
  | 18 => ⟨S4x4096x1024, .f32⟩
  | 19 => ⟨S4x4096x1024, .f32⟩
  | 20 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_2 : Ref sig .tc := ⟨.hbm, 75, rfl⟩
abbrev main_v51 : Ref sig .tc := ⟨.hbm, 76, rfl⟩
abbrev main_v52 : Ref sig .tc := ⟨.hbm, 77, rfl⟩
abbrev main_cst_3 : Ref sig .tc := ⟨.hbm, 78, rfl⟩
abbrev main_v53 : Ref sig .tc := ⟨.hbm, 79, rfl⟩
abbrev main_v54 : Ref sig .tc := ⟨.hbm, 80, rfl⟩
abbrev main_cst_4 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_call1_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_call2_v5 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== InKernel.lean ====
abbrev S8192x1024 : Shape := ⟨2, ![8192, 1024]⟩
abbrev S4x8x6x1024 : Shape := ⟨4, ![4, 8, 6, 1024]⟩
abbrev S4x1024 : Shape := ⟨2, ![4, 1024]⟩
abbrev S2x1024x2336 : Shape := ⟨3, ![2, 1024, 2336]⟩
abbrev S2x16x256 : Shape := ⟨3, ![2, 16, 256]⟩
abbrev S2x256 : Shape := ⟨2, ![2, 256]⟩
abbrev S_ : Shape := ⟨0, ![]⟩
abbrev S2x1024x2432 : Shape := ⟨3, ![2, 1024, 2432]⟩
abbrev S1x1024 : Shape := ⟨2, ![1, 1024]⟩
abbrev S1024 : Shape := ⟨1, ![1024]⟩
abbrev S1x16x256 : Shape := ⟨3, ![1, 16, 256]⟩
abbrev S16x256 : Shape := ⟨2, ![16, 256]⟩
abbrev S128x256 : Shape := ⟨2, ![128, 256]⟩
abbrev S1 : Shape := ⟨1, ![1]⟩
abbrev S1x256 : Shape := ⟨2, ![1, 256]⟩
abbrev S256 : Shape := ⟨1, ![256]⟩
abbrev S8192x512 : Shape := ⟨2, ![8192, 512]⟩
abbrev S8192x128 : Shape := ⟨2, ![8192, 128]⟩
abbrev S8192x256 : Shape := ⟨2, ![8192, 256]⟩
abbrev S1024x1024 : Shape := ⟨2, ![1024, 1024]⟩
abbrev S1x1x6x1024 : Shape := ⟨4, ![1, 1, 6, 1024]⟩
abbrev S1x1024x2432 : Shape := ⟨3, ![1, 1024, 2432]⟩
abbrev S1024x512 : Shape := ⟨2, ![1024, 512]⟩
abbrev S1024x128 : Shape := ⟨2, ![1024, 128]⟩
abbrev S1024x256 : Shape := ⟨2, ![1024, 256]⟩
abbrev S1x1x1x1024 : Shape := ⟨4, ![1, 1, 1, 1024]⟩
abbrev S1024x1 : Shape := ⟨2, ![1024, 1]⟩
abbrev S1024x2432 : Shape := ⟨2, ![1024, 2432]⟩

abbrev nBuf : Space → Nat
  | .hbm => 46
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S4x8x6x1024, .f32⟩
  | .hbm, ⟨2, _⟩ => ⟨S4x1024, .f32⟩
  | .hbm, ⟨3, _⟩ => ⟨S2x1024x2336, .f32⟩
  | .hbm, ⟨4, _⟩ => ⟨S2x16x256, .f32⟩
  | .hbm, ⟨5, _⟩ => ⟨S2x256, .f32⟩
  | .hbm, ⟨6, _⟩ => ⟨S2x16x256, .f32⟩
  | .hbm, ⟨7, _⟩ => ⟨S2x256, .f32⟩
  | .hbm, ⟨8, _⟩ => ⟨S_, .i32⟩
  | .hbm, ⟨9, _⟩ => ⟨S_, .f32⟩
  | .hbm, ⟨10, _⟩ => ⟨S2x1024x2432, .f32⟩
  | .hbm, ⟨11, _⟩ => ⟨S2x1024x2432, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x16x256, .f32⟩
  | .hbm, ⟨16, _⟩ => ⟨S16x256, .f32⟩
  | .hbm, ⟨17, _⟩ => ⟨S_, .bf16⟩
  | .hbm, ⟨18, _⟩ => ⟨S128x256, .bf16⟩
  | .hbm, ⟨19, _⟩ => ⟨S16x256, .bf16⟩
  | .hbm, ⟨20, _⟩ => ⟨S_, .i32⟩
  | .hbm, ⟨21, _⟩ => ⟨S1, .i32⟩
  | .hbm, ⟨22, _⟩ => ⟨S128x256, .bf16⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S1x16x256, .f32⟩
  | .hbm, ⟨27, _⟩ => ⟨S16x256, .f32⟩
  | .hbm, ⟨28, _⟩ => ⟨S_, .bf16⟩
  | .hbm, ⟨29, _⟩ => ⟨S128x256, .bf16⟩
  | .hbm, ⟨30, _⟩ => ⟨S16x256, .bf16⟩
  | .hbm, ⟨31, _⟩ => ⟨S_, .i32⟩
  | .hbm, ⟨32, _⟩ => ⟨S1, .i32⟩
  | .hbm, ⟨33, _⟩ => ⟨S128x256, .bf16⟩
  | .hbm, ⟨34, _⟩ => ⟨S1x256, .f32⟩
  | .hbm, ⟨35, _⟩ => ⟨S256, .f32⟩
  | .hbm, ⟨36, _⟩ => ⟨S1x256, .f32⟩
  | .hbm, ⟨37, _⟩ => ⟨S8192x512, .bf16⟩
  | .hbm, ⟨38, _⟩ => ⟨S8192x128, .f32⟩
  | .hbm, ⟨39, _⟩ => ⟨S8192x128, .f32⟩
  | .hbm, ⟨40, _⟩ => ⟨S8192x256, .bf16⟩
  | .hbm, ⟨41, _⟩ => ⟨S8192x256, .bf16⟩
  | .hbm, ⟨42, _⟩ => ⟨S8192x512, .bf16⟩
  | .hbm, ⟨43, _⟩ => ⟨S8192x512, .bf16⟩
  | .hbm, ⟨44, _⟩ => ⟨S8192x256, .f32⟩
  | .hbm, ⟨45, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1024, .f32⟩
  | .local _ .vmem, ⟨4, _⟩ => ⟨S1x1024x2432, .bf16⟩
  | .local _ .vmem, ⟨5, _⟩ => ⟨S128x256, .bf16⟩
  | .local _ .vmem, ⟨6, _⟩ => ⟨S1x256, .f32⟩
  | .local _ .vmem, ⟨7, _⟩ => ⟨S128x256, .bf16⟩
  | .local _ .vmem, ⟨8, _⟩ => ⟨S1x256, .f32⟩
  | .local _ .vmem, ⟨9, _⟩ => ⟨S1024x512, .bf16⟩
  | .local _ .vmem, ⟨10, _⟩ => ⟨S1024x512, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v23_3 : Ref sig .tc := ⟨.hbm, 40, rfl⟩
abbrev main_v23_4 : Ref sig .tc := ⟨.hbm, 41, rfl⟩
abbrev main_v23_5 : Ref sig .tc := ⟨.hbm, 42, rfl⟩
abbrev main_v23_6 : Ref sig .tc := ⟨.hbm, 43, rfl⟩
abbrev main_v23_7 : Ref sig .tc := ⟨.hbm, 44, rfl⟩
abbrev main_v23_8 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InReferenceIdeal.lean ====
abbrev S8192x1024 : Shape := ⟨2, ![8192, 1024]⟩
abbrev S4x8x6x1024 : Shape := ⟨4, ![4, 8, 6, 1024]⟩
abbrev S4x1024 : Shape := ⟨2, ![4, 1024]⟩
abbrev S2x1024x2336 : Shape := ⟨3, ![2, 1024, 2336]⟩
abbrev S2x16x256 : Shape := ⟨3, ![2, 16, 256]⟩
abbrev S2x256 : Shape := ⟨2, ![2, 256]⟩
abbrev S1x1x1x1024 : Shape := ⟨4, ![1, 1, 1, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2336 : Shape := ⟨3, ![1, 1024, 2336]⟩
abbrev S1024x2336 : Shape := ⟨2, ![1024, 2336]⟩
abbrev S8192x2336 : Shape := ⟨2, ![8192, 2336]⟩
abbrev S8192x512 : Shape := ⟨2, ![8192, 512]⟩
abbrev S8192x128 : Shape := ⟨2, ![8192, 128]⟩
abbrev S8192x256 : Shape := ⟨2, ![8192, 256]⟩
abbrev S8192x16 : Shape := ⟨2, ![8192, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8x6x1024, .f32⟩
  | .hbm, ⟨2, _⟩ => ⟨S4x1024, .f32⟩
  | .hbm, ⟨3, _⟩ => ⟨S2x1024x2336, .f32⟩
  | .hbm, ⟨4, _⟩ => ⟨S2x16x256, .f32⟩
  | .hbm, ⟨5, _⟩ => ⟨S2x256, .f32⟩
  | .hbm, ⟨6, _⟩ => ⟨S2x16x256, .f32⟩
  | .hbm, ⟨7, _⟩ => ⟨S2x256, .f32⟩
  | .hbm, ⟨8, _⟩ => ⟨S1x1x1x1024, .f32⟩
  | .hbm, ⟨9, _⟩ => ⟨S1x1024, .f32⟩
  | .hbm, ⟨10, _⟩ => ⟨S1x1x1x1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024x2336, .f32⟩
  | .hbm, ⟨38, _⟩ => ⟨S1024x2336, .f32⟩
  | .hbm, ⟨39, _⟩ => ⟨S8192x2336, .f32⟩
  | .hbm, ⟨40, _⟩ => ⟨S8192x512, .f32⟩
  | .hbm, ⟨41, _⟩ => ⟨S8192x128, .f32⟩
  | .hbm, ⟨42, _⟩ => ⟨S8192x128, .f32⟩
  | .hbm, ⟨43, _⟩ => ⟨S8192x256, .f32⟩
  | .hbm, ⟨44, _⟩ => ⟨S8192x256, .f32⟩
  | .hbm, ⟨45, _⟩ => ⟨S8192x512, .f32⟩
  | .hbm, ⟨46, _⟩ => ⟨S8192x512, .f32⟩
  | .hbm, ⟨47, _⟩ => ⟨S8192x16, .f32⟩
  | .hbm, ⟨48, _⟩ => ⟨S8192x16, .f32⟩
  | .hbm, ⟨49, _⟩ => ⟨S1x16x256, .f32⟩
  | .hbm, ⟨50, _⟩ => ⟨S16x256, .f32⟩
  | .hbm, ⟨51, _⟩ => ⟨S8192x256, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x256, .f32⟩
  | .hbm, ⟨63, _⟩ => ⟨S8192x256, .i1⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S_, .f32⟩
  | .hbm, ⟨74, _⟩ => ⟨S8192x256, .f32⟩
  | .hbm, ⟨75, _⟩ => ⟨S8192x256, .f32⟩
  | .hbm, ⟨76, _⟩ => ⟨S1x16x256, .f32⟩
  | .hbm, ⟨77, _⟩ => ⟨S16x256, .f32⟩
  | .hbm, ⟨78, _⟩ => ⟨S8192x256, .f32⟩
  | .hbm, ⟨79, _⟩ => ⟨S1x256, .f32⟩
  | .hbm, ⟨80, _⟩ => ⟨S256, .f32⟩
  | .hbm, ⟨81, _⟩ => ⟨S1x256, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S_, .f32⟩
  | .hbm, ⟨86, _⟩ => ⟨S8192x256, .f32⟩
  | .hbm, ⟨87, _⟩ => ⟨S8192x256, .f32⟩
  | .hbm, ⟨88, _⟩ => ⟨S8192x256, .f32⟩
  | .hbm, ⟨89, _⟩ => ⟨S8192x256, .f32⟩
  | .hbm, ⟨90, _⟩ => ⟨S8192x256, .i1⟩
  | .hbm, ⟨91, _⟩ => ⟨S8192x256, .f32⟩
  | .hbm, ⟨92, _⟩ => ⟨S8192x256, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S8192x256, .f32⟩
  | .hbm, ⟨99, _⟩ => ⟨S8192x256, .f32⟩
  | .hbm, ⟨100, _⟩ => ⟨S_, .f32⟩
  | .hbm, ⟨101, _⟩ => ⟨S8192x256, .f32⟩
  | .hbm, ⟨102, _⟩ => ⟨S8192x256, .f32⟩
  | .hbm, ⟨103, _⟩ => ⟨S8192x512, .bf16⟩
  | .hbm, ⟨104, _⟩ => ⟨S_, .f32⟩
  | .hbm, ⟨105, _⟩ => ⟨S8192x256, .f32⟩
  | .hbm, ⟨106, _⟩ => ⟨S8192x256, .f32⟩
  | .hbm, ⟨107, _⟩ => ⟨S8192x256, .bf16⟩
  | .hbm, ⟨108, _⟩ => ⟨S8192x256, .bf16⟩
  | .hbm, ⟨109, _⟩ => ⟨S8192x512, .bf16⟩
  | .hbm, ⟨110, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_v0 : Ref sig .tc := ⟨.hbm, 84, rfl⟩
abbrev main_call1_call0_cst : Ref sig .tc := ⟨.hbm, 85, rfl⟩
abbrev main_call1_call0_v0 : Ref sig .tc := ⟨.hbm, 86, rfl⟩
abbrev main_call1_call0_v1 : Ref sig .tc := ⟨.hbm, 87, rfl⟩
abbrev main_call1_call0_v2 : Ref sig .tc := ⟨.hbm, 88, rfl⟩
abbrev main_call1_call0_v3 : Ref sig .tc := ⟨.hbm, 89, rfl⟩
abbrev main_call1_call0_v4 : Ref sig .tc := ⟨.hbm, 90, rfl⟩
abbrev main_call1_call0_v5 : Ref sig .tc := ⟨.hbm, 91, rfl⟩
abbrev main_call1_call0_v6 : Ref sig .tc := ⟨.hbm, 92, rfl⟩
abbrev main_call1_call0_v7 : Ref sig .tc := ⟨.hbm, 93, rfl⟩
abbrev main_call1_call0_v8 : Ref sig .tc := ⟨.hbm, 94, rfl⟩
abbrev main_call1_call0_v9 : Ref sig .tc := ⟨.hbm, 95, rfl⟩
abbrev main_call1_call0_v10 : Ref sig .tc := ⟨.hbm, 96, rfl⟩
abbrev main_call1_call0_v11 : Ref sig .tc := ⟨.hbm, 97, rfl⟩
abbrev main_call1_v1 : Ref sig .tc := ⟨.hbm, 98, rfl⟩
abbrev main_v56 : Ref sig .tc := ⟨.hbm, 99, rfl⟩
abbrev main_cst_4 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_5 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩

abbrev nD : Nat := 1
abbrev τ : Topo := Topo.v7x

variable {F : FTy → Type} [FloatOps F]
-- ==== Proof.Scalars.lean ====
module

public import Idealize.ShloMosaic.Lib.Pointwise
public import Idealize.ShloMosaic.Lib.IdealHost

@[expose] public section

set_option maxRecDepth 16384

/-! The scalar identities of the layer over the extended reals: the literals that occur, the two spellings of the
logistic function, of its logarithm and of the RG-LRU input scale, and the bounds that make a gate distribute over
every sum. -/

noncomputable section

namespace Cert.Layer

open Idealize.ShloMosaic

/-- The pattern of one half. -/
theorem lit_half : Ideal.ofBits .f32 0x3F000000#32 = ((1 / 2 : ℝ) : EReal) := by
  simp [Ideal.ofBits, Ideal.ieee]
  norm_num [← EReal.coe_mul]

/-- The pattern of two. -/
theorem lit_two : Ideal.ofBits .f32 0x40000000#32 = ((2 : ℝ) : EReal) := by
  simp [Ideal.ofBits, Ideal.ieee]
  norm_num [← EReal.coe_mul]

/-- The pattern of eight. -/
theorem lit_eight : Ideal.ofBits .f32 0x41000000#32 = ((8 : ℝ) : EReal) := by
  simp [Ideal.ofBits, Ideal.ieee]
  norm_num [← EReal.coe_mul]

theorem exp_bot : Ideal.exp ⊥ = 0 := rfl

theorem exp_top : Ideal.exp ⊤ = ⊤ := rfl

theorem one_add_top : (1 : EReal) + ⊤ = ⊤ := rfl

theorem log_top : Ideal.log ⊤ = ⊤ := rfl

theorem log_one : Ideal.log 1 = 0 := by
  show (if (1 : ℝ) ≤ 0 then ⊥ else ((Real.log 1 : ℝ) : EReal)) = 0
  simp

/-- The logistic function of a real number by way of the hyperbolic tangent. -/
theorem real_sigmoid (r : ℝ) : 1 / 2 * Real.tanh (1 / 2 * r) + 1 / 2 = 1 / (1 + Real.exp (-r)) := by
  rw [Real.tanh_eq_sinh_div_cosh, Real.sinh_eq, Real.cosh_eq]
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  field_simp
  nlinarith

/-- The logistic function, `1 / (1 + e^(-x))`. -/
def sgm (x : EReal) : EReal := Ideal.div 1 (1 + Ideal.exp (-x))

/-- At a real argument. -/
theorem sig_coe (r : ℝ) : sgm (r : EReal) = ((1 / (1 + Real.exp (-r)) : ℝ) : EReal) := by
  have hp := Real.exp_pos (-r)
  show Ideal.div 1 (1 + Ideal.exp (-(r : EReal))) = _
  rw [← EReal.coe_neg]
  show Ideal.div 1 (1 + ((Real.exp (-r) : ℝ) : EReal)) = _
  rw [← EReal.coe_one, ← EReal.coe_add, Ideal.div_coe (by positivity), ← EReal.coe_mul]
  norm_num

theorem sig_bot : sgm ⊥ = 0 := by
  simp [sgm, exp_bot, exp_top, one_add_top, Ideal.div]

theorem sig_top : sgm ⊤ = 1 := by
  simp [sgm, exp_bot, exp_top, one_add_top, Ideal.div]

/-- The kernel's spelling of the logistic function. -/
theorem sig_tanh (x : EReal) :
    Ideal.ofBits .f32 0x3F000000#32 * Ideal.tanh (Ideal.ofBits .f32 0x3F000000#32 * x) + Ideal.ofBits .f32 0x3F000000#32
      = sgm x := by
  rw [lit_half]
  induction x using EReal.rec with
  | bot =>
    rw [sig_bot, EReal.coe_mul_bot_of_pos (by norm_num)]
    show ((1 / 2 : ℝ) : EReal) * (-1) + _ = _
    rw [← EReal.coe_one, ← EReal.coe_neg, ← EReal.coe_mul, ← EReal.coe_add]; norm_num
  | top =>
    rw [sig_top, EReal.coe_mul_top_of_pos (by norm_num)]
    show ((1 / 2 : ℝ) : EReal) * 1 + _ = _
    rw [← EReal.coe_one, ← EReal.coe_mul, ← EReal.coe_add]; norm_num
  | coe r =>
    rw [sig_coe, ← EReal.coe_mul]
    show ((1 / 2 : ℝ) : EReal) * ((Real.tanh (1 / 2 * r) : ℝ) : EReal) + _ = _
    rw [← EReal.coe_mul, ← EReal.coe_add, real_sigmoid]

/-- The logistic function is a real number between zero and one. -/
theorem sig_real (x : EReal) : ∃ s : ℝ, 0 ≤ s ∧ s ≤ 1 ∧ sgm x = (s : EReal) := by
  induction x using EReal.rec with
  | bot => exact ⟨0, le_rfl, zero_le_one, by rw [sig_bot]; rfl⟩
  | top => exact ⟨1, zero_le_one, le_rfl, by rw [sig_top]; rfl⟩
  | coe r =>
    have hp := Real.exp_pos (-r)
    refine ⟨1 / (1 + Real.exp (-r)), by positivity, ?_, sig_coe r⟩
    rw [div_le_one (by positivity)]; linarith

/-- The logarithm of the logistic function, `min(x, 0) - log(1 + e^(-|x|))`. -/
def logsig (x : EReal) : EReal := min x 0 - Ideal.log1p (Ideal.exp (-max x (-x)))

theorem neg_logsig (x : EReal) :
    -(max (-x) 0 + Ideal.log1p (Ideal.exp (-max x (-x)))) = logsig x := by
  have key : ∀ y : EReal, 0 ≤ y → y ≠ ⊤ → -(max (-x) 0 + y) = min x 0 - y := by
    intro y h0 ht
    rw [EReal.neg_add (Or.inr ht) (Or.inr (fun h => by simp [h] at h0))]
    congr 1
    rcases le_total x 0 with h | h
    · rw [max_eq_left (by simpa using EReal.neg_le_neg_iff.mpr h), min_eq_left h, neg_neg]
    · rw [max_eq_right (by simpa using EReal.neg_le_neg_iff.mpr h), min_eq_right h, neg_zero]
  obtain ⟨s, hs, he⟩ : ∃ s : ℝ, 0 ≤ s ∧ Ideal.log1p (Ideal.exp (-max x (-x))) = (s : EReal) := by
    obtain ⟨e, he, hE⟩ : ∃ e : ℝ, 0 ≤ e ∧ Ideal.exp (-max x (-x)) = (e : EReal) := by
      induction x using EReal.rec with
      | bot => exact ⟨0, le_rfl, by simp [exp_bot]⟩
      | top => exact ⟨0, le_rfl, by simp [exp_bot]⟩
      | coe r =>
        refine ⟨Real.exp (-max r (-r)), (Real.exp_pos _).le, ?_⟩
        rw [← EReal.coe_neg, ← EReal.coe_strictMono.monotone.map_max, ← EReal.coe_neg]; rfl
    refine ⟨Real.log (1 + e), Real.log_nonneg (by linarith), ?_⟩
    rw [hE, Ideal.log1p, ← EReal.coe_one, ← EReal.coe_add]
    show (if 1 + e ≤ 0 then ⊥ else ((Real.log (1 + e) : ℝ) : EReal)) = _
    rw [if_neg (by linarith)]
  unfold logsig
  rw [he]
  exact key _ (by exact_mod_cast hs) (EReal.coe_ne_top s)

theorem log1p_exp_nonneg (x : EReal) : 0 ≤ Ideal.log1p (Ideal.exp x) := by
  induction x using EReal.rec with
  | bot => simp [exp_bot, Ideal.log1p, log_one]
  | top => simp [exp_top, one_add_top, Ideal.log1p, log_top]
  | coe r =>
    have hp := Real.exp_pos r
    show 0 ≤ Ideal.log (1 + ((Real.exp r : ℝ) : EReal))
    rw [← EReal.coe_one, ← EReal.coe_add]
    show 0 ≤ (if 1 + Real.exp r ≤ 0 then ⊥ else ((Real.log (1 + Real.exp r) : ℝ) : EReal))
    rw [if_neg (by linarith)]
    exact_mod_cast Real.log_nonneg (by linarith)

/-- The logarithm of the logistic function is at most zero. -/
theorem logsig_le (x : EReal) : logsig x ≤ 0 := by
  unfold logsig
  have h := log1p_exp_nonneg (-max x (-x))
  rw [sub_eq_add_neg]
  calc min x 0 + -Ideal.log1p (Ideal.exp (-max x (-x))) ≤ 0 + 0 :=
        add_le_add (min_le_right _ _) (by simpa using EReal.neg_le_neg_iff.mpr h)
    _ = 0 := by simp

/-- The logarithm of the decay: a logistic value times eight times the logarithm of the logistic function. -/
def loga (z lam : EReal) : EReal := sgm z * (((8 : ℝ) : EReal) * logsig lam)

theorem loga_le (z lam : EReal) : loga z lam ≤ 0 := by
  obtain ⟨s, h0, -, he⟩ := sig_real z
  unfold loga
  rw [he]
  have h8 : ((8 : ℝ) : EReal) * logsig lam ≤ 0 :=
    EReal.mul_nonpos_iff.mpr (Or.inl ⟨by exact_mod_cast (by norm_num : (0 : ℝ) ≤ 8), logsig_le lam⟩)
  exact EReal.mul_nonpos_iff.mpr (Or.inl ⟨by exact_mod_cast h0, h8⟩)

/-- The exponential of a number at most zero, and of its double: a real between zero and one, and its square. -/
theorem exp_real {L : EReal} (h : L ≤ 0) : ∃ a : ℝ, 0 ≤ a ∧ a ≤ 1 ∧ Ideal.exp L = (a : EReal) ∧
    Ideal.exp (((2 : ℝ) : EReal) * L) = ((a * a : ℝ) : EReal) := by
  induction L using EReal.rec with
  | bot =>
    refine ⟨0, le_rfl, zero_le_one, rfl, ?_⟩
    rw [EReal.coe_mul_bot_of_pos (by norm_num)]; simp [exp_bot]
  | top => simp at h
  | coe r =>
    have hr : r ≤ 0 := by exact_mod_cast h
    refine ⟨Real.exp r, (Real.exp_pos r).le, Real.exp_le_one_iff.mpr hr, rfl, ?_⟩
    rw [← EReal.coe_mul, ← Real.exp_add, ← two_mul]; rfl

/-- The scale of the input, `sqrt(1 - a^2)`, from the decay's logarithm. -/
def scale (L : EReal) : EReal := Ideal.sqrt (-(Ideal.exp (((2 : ℝ) : EReal) * L) - 1))

/-- The kernel's spelling of the scale. -/
theorem scale_rsqrt {L : EReal} (h : L ≤ 0) :
    (if 0 < (1 - Ideal.exp L) * (1 + Ideal.exp L) then
      (1 - Ideal.exp L) * (1 + Ideal.exp L) * Ideal.rsqrt ((1 - Ideal.exp L) * (1 + Ideal.exp L)) else 0) = scale L := by
  obtain ⟨a, h0, h1, hE, hE2⟩ := exp_real h
  have hm : (1 - (a : EReal)) * (1 + (a : EReal)) = ((1 - a * a : ℝ) : EReal) := by
    rw [← EReal.coe_one, ← EReal.coe_sub, ← EReal.coe_add, ← EReal.coe_mul]; congr 1; ring
  have hn : -(((a * a : ℝ) : EReal) - 1) = ((1 - a * a : ℝ) : EReal) := by
    rw [← EReal.coe_one, ← EReal.coe_sub, ← EReal.coe_neg]; congr 1; ring
  unfold scale
  rw [hE, hE2, hm, hn]
  generalize hq : 1 - a * a = q
  have hq0 : 0 ≤ q := by nlinarith
  show _ = (if q < 0 then ⊥ else ((Real.sqrt q : ℝ) : EReal))
  rw [if_neg (not_lt.mpr hq0)]
  by_cases hp : 0 < q
  · rw [if_pos (by exact_mod_cast hp)]
    show (q : EReal) * (if q < 0 then ⊥ else if q = 0 then ⊤ else (((Real.sqrt q)⁻¹ : ℝ) : EReal)) = _
    rw [if_neg (not_lt.mpr hq0), if_neg hp.ne', ← EReal.coe_mul]
    congr 1
    have hs := Real.sqrt_pos.mpr hp
    field_simp
    exact (Real.sq_sqrt hq0).symm
  · have : q = 0 := le_antisymm (not_lt.mp hp) hq0
    rw [if_neg (by exact_mod_cast hp), this]; simp

/-- A gate: a number that is not negative and not infinite, so that it distributes over every sum. -/
def Gate (a : EReal) : Prop := 0 ≤ a ∧ a ≠ ⊤

theorem Gate.exp {L : EReal} (h : L ≤ 0) : Gate (Ideal.exp L) := by
  obtain ⟨a, h0, -, hE, -⟩ := exp_real h
  exact ⟨by rw [hE]; exact_mod_cast h0, by rw [hE]; exact EReal.coe_ne_top a⟩

theorem Gate.mul {a b : EReal} (ha : Gate a) (hb : Gate b) : Gate (a * b) := by
  obtain ⟨a0, at'⟩ := ha
  obtain ⟨b0, bt⟩ := hb
  lift a to ℝ using ⟨at', fun h => by simp [h] at a0⟩
  lift b to ℝ using ⟨bt, fun h => by simp [h] at b0⟩
  rw [← EReal.coe_mul]
  exact ⟨by exact_mod_cast mul_nonneg (by exact_mod_cast a0) (by exact_mod_cast b0), EReal.coe_ne_top _⟩

/-- A gate distributes. -/
theorem Gate.distrib {a : EReal} (h : Gate a) (x y : EReal) : a * (x + y) = a * x + a * y :=
  EReal.left_distrib_of_nonneg_of_ne_top h.1 h.2 x y

/-- Two steps of the recurrence as one. -/
theorem Gate.compose {a : EReal} (h : Gate a) (a' x u' u : EReal) :
    a * (a' * x + u') + u = a * a' * x + (a * u' + u) := by
  rw [h.distrib, mul_assoc, add_assoc]

end Cert.Layer

end
-- ==== Proof.Scan.lean ====
module

public import proofs.«01_k».proof.Proof.Scalars

@[expose] public section

/-! The linear recurrence `h ← a k * h + u k` over the extended reals, and the doubling stages by which a block of it is
evaluated at once. -/

noncomputable section

namespace Cert.Layer

/-- `n` steps of the recurrence from step `lo`, starting from the state `h`. -/
def app (a u : ℕ → EReal) (lo : ℕ) : ℕ → EReal → EReal
  | 0, h => h
  | n + 1, h => a (lo + n) * app a u lo n h + u (lo + n)

/-- Steps in a row: `m` more after the first `n`. -/
theorem app_append (a u : ℕ → EReal) (lo n m : ℕ) (h : EReal) :
    app a u (lo + n) m (app a u lo n h) = app a u lo (n + m) h := by
  induction m with
  | zero => rfl
  | succ m ih =>
    show a (lo + n + m) * app a u (lo + n) m (app a u lo n h) + u (lo + n + m) =
      a (lo + (n + m)) * app a u lo (n + m) h + u (lo + (n + m))
    rw [ih, Nat.add_assoc]

/-- Only the coefficients of the steps taken matter, and where the count starts does not. -/
theorem app_congr {a u a' u' : ℕ → EReal} {lo lo' : ℕ} (n : ℕ) (h : EReal)
    (ha : ∀ k < n, a (lo + k) = a' (lo' + k)) (hu : ∀ k < n, u (lo + k) = u' (lo' + k)) :
    app a u lo n h = app a' u' lo' n h := by
  induction n with
  | zero => rfl
  | succ n ih =>
    show a (lo + n) * app a u lo n h + u (lo + n) = a' (lo' + n) * app a' u' lo' n h + u' (lo' + n)
    rw [ih (fun k hk => ha k (by omega)) (fun k hk => hu k (by omega)), ha n (by omega), hu n (by omega)]

/-- A doubling stage on the decays: each reaches `s` steps further back. -/
def stA (s : ℕ) (a : ℕ → EReal) (k : ℕ) : EReal := if s ≤ k then a k * a (k - s) else a k

/-- The same stage on the inputs. -/
def stU (s : ℕ) (a u : ℕ → EReal) (k : ℕ) : EReal := if s ≤ k then a k * u (k - s) + u k else u k

/-- `A`, `U` at `k` are the last `s` steps up to and including `k` as one (fewer where the block starts). -/
def Spans (a u : ℕ → EReal) (s : ℕ) (A U : ℕ → EReal) : Prop :=
  ∀ k, Gate (A k) ∧ ∀ h, A k * h + U k = app a u (k + 1 - s) (min s (k + 1)) h

/-- The steps themselves. -/
theorem spans_one {a u : ℕ → EReal} (ha : ∀ k, Gate (a k)) : Spans a u 1 a u := by
  intro k
  refine ⟨ha k, fun h => ?_⟩
  have e : min 1 (k + 1) = 1 := by omega
  rw [e]
  rfl

/-- A stage doubles the span. -/
theorem Spans.double {a u A U : ℕ → EReal} {s : ℕ} (hs : Spans a u s A U) :
    Spans a u (s + s) (stA s A) (stU s A U) := by
  intro k
  by_cases hk : s ≤ k
  · refine ⟨?_, fun h => ?_⟩
    · rw [stA, if_pos hk]
      exact (hs k).1.mul (hs (k - s)).1
    · rw [stA, stU, if_pos hk, if_pos hk, ← (hs k).1.compose, (hs (k - s)).2, (hs k).2]
      have e1 : k + 1 - s = k - s + 1 - s + min s (k - s + 1) := by omega
      have e2 : min s (k + 1) = s := by omega
      rw [e1, app_append, e2]
      congr 1 <;> omega
  · refine ⟨?_, fun h => ?_⟩
    · rw [stA, if_neg hk]
      exact (hs k).1
    · rw [stA, stU, if_neg hk, if_neg hk, (hs k).2]
      congr 1 <;> omega

/-- Three stages: the whole block up to `k`, for the eight steps of a group. -/
theorem three_stages {a u : ℕ → EReal} (ha : ∀ k, Gate (a k)) (k : ℕ) (hk : k < 8) (h : EReal) :
    stA 4 (stA 2 (stA 1 a)) k * h + stU 4 (stA 2 (stA 1 a)) (stU 2 (stA 1 a) (stU 1 a u)) k = app a u 0 (k + 1) h := by
  have := ((spans_one (u := u) ha).double.double.double k).2 h
  have e1 : k + 1 - (1 + 1 + (1 + 1) + (1 + 1 + (1 + 1))) = 0 := by omega
  have e2 : min (1 + 1 + (1 + 1) + (1 + 1 + (1 + 1))) (k + 1) = k + 1 := by omega
  rw [e1, e2] at this
  exact this

end Cert.Layer
-- ==== Proof.Stages.lean ====
module

public import proofs.«01_k».proof.Proof.Gen.KernelIdeal.Value
public import proofs.«01_k».proof.Proof.Scan
public import Idealize.ShloMosaic.Lib.Pipeline.ValueKit
public import Idealize.ShloMosaic.Lib.Pointwise

@[expose] public section

set_option maxRecDepth 16384

/-! The doubling stages of the two directions of a block, read at a row and a column. -/

noncomputable section

namespace Cert.Layer

open Cert.KernelIdeal Cert.KernelIdeal.Gen Idealize.ShloMosaic Idealize.ShloMosaic.TcCoe Idealize.SL.Sem

/-- A block of rows read at a row number and a column. -/
def rd (x : FVec Ideal S256x1024 .f32) (c : Fin 1024) (n : ℕ) : EReal := x (ix2 (Fin.ofNat 256 n) c)

theorem rd_mk (x : FVec Ideal S256x1024 .f32) (c : Fin 1024) (n : ℕ) (h : n < 256) : x (ix2 ⟨n, h⟩ c) = rd x c n := by
  unfold rd
  congr 2
  exact Fin.ext (Nat.mod_eq_of_lt h).symm

/-- The masks of the stages: a row number below eight compared with a literal. -/
theorem sel_sge {α : Type} (n s : ℕ) (hn : n < 8) (hs : s < 8) (x y : α) :
    Scalar.select (IntOp.cmpi .sge (BitVec.ofNat 32 n) (BitVec.ofNat 32 s)) x y = if s ≤ n then x else y := by
  interval_cases n <;> interval_cases s <;> rfl

theorem sel_slt {α : Type} (n s : ℕ) (hn : n < 8) (hs : s < 8) (x y : α) :
    Scalar.select (IntOp.cmpi .slt (BitVec.ofNat 32 n) (BitVec.ofNat 32 s)) x y = if n < s then x else y := by
  interval_cases n <;> interval_cases s <;> rfl

/-- The decays of a forward group after the three stages. -/
theorem pay29_apply (x : FVec Ideal S256x1024 .f32) (g : Fin 32) (k : Fin 8) (c : Fin 1024) :
    k0_pay29 (F := Ideal) x (ix3 g k c) = stA 4 (stA 2 (stA 1 fun n => rd x c (g * 8 + n))) k := by
  pointwise [k0_pay29, k0_pay27, k0_pay26, k0_pay25, k0_pay24, k0_pay23, k0_pay22]
  simp only [rd_mk]
  fin_vals k with hk <;> simp [hk, stA, sel_sge]

/-- The inputs of a forward group after the three stages. -/
theorem pay28_apply (x u : FVec Ideal S256x1024 .f32) (g : Fin 32) (k : Fin 8) (c : Fin 1024) :
    k0_pay28 (F := Ideal) x u (ix3 g k c) =
      stU 4 (stA 2 (stA 1 fun n => rd x c (g * 8 + n)))
        (stU 2 (stA 1 fun n => rd x c (g * 8 + n)) (stU 1 (fun n => rd x c (g * 8 + n)) fun n => rd u c (g * 8 + n))) k := by
  pointwise [k0_pay28, k0_pay27, k0_pay26, k0_pay25, k0_pay24, k0_pay23, k0_pay22]
  simp only [rd_mk]
  fin_vals k with hk <;> simp [hk, stA, stU, sel_sge]

/-- The decays of a backward group after the three stages, the rows counted from the end. -/
theorem pay98_apply (x : FVec Ideal S256x1024 .f32) (g : Fin 32) (k : Fin 8) (c : Fin 1024) :
    k0_pay98 (F := Ideal) x (ix3 g k c) = stA 4 (stA 2 (stA 1 fun n => rd x c (g * 8 + (7 - n)))) (7 - k) := by
  pointwise [k0_pay98, k0_pay96, k0_pay95, k0_pay94, k0_pay93, k0_pay92, k0_pay91]
  simp only [rd_mk]
  fin_vals k with hk <;> simp [hk, stA, sel_slt]

/-- The input of a row: the scale of its decay times the gated entry. -/
def inp (z a x : EReal) : EReal :=
  (if 0 < (1 - a) * (1 + a) then (1 - a) * (1 + a) * Ideal.rsqrt ((1 - a) * (1 + a)) else 0) * (z * x)

/-- The rows of inputs of the backward direction before the stages. -/
def inpV (x z a : FVec Ideal S256x1024 .f32) : FVec Ideal S256x1024 .f32 := fun j => inp (z j) (a j) (x j)

/-- The inputs of a backward group after the three stages. -/
theorem pay97_apply (x z a p q : FVec Ideal S256x1024 .f32) (hp : ∀ j, p j = 1 - a j) (hq : ∀ j, q j = 1)
    (g : Fin 32) (k : Fin 8) (c : Fin 1024) :
    k0_pay97 (F := Ideal) x z a p q (ix3 g k c) =
      stU 4 (stA 2 (stA 1 fun n => rd a c (g * 8 + (7 - n))))
        (stU 2 (stA 1 fun n => rd a c (g * 8 + (7 - n)))
          (stU 1 (fun n => rd a c (g * 8 + (7 - n))) fun n => rd (inpV x z a) c (g * 8 + (7 - n)))) (7 - k) := by
  have hu : ∀ n (h : n < 256), (if 0 < p (ix2 ⟨n, h⟩ c) * (q (ix2 ⟨n, h⟩ c) + a (ix2 ⟨n, h⟩ c)) then
      p (ix2 ⟨n, h⟩ c) * (q (ix2 ⟨n, h⟩ c) + a (ix2 ⟨n, h⟩ c)) *
        Ideal.rsqrt (p (ix2 ⟨n, h⟩ c) * (q (ix2 ⟨n, h⟩ c) + a (ix2 ⟨n, h⟩ c))) else 0) *
      (z (ix2 ⟨n, h⟩ c) * x (ix2 ⟨n, h⟩ c)) = rd (inpV x z a) c n := by
    intro n h
    rw [← rd_mk _ _ _ h, hp, hq]
    rfl
  pointwise [k0_pay97, k0_pay96, k0_pay95, k0_pay94, k0_pay93, k0_pay92, k0_pay91]
  simp only [hu]
  simp only [rd_mk]
  fin_vals k with hk <;> simp [hk, stA, stU, sel_slt]

end Cert.Layer
-- ==== Proof.Groups.lean ====
module

public import proofs.«01_k».proof.Proof.Stages

@[expose] public section

set_option maxRecDepth 16384

/-! The groups of eight rows, one after the other, each from the row its neighbour ended with. -/

noncomputable section

namespace Cert.Layer

open Cert.KernelIdeal Cert.KernelIdeal.Gen Idealize.ShloMosaic Idealize.ShloMosaic.TcCoe Idealize.SL.Sem

/-- A group of eight rows fits. -/
theorem slices_group (g : Fin 32) : S32x8x1024.Slices ![(g : ℕ), 0, 0] S1x8x1024 := by
  revert g
  decide +kernel

/-- Group `g` of the rows. -/
def grp (M : FVec Ideal S32x8x1024 .f32) (g : Fin 32) : FVec Ideal S8x1024 .f32 :=
  shapeCast S8x1024 (extractStridedSlice S1x8x1024 ![(g : ℕ), 0, 0] M (slices_group g)) shapeCasts_S1x8x1024_S8x1024

/-- The states of group `g` from the state `h` before it. -/
def states (A U : FVec Ideal S32x8x1024 .f32) (g : Fin 32) (h : FVec Ideal S1x1024 .f32) : FVec Ideal S8x1024 .f32 :=
  addf (mulf (grp A g) (broadcastTo S8x1024 h broadcasts_S1x1024_S8x1024)) (grp U g)

/-- The forward groups: each starts from the last row of the one before. -/
def fwd (A U : FVec Ideal S32x8x1024 .f32) (h : FVec Ideal S1x1024 .f32) : ℕ → FVec Ideal S8x1024 .f32
  | 0 => states A U (Fin.ofNat 32 0) h
  | g + 1 => states A U (Fin.ofNat 32 (g + 1)) (extractStridedSlice S1x1024 ![7, 0] (fwd A U h g) slices_S8x1024_o7_0_S1x1024)

/-- The backward groups from the last: each starts from the first row of the one after. -/
def bwd (A U : FVec Ideal S32x8x1024 .f32) (h : FVec Ideal S1x1024 .f32) : ℕ → FVec Ideal S8x1024 .f32
  | 0 => states A U (Fin.ofNat 32 31) h
  | g + 1 => states A U (Fin.ofNat 32 (31 - (g + 1)))
      (extractStridedSlice S1x1024 ![0, 0] (bwd A U h g) slices_S8x1024_o0_0_S1x1024)

/-- Thirty-two groups of eight rows make the block. -/
theorem concatenates_groups (f : Fin 32 → FVec Ideal S8x1024 .f32) :
    Shape.Concatenates ((List.ofFn fun n : Fin 32 => (⟨S8x1024, f n⟩ : (s : Shape) × (s.Idx → Ideal .f32))).map (·.1)) S256x1024 0 := by
  have e : (List.ofFn fun n : Fin 32 => (⟨S8x1024, f n⟩ : (s : Shape) × (s.Idx → Ideal .f32))).map (·.1) = List.replicate 32 S8x1024 := by
    rw [List.map_ofFn]
    exact List.ofFn_const 32 S8x1024
  rw [e]
  decide +kernel

/-- The block of the groups. -/
def joined (f : Fin 32 → FVec Ideal S8x1024 .f32) : FVec Ideal S256x1024 .f32 :=
  concatenate S256x1024 0 (List.ofFn fun n : Fin 32 => ⟨S8x1024, f n⟩) (concatenates_groups f)

/-- A row of the block: its group's row. -/
theorem joined_apply (f : Fin 32 → FVec Ideal S8x1024 .f32) (p : Fin 256) (c : Fin 1024) :
    joined f (ix2 p c) = f ⟨p / 8, by omega⟩ (ix2 ⟨p % 8, by omega⟩ c) := by
  refine concatenate_ofFn_apply (t := S256x1024) (s₁ := S8x1024) 0 f _ rfl 8 rfl (ix2 p c) _ rfl _ rfl ?_
  intro b hb
  fin_cases b
  · exact absurd rfl hb
  · rfl

end Cert.Layer
-- ==== Proof.Block.lean ====
module

public import proofs.«01_k».proof.Proof.Groups

@[expose] public section

set_option maxRecDepth 16384

/-! What the body leaves in its three result blocks, written with the groups. -/

noncomputable section

namespace Cert.Layer

open Cert.KernelIdeal Cert.KernelIdeal.Gen Cert.KernelIdeal.Value Idealize.ShloMosaic Idealize.ShloMosaic.TcCoe Idealize.SL.Sem

/-- The decays of the forward direction. -/
def decF (x : Vec Ideal S256x1024 .bf16) (w : Vec Ideal S4x256x512 .bf16) (b l : Vec Ideal S2x1024 .f32) : FVec Ideal S256x1024 .f32 :=
  k0_pay20 (k0_pay18 (F := Ideal) x (View.ld w (Rect.unit (s := S4x256x512) ![0, 0, 0] ![1, 256, 512] inb_S4x256x512_S1x256x512_0_0_0)) (View.ld w (Rect.unit (s := S4x256x512) ![1, 0, 0] ![1, 256, 512] inb_S4x256x512_S1x256x512_1_0_0)) (View.ld w (Rect.unit (s := S4x256x512) ![2, 0, 0] ![1, 256, 512] inb_S4x256x512_S1x256x512_2_0_0)) (View.ld w (Rect.unit (s := S4x256x512) ![3, 0, 0] ![1, 256, 512] inb_S4x256x512_S1x256x512_3_0_0)) (View.ld b (Rect.unit (s := S2x1024) ![0, 0] ![1, 1024] inb_S2x1024_S1x1024_0_0))) k0_pay19 (View.ld l (Rect.unit (s := S2x1024) ![0, 0] ![1, 1024] inb_S2x1024_S1x1024_0_0))

/-- The inputs of the forward direction. -/
def inF (x : Vec Ideal S256x1024 .bf16) (w : Vec Ideal S4x256x512 .bf16) (b bi l : Vec Ideal S2x1024 .f32) : FVec Ideal S256x1024 .f32 :=
  k0_pay21 (k0_pay9 x) (k0_pay11 x (View.ld w (Rect.unit (s := S4x256x512) ![0, 0, 0] ![1, 256, 512] inb_S4x256x512_S1x256x512_0_0_0))) (k0_pay13 x (View.ld w (Rect.unit (s := S4x256x512) ![1, 0, 0] ![1, 256, 512] inb_S4x256x512_S1x256x512_1_0_0))) (k0_pay15 x (View.ld w (Rect.unit (s := S4x256x512) ![2, 0, 0] ![1, 256, 512] inb_S4x256x512_S1x256x512_2_0_0))) (k0_pay17 x (View.ld w (Rect.unit (s := S4x256x512) ![3, 0, 0] ![1, 256, 512] inb_S4x256x512_S1x256x512_3_0_0)))
    (k0_pay18 (F := Ideal) x (View.ld w (Rect.unit (s := S4x256x512) ![0, 0, 0] ![1, 256, 512] inb_S4x256x512_S1x256x512_0_0_0)) (View.ld w (Rect.unit (s := S4x256x512) ![1, 0, 0] ![1, 256, 512] inb_S4x256x512_S1x256x512_1_0_0)) (View.ld w (Rect.unit (s := S4x256x512) ![2, 0, 0] ![1, 256, 512] inb_S4x256x512_S1x256x512_2_0_0)) (View.ld w (Rect.unit (s := S4x256x512) ![3, 0, 0] ![1, 256, 512] inb_S4x256x512_S1x256x512_3_0_0)) (View.ld b (Rect.unit (s := S2x1024) ![0, 0] ![1, 1024] inb_S2x1024_S1x1024_0_0))) k0_pay19 (View.ld bi (Rect.unit (s := S2x1024) ![0, 0] ![1, 1024] inb_S2x1024_S1x1024_0_0)) (View.ld l (Rect.unit (s := S2x1024) ![0, 0] ![1, 1024] inb_S2x1024_S1x1024_0_0))

/-- The decays of the backward direction. -/
def decB (x : Vec Ideal S256x1024 .bf16) (w : Vec Ideal S4x256x512 .bf16) (b l : Vec Ideal S2x1024 .f32) : FVec Ideal S256x1024 .f32 :=
  k0_pay88 (k0_pay76 (F := Ideal) x (View.ld w (Rect.unit (s := S4x256x512) ![0, 0, 0] ![1, 256, 512] inb_S4x256x512_S1x256x512_0_0_0))) (k0_pay79 (F := Ideal) x (View.ld w (Rect.unit (s := S4x256x512) ![1, 0, 0] ![1, 256, 512] inb_S4x256x512_S1x256x512_1_0_0))) (k0_pay82 (F := Ideal) x (View.ld w (Rect.unit (s := S4x256x512) ![2, 0, 0] ![1, 256, 512] inb_S4x256x512_S1x256x512_2_0_0))) (k0_pay84 (F := Ideal) x) (k0_pay85 (F := Ideal) (View.ld w (Rect.unit (s := S4x256x512) ![3, 0, 0] ![1, 256, 512] inb_S4x256x512_S1x256x512_3_0_0))) (View.ld b (Rect.unit (s := S2x1024) ![1, 0] ![1, 1024] inb_S2x1024_S1x1024_1_0)) (View.ld l (Rect.unit (s := S2x1024) ![1, 0] ![1, 1024] inb_S2x1024_S1x1024_1_0))

/-- The input gates of the backward direction. -/
def gateB (x : Vec Ideal S256x1024 .bf16) (w : Vec Ideal S4x256x512 .bf16) (bi : Vec Ideal S2x1024 .f32) : FVec Ideal S256x1024 .f32 :=
  k0_pay87 (k0_pay77 (F := Ideal) x (View.ld w (Rect.unit (s := S4x256x512) ![0, 0, 0] ![1, 256, 512] inb_S4x256x512_S1x256x512_0_0_0))) (k0_pay80 (F := Ideal) x (View.ld w (Rect.unit (s := S4x256x512) ![1, 0, 0] ![1, 256, 512] inb_S4x256x512_S1x256x512_1_0_0))) (k0_pay83 (F := Ideal) x (View.ld w (Rect.unit (s := S4x256x512) ![2, 0, 0] ![1, 256, 512] inb_S4x256x512_S1x256x512_2_0_0))) (k0_pay84 (F := Ideal) x) (k0_pay85 (F := Ideal) (View.ld w (Rect.unit (s := S4x256x512) ![3, 0, 0] ![1, 256, 512] inb_S4x256x512_S1x256x512_3_0_0))) (View.ld bi (Rect.unit (s := S2x1024) ![1, 0] ![1, 1024] inb_S2x1024_S1x1024_1_0))

/-- The inputs of the backward direction after the stages. -/
def stagedB (x : Vec Ideal S256x1024 .bf16) (w : Vec Ideal S4x256x512 .bf16) (b bi l : Vec Ideal S2x1024 .f32) :
    FVec Ideal S32x8x1024 .f32 :=
  k0_pay97 (k0_pay74 x) (gateB x w bi) (decB x w b l) (k0_pay89 (k0_pay76 (F := Ideal) x (View.ld w (Rect.unit (s := S4x256x512) ![0, 0, 0] ![1, 256, 512] inb_S4x256x512_S1x256x512_0_0_0))) (k0_pay79 (F := Ideal) x (View.ld w (Rect.unit (s := S4x256x512) ![1, 0, 0] ![1, 256, 512] inb_S4x256x512_S1x256x512_1_0_0))) (k0_pay82 (F := Ideal) x (View.ld w (Rect.unit (s := S4x256x512) ![2, 0, 0] ![1, 256, 512] inb_S4x256x512_S1x256x512_2_0_0))) (k0_pay84 (F := Ideal) x) (k0_pay85 (F := Ideal) (View.ld w (Rect.unit (s := S4x256x512) ![3, 0, 0] ![1, 256, 512] inb_S4x256x512_S1x256x512_3_0_0))) (View.ld b (Rect.unit (s := S2x1024) ![1, 0] ![1, 1024] inb_S2x1024_S1x1024_1_0)) (View.ld l (Rect.unit (s := S2x1024) ![1, 0] ![1, 1024] inb_S2x1024_S1x1024_1_0))) k0_pay90

/-- The scratch buffer as the body first fills it. -/
def filled : List (View.Piece (Elt Ideal) S2x8x1024 .f32) :=
  [⟨Rect.unit ![1, 0, 0] ![1, 8, 1024] inb_S2x8x1024_S1x8x1024_1_0_0, k0_pay8 (F := Ideal)⟩,
    ⟨Rect.unit ![0, 0, 0] ![1, 8, 1024] inb_S2x8x1024_S1x8x1024_0_0_0, k0_pay7 (F := Ideal)⟩]

/-- The forward state kept in the scratch buffer, as it is read. -/
def carryF (arg12 : Memref sig .tc .vmem S2x8x1024 .f32) (L : List (View.Piece (Elt Ideal) S2x8x1024 .f32)) : FVec Ideal S1x1024 .f32 :=
  LoadRect.valAlong
    (LoadRect.numel_consLift (Rect.unit (s := S8x1024) ![0, 0] S1x1024.size inb_S8x1024_S1x1024_0_0).toLoadRect ![1, 8, 1024]
      (by decide) (by decide))
    (arg12.view.readCov L
      ((Rect.unit (s := S2x8x1024) ![0, 0, 0] ![1, 8, 1024] inb_S2x8x1024_S1x8x1024_0_0_0).withinL
        ((Rect.unit (s := S8x1024) ![0, 0] S1x1024.size inb_S8x1024_S1x1024_0_0).toLoadRect.consLift ![1, 8, 1024] (by decide) (by decide))
        k0_part3_skel._proof_1))

/-- The forward state kept in the scratch buffer, as it is written. -/
def keepF (w : FVec Ideal S1x1024 .f32) : View.Piece (Elt Ideal) S2x8x1024 .f32 :=
  ⟨(Rect.unit (s := S2x8x1024) ![0, 0, 0] ![1, 8, 1024] inb_S2x8x1024_S1x8x1024_0_0_0).within
      ((Rect.unit (s := S8x1024) ![0, 0] ![1, 1024] inb_S8x1024_S1x1024_0_0).consLift ![1, 8, 1024] (by decide) (by decide)) k0_part3_skel._proof_1,
    Rect.payAlong (r := Rect.unit (s := S8x1024) ![0, 0] ![1, 1024] inb_S8x1024_S1x1024_0_0) (by decide) w⟩

/-- The backward state kept in the scratch buffer, as it is read. -/
def carryB (arg12 : Memref sig .tc .vmem S2x8x1024 .f32) (L : List (View.Piece (Elt Ideal) S2x8x1024 .f32)) : FVec Ideal S1x1024 .f32 :=
  LoadRect.valAlong
    (LoadRect.numel_consLift (Rect.unit (s := S8x1024) ![0, 0] S1x1024.size inb_S8x1024_S1x1024_0_0).toLoadRect ![1, 8, 1024]
      (by decide) (by decide))
    (arg12.view.readCov L
      ((Rect.unit (s := S2x8x1024) ![1, 0, 0] ![1, 8, 1024] inb_S2x8x1024_S1x8x1024_1_0_0).withinL
        ((Rect.unit (s := S8x1024) ![0, 0] S1x1024.size inb_S8x1024_S1x1024_0_0).toLoadRect.consLift ![1, 8, 1024] (by decide) (by decide))
        cc0_rglru_prompt_skel._proof_1))

/-- The backward state kept in the scratch buffer, as it is written. -/
def keepB (w : FVec Ideal S1x1024 .f32) : View.Piece (Elt Ideal) S2x8x1024 .f32 :=
  ⟨(Rect.unit (s := S2x8x1024) ![1, 0, 0] ![1, 8, 1024] inb_S2x8x1024_S1x8x1024_1_0_0).within
      ((Rect.unit (s := S8x1024) ![0, 0] ![1, 1024] inb_S8x1024_S1x1024_0_0).consLift ![1, 8, 1024] (by decide) (by decide)) cc0_rglru_prompt_skel._proof_1,
    Rect.payAlong (r := Rect.unit (s := S8x1024) ![0, 0] ![1, 1024] inb_S8x1024_S1x1024_0_0) (by decide) w⟩

/-- The row of a group the next one starts from. -/
def lastF (H : FVec Ideal S8x1024 .f32) : FVec Ideal S1x1024 .f32 :=
  shapeCast S1x1024 (extractStridedSlice S1x1024 ![7, 0] H slices_S8x1024_o7_0_S1x1024) shapeCasts_S1x1024_S1x1024

def lastB (H : FVec Ideal S8x1024 .f32) : FVec Ideal S1x1024 .f32 :=
  shapeCast S1x1024 (extractStridedSlice S1x1024 ![0, 0] H slices_S8x1024_o0_0_S1x1024) shapeCasts_S1x1024_S1x1024

/-- The forward states of a block, group by group. -/
def grpF (arg12 : Memref sig .tc .vmem S2x8x1024 .f32) (x : Vec Ideal S256x1024 .bf16) (w : Vec Ideal S4x256x512 .bf16)
    (b bi l : Vec Ideal S2x1024 .f32) : ℕ → FVec Ideal S8x1024 .f32 :=
  fwd (k0_pay29 (decF x w b l)) (k0_pay28 (decF x w b l) (inF x w b bi l)) (carryF arg12 filled)

set_option maxHeartbeats 4000000 in
/-- The first result's block. -/
theorem out7_eq  (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x2x1024 .f32) (harg11 : arg11.IsWhole) (arg12 : Memref sig .tc .vmem S2x8x1024 .f32) (harg12 : arg12.IsWhole) (hc0 : cond0_0 i) (hc1 : cond0_1 i)
    (x0 : Vec Ideal S256x1024 .bf16) (x1 : Vec Ideal S256x1024 .bf16) (x2 : Vec Ideal S4x256x512 .bf16) (x3 : Vec Ideal S4x256x512 .bf16) (x4 : Vec Ideal S2x1024 .f32) (x5 : Vec Ideal S2x1024 .f32) (x6 : Vec Ideal S2x1024 .f32)  : out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6 =
      truncf .bf16 (joined fun n => grpF arg12 x0 x2 x4 x5 x6 n) bitsLt_bf16_f32 := by
  unfold out0_A_7
  frame_out
  unfold grpF decF inF
  generalize hA : k0_pay20 (F := Ideal) _ _ _ = A
  generalize hU : k0_pay21 (F := Ideal) _ _ _ _ _ _ _ _ _ = U
  rfl

/-- The backward states of a block, the last group first. -/
def grpB (arg12 : Memref sig .tc .vmem S2x8x1024 .f32) (L : List (View.Piece (Elt Ideal) S2x8x1024 .f32)) (x : Vec Ideal S256x1024 .bf16)
    (w : Vec Ideal S4x256x512 .bf16) (b bi l : Vec Ideal S2x1024 .f32) : ℕ → FVec Ideal S8x1024 .f32 :=
  bwd (k0_pay98 (decB x w b l)) (stagedB x w b bi l) (carryB arg12 L)

set_option maxHeartbeats 4000000 in
/-- The second result's block. -/
theorem out8_eq  (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x2x1024 .f32) (harg11 : arg11.IsWhole) (arg12 : Memref sig .tc .vmem S2x8x1024 .f32) (harg12 : arg12.IsWhole) (hc0 : cond0_0 i) (hc1 : cond0_1 i)
    (x0 : Vec Ideal S256x1024 .bf16) (x1 : Vec Ideal S256x1024 .bf16) (x2 : Vec Ideal S4x256x512 .bf16) (x3 : Vec Ideal S4x256x512 .bf16) (x4 : Vec Ideal S2x1024 .f32) (x5 : Vec Ideal S2x1024 .f32) (x6 : Vec Ideal S2x1024 .f32)  : out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 =
      truncf .bf16 (joined fun n => grpB arg12 (keepF (lastF (grpF arg12 x0 x2 x4 x5 x6 31)) :: filled) x1 x3 x4 x5 x6 (31 - n))
        bitsLt_bf16_f32 := by
  unfold out0_A_8
  frame_out
  unfold grpB grpF
  generalize hA : k0_pay20 (F := Ideal) _ _ _ = A
  generalize hU : k0_pay21 (F := Ideal) _ _ _ _ _ _ _ _ _ = U
  generalize hV : k0_pay97 (F := Ideal) _ _ _ _ _ = V
  generalize hB : k0_pay88 (F := Ideal) _ _ _ _ _ _ _ = B
  simp (disch := decide) only [Memref.IsWhole.read_unread, View.ld_unit_lit'] at hA hU hB hV
  have eA : decF x0 x2 x4 x6 = A := hA
  have eU : inF x0 x2 x4 x5 x6 = U := hU
  have eB : decB x1 x3 x4 x6 = B := hB
  have eV : stagedB x1 x3 x4 x5 x6 = V := hV
  rw [eA, eU, eB, eV]
  rfl

/-- The scratch buffer as the body leaves it. -/
def kept (arg12 : Memref sig .tc .vmem S2x8x1024 .f32) (x0 x1 : Vec Ideal S256x1024 .bf16) (x2 x3 : Vec Ideal S4x256x512 .bf16)
    (x4 x5 x6 : Vec Ideal S2x1024 .f32) : List (View.Piece (Elt Ideal) S2x8x1024 .f32) :=
  keepB (lastB (grpB arg12 (keepF (lastF (grpF arg12 x0 x2 x4 x5 x6 31)) :: filled) x1 x3 x4 x5 x6 31)) ::
    keepF (lastF (grpF arg12 x0 x2 x4 x5 x6 31)) :: filled

set_option maxHeartbeats 4000000 in
/-- The third result's block. -/
theorem out9_eq  (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S2x1024 .f32) (harg6 : arg6.IsWhole) (arg7 : Memref sig .tc .vmem S2x1024 .f32) (harg7 : arg7.IsWhole) (arg8 : Memref sig .tc .vmem S2x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x2x1024 .f32) (harg11 : arg11.IsWhole) (arg12 : Memref sig .tc .vmem S2x8x1024 .f32) (harg12 : arg12.IsWhole) (hc0 : cond0_0 i) (hc1 : cond0_1 i)
    (x0 : Vec Ideal S256x1024 .bf16) (x1 : Vec Ideal S256x1024 .bf16) (x2 : Vec Ideal S4x256x512 .bf16) (x3 : Vec Ideal S4x256x512 .bf16) (x4 : Vec Ideal S2x1024 .f32) (x5 : Vec Ideal S2x1024 .f32) (x6 : Vec Ideal S2x1024 .f32)  : out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 =
      View.canon [⟨Rect.unit ![0, 1, 0] ![1, 1, 1024] inb_S1x2x1024_S1x1x1024_0_1_0,
          k0_pay6 (F := Ideal) (arg12.view.readCov (kept arg12 x0 x1 x2 x3 x4 x5 x6)
            (Rect.unit (s := S2x8x1024) ![1, 0, 0] ![1, 1, 1024] inb_S2x8x1024_S1x1x1024_1_0_0).toLoadRect)⟩,
        ⟨Rect.unit ![0, 0, 0] ![1, 1, 1024] inb_S1x2x1024_S1x1x1024_0_0_0,
          k0_pay5 (F := Ideal) (arg12.view.readCov (kept arg12 x0 x1 x2 x3 x4 x5 x6)
            (Rect.unit (s := S2x8x1024) ![0, 0, 0] ![1, 1, 1024] inb_S2x8x1024_S1x1x1024_0_0_0).toLoadRect)⟩] := by
  unfold out0_A_9
  frame_out
  unfold kept grpB grpF
  generalize hA : k0_pay20 (F := Ideal) _ _ _ = A
  generalize hU : k0_pay21 (F := Ideal) _ _ _ _ _ _ _ _ _ = U
  generalize hV : k0_pay97 (F := Ideal) _ _ _ _ _ = V
  generalize hB : k0_pay88 (F := Ideal) _ _ _ _ _ _ _ = B
  have eA : decF x0 x2 x4 x6 = A := hA
  have eU : inF x0 x2 x4 x5 x6 = U := hU
  have eB : decB x1 x3 x4 x6 = B := hB
  have eV : stagedB x1 x3 x4 x5 x6 = V := hV
  rw [eA, eU, eB, eV]
  rfl

end Cert.Layer
-- ==== Proof.Carry.lean ====
module

public import proofs.«01_k».proof.Proof.Block
@[expose] public section

set_option maxRecDepth 16384
/-! The states the scratch buffer keeps. -/

noncomputable section
namespace Cert.Layer
open Cert.KernelIdeal Cert.KernelIdeal.Gen Cert.KernelIdeal.Value Idealize.ShloMosaic Idealize.ShloMosaic.TcCoe Idealize.SL.Sem

theorem carryF_apply (arg12 : Memref sig .tc .vmem S2x8x1024 .f32) (L : List (View.Piece (Elt Ideal) S2x8x1024 .f32)) (c : Fin 1024) :
    carryF arg12 L (ix2 0 c) = View.canon L (ix3 0 0 c) := by
  unfold carryF LoadRect.valAlong
  rw [View.readCov_eq_canon']
  pointwise
  congr 2
  apply Fin.ext
  show 0 + 0 + 1 * c.val = c.val
  omega

theorem carryB_apply (arg12 : Memref sig .tc .vmem S2x8x1024 .f32) (L : List (View.Piece (Elt Ideal) S2x8x1024 .f32)) (c : Fin 1024) :
    carryB arg12 L (ix2 0 c) = View.canon L (ix3 1 0 c) := by
  unfold carryB LoadRect.valAlong
  rw [View.readCov_eq_canon']
  pointwise
  congr 2
  apply Fin.ext
  show 0 + 0 + 1 * c.val = c.val
  omega

theorem filled_zero (g : Fin 2) (c : Fin 1024) : View.canon filled (ix3 g 0 c) = 0 := by
  refine View.canon_apply_of_pieces (fun _ => (0 : EReal)) filled ?_ (ix3 g 0 c) ?_
  · intro p hp x
    rcases List.mem_cons.mp hp with rfl | hp
    · show k0_pay8 (F := Ideal) x = 0
      pointwise [k0_pay8]
    · rcases List.mem_singleton.mp hp with rfl
      show k0_pay7 (F := Ideal) x = 0
      pointwise [k0_pay7]
  · fin_cases g
    · refine ⟨_, List.mem_cons_of_mem _ List.mem_cons_self, ?_⟩
      show _ ∈ (Rect.unit (s := S2x8x1024) ![0, 0, 0] ![1, 8, 1024] inb_S2x8x1024_S1x8x1024_0_0_0).set
      refine Rect.mem_set_unit.mpr fun a => ?_
      fin_cases a
      · exact ⟨le_rfl, by show 0 < 0 + 1; decide⟩
      · exact ⟨le_rfl, by show 0 < 0 + 8; decide⟩
      · exact ⟨Nat.zero_le _, by show c.val < 0 + 1024; omega⟩
    · refine ⟨_, List.mem_cons_self, ?_⟩
      show _ ∈ (Rect.unit (s := S2x8x1024) ![1, 0, 0] ![1, 8, 1024] inb_S2x8x1024_S1x8x1024_1_0_0).set
      refine Rect.mem_set_unit.mpr fun a => ?_
      fin_cases a
      · exact ⟨le_rfl, by show 1 < 1 + 1; decide⟩
      · exact ⟨le_rfl, by show 0 < 0 + 8; decide⟩
      · exact ⟨Nat.zero_le _, by show c.val < 0 + 1024; omega⟩

theorem canon_keepF_same (w : FVec Ideal S1x1024 .f32) (L : List (View.Piece (Elt Ideal) S2x8x1024 .f32)) (c : Fin 1024) :
    View.canon (keepF w :: L) (ix3 0 0 c) = w (ix2 0 c) := by
  have e := View.canon_cons_emb (keepF w).1 (keepF w).2 L (ix3 0 0 c)
  have h : (keepF w).1.emb (ix3 0 0 c) = ix3 0 0 c := by
    funext a
    apply Fin.ext
    fin_cases a
    · rfl
    · rfl
    · show 0 + 0 + 1 * c.val = c.val
      omega
  rw [h] at e
  refine e.trans ?_
  unfold keepF Rect.payAlong
  pointwise

theorem canon_keepB_same (w : FVec Ideal S1x1024 .f32) (L : List (View.Piece (Elt Ideal) S2x8x1024 .f32)) (c : Fin 1024) :
    View.canon (keepB w :: L) (ix3 1 0 c) = w (ix2 0 c) := by
  have e := View.canon_cons_emb (keepB w).1 (keepB w).2 L (ix3 0 0 c)
  have h : (keepB w).1.emb (ix3 0 0 c) = ix3 1 0 c := by
    funext a
    apply Fin.ext
    fin_cases a
    · rfl
    · rfl
    · show 0 + 0 + 1 * c.val = c.val
      omega
  rw [h] at e
  refine e.trans ?_
  unfold keepB Rect.payAlong
  pointwise

theorem canon_keepF_other (w : FVec Ideal S1x1024 .f32) (L : List (View.Piece (Elt Ideal) S2x8x1024 .f32)) (c : Fin 1024) :
    View.canon (keepF w :: L) (ix3 1 0 c) = View.canon L (ix3 1 0 c) := by
  refine View.canon_cons_of_not_mem _ _ fun h => ?_
  obtain ⟨j, hj, e⟩ := (LoadRect.mem_set _).mp h 0
  have h1 : j < 1 := hj
  have h2 : (1 : ℕ) = 0 + 0 + 1 * j := e
  omega

theorem canon_keepB_other (w : FVec Ideal S1x1024 .f32) (L : List (View.Piece (Elt Ideal) S2x8x1024 .f32)) (c : Fin 1024) :
    View.canon (keepB w :: L) (ix3 0 0 c) = View.canon L (ix3 0 0 c) := by
  refine View.canon_cons_of_not_mem _ _ fun h => ?_
  obtain ⟨j, hj, e⟩ := (LoadRect.mem_set _).mp h 0
  have h2 : (0 : ℕ) = 1 + 0 + 1 * j := e
  omega

/-- The third block's rows are the states kept: the forward one, then the backward one. -/
theorem state_block (arg12 : Memref sig .tc .vmem S2x8x1024 .f32) (L : List (View.Piece (Elt Ideal) S2x8x1024 .f32)) (d : Fin 2) (c : Fin 1024) :
    View.canon [⟨Rect.unit ![0, 1, 0] ![1, 1, 1024] inb_S1x2x1024_S1x1x1024_0_1_0,
          k0_pay6 (F := Ideal) (arg12.view.readCov L
            (Rect.unit (s := S2x8x1024) ![1, 0, 0] ![1, 1, 1024] inb_S2x8x1024_S1x1x1024_1_0_0).toLoadRect)⟩,
        ⟨Rect.unit ![0, 0, 0] ![1, 1, 1024] inb_S1x2x1024_S1x1x1024_0_0_0,
          k0_pay5 (F := Ideal) (arg12.view.readCov L
            (Rect.unit (s := S2x8x1024) ![0, 0, 0] ![1, 1, 1024] inb_S2x8x1024_S1x1x1024_0_0_0).toLoadRect)⟩] (ix3 0 d c) =
      View.canon L (ix3 d 0 c) := by
  rw [View.readCov_eq_canon', View.readCov_eq_canon']
  refine View.canon_apply_of_pieces (S := S1x2x1024) (fun y => View.canon L (ix3 (y 1) 0 (y 2))) _ ?_ (ix3 0 d c) ?_
  · intro p hp x
    rcases List.mem_cons.mp hp with rfl | hp
    · obtain ⟨c', rfl⟩ : ∃ c' : Fin 1024, x = ix3 0 0 c' := by
        idx_vars x
        exact ⟨_, by congr 1 <;> exact Subsingleton.elim _ _⟩
      pointwise [k0_pay6]
      congr 2
      apply Fin.ext
      show c'.val = 0 + 0 + 1 * c'.val
      omega
    · rcases List.mem_singleton.mp hp with rfl
      obtain ⟨c', rfl⟩ : ∃ c' : Fin 1024, x = ix3 0 0 c' := by
        idx_vars x
        exact ⟨_, by congr 1 <;> exact Subsingleton.elim _ _⟩
      pointwise [k0_pay5]
      congr 2
      apply Fin.ext
      show c'.val = 0 + 0 + 1 * c'.val
      omega
  · fin_cases d
    · refine ⟨_, List.mem_cons_of_mem _ List.mem_cons_self, ?_⟩
      show _ ∈ (Rect.unit (s := S1x2x1024) ![0, 0, 0] ![1, 1, 1024] inb_S1x2x1024_S1x1x1024_0_0_0).set
      refine Rect.mem_set_unit.mpr fun a => ?_
      fin_cases a
      · exact ⟨le_rfl, by show 0 < 0 + 1; decide⟩
      · exact ⟨le_rfl, by show 0 < 0 + 1; decide⟩
      · exact ⟨Nat.zero_le _, by show c.val < 0 + 1024; omega⟩
    · refine ⟨_, List.mem_cons_self, ?_⟩
      show _ ∈ (Rect.unit (s := S1x2x1024) ![0, 1, 0] ![1, 1, 1024] inb_S1x2x1024_S1x1x1024_0_1_0).set
      refine Rect.mem_set_unit.mpr fun a => ?_
      fin_cases a
      · exact ⟨le_rfl, by show 0 < 0 + 1; decide⟩
      · exact ⟨le_rfl, by show 1 < 1 + 1; decide⟩
      · exact ⟨Nat.zero_le _, by show c.val < 0 + 1024; omega⟩

end Cert.Layer
-- ==== Proof.Recur.lean ====
module

public import proofs.«01_k».proof.Proof.Groups

@[expose] public section

set_option maxRecDepth 16384

/-! The groups are the recurrence: row by row forward, and from the last row back. -/

noncomputable section

namespace Cert.Layer

open Cert.KernelIdeal Cert.KernelIdeal.Gen Idealize.ShloMosaic Idealize.ShloMosaic.TcCoe Idealize.SL.Sem

theorem states_apply (A U : FVec Ideal S32x8x1024 .f32) (g : Fin 32) (h : FVec Ideal S1x1024 .f32) (k : Fin 8) (c : Fin 1024) :
    states A U g h (ix2 k c) = A (ix3 g k c) * h (ix2 0 c) + U (ix3 g k c) := by
  unfold states grp
  pointwise

theorem fwd_zero (A U : FVec Ideal S32x8x1024 .f32) (h : FVec Ideal S1x1024 .f32) (k : Fin 8) (c : Fin 1024) :
    fwd A U h 0 (ix2 k c) = A (ix3 0 k c) * h (ix2 0 c) + U (ix3 0 k c) := states_apply _ _ _ _ _ _

theorem fwd_succ (A U : FVec Ideal S32x8x1024 .f32) (h : FVec Ideal S1x1024 .f32) (g : ℕ) (hg : g + 1 < 32) (k : Fin 8) (c : Fin 1024) :
    fwd A U h (g + 1) (ix2 k c) = A (ix3 ⟨g + 1, hg⟩ k c) * fwd A U h g (ix2 7 c) + U (ix3 ⟨g + 1, hg⟩ k c) := by
  have e : Fin.ofNat 32 (g + 1) = ⟨g + 1, hg⟩ := Fin.ext (Nat.mod_eq_of_lt hg)
  rw [fwd, states_apply, e]
  pointwise

theorem bwd_zero (A U : FVec Ideal S32x8x1024 .f32) (h : FVec Ideal S1x1024 .f32) (k : Fin 8) (c : Fin 1024) :
    bwd A U h 0 (ix2 k c) = A (ix3 31 k c) * h (ix2 0 c) + U (ix3 31 k c) := states_apply _ _ _ _ _ _

theorem bwd_succ (A U : FVec Ideal S32x8x1024 .f32) (h : FVec Ideal S1x1024 .f32) (g : ℕ) (hg : 31 - (g + 1) < 32) (k : Fin 8) (c : Fin 1024) :
    bwd A U h (g + 1) (ix2 k c) = A (ix3 ⟨31 - (g + 1), hg⟩ k c) * bwd A U h g (ix2 0 c) + U (ix3 ⟨31 - (g + 1), hg⟩ k c) := by
  have e : Fin.ofNat 32 (31 - (g + 1)) = ⟨31 - (g + 1), hg⟩ := Fin.ext (Nat.mod_eq_of_lt hg)
  rw [bwd, states_apply, e]
  pointwise

/-- Forward: row `k` of group `g` is the state after row `8 g + k`. -/
theorem fwd_apply (A U : FVec Ideal S256x1024 .f32) (h : FVec Ideal S1x1024 .f32) (c : Fin 1024) (hA : ∀ n, Gate (rd A c n))
    (g : ℕ) (hg : g < 32) (k : Fin 8) :
    fwd (k0_pay29 A) (k0_pay28 A U) h g (ix2 k c) = app (rd A c) (rd U c) 0 (g * 8 + (k + 1)) (h (ix2 0 c)) := by
  induction g generalizing k with
  | zero =>
    rw [fwd_zero, pay29_apply, pay28_apply, three_stages (fun n => hA _) k k.isLt]
    rw [Nat.zero_mul, Nat.zero_add]
    exact app_congr _ _ (fun n _ => by show rd A c (0 * 8 + (0 + n)) = _; rw [Nat.zero_mul, Nat.zero_add])
      (fun n _ => by show rd U c (0 * 8 + (0 + n)) = _; rw [Nat.zero_mul, Nat.zero_add])
  | succ g ih =>
    rw [fwd_succ _ _ _ _ hg, pay29_apply, pay28_apply, three_stages (fun n => hA _) k k.isLt, ih (by omega),
      show g * 8 + (((7 : Fin 8) : ℕ) + 1) = (g + 1) * 8 from by show g * 8 + (7 + 1) = _; omega,
      ← app_append (rd A c) (rd U c) 0 ((g + 1) * 8) (k + 1), Nat.zero_add]
    exact app_congr _ _ (fun n _ => by rw [Nat.zero_add]) (fun n _ => by rw [Nat.zero_add])

/-- Backward: row `k` of the `g`-th group from the end is the state after the rows from the end down to it. -/
theorem bwd_apply (X Z A P Q : FVec Ideal S256x1024 .f32) (hP : ∀ j, P j = 1 - A j) (hQ : ∀ j, Q j = 1)
    (h : FVec Ideal S1x1024 .f32) (c : Fin 1024) (hA : ∀ n, Gate (rd A c n)) (g : ℕ) (hg : g < 32) (k : Fin 8) :
    bwd (k0_pay98 A) (k0_pay97 X Z A P Q) h g (ix2 k c) =
      app (fun n => rd A c (255 - n)) (fun n => rd (inpV X Z A) c (255 - n)) 0 (g * 8 + (7 - k + 1)) (h (ix2 0 c)) := by
  induction g generalizing k with
  | zero =>
    rw [bwd_zero, pay98_apply, pay97_apply _ _ _ _ _ hP hQ, three_stages (fun n => hA _) (7 - k) (by omega), Nat.zero_mul, Nat.zero_add]
    refine app_congr _ _ (fun n hn => ?_) (fun n hn => ?_)
    all_goals
      beta_reduce
      congr 1
      show 31 * 8 + _ = _
      omega
  | succ g ih =>
    rw [bwd_succ _ _ _ _ (by omega), pay98_apply, pay97_apply _ _ _ _ _ hP hQ, three_stages (fun n => hA _) (7 - k) (by omega), ih (by omega),
      show g * 8 + (7 - ((0 : Fin 8) : ℕ) + 1) = (g + 1) * 8 from by show g * 8 + (7 - 0 + 1) = _; omega,
      ← app_append (fun n => rd A c (255 - n)) (fun n => rd (inpV X Z A) c (255 - n)) 0 ((g + 1) * 8) (7 - k + 1), Nat.zero_add]
    refine app_congr _ _ (fun n hn => ?_) (fun n hn => ?_)
    all_goals
      beta_reduce
      congr 1
      show (31 - (g + 1)) * 8 + _ = _
      omega

end Cert.Layer
-- ==== Proof.Gates.lean ====
module

public import proofs.«01_k».proof.Proof.Carry
public import proofs.«01_k».proof.Proof.Recur

@[expose] public section

set_option maxRecDepth 16384

/-! The gates at a position of the block. -/

noncomputable section

namespace Cert.Layer

open Cert.KernelIdeal Cert.KernelIdeal.Gen Cert.KernelIdeal.Value Idealize.ShloMosaic Idealize.ShloMosaic.TcCoe Idealize.SL.Sem

/-- A position's product with its super-block's weights, those from the column `off` on. -/
def pre (off : ℕ) (x : Vec Ideal S256x1024 .bf16) (w : Vec Ideal S4x256x512 .bf16) (t : Fin 256) (c : Fin 1024) : EReal :=
  ∑ k : Fin 256, x (ix2 t (Fin.ofNat 1024 (c / 256 * 256 + k))) *
    w (ix3 (Fin.ofNat 4 (c / 256)) k (Fin.ofNat 512 (off + c % 256)))

/-- The four products side by side, the gates' first halves. -/
theorem ladder (x : Vec Ideal S256x1024 .bf16) (w : Vec Ideal S4x256x512 .bf16) (t : Fin 256) (c : Fin 1024) :
    (if h : c.val < 256 then ∑ k : Fin 256, x (ix2 t ⟨k.val, by omega⟩) * w (ix3 0 k ⟨c.val, by omega⟩)
      else if h : c.val - 256 < 256 then ∑ k : Fin 256, x (ix2 t ⟨256 + k.val, by omega⟩) * w (ix3 1 k ⟨c.val - 256, by omega⟩)
      else if h : c.val - 256 - 256 < 256 then
        ∑ k : Fin 256, x (ix2 t ⟨512 + k.val, by omega⟩) * w (ix3 2 k ⟨c.val - 256 - 256, by omega⟩)
      else ∑ k : Fin 256, x (ix2 t ⟨768 + k.val, by omega⟩) * w (ix3 3 k ⟨c.val - 256 - 256 - 256, by omega⟩)) =
      pre 0 x w t c := by
  have hx : ∀ (n : ℕ) (h : n < 1024) (m : ℕ), m = n → x (ix2 t ⟨n, h⟩) = x (ix2 t (Fin.ofNat 1024 m)) := fun n h m e => by
    congr 2; apply Fin.ext; subst e; exact (Nat.mod_eq_of_lt h).symm
  have hw : ∀ (g : Fin 4) (k : Fin 256) (n : ℕ) (h : n < 512) (q m : ℕ), m = n → q = g.val →
      w (ix3 g k ⟨n, h⟩) = w (ix3 (Fin.ofNat 4 q) k (Fin.ofNat 512 m)) := fun g k n h q m e e' => by
    congr 2
    · apply Fin.ext; subst e'; exact (Nat.mod_eq_of_lt g.isLt).symm
    · apply Fin.ext; subst e; exact (Nat.mod_eq_of_lt h).symm
  unfold pre
  split_ifs with h1 h2 h3 <;> refine Finset.sum_congr rfl fun k _ => ?_
  · rw [hx _ _ (c / 256 * 256 + k) (by omega), hw _ _ _ _ (c / 256) (0 + c % 256) (by omega) (by show _ = 0; omega)]
  · rw [hx _ _ (c / 256 * 256 + k) (by omega), hw _ _ _ _ (c / 256) (0 + c % 256) (by omega) (by show _ = 1; omega)]
  · rw [hx _ _ (c / 256 * 256 + k) (by omega), hw _ _ _ _ (c / 256) (0 + c % 256) (by omega) (by show _ = 2; omega)]
  · rw [hx _ _ (c / 256 * 256 + k) (by omega), hw _ _ _ _ (c / 256) (0 + c % 256) (by omega) (by show _ = 3; omega)]

/-- The four products side by side, the gates' second halves. -/
theorem ladder_in (x : Vec Ideal S256x1024 .bf16) (w : Vec Ideal S4x256x512 .bf16) (t : Fin 256) (c : Fin 1024) :
    (if h : c.val < 256 then ∑ k : Fin 256, x (ix2 t ⟨k.val, by omega⟩) * w (ix3 0 k ⟨256 + c.val, by omega⟩)
      else if h : c.val - 256 < 256 then ∑ k : Fin 256, x (ix2 t ⟨256 + k.val, by omega⟩) * w (ix3 1 k ⟨256 + (c.val - 256), by omega⟩)
      else if h : c.val - 256 - 256 < 256 then
        ∑ k : Fin 256, x (ix2 t ⟨512 + k.val, by omega⟩) * w (ix3 2 k ⟨256 + (c.val - 256 - 256), by omega⟩)
      else ∑ k : Fin 256, x (ix2 t ⟨768 + k.val, by omega⟩) * w (ix3 3 k ⟨256 + (c.val - 256 - 256 - 256), by omega⟩)) =
      pre 256 x w t c := by
  have hx : ∀ (n : ℕ) (h : n < 1024) (m : ℕ), m = n → x (ix2 t ⟨n, h⟩) = x (ix2 t (Fin.ofNat 1024 m)) := fun n h m e => by
    congr 2; apply Fin.ext; subst e; exact (Nat.mod_eq_of_lt h).symm
  have hw : ∀ (g : Fin 4) (k : Fin 256) (n : ℕ) (h : n < 512) (q m : ℕ), m = n → q = g.val →
      w (ix3 g k ⟨n, h⟩) = w (ix3 (Fin.ofNat 4 q) k (Fin.ofNat 512 m)) := fun g k n h q m e e' => by
    congr 2
    · apply Fin.ext; subst e'; exact (Nat.mod_eq_of_lt g.isLt).symm
    · apply Fin.ext; subst e; exact (Nat.mod_eq_of_lt h).symm
  unfold pre
  split_ifs with h1 h2 h3 <;> refine Finset.sum_congr rfl fun k _ => ?_
  · rw [hx _ _ (c / 256 * 256 + k) (by omega), hw _ _ _ _ (c / 256) (256 + c % 256) (by omega) (by show _ = 0; omega)]
  · rw [hx _ _ (c / 256 * 256 + k) (by omega), hw _ _ _ _ (c / 256) (256 + c % 256) (by omega) (by show _ = 1; omega)]
  · rw [hx _ _ (c / 256 * 256 + k) (by omega), hw _ _ _ _ (c / 256) (256 + c % 256) (by omega) (by show _ = 2; omega)]
  · rw [hx _ _ (c / 256 * 256 + k) (by omega), hw _ _ _ _ (c / 256) (256 + c % 256) (by omega) (by show _ = 3; omega)]

theorem absf_max (y : EReal) : FloatOps.absf (F := Ideal) (φ := .f32) y = max y (-y) := rfl

theorem decF_apply (x : Vec Ideal S256x1024 .bf16) (w : Vec Ideal S4x256x512 .bf16) (b l : Vec Ideal S2x1024 .f32) (t : Fin 256) (c : Fin 1024) :
    decF x w b l (ix2 t c) = Ideal.exp (loga (pre 0 x w t c + b (ix2 0 c)) (l (ix2 0 c))) := by
  unfold decF
  pointwise [k0_pay20, k0_pay19, k0_pay18, k0_pay10, k0_pay12, k0_pay14, k0_pay16]
  rw [ladder, sig_tanh, lit_eight, absf_max, zero_sub]
  rfl

theorem decB_apply (x : Vec Ideal S256x1024 .bf16) (w : Vec Ideal S4x256x512 .bf16) (b l : Vec Ideal S2x1024 .f32) (t : Fin 256) (c : Fin 1024) :
    decB x w b l (ix2 t c) = Ideal.exp (loga (pre 0 x w t c + b (ix2 1 c)) (l (ix2 1 c))) := by
  unfold decB
  pointwise [k0_pay88, k0_pay75, k0_pay76, k0_pay78, k0_pay79, k0_pay81, k0_pay82, k0_pay84, k0_pay85, k0_pay86]
  rw [ladder, sig_tanh, lit_eight, absf_max, zero_sub]
  rfl

theorem gateB_apply (x : Vec Ideal S256x1024 .bf16) (w : Vec Ideal S4x256x512 .bf16) (bi : Vec Ideal S2x1024 .f32) (t : Fin 256) (c : Fin 1024) :
    gateB x w bi (ix2 t c) = sgm (pre 256 x w t c + bi (ix2 1 c)) := by
  unfold gateB
  pointwise [k0_pay87, k0_pay75, k0_pay77, k0_pay78, k0_pay80, k0_pay81, k0_pay83, k0_pay84, k0_pay85, k0_pay86]
  rw [ladder_in, sig_tanh]

theorem inF_apply (x : Vec Ideal S256x1024 .bf16) (w : Vec Ideal S4x256x512 .bf16) (b bi l : Vec Ideal S2x1024 .f32) (t : Fin 256) (c : Fin 1024) :
    inF x w b bi l (ix2 t c) = scale (loga (pre 0 x w t c + b (ix2 0 c)) (l (ix2 0 c))) *
      (sgm (pre 256 x w t c + bi (ix2 0 c)) * x (ix2 t c)) := by
  rw [← scale_rsqrt (loga_le _ _), ← decF_apply]
  unfold inF
  generalize hA : k0_pay20 (F := Ideal) _ _ _ = A
  have e : decF x w b l = A := hA
  rw [e]
  pointwise [k0_pay21, k0_pay9, k0_pay10, k0_pay11, k0_pay12, k0_pay13, k0_pay14, k0_pay15, k0_pay16, k0_pay17]
  rw [ladder_in, sig_tanh, hA]

theorem inputB_apply (x : Vec Ideal S256x1024 .bf16) (w : Vec Ideal S4x256x512 .bf16) (b bi l : Vec Ideal S2x1024 .f32) (t : Fin 256) (c : Fin 1024) :
    inpV (k0_pay74 x) (gateB x w bi) (decB x w b l) (ix2 t c) = scale (loga (pre 0 x w t c + b (ix2 1 c)) (l (ix2 1 c))) *
      (sgm (pre 256 x w t c + bi (ix2 1 c)) * x (ix2 t c)) := by
  rw [← scale_rsqrt (loga_le _ _), ← decB_apply, ← gateB_apply]
  unfold inpV inp
  pointwise [k0_pay74]

/-- The coefficients of the recurrence at a position of the block: the decay and the input, of either direction. -/
def coA (d : Fin 2) (x : Vec Ideal S256x1024 .bf16) (w : Vec Ideal S4x256x512 .bf16) (b l : Vec Ideal S2x1024 .f32) (c : Fin 1024) (n : ℕ) :
    EReal :=
  Ideal.exp (loga (pre 0 x w (Fin.ofNat 256 n) c + b (ix2 d c)) (l (ix2 d c)))

def coU (d : Fin 2) (x : Vec Ideal S256x1024 .bf16) (w : Vec Ideal S4x256x512 .bf16) (b bi l : Vec Ideal S2x1024 .f32) (c : Fin 1024) (n : ℕ) :
    EReal :=
  scale (loga (pre 0 x w (Fin.ofNat 256 n) c + b (ix2 d c)) (l (ix2 d c))) *
    (sgm (pre 256 x w (Fin.ofNat 256 n) c + bi (ix2 d c)) * x (ix2 (Fin.ofNat 256 n) c))

theorem gate_coA (d : Fin 2) (x : Vec Ideal S256x1024 .bf16) (w : Vec Ideal S4x256x512 .bf16) (b l : Vec Ideal S2x1024 .f32) (c : Fin 1024) (n : ℕ) :
    Gate (coA d x w b l c n) := Gate.exp (loga_le _ _)

/-- The forward states of a block. -/
theorem grpF_apply (arg12 : Memref sig .tc .vmem S2x8x1024 .f32) (x : Vec Ideal S256x1024 .bf16) (w : Vec Ideal S4x256x512 .bf16)
    (b bi l : Vec Ideal S2x1024 .f32) (c : Fin 1024) (g : ℕ) (hg : g < 32) (k : Fin 8) :
    grpF arg12 x w b bi l g (ix2 k c) = app (coA 0 x w b l c) (coU 0 x w b bi l c) 0 (g * 8 + (k + 1)) 0 := by
  have eA : rd (decF x w b l) c = coA 0 x w b l c := funext fun n => decF_apply x w b l _ c
  have eU : rd (inF x w b bi l) c = coU 0 x w b bi l c := funext fun n => inF_apply x w b bi l _ c
  unfold grpF
  rw [fwd_apply _ _ _ _ (fun n => by rw [eA]; exact gate_coA 0 x w b l c n) _ hg, eA, eU, carryF_apply, filled_zero]

theorem lastF_apply (H : FVec Ideal S8x1024 .f32) (c : Fin 1024) : lastF H (ix2 0 c) = H (ix2 7 c) := by
  unfold lastF
  pointwise

theorem lastB_apply (H : FVec Ideal S8x1024 .f32) (c : Fin 1024) : lastB H (ix2 0 c) = H (ix2 0 c) := by
  unfold lastB
  pointwise

/-- The backward states of a block. -/
theorem grpB_apply (arg12 : Memref sig .tc .vmem S2x8x1024 .f32) (v : FVec Ideal S1x1024 .f32) (x : Vec Ideal S256x1024 .bf16)
    (w : Vec Ideal S4x256x512 .bf16) (b bi l : Vec Ideal S2x1024 .f32) (c : Fin 1024) (g : ℕ) (hg : g < 32) (k : Fin 8) :
    grpB arg12 (keepF v :: filled) x w b bi l g (ix2 k c) =
      app (fun n => coA 1 x w b l c (255 - n)) (fun n => coU 1 x w b bi l c (255 - n)) 0 (g * 8 + (7 - k + 1)) 0 := by
  have eA : rd (decB x w b l) c = coA 1 x w b l c := funext fun n => decB_apply x w b l _ c
  have eU : rd (inpV (k0_pay74 x) (gateB x w bi) (decB x w b l)) c = coU 1 x w b bi l c := funext fun n => inputB_apply x w b bi l _ c
  unfold grpB stagedB
  rw [bwd_apply _ _ _ _ _ (fun j => ?_) (fun j => ?_) _ _ (fun n => by rw [eA]; exact gate_coA 1 x w b l c n) _ hg, eA, eU, carryB_apply,
    canon_keepF_other, filled_zero]
  · idx_vars j
    unfold k0_pay89 decB
    pointwise
  · idx_vars j
    pointwise [k0_pay90]

/-- The forward state a block leaves in the scratch buffer. -/
theorem kept_fwd (arg12 : Memref sig .tc .vmem S2x8x1024 .f32) (x0 x1 : Vec Ideal S256x1024 .bf16) (x2 x3 : Vec Ideal S4x256x512 .bf16)
    (x4 x5 x6 : Vec Ideal S2x1024 .f32) (c : Fin 1024) :
    View.canon (kept arg12 x0 x1 x2 x3 x4 x5 x6) (ix3 0 0 c) = app (coA 0 x0 x2 x4 x6 c) (coU 0 x0 x2 x4 x5 x6 c) 0 256 0 := by
  unfold kept
  rw [canon_keepB_other, canon_keepF_same, lastF_apply, grpF_apply _ _ _ _ _ _ _ _ (by omega)]
  rfl

/-- The backward state a block leaves in the scratch buffer. -/
theorem kept_bwd (arg12 : Memref sig .tc .vmem S2x8x1024 .f32) (x0 x1 : Vec Ideal S256x1024 .bf16) (x2 x3 : Vec Ideal S4x256x512 .bf16)
    (x4 x5 x6 : Vec Ideal S2x1024 .f32) (c : Fin 1024) :
    View.canon (kept arg12 x0 x1 x2 x3 x4 x5 x6) (ix3 1 0 c) =
      app (fun n => coA 1 x1 x3 x4 x6 c (255 - n)) (fun n => coU 1 x1 x3 x4 x5 x6 c (255 - n)) 0 256 0 := by
  unfold kept
  rw [canon_keepB_same, lastB_apply, grpB_apply _ _ _ _ _ _ _ _ _ (by omega)]
  rfl

/-- The first result's block at a position. -/
theorem fwd_block (arg12 : Memref sig .tc .vmem S2x8x1024 .f32) (x0 : Vec Ideal S256x1024 .bf16) (x2 : Vec Ideal S4x256x512 .bf16)
    (x4 x5 x6 : Vec Ideal S2x1024 .f32) (p : Fin 256) (c : Fin 1024) :
    joined (fun n => grpF arg12 x0 x2 x4 x5 x6 n) (ix2 p c) = app (coA 0 x0 x2 x4 x6 c) (coU 0 x0 x2 x4 x5 x6 c) 0 (p + 1) 0 := by
  rw [joined_apply, grpF_apply _ _ _ _ _ _ _ _ (by show p.val / 8 < 32; omega)]
  congr 1
  show p.val / 8 * 8 + (p.val % 8 + 1) = _
  omega

/-- The second result's block at a position. -/
theorem bwd_block (arg12 : Memref sig .tc .vmem S2x8x1024 .f32) (v : FVec Ideal S1x1024 .f32) (x1 : Vec Ideal S256x1024 .bf16)
    (x3 : Vec Ideal S4x256x512 .bf16) (x4 x5 x6 : Vec Ideal S2x1024 .f32) (p : Fin 256) (c : Fin 1024) :
    joined (fun n => grpB arg12 (keepF v :: filled) x1 x3 x4 x5 x6 (31 - n)) (ix2 p c) =
      app (fun n => coA 1 x1 x3 x4 x6 c (255 - n)) (fun n => coU 1 x1 x3 x4 x5 x6 c (255 - n)) 0 (256 - p) 0 := by
  rw [joined_apply, grpB_apply _ _ _ _ _ _ _ _ _ (by omega)]
  congr 1
  show (31 - p.val / 8) * 8 + (7 - p.val % 8 + 1) = _
  omega

end Cert.Layer
-- ==== Proof.Spec.lean ====
module

public import proofs.«01_k».proof.Proof.Scan
public import Idealize.ShloMosaic.Lib.Pointwise

@[expose] public section

/-! The layer's recurrence as a function of the arguments' elements: what both programs are shown to compute. -/

noncomputable section

namespace Cert.Layer

open Idealize.ShloMosaic

/-- A position's product with its channel block's weights. -/
def bdiag (X : Fin 8192 → Fin 1024 → EReal) (W : Fin 2 → Fin 16 → Fin 64 → Fin 64 → EReal) (d : Fin 2) (s t : ℕ) (c : Fin 1024) : EReal :=
  ∑ e : Fin 64, X (Fin.ofNat 8192 (s * 256 + t)) (Fin.ofNat 1024 (c / 64 * 64 + e)) * W d (Fin.ofNat 16 (c / 64)) e (Fin.ofNat 64 c)

/-- The logarithm of the decay at position `t` of sequence `s`, channel `c`, direction `d`. -/
def sL (X : Fin 8192 → Fin 1024 → EReal) (Wa : Fin 2 → Fin 16 → Fin 64 → Fin 64 → EReal) (ba lam : Fin 2 → Fin 1024 → EReal)
    (d : Fin 2) (s : ℕ) (c : Fin 1024) (t : ℕ) : EReal :=
  loga (bdiag X Wa d s t c + ba d c) (lam d c)

/-- The decay. -/
def sA (X : Fin 8192 → Fin 1024 → EReal) (Wa : Fin 2 → Fin 16 → Fin 64 → Fin 64 → EReal) (ba lam : Fin 2 → Fin 1024 → EReal)
    (d : Fin 2) (s : ℕ) (c : Fin 1024) (t : ℕ) : EReal :=
  Ideal.exp (sL X Wa ba lam d s c t)

/-- The input: scaled, gated. -/
def sU (X : Fin 8192 → Fin 1024 → EReal) (Wa Wi : Fin 2 → Fin 16 → Fin 64 → Fin 64 → EReal) (ba bi lam : Fin 2 → Fin 1024 → EReal)
    (d : Fin 2) (s : ℕ) (c : Fin 1024) (t : ℕ) : EReal :=
  scale (sL X Wa ba lam d s c t) * (sgm (bdiag X Wi d s t c + bi d c) * X (Fin.ofNat 8192 (s * 256 + t)) c)

/-- The forward state at position `t`. -/
def stateF (X : Fin 8192 → Fin 1024 → EReal) (Wa Wi : Fin 2 → Fin 16 → Fin 64 → Fin 64 → EReal) (ba bi lam : Fin 2 → Fin 1024 → EReal)
    (s t : ℕ) (c : Fin 1024) : EReal :=
  app (sA X Wa ba lam 0 s c) (sU X Wa Wi ba bi lam 0 s c) 0 (t + 1) 0

/-- The backward state at position `t`: the recurrence from the last position down to it. -/
def stateB (X : Fin 8192 → Fin 1024 → EReal) (Wa Wi : Fin 2 → Fin 16 → Fin 64 → Fin 64 → EReal) (ba bi lam : Fin 2 → Fin 1024 → EReal)
    (s t : ℕ) (c : Fin 1024) : EReal :=
  app (fun n => sA X Wa ba lam 1 s c (255 - n)) (fun n => sU X Wa Wi ba bi lam 1 s c (255 - n)) 0 (256 - t) 0

end Cert.Layer

end
-- ==== Proof.Host.lean ====
module

public import proofs.«01_k».proof.Proof.Gates
public import proofs.«01_k».proof.Proof.Spec
public import Idealize.ShloMosaic.Lib.StableHlo.ReadAt

@[expose] public section

set_option maxRecDepth 16384

/-! The gate weights as the host lays them out: four blocks of 64 on the diagonal of each of four super-blocks. -/

noncomputable section

namespace Cert.Layer

open Cert.KernelIdeal Cert.KernelIdeal.Gen Cert.KernelIdeal.Value Idealize.ShloMosaic Idealize.ShloMosaic.TcCoe Idealize.SL.Sem

/-- The identity matrix as the host makes it. -/
theorem eye_entry (a b : ℕ) (ha : a < 2 ^ 32) (hb : b < 2 ^ 32) :
    FloatOps.uitofp (F := Ideal) FTy.f32 (IntOp.cmpi CmpIPredicate.eq (IntOp.addi (BitVec.ofNat 32 a) 0#32) (BitVec.ofNat 32 b)) =
      if a = b then (1 : EReal) else 0 := by
  have h0 : IntOp.addi (BitVec.ofNat 32 a) 0#32 = BitVec.ofNat 32 a := BitVec.add_zero _
  rw [h0]
  by_cases h : a = b
  · subst h
    rw [if_pos rfl]
    have : IntOp.cmpi CmpIPredicate.eq (BitVec.ofNat 32 a) (BitVec.ofNat 32 a) = 1#1 := by simp [IntOp.cmpi]
    rw [this]
    show (((1#1).toNat : ℝ) : EReal) = 1
    simp
  · rw [if_neg h]
    have : IntOp.cmpi CmpIPredicate.eq (BitVec.ofNat 32 a) (BitVec.ofNat 32 b) = 0#1 := by
      have hne : BitVec.ofNat 32 a ≠ BitVec.ofNat 32 b := fun e => h (by
        have := congrArg BitVec.toNat e
        rw [BitVec.toNat_ofNat, BitVec.toNat_ofNat, Nat.mod_eq_of_lt ha, Nat.mod_eq_of_lt hb] at this
        exact this)
      show BitVec.ofBool (BitVec.ofNat 32 a == BitVec.ofNat 32 b) = 0#1
      rw [beq_eq_false_iff_ne.mpr hne]
      rfl
    rw [this]
    show (((0#1).toNat : ℝ) : EReal) = 0
    simp

/-- With block-diagonal weights a position's product is the product with its own block. -/
theorem pre_diag (off : ℕ) (ho : off + 256 ≤ 512) (x : Vec Ideal S256x1024 .bf16) (w : Vec Ideal S4x256x512 .bf16)
    (W : Fin 16 → Fin 64 → Fin 64 → EReal) (t : Fin 256) (c : Fin 1024)
    (hw : ∀ (g : Fin 4) (k j : Fin 256), w (ix3 g k (Fin.ofNat 512 (off + j))) =
      W (Fin.ofNat 16 (g * 4 + k / 64)) (Fin.ofNat 64 k) (Fin.ofNat 64 j) * (if k.val / 64 = j.val / 64 then (1 : EReal) else 0)) :
    pre off x w t c = ∑ e : Fin 64, x (ix2 t (Fin.ofNat 1024 (c / 64 * 64 + e))) * W (Fin.ofNat 16 (c / 64)) e (Fin.ofNat 64 c) := by
  unfold pre
  have hc := c.isLt
  have hw' : ∀ k : Fin 256, w (ix3 (Fin.ofNat 4 (c / 256)) k (Fin.ofNat 512 (off + c % 256))) =
      W (Fin.ofNat 16 (c / 256 * 4 + k / 64)) (Fin.ofNat 64 k) (Fin.ofNat 64 c) * (if k.val / 64 = c.val % 256 / 64 then (1 : EReal) else 0) := by
    intro k
    rw [show off + c.val % 256 = off + (⟨c.val % 256, by omega⟩ : Fin 256).val from rfl, hw]
    congr 2
    · apply Fin.ext
      show ((c.val / 256) % 4 * 4 + k.val / 64) % 16 = (c.val / 256 * 4 + k.val / 64) % 16
      omega
    · apply Fin.ext
      show c.val % 256 % 64 = c.val % 64
      omega
  refine (Finset.sum_of_injOn (fun e : Fin 64 => (⟨c.val % 256 / 64 * 64 + e.val, by omega⟩ : Fin 256)) ?_ (fun _ _ => Finset.mem_coe.mpr (Finset.mem_univ _))
    (fun k _ hk => ?_) (fun e _ => ?_)).symm
  · intro a _ b _ h
    have := congrArg Fin.val h
    apply Fin.ext
    change c.val % 256 / 64 * 64 + a.val = c.val % 256 / 64 * 64 + b.val at this
    omega
  · have hne : k.val / 64 ≠ c.val % 256 / 64 := fun e => hk ⟨⟨k.val % 64, by omega⟩, Finset.mem_coe.mpr (Finset.mem_univ _), by
      apply Fin.ext
      show c.val % 256 / 64 * 64 + k.val % 64 = k.val
      omega⟩
    rw [hw', if_neg hne, mul_zero, mul_zero]
  · rw [hw', if_pos (by show (c.val % 256 / 64 * 64 + e.val) / 64 = _; omega), mul_one]
    congr 2
    · congr 1
      apply Fin.ext
      show (c.val / 64 * 64 + e.val) % 1024 = (c.val / 256 * 256 + (c.val % 256 / 64 * 64 + e.val)) % 1024
      omega
    · apply Fin.ext
      show (c.val / 64) % 16 = (c.val / 256 * 4 + (c.val % 256 / 64 * 64 + e.val) / 64) % 16
      omega
    · apply Fin.ext
      show e.val = (c.val % 256 / 64 * 64 + e.val) % 64
      omega

variable (m : (ℓ : Loc nD τ sig) → Buf (Elt Ideal) ℓ) (dv : Dev nD)

/-- The arguments' elements. -/
abbrev kX (r : Fin 8192) (c : Fin 1024) : EReal := (m ((dv : Thread nD τ).loc main_arg0) : Vec Ideal S8192x1024 .bf16) (ix2 r c)
abbrev kWa (d : Fin 2) (n : Fin 16) (e f : Fin 64) : EReal := (m ((dv : Thread nD τ).loc main_arg1) : Vec Ideal S2x16x64x64 .f32) (ix4 d n e f)
abbrev kba (d : Fin 2) (c : Fin 1024) : EReal := (m ((dv : Thread nD τ).loc main_arg2) : Vec Ideal S2x1024 .f32) (ix2 d c)
abbrev kWi (d : Fin 2) (n : Fin 16) (e f : Fin 64) : EReal := (m ((dv : Thread nD τ).loc main_arg3) : Vec Ideal S2x16x64x64 .f32) (ix4 d n e f)
abbrev kbi (d : Fin 2) (c : Fin 1024) : EReal := (m ((dv : Thread nD τ).loc main_arg4) : Vec Ideal S2x1024 .f32) (ix2 d c)
abbrev klam (d : Fin 2) (c : Fin 1024) : EReal := (m ((dv : Thread nD τ).loc main_arg5) : Vec Ideal S2x1024 .f32) (ix2 d c)

/-- The weights of the forward direction's decay gates. -/
theorem weights_fwd_a (g : Fin 4) (k j : Fin 256) :
    (V m dv main_v31 : Vec Ideal S4x256x512 .bf16) (ix3 g k (Fin.ofNat 512 (0 + j))) =
      kWa m dv 0 (Fin.ofNat 16 (g * 4 + k / 64)) (Fin.ofNat 64 k) (Fin.ofNat 64 j) * (if k.val / 64 = j.val / 64 then (1 : EReal) else 0) := by
  rw [← eye_entry _ _ (by omega) (by omega), show Fin.ofNat 512 (0 + j.val) = ⟨j.val, by omega⟩ from Fin.ext (by show (0 + j.val) % 512 = _; simp; omega),
    show Fin.ofNat 16 (g.val * 4 + k.val / 64) = ⟨g.val * 4 + k.val / 64, by omega⟩ from Fin.ext (by show (g.val * 4 + k.val / 64) % 16 = _; simp; omega)]
  entry_read
  pointwise
  rfl

/-- The weights of the forward direction's input gates. -/
theorem weights_fwd_i (g : Fin 4) (k j : Fin 256) :
    (V m dv main_v31 : Vec Ideal S4x256x512 .bf16) (ix3 g k (Fin.ofNat 512 (256 + j))) =
      kWi m dv 0 (Fin.ofNat 16 (g * 4 + k / 64)) (Fin.ofNat 64 k) (Fin.ofNat 64 j) * (if k.val / 64 = j.val / 64 then (1 : EReal) else 0) := by
  rw [← eye_entry _ _ (by omega) (by omega), show Fin.ofNat 512 (256 + j.val) = ⟨256 + j.val, by omega⟩ from Fin.ext (by show (256 + j.val) % 512 = _; simp; omega),
    show Fin.ofNat 16 (g.val * 4 + k.val / 64) = ⟨g.val * 4 + k.val / 64, by omega⟩ from Fin.ext (by show (g.val * 4 + k.val / 64) % 16 = _; simp; omega)]
  entry_read
  pointwise
  rfl

/-- The weights of the backward direction's decay gates. -/
theorem weights_bwd_a (g : Fin 4) (k j : Fin 256) :
    (V m dv main_v63 : Vec Ideal S4x256x512 .bf16) (ix3 g k (Fin.ofNat 512 (0 + j))) =
      kWa m dv 1 (Fin.ofNat 16 (g * 4 + k / 64)) (Fin.ofNat 64 k) (Fin.ofNat 64 j) * (if k.val / 64 = j.val / 64 then (1 : EReal) else 0) := by
  rw [← eye_entry _ _ (by omega) (by omega), show Fin.ofNat 512 (0 + j.val) = ⟨j.val, by omega⟩ from Fin.ext (by show (0 + j.val) % 512 = _; simp; omega),
    show Fin.ofNat 16 (g.val * 4 + k.val / 64) = ⟨g.val * 4 + k.val / 64, by omega⟩ from Fin.ext (by show (g.val * 4 + k.val / 64) % 16 = _; simp; omega)]
  entry_read
  pointwise
  rfl

/-- The weights of the backward direction's input gates. -/
theorem weights_bwd_i (g : Fin 4) (k j : Fin 256) :
    (V m dv main_v63 : Vec Ideal S4x256x512 .bf16) (ix3 g k (Fin.ofNat 512 (256 + j))) =
      kWi m dv 1 (Fin.ofNat 16 (g * 4 + k / 64)) (Fin.ofNat 64 k) (Fin.ofNat 64 j) * (if k.val / 64 = j.val / 64 then (1 : EReal) else 0) := by
  rw [← eye_entry _ _ (by omega) (by omega), show Fin.ofNat 512 (256 + j.val) = ⟨256 + j.val, by omega⟩ from Fin.ext (by show (256 + j.val) % 512 = _; simp; omega),
    show Fin.ofNat 16 (g.val * 4 + k.val / 64) = ⟨g.val * 4 + k.val / 64, by omega⟩ from Fin.ext (by show (g.val * 4 + k.val / 64) % 16 = _; simp; omega)]
  entry_read
  pointwise
  rfl

end Cert.Layer
-- ==== Proof.Arrays.lean ====
module

public import proofs.«01_k».proof.Proof.Host

@[expose] public section

set_option maxRecDepth 16384

/-! The arrays the call leaves, as the recurrence of the arguments. -/

noncomputable section

namespace Cert.Layer

open Cert.KernelIdeal Cert.KernelIdeal.Gen Cert.KernelIdeal.Value Idealize.ShloMosaic Idealize.ShloMosaic.TcCoe Idealize.SL.Sem

variable (m : (ℓ : Loc nD τ sig) → Buf (Elt Ideal) ℓ) (dv : Dev nD)

theorem idx_win : ∀ t : Fin grid0.N, win0_0.index t = ![t.val, 0] ∧ win0_1.index t = ![t.val, 0] ∧ win0_2.index t = ![0, 0, 0] ∧
    win0_3.index t = ![0, 0, 0] ∧ win0_4.index t = ![0, 0] ∧ win0_5.index t = ![0, 0] ∧ win0_6.index t = ![0, 0] ∧
    win0_7.index t = ![t.val, 0] ∧ win0_8.index t = ![t.val, 0] ∧ win0_9.index t = ![t.val, 0, 0] := by decide +kernel

/-- There are thirty-two points. -/
theorem point_lt (t : Fin cfg0.N) : t.val < 32 := t.isLt

theorem blk_x (t : Fin cfg0.N) (p : Fin 256) (c : Fin 1024) :
    (iblk m dv 0 t : Vec Ideal S256x1024 .bf16) (ix2 p c) = kX m dv (Fin.ofNat 8192 (t * 256 + p)) c := by
  have ht := point_lt t
  blk_ext [iblk, V_main_arg0, idx_win t]
  exact (Nat.mod_eq_of_lt (by omega)).symm

theorem blk_x' (t : Fin cfg0.N) (p : Fin 256) (c : Fin 1024) :
    (iblk m dv 1 t : Vec Ideal S256x1024 .bf16) (ix2 p c) = kX m dv (Fin.ofNat 8192 (t * 256 + p)) c := by
  have ht := point_lt t
  blk_ext [iblk, V_main_arg0, idx_win t]
  exact (Nat.mod_eq_of_lt (by omega)).symm

theorem blk_w (t : Fin cfg0.N) (g : Fin 4) (k : Fin 256) (j : Fin 512) :
    (iblk m dv 2 t : Vec Ideal S4x256x512 .bf16) (ix3 g k j) = (V m dv main_v31 : Vec Ideal S4x256x512 .bf16) (ix3 g k j) := by
  blk_ext [iblk, idx_win t]

theorem blk_w' (t : Fin cfg0.N) (g : Fin 4) (k : Fin 256) (j : Fin 512) :
    (iblk m dv 3 t : Vec Ideal S4x256x512 .bf16) (ix3 g k j) = (V m dv main_v63 : Vec Ideal S4x256x512 .bf16) (ix3 g k j) := by
  blk_ext [iblk, idx_win t]

theorem blk_ba (t : Fin cfg0.N) (d : Fin 2) (c : Fin 1024) :
    (iblk m dv 4 t : Vec Ideal S2x1024 .f32) (ix2 d c) = kba m dv d c := by
  blk_ext [iblk, V_main_arg2, idx_win t]

theorem blk_bi (t : Fin cfg0.N) (d : Fin 2) (c : Fin 1024) :
    (iblk m dv 5 t : Vec Ideal S2x1024 .f32) (ix2 d c) = kbi m dv d c := by
  blk_ext [iblk, V_main_arg4, idx_win t]

theorem blk_lam (t : Fin cfg0.N) (d : Fin 2) (c : Fin 1024) :
    (iblk m dv 6 t : Vec Ideal S2x1024 .f32) (ix2 d c) = klam m dv d c := by
  blk_ext [iblk, V_main_arg5, idx_win t]

theorem row_nat (t n : ℕ) (hn : n < 256) : (t * 256 + (Fin.ofNat 256 n).val) = t * 256 + n := by
  show t * 256 + n % 256 = _
  omega

/-- The products of a block's rows with the weights, in the arguments. -/
theorem pre_fwd_a (t : Fin cfg0.N) (c : Fin 1024) (n : ℕ) (hn : n < 256) :
    pre 0 (iblk m dv 0 t) (iblk m dv 2 t) (Fin.ofNat 256 n) c = bdiag (kX m dv) (kWa m dv) 0 t n c := by
  rw [pre_diag 0 (by omega) _ _ (kWa m dv 0) _ _ fun g k j => (blk_w m dv t g k _).trans (weights_fwd_a m dv g k j)]
  refine Finset.sum_congr rfl fun e _ => ?_
  rw [blk_x, row_nat _ _ hn]

theorem pre_fwd_i (t : Fin cfg0.N) (c : Fin 1024) (n : ℕ) (hn : n < 256) :
    pre 256 (iblk m dv 0 t) (iblk m dv 2 t) (Fin.ofNat 256 n) c = bdiag (kX m dv) (kWi m dv) 0 t n c := by
  rw [pre_diag 256 (by omega) _ _ (kWi m dv 0) _ _ fun g k j => (blk_w m dv t g k _).trans (weights_fwd_i m dv g k j)]
  refine Finset.sum_congr rfl fun e _ => ?_
  rw [blk_x, row_nat _ _ hn]

theorem pre_bwd_a (t : Fin cfg0.N) (c : Fin 1024) (n : ℕ) (hn : n < 256) :
    pre 0 (iblk m dv 1 t) (iblk m dv 3 t) (Fin.ofNat 256 n) c = bdiag (kX m dv) (kWa m dv) 1 t n c := by
  rw [pre_diag 0 (by omega) _ _ (kWa m dv 1) _ _ fun g k j => (blk_w' m dv t g k _).trans (weights_bwd_a m dv g k j)]
  refine Finset.sum_congr rfl fun e _ => ?_
  rw [blk_x', row_nat _ _ hn]

theorem pre_bwd_i (t : Fin cfg0.N) (c : Fin 1024) (n : ℕ) (hn : n < 256) :
    pre 256 (iblk m dv 1 t) (iblk m dv 3 t) (Fin.ofNat 256 n) c = bdiag (kX m dv) (kWi m dv) 1 t n c := by
  rw [pre_diag 256 (by omega) _ _ (kWi m dv 1) _ _ fun g k j => (blk_w' m dv t g k _).trans (weights_bwd_i m dv g k j)]
  refine Finset.sum_congr rfl fun e _ => ?_
  rw [blk_x', row_nat _ _ hn]

/-- The coefficients of the block, in the arguments. -/
theorem coA_fwd (t : Fin cfg0.N) (c : Fin 1024) (n : ℕ) (hn : n < 256) :
    coA 0 (iblk m dv 0 t) (iblk m dv 2 t) (iblk m dv 4 t) (iblk m dv 6 t) c n = sA (kX m dv) (kWa m dv) (kba m dv) (klam m dv) 0 t c n := by
  unfold coA sA sL
  rw [pre_fwd_a _ _ _ _ _ hn, blk_ba, blk_lam]

theorem coA_bwd (t : Fin cfg0.N) (c : Fin 1024) (n : ℕ) (hn : n < 256) :
    coA 1 (iblk m dv 1 t) (iblk m dv 3 t) (iblk m dv 4 t) (iblk m dv 6 t) c n = sA (kX m dv) (kWa m dv) (kba m dv) (klam m dv) 1 t c n := by
  unfold coA sA sL
  rw [pre_bwd_a _ _ _ _ _ hn, blk_ba, blk_lam]

theorem coU_fwd (t : Fin cfg0.N) (c : Fin 1024) (n : ℕ) (hn : n < 256) :
    coU 0 (iblk m dv 0 t) (iblk m dv 2 t) (iblk m dv 4 t) (iblk m dv 5 t) (iblk m dv 6 t) c n =
      sU (kX m dv) (kWa m dv) (kWi m dv) (kba m dv) (kbi m dv) (klam m dv) 0 t c n := by
  unfold coU sU sL
  rw [pre_fwd_a _ _ _ _ _ hn, pre_fwd_i _ _ _ _ _ hn, blk_ba, blk_bi, blk_lam, blk_x, row_nat _ _ hn]

theorem coU_bwd (t : Fin cfg0.N) (c : Fin 1024) (n : ℕ) (hn : n < 256) :
    coU 1 (iblk m dv 1 t) (iblk m dv 3 t) (iblk m dv 4 t) (iblk m dv 5 t) (iblk m dv 6 t) c n =
      sU (kX m dv) (kWa m dv) (kWi m dv) (kba m dv) (kbi m dv) (klam m dv) 1 t c n := by
  unfold coU sU sL
  rw [pre_bwd_a _ _ _ _ _ hn, pre_bwd_i _ _ _ _ _ hn, blk_ba, blk_bi, blk_lam, blk_x', row_nat _ _ hn]

theorem app_fwd (t : Fin cfg0.N) (c : Fin 1024) (n : ℕ) (hn : n ≤ 256) :
    app (coA 0 (iblk m dv 0 t) (iblk m dv 2 t) (iblk m dv 4 t) (iblk m dv 6 t) c)
        (coU 0 (iblk m dv 0 t) (iblk m dv 2 t) (iblk m dv 4 t) (iblk m dv 5 t) (iblk m dv 6 t) c) 0 n 0 =
      app (sA (kX m dv) (kWa m dv) (kba m dv) (klam m dv) 0 t c)
        (sU (kX m dv) (kWa m dv) (kWi m dv) (kba m dv) (kbi m dv) (klam m dv) 0 t c) 0 n 0 :=
  app_congr n 0 (fun k hk => coA_fwd m dv t c _ (by omega)) fun k hk => coU_fwd m dv t c _ (by omega)

theorem app_bwd (t : Fin cfg0.N) (c : Fin 1024) (n : ℕ) (hn : n ≤ 256) :
    app (fun k => coA 1 (iblk m dv 1 t) (iblk m dv 3 t) (iblk m dv 4 t) (iblk m dv 6 t) c (255 - k))
        (fun k => coU 1 (iblk m dv 1 t) (iblk m dv 3 t) (iblk m dv 4 t) (iblk m dv 5 t) (iblk m dv 6 t) c (255 - k)) 0 n 0 =
      app (fun k => sA (kX m dv) (kWa m dv) (kba m dv) (klam m dv) 1 t c (255 - k))
        (fun k => sU (kX m dv) (kWa m dv) (kWi m dv) (kba m dv) (kbi m dv) (klam m dv) 1 t c (255 - k)) 0 n 0 :=
  app_congr n 0 (fun k hk => coA_bwd m dv t c _ (by omega)) fun k hk => coU_bwd m dv t c _ (by omega)

/-- The three arrays of the recurrence. -/
def gF (X : Fin 8192 → Fin 1024 → EReal) (Wa Wi : Fin 2 → Fin 16 → Fin 64 → Fin 64 → EReal) (ba bi lam : Fin 2 → Fin 1024 → EReal) :
    Vec Ideal S8192x1024 .bf16 := fun j => stateF X Wa Wi ba bi lam ((j 0).val / 256) ((j 0).val % 256) (j 1)
def gB (X : Fin 8192 → Fin 1024 → EReal) (Wa Wi : Fin 2 → Fin 16 → Fin 64 → Fin 64 → EReal) (ba bi lam : Fin 2 → Fin 1024 → EReal) :
    Vec Ideal S8192x1024 .bf16 := fun j => stateB X Wa Wi ba bi lam ((j 0).val / 256) ((j 0).val % 256) (j 1)
def gS (X : Fin 8192 → Fin 1024 → EReal) (Wa Wi : Fin 2 → Fin 16 → Fin 64 → Fin 64 → EReal) (ba bi lam : Fin 2 → Fin 1024 → EReal) :
    Vec Ideal S32x2x1024 .f32 := fun j =>
  if (j 1).val = 0 then stateF X Wa Wi ba bi lam (j 0).val 255 (j 2) else stateB X Wa Wi ba bi lam (j 0).val 0 (j 2)

theorem gF_at (X : Fin 8192 → Fin 1024 → EReal) (Wa Wi : Fin 2 → Fin 16 → Fin 64 → Fin 64 → EReal) (ba bi lam : Fin 2 → Fin 1024 → EReal)
    (i : S8192x1024.Idx) (t p : ℕ) (c : Fin 1024) (h0 : (i 0).val = t * 256 + p) (hp : p < 256) (h1 : (i 1).val = c.val) :
    gF X Wa Wi ba bi lam i = stateF X Wa Wi ba bi lam t p c := by
  unfold gF
  rw [h0, show (t * 256 + p) / 256 = t by omega, show (t * 256 + p) % 256 = p by omega, show (i 1 : Fin 1024) = c from Fin.ext h1]

theorem gB_at (X : Fin 8192 → Fin 1024 → EReal) (Wa Wi : Fin 2 → Fin 16 → Fin 64 → Fin 64 → EReal) (ba bi lam : Fin 2 → Fin 1024 → EReal)
    (i : S8192x1024.Idx) (t p : ℕ) (c : Fin 1024) (h0 : (i 0).val = t * 256 + p) (hp : p < 256) (h1 : (i 1).val = c.val) :
    gB X Wa Wi ba bi lam i = stateB X Wa Wi ba bi lam t p c := by
  unfold gB
  rw [h0, show (t * 256 + p) / 256 = t by omega, show (t * 256 + p) % 256 = p by omega, show (i 1 : Fin 1024) = c from Fin.ext h1]

theorem gS_at (X : Fin 8192 → Fin 1024 → EReal) (Wa Wi : Fin 2 → Fin 16 → Fin 64 → Fin 64 → EReal) (ba bi lam : Fin 2 → Fin 1024 → EReal)
    (i : S32x2x1024.Idx) (t : ℕ) (d : ℕ) (c : Fin 1024) (h0 : (i 0).val = t) (h1 : (i 1).val = d) (h2 : (i 2).val = c.val) :
    gS X Wa Wi ba bi lam i = if d = 0 then stateF X Wa Wi ba bi lam t 255 c else stateB X Wa Wi ba bi lam t 0 c := by
  unfold gS
  rw [h0, h1, show (i 2 : Fin 1024) = c from Fin.ext h2]

/-- The forward states' array after the run. -/
theorem arr7 : (dats m 0 dv).arrAt 7 cfg0.N = gF (kX m dv) (kWa m dv) (kWi m dv) (kba m dv) (kbi m dv) (klam m dv) := by
  refine (dats m 0 dv).arrAt_eq_of_covers 7 _ (by decide +kernel) fun t hf y => ?_
  blk_simp
  rw [after0_7]
  unfold outsAt0
  dsimp only
  rw [out7_eq]
  obtain ⟨p, c, rfl⟩ : ∃ (p : Fin 256) (c : Fin 1024), y = ix2 p c := ⟨y 0, y 1, eq_ix2 y⟩
  refine Eq.trans (fwd_block _ _ _ _ _ _ p c) ?_
  rw [app_fwd m dv t c _ (by omega)]
  symm
  refine gF_at _ _ _ _ _ _ _ t.val p.val c ?_ p.isLt ?_
  · blk_simp [idx_win t]
  · blk_simp [idx_win t]

/-- The backward states' array after the run. -/
theorem arr8 : (dats m 0 dv).arrAt 8 cfg0.N = gB (kX m dv) (kWa m dv) (kWi m dv) (kba m dv) (kbi m dv) (klam m dv) := by
  refine (dats m 0 dv).arrAt_eq_of_covers 8 _ (by decide +kernel) fun t hf y => ?_
  blk_simp
  rw [after0_8]
  unfold outsAt0
  dsimp only
  rw [out8_eq]
  obtain ⟨p, c, rfl⟩ : ∃ (p : Fin 256) (c : Fin 1024), y = ix2 p c := ⟨y 0, y 1, eq_ix2 y⟩
  refine Eq.trans (bwd_block _ _ _ _ _ _ _ p c) ?_
  rw [app_bwd m dv t c _ (by omega)]
  symm
  refine gB_at _ _ _ _ _ _ _ t.val p.val c ?_ p.isLt ?_
  · blk_simp [idx_win t]
  · blk_simp [idx_win t]

/-- The final states' array after the run. -/
theorem arr9 : (dats m 0 dv).arrAt 9 cfg0.N = gS (kX m dv) (kWa m dv) (kWi m dv) (kba m dv) (kbi m dv) (klam m dv) := by
  refine (dats m 0 dv).arrAt_eq_of_covers 9 _ (by decide +kernel) fun t hf y => ?_
  blk_simp
  rw [after0_9]
  unfold outsAt0
  dsimp only
  rw [out9_eq]
  obtain ⟨z, d, c, rfl⟩ : ∃ (z : Fin 1) (d : Fin 2) (c : Fin 1024), y = ix3 z d c := ⟨y 0, y 1, y 2, eq_ix3 y⟩
  obtain rfl : z = 0 := Subsingleton.elim _ _
  refine Eq.trans (state_block _ _ d c) ?_
  symm
  refine (gS_at _ _ _ _ _ _ _ t.val d.val c ?_ ?_ ?_).trans ?_
  · blk_simp [idx_win t]
    exact Nat.add_zero _
  · blk_simp [idx_win t]
  · blk_simp [idx_win t]
  · match d with
    | 0 =>
      rw [kept_fwd, app_fwd m dv t c _ (by omega)]
      rfl
    | 1 =>
      rw [kept_bwd, app_bwd m dv t c _ (by omega)]
      rfl

/-- What the program leaves. -/
theorem run_kernel (ρ : Dev nD → PrngReg) :
    θ_run defs (onTc (τ := τ) (main (F := Ideal))) ⟨m, fun _ => 0, ρ⟩ fun r => ∀ c : Dev nD,
      r.2.mem ((c : Thread nD τ).loc main_v64_0) = gF (kX m c) (kWa m c) (kWi m c) (kba m c) (kbi m c) (klam m c)
      ∧ r.2.mem ((c : Thread nD τ).loc main_v64_1) = gB (kX m c) (kWa m c) (kWi m c) (kba m c) (kbi m c) (klam m c)
      ∧ r.2.mem ((c : Thread nD τ).loc main_v64_2) = gS (kX m c) (kWa m c) (kWi m c) (kba m c) (kbi m c) (klam m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun _ h c => ⟨(h c).1.trans (arr7 m c), (h c).2.1.trans (arr8 m c), (h c).2.2.1.trans (arr9 m c), (h c).2.2.2⟩)
    (run_blocks m ρ)

end Cert.Layer
-- ==== Proof.RefEntry.lean ====
module

public import proofs.«01_k».proof.Proof.Gen.ReferenceIdeal.Run
public import proofs.«01_k».proof.Proof.Spec
public import proofs.«01_k».proof.Proof.Scalars
public import Idealize.ShloMosaic.Lib.StableHlo.ReadAt

@[expose] public section

set_option maxRecDepth 16384

/-! The reference's coefficients: what stands before its loop. -/

noncomputable section

namespace Cert.LayerRef

open Cert.ReferenceIdeal Cert.ReferenceIdeal.Gen Cert.ReferenceIdeal.Value Idealize.ShloMosaic Idealize.ShloMosaic.TcCoe Idealize.ShloMosaic.StableHlo Idealize.SL.Sem Cert.Layer

variable (m : (ℓ : Loc nD τ sig) → Buf (Elt Ideal) ℓ) (dv : Dev nD)

/-- An argument's elements. -/
abbrev rX (r : Fin 8192) (c : Fin 1024) : EReal := (m ((dv : Thread nD τ).loc main_arg0) : Vec Ideal S8192x1024 .bf16) (ix2 r c)
abbrev rWa (d : Fin 2) (n : Fin 16) (e f : Fin 64) : EReal := (m ((dv : Thread nD τ).loc main_arg1) : Vec Ideal S2x16x64x64 .f32) (ix4 d n e f)
abbrev rba (d : Fin 2) (c : Fin 1024) : EReal := (m ((dv : Thread nD τ).loc main_arg2) : Vec Ideal S2x1024 .f32) (ix2 d c)
abbrev rWi (d : Fin 2) (n : Fin 16) (e f : Fin 64) : EReal := (m ((dv : Thread nD τ).loc main_arg3) : Vec Ideal S2x16x64x64 .f32) (ix4 d n e f)
abbrev rbi (d : Fin 2) (c : Fin 1024) : EReal := (m ((dv : Thread nD τ).loc main_arg4) : Vec Ideal S2x1024 .f32) (ix2 d c)
abbrev rlam (d : Fin 2) (c : Fin 1024) : EReal := (m ((dv : Thread nD τ).loc main_arg5) : Vec Ideal S2x1024 .f32) (ix2 d c)

theorem x_fwd (a : Fin 1) (s : Fin 32) (t : Fin 256) (c : Fin 1024) :
    (upto hostOps0 (launchContents m dv) 5 (Proc.devRef .tc main_v3) : Vec Ideal S1x32x256x1024 .f32) (ix4 a s t c)
      = rX m dv (Fin.ofNat 8192 (s * 256 + t)) c := by
  after_reads_at
  pointwise
  have h : Fin.ofNat 8192 (s.val * 256 + t.val) = ⟨s.val * 256 + t.val, by omega⟩ :=
    Fin.ext (by show (s.val * 256 + t.val) % 8192 = s.val * 256 + t.val; omega)
  rw [h]

theorem x_bwd (a : Fin 1) (s : Fin 32) (t : Fin 256) (c : Fin 1024) :
    (upto hostOps0 (launchContents m dv) 5 (Proc.devRef .tc main_v4) : Vec Ideal S1x32x256x1024 .f32) (ix4 a s t c)
      = rX m dv (Fin.ofNat 8192 (s * 256 + (255 - t))) c := by
  after_reads_at
  pointwise
  have h : Fin.ofNat 8192 (s.val * 256 + (255 - t.val)) = ⟨s.val * 256 + t.rev.val, by omega⟩ :=
    Fin.ext (by show (s.val * 256 + (255 - t.val)) % 8192 = s.val * 256 + (256 - (t.val + 1)); omega)
  rw [h]
  rfl

/-- The position the reference's loop treats at step `t`: the backward direction runs over the reversed sequence. -/
def pos (d : Fin 2) (t : ℕ) : ℕ := if d = 0 then t else 255 - t

theorem x_both (d : Fin 2) (s : Fin 32) (t : Fin 256) (c : Fin 1024) (h1 : d.val < 1 → d.val < 1) (h2 : ¬ d.val < 1 → d.val - 1 < 1) :
    (if h : d.val < 1 then
      (upto hostOps0 (launchContents m dv) 5 (Proc.devRef .tc main_v3) : Vec Ideal S1x32x256x1024 .f32) (ix4 ⟨d.val, h1 h⟩ s t c)
    else
      (upto hostOps0 (launchContents m dv) 5 (Proc.devRef .tc main_v4) : Vec Ideal S1x32x256x1024 .f32) (ix4 ⟨d.val - 1, h2 h⟩ s t c))
      = rX m dv (Fin.ofNat 8192 (s * 256 + pos d t)) c := by
  split
  · rename_i h
    rw [x_fwd, pos, if_pos (Fin.ext (by show d.val = 0; omega))]
  · rename_i h
    rw [x_bwd, pos, if_neg (fun e => h (by rw [e]; decide))]

theorem dot_both (W : Vec Ideal S2x16x64x64 .f32) (d : Fin 2) (s : Fin 32) (t : Fin 256) (c : Fin 1024)
    (hn : c.val / 64 < 16) (hf : c.val % 64 < 64) (hx : ∀ x : Fin 64, c.val / 64 * 64 + x.val < 1024)
    (h1 : d.val < 1 → d.val < 1) (h2 : ¬ d.val < 1 → d.val - 1 < 1) :
    (∑ x : Fin 64, W (ix4 d ⟨c.val / 64, hn⟩ x ⟨c.val % 64, hf⟩) *
      (if h : d.val < 1 then
        (upto hostOps0 (launchContents m dv) 5 (Proc.devRef .tc main_v3) : Vec Ideal S1x32x256x1024 .f32)
          (ix4 ⟨d.val, h1 h⟩ s t ⟨c.val / 64 * 64 + x.val, hx x⟩)
      else
        (upto hostOps0 (launchContents m dv) 5 (Proc.devRef .tc main_v4) : Vec Ideal S1x32x256x1024 .f32)
          (ix4 ⟨d.val - 1, h2 h⟩ s t ⟨c.val / 64 * 64 + x.val, hx x⟩)))
      = bdiag (rX m dv) (fun d n e f => W (ix4 d n e f)) d s (pos d t) c := by
  unfold bdiag
  refine Finset.sum_congr rfl fun e _ => ?_
  rw [x_both m dv d s t ⟨c.val / 64 * 64 + e.val, hx e⟩ h1 h2, mul_comm]
  have e1 : Fin.ofNat 1024 (c.val / 64 * 64 + e.val) = ⟨c.val / 64 * 64 + e.val, hx e⟩ :=
    Fin.ext (by show (c.val / 64 * 64 + e.val) % 1024 = c.val / 64 * 64 + e.val; omega)
  have e2 : Fin.ofNat 16 (c.val / 64) = ⟨c.val / 64, hn⟩ :=
    Fin.ext (by show (c.val / 64) % 16 = c.val / 64; omega)
  have e3 : Fin.ofNat 64 c.val = ⟨c.val % 64, hf⟩ := Fin.ext (by show c.val % 64 = c.val % 64; rfl)
  rw [e1, e2, e3]

theorem loga_form {S B b l : EReal} (h : S = B) :
    Ideal.ofBits FTy.f32 1090519040#32 * Ideal.div 1 (1 + Ideal.exp (-(S + b))) *
      (-(if -l ≠ -l then -l else max (-l) 0 + Ideal.log1p (Ideal.exp (-max (-l) (-(-l)))))) = loga (B + b) l := by
  rw [if_neg (by simp), h, neg_neg]
  have e : max (-l) l = max l (-l) := max_comm _ _
  rw [e, neg_logsig, lit_eight, loga, mul_comm ((8 : ℝ) : EReal), mul_assoc]
  rfl

theorem entry_form {S B b l S' B' b' x : EReal} (h : S = B) (h' : S' = B') :
    Ideal.sqrt (-(Ideal.exp (Ideal.ofBits FTy.f32 1073741824#32 *
      (Ideal.ofBits FTy.f32 1090519040#32 * Ideal.div 1 (1 + Ideal.exp (-(S + b))) *
        (-(if -l ≠ -l then -l else max (-l) 0 + Ideal.log1p (Ideal.exp (-max (-l) (-(-l)))))))) - 1)) *
      (Ideal.div 1 (1 + Ideal.exp (-(S' + b'))) * x) = scale (loga (B + b) l) * (sgm (B' + b') * x) := by
  rw [loga_form h, h', lit_two]
  rfl

theorem entry_a (t : Fin 256) (d : Fin 2) (s : Fin 32) (c : Fin 1024) :
    (entryContents preI m dv (Proc.devRef .tc main_v50_0) : Vec Ideal S256x2x32x1024 .f32) (ix4 t d s c)
      = sA (rX m dv) (rWa m dv) (rba m dv) (rlam m dv) d s c (pos d t) := by
  simp only [entryContents, afterL_cons, afterL_nil]
  after_reads_at
  rw [id_eq]
  pointwise
  have h := dot_both m dv (launchContents m dv (Proc.devRef .tc main_arg1)) d s t c (by omega) (by omega) (fun x => by omega) (fun h => h) (fun _ => by omega)
  have e := loga_form (b := rba m dv d c) (l := rlam m dv d c) h
  unfold sA sL
  refine congrArg Ideal.exp ?_
  exact e

theorem entry_u (t : Fin 256) (d : Fin 2) (s : Fin 32) (c : Fin 1024) :
    (entryContents preI m dv (Proc.devRef .tc main_v50_1) : Vec Ideal S256x2x32x1024 .f32) (ix4 t d s c)
      = sU (rX m dv) (rWa m dv) (rWi m dv) (rba m dv) (rbi m dv) (rlam m dv) d s c (pos d t) := by
  simp only [entryContents, afterL_cons, afterL_nil]
  after_reads_at
  rw [id_eq]
  pointwise
  simp only [x_both m dv]
  have h := dot_both m dv (launchContents m dv (Proc.devRef .tc main_arg1)) d s t c (by omega) (by omega) (fun x => by omega) (fun h => h) (fun _ => by omega)
  have h' := dot_both m dv (launchContents m dv (Proc.devRef .tc main_arg3)) d s t c (by omega) (by omega) (fun x => by omega) (fun h => h) (fun _ => by omega)
  have e := entry_form (b := rba m dv d c) (l := rlam m dv d c) (b' := rbi m dv d c)
    (x := rX m dv (Fin.ofNat 8192 (s * 256 + pos d t)) c) h h'
  unfold sU sL
  exact e

theorem entry_h (d : Fin 2) (s : Fin 32) (c : Fin 1024) :
    (entryContents preI m dv (Proc.devRef .tc main_v50_3) : Vec Ideal S2x32x1024 .f32) (ix3 d s c) = (0 : EReal) := by
  simp only [entryContents, afterL_cons, afterL_nil]
  after_reads_at
  rw [id_eq]
  pointwise

end Cert.LayerRef
-- ==== Proof.RefLoop.lean ====
module

public import proofs.«01_k».proof.Proof.RefEntry
public import Idealize.ShloMosaic.Lib.WordCmp

@[expose] public section

set_option maxRecDepth 16384

/-! The reference's loop: after `n` trips it carries the state of `n` steps and has written the states of the steps before. -/

noncomputable section

namespace Cert.LayerRef

open Cert.ReferenceIdeal Cert.ReferenceIdeal.Gen Cert.ReferenceIdeal.Value Idealize.ShloMosaic Idealize.ShloMosaic.TcCoe Idealize.ShloMosaic.StableHlo Idealize.SL.Sem Cert.Layer

/-- The carried arrays, by their parts in the recurrence. -/
abbrev vA (V : Valuation τ sig (Elt Ideal)) : Vec Ideal S256x2x32x1024 .f32 := V (Proc.devRef .tc main_v50_0)
abbrev vU (V : Valuation τ sig (Elt Ideal)) : Vec Ideal S256x2x32x1024 .f32 := V (Proc.devRef .tc main_v50_1)
abbrev vN (V : Valuation τ sig (Elt Ideal)) : Vec Ideal S_ .i32 := V (Proc.devRef .tc main_v50_2)
abbrev vH (V : Valuation τ sig (Elt Ideal)) : Vec Ideal S2x32x1024 .f32 := V (Proc.devRef .tc main_v50_3)
abbrev vS (V : Valuation τ sig (Elt Ideal)) : Vec Ideal S256x2x32x1024 .f32 := V (Proc.devRef .tc main_v50_4)

theorem word_nat (n : ℕ) (h : n < 256) : (BitVec.ofNat 32 n).toInt = (n : ℤ) := by
  rw [BitVec.toInt_eq_toNat_cond, BitVec.toNat_ofNat]
  have : n % 2 ^ 32 = n := Nat.mod_eq_of_lt (by omega)
  rw [this, if_pos (by omega)]

theorem start_nat (V : Valuation τ sig (Elt Ideal)) (n : ℕ) (h : n < 256) (hN : vN V = fun _ => BitVec.ofNat 32 n) (a : Fin 4) :
    (((![V (Proc.devRef .tc main_v50_2), constantI S_ 32 0#32, constantI S_ 32 0#32, constantI S_ 32 0#32] : Fin 4 → (⟨S_, .i32⟩ : BufTy).Contents (Elt Ideal))) a (Shape.Idx.first h_S_)).toInt
      = (((![n, 0, 0, 0] : Fin 4 → ℕ) a : ℕ) : ℤ) := by
  have hV : (V (Proc.devRef .tc main_v50_2) : Vec Ideal S_ .i32) = fun _ => BitVec.ofNat 32 n := hN
  fin_cases a
  · show ((V (Proc.devRef .tc main_v50_2) : Vec Ideal S_ .i32) (Shape.Idx.first h_S_)).toInt = (n : ℤ)
    rw [hV]; exact word_nat n h
  · rfl
  · rfl
  · rfl

theorem slice_at (n : ℕ) (h : n < 256) : S256x2x32x1024.Slices ![n, 0, 0, 0] S1x2x32x1024 :=
  ⟨rfl, fun a => by
    fin_cases a
    · show n + 1 ≤ 256; omega
    · show 0 + 2 ≤ 2; omega
    · show 0 + 32 ≤ 32; omega
    · show 0 + 1024 ≤ 1024; omega⟩

theorem slice_read (x : Vec Ideal S256x2x32x1024 .f32) (start : Fin 4 → ℤ) (n : ℕ) (h : n < 256)
    (hs : ∀ a, start a = (((![n, 0, 0, 0] : Fin 4 → ℕ) a : ℕ) : ℤ)) (hf : S256x2x32x1024.Slices (fun _ => 0) S1x2x32x1024)
    (hc : S1x2x32x1024.ShapeCasts S2x32x1024) (d : Fin 2) (s : Fin 32) (c : Fin 1024) :
    shapeCast S2x32x1024 (Host.dynamicSlice S1x2x32x1024 x start hf) hc (ix3 d s c) = x (ix4 ⟨n, h⟩ d s c) := by
  rw [WordCmp.dynamicSlice_eq_extract (s := S256x2x32x1024) S1x2x32x1024 x start hf ![n, 0, 0, 0] (slice_at n h) hs]
  pointwise

theorem update_read (x : Vec Ideal S256x2x32x1024 .f32) (y : Vec Ideal S2x32x1024 .f32) (start : Fin 4 → ℤ) (n : ℕ) (h : n < 256)
    (hs : ∀ a, start a = (((![n, 0, 0, 0] : Fin 4 → ℕ) a : ℕ) : ℤ)) (hf : S256x2x32x1024.Slices (fun _ => 0) S1x2x32x1024)
    (t : Fin 256) (d : Fin 2) (s : Fin 32) (c : Fin 1024) :
    Host.dynamicUpdateSlice x (broadcastInDim S1x2x32x1024 ![1, 2, 3] bcast_S2x32x1024_S1x2x32x1024_1_2_3 y) start hf (ix4 t d s c)
      = if t.val = n then y (ix3 d s c) else x (ix4 t d s c) := by
  rw [WordCmp.dynamicUpdateSlice_eq_update (s := S256x2x32x1024) x _ start hf ![n, 0, 0, 0] (slice_at n h) hs]
  pointwise
  by_cases e : t.val = n
  · rw [dif_pos (by omega), if_pos e]
  · rw [dif_neg (by omega), if_neg e]

/-- One trip's new state. -/
theorem new_state (V : Valuation τ sig (Elt Ideal)) (n : ℕ) (h : n < 256) (hN : vN V = fun _ => BitVec.ofNat 32 n)
    (d : Fin 2) (s : Fin 32) (c : Fin 1024) :
    (res_main_while0b_v72 V : Vec Ideal S2x32x1024 .f32) (ix3 d s c)
      = vA V (ix4 ⟨n, h⟩ d s c) * vH V (ix3 d s c) + vU V (ix4 ⟨n, h⟩ d s c) := by
  unfold res_main_while0b_v72
  have e1 := slice_read (vA V) _ n h (start_nat V n h hN) sliceFits_S256x2x32x1024_S1x2x32x1024 shapeCasts_S1x2x32x1024_S2x32x1024 d s c
  have e2 := slice_read (vU V) _ n h (start_nat V n h hN) sliceFits_S256x2x32x1024_S1x2x32x1024 shapeCasts_S1x2x32x1024_S2x32x1024 d s c
  exact congrArg₂ (fun p q : EReal => p + q) (congrArg (fun p : EReal => p * vH V (ix3 d s c)) e1) e2

theorem new_states (V : Valuation τ sig (Elt Ideal)) (n : ℕ) (h : n < 256) (hN : vN V = fun _ => BitVec.ofNat 32 n)
    (t : Fin 256) (d : Fin 2) (s : Fin 32) (c : Fin 1024) :
    vS (STEP V) (ix4 t d s c)
      = if t.val = n then (res_main_while0b_v72 V : Vec Ideal S2x32x1024 .f32) (ix3 d s c) else vS V (ix4 t d s c) := by
  show (STEP V (Proc.devRef .tc main_v50_4) : Vec Ideal S256x2x32x1024 .f32) _ = _
  rw [STEP_main_v50_4]
  exact update_read (vS V) (res_main_while0b_v72 V) _ n h (start_nat V n h hN) updateFits_S256x2x32x1024_S1x2x32x1024 t d s c

variable (m : (ℓ : Loc nD τ sig) → Buf (Elt Ideal) ℓ) (dv : Dev nD)

/-- The decay and the input the loop takes at step `n`. -/
abbrev stA (d : Fin 2) (s : Fin 32) (c : Fin 1024) (n : ℕ) : EReal := sA (rX m dv) (rWa m dv) (rba m dv) (rlam m dv) d s c (pos d n)
abbrev stU (d : Fin 2) (s : Fin 32) (c : Fin 1024) (n : ℕ) : EReal :=
  sU (rX m dv) (rWa m dv) (rWi m dv) (rba m dv) (rbi m dv) (rlam m dv) d s c (pos d n)

/-- After `n` trips. -/
theorem trips (n : ℕ) (hn : n ≤ 256) :
    vA (STEP^[n] (entryContents preI m dv)) = vA (entryContents preI m dv)
    ∧ vU (STEP^[n] (entryContents preI m dv)) = vU (entryContents preI m dv)
    ∧ vN (STEP^[n] (entryContents preI m dv)) = (fun _ => BitVec.ofNat 32 n)
    ∧ (∀ d s c, vH (STEP^[n] (entryContents preI m dv)) (ix3 d s c) = app (stA m dv d s c) (stU m dv d s c) 0 n 0)
    ∧ (∀ t d s c, t.val < n → vS (STEP^[n] (entryContents preI m dv)) (ix4 t d s c)
        = app (stA m dv d s c) (stU m dv d s c) 0 (t.val + 1) 0) := by
  induction n with
  | zero => exact ⟨rfl, rfl, ctr_entry m dv, fun d s c => entry_h m dv d s c, fun t d s c h => absurd h (by omega)⟩
  | succ n ih =>
    obtain ⟨iA, iU, iN, iH, iS⟩ := ih (by omega)
    have hn' : n < 256 := by omega
    rw [Function.iterate_succ_apply']
    generalize STEP^[n] (entryContents preI m dv) = V at iA iU iN iH iS ⊢
    have hnew : ∀ d s c, (res_main_while0b_v72 V : Vec Ideal S2x32x1024 .f32) (ix3 d s c)
        = app (stA m dv d s c) (stU m dv d s c) 0 (n + 1) 0 := by
      intro d s c
      rw [new_state V n hn' iN, iA, iU, iH]
      have ea : vA (entryContents preI m dv) (ix4 ⟨n, hn'⟩ d s c) = stA m dv d s c n := entry_a m dv ⟨n, hn'⟩ d s c
      have eu : vU (entryContents preI m dv) (ix4 ⟨n, hn'⟩ d s c) = stU m dv d s c n := entry_u m dv ⟨n, hn'⟩ d s c
      rw [ea, eu]
      show _ = stA m dv d s c (0 + n) * _ + stU m dv d s c (0 + n)
      rw [Nat.zero_add]
    refine ⟨(STEP_main_v50_0 V).trans iA, (STEP_main_v50_1 V).trans iU, (STEP_main_v50_2 V).trans ?_, fun d s c => ?_, fun t d s c ht => ?_⟩
    · unfold step_main_v50_2
      rw [id_eq]
      funext j
      show (vN V j) + 1#32 = _
      rw [iN]
      show BitVec.ofNat 32 n + BitVec.ofNat 32 1 = _
      rw [← BitVec.ofNat_add]
    · exact (congrFun (STEP_main_v50_3 V) (ix3 d s c)).trans (hnew d s c)
    · rw [new_states V n hn' iN t d s c]
      split
      · rename_i e
        rw [hnew, e]
      · exact iS t d s c (by omega)

/-- The states the loop leaves. -/
theorem states (t : Fin 256) (d : Fin 2) (s : Fin 32) (c : Fin 1024) :
    vS (STEP^[256] (entryContents preI m dv)) (ix4 t d s c) = app (stA m dv d s c) (stU m dv d s c) 0 (t.val + 1) 0 :=
  (trips m dv 256 le_rfl).2.2.2.2 t d s c t.isLt

theorem state_fwd (t : Fin 256) (s : Fin 32) (c : Fin 1024) :
    vS (STEP^[256] (entryContents preI m dv)) (ix4 t 0 s c)
      = stateF (rX m dv) (rWa m dv) (rWi m dv) (rba m dv) (rbi m dv) (rlam m dv) s t c := by
  rw [states]
  rfl

theorem state_bwd (t : Fin 256) (s : Fin 32) (c : Fin 1024) :
    vS (STEP^[256] (entryContents preI m dv)) (ix4 t 1 s c)
      = stateB (rX m dv) (rWa m dv) (rWi m dv) (rba m dv) (rbi m dv) (rlam m dv) s (255 - t) c := by
  rw [states, stateB, show 256 - (255 - t.val) = t.val + 1 by omega]
  rfl

theorem out_fwd : (out_main_v66 (STEP^[256] (entryContents preI m dv)) : Vec Ideal S8192x1024 .bf16)
    = fun j => stateF (rX m dv) (rWa m dv) (rWi m dv) (rba m dv) (rbi m dv) (rlam m dv) ((j 0).val / 256) ((j 0).val % 256) (j 1) := by
  funext j
  unfold out_main_v66
  idx_vars j
  pointwise
  exact state_fwd m dv ⟨j0.val % 256, by omega⟩ ⟨j0.val / 256, by omega⟩ j1

theorem out_bwd : (out_main_v68 (STEP^[256] (entryContents preI m dv)) : Vec Ideal S8192x1024 .bf16)
    = fun j => stateB (rX m dv) (rWa m dv) (rWi m dv) (rba m dv) (rbi m dv) (rlam m dv) ((j 0).val / 256) ((j 0).val % 256) (j 1) := by
  funext j
  unfold out_main_v68
  idx_vars j
  pointwise
  refine (state_bwd m dv (Fin.rev ⟨j0.val % 256, by omega⟩) ⟨j0.val / 256, by omega⟩ j1).trans ?_
  have e : 255 - (Fin.rev (⟨j0.val % 256, by omega⟩ : Fin 256)).val = j0.val % 256 := by
    show 255 - (256 - (j0.val % 256 + 1)) = _; omega
  rw [e]

theorem out_fin : (out_main_v64 (STEP^[256] (entryContents preI m dv)) : Vec Ideal S32x2x1024 .f32)
    = fun j => if (j 1).val = 0 then stateF (rX m dv) (rWa m dv) (rWi m dv) (rba m dv) (rbi m dv) (rlam m dv) (j 0).val 255 (j 2)
      else stateB (rX m dv) (rWa m dv) (rWi m dv) (rba m dv) (rbi m dv) (rlam m dv) (j 0).val 0 (j 2) := by
  funext j
  unfold out_main_v64
  idx_vars j
  pointwise
  by_cases e : j1.val = 0
  · rw [dif_pos (by omega), if_pos e]
    exact state_fwd m dv 255 j0 j2
  · rw [dif_neg (by omega), if_neg e]
    exact state_bwd m dv 255 j0 j2

end Cert.LayerRef
-- ==== Proof.TailBlock.lean ====
module

public import proofs.«01_k».proof.Proof.Gen.TailKernelIdeal.Value
public import proofs.«01_k».proof.Proof.Scalars
public import Idealize.ShloMosaic.Lib.Pipeline.ValueKit

@[expose] public section

set_option maxRecDepth 16384

/-! What the body of the layer's tail leaves in its result block: the rows with their mixed input added, the eleven chunks of
the inner layer, and the last product. -/

noncomputable section

namespace Cert.Tail

open Cert.TailKernelIdeal Cert.TailKernelIdeal.Gen Cert.TailKernelIdeal.Value Idealize.ShloMosaic Idealize.ShloMosaic.TcCoe Idealize.SL.Sem

/-- The chunk of 256 columns of the up projection that starts at column `o`. -/
theorem inb_up (o : ℕ) (h : o + 256 ≤ 5632) : ∀ a, (![0, 0, o] : Fin S1x1024x5632.rank → ℕ) a + (![1, 1024, 256] : Fin S1x1024x5632.rank → ℕ) a ≤ S1x1024x5632.size a := by
  intro a
  fin_cases a
  · exact le_rfl
  · exact le_rfl
  · exact h

/-- A slice of 256 columns of the taps lies inside them. -/
theorem inb_taps (o : ℕ) (h : o + 256 ≤ 5632) : ∀ a, (![0, 0, o] : Fin S1x3x5632.rank → ℕ) a + (![1, 3, 256] : Fin S1x3x5632.rank → ℕ) a ≤ S1x3x5632.size a := by
  intro a
  fin_cases a
  · exact le_rfl
  · exact le_rfl
  · exact h

/-- So does one of the bias. -/
theorem inb_bias (o : ℕ) (h : o + 256 ≤ 5632) : ∀ a, (![0, 0, o] : Fin S1x1x5632.rank → ℕ) a + (![1, 1, 256] : Fin S1x1x5632.rank → ℕ) a ≤ S1x1x5632.size a := by
  intro a
  fin_cases a
  · exact le_rfl
  · exact le_rfl
  · exact h

/-- So does one of the activation. -/
theorem inb_act (o : ℕ) (h : o + 256 ≤ 2816) : ∀ a, (![0, o] : Fin S512x2816.rank → ℕ) a + (![512, 256] : Fin S512x2816.rank → ℕ) a ≤ S512x2816.size a := by
  intro a
  fin_cases a
  · exact le_rfl
  · exact h

/-- The three-tap convolution of 256 columns of the up projection, starting at column `o`. -/
def branch (ha : FVec Ideal S528x1024 .bf16) (wu : Vec Ideal S1x1024x5632 .bf16) (cw : Vec Ideal S1x3x5632 .f32) (cb : Vec Ideal S1x1x5632 .f32)
    (o : ℕ) (h : o + 256 ≤ 5632) : FVec Ideal S512x256 .f32 :=
  k0_pay16 ha (View.ld wu (Rect.unit (s := S1x1024x5632) ![0, 0, o] ![1, 1024, 256] (inb_up o h)))
    (View.ld cw (Rect.unit (s := S1x3x5632) ![0, 0, o] ![1, 3, 256] (inb_taps o h)))
    (View.ld cb (Rect.unit (s := S1x1x5632) ![0, 0, o] ![1, 1, 256] (inb_bias o h)))

/-- One chunk of the gated activations. -/
def chunk (ha : FVec Ideal S528x1024 .bf16) (wu : Vec Ideal S1x1024x5632 .bf16) (cw : Vec Ideal S1x3x5632 .f32) (cb : Vec Ideal S1x1x5632 .f32)
    (o : ℕ) (h : o + 256 ≤ 2816) : FVec Ideal S512x256 .bf16 :=
  k0_pay65 (branch ha wu cw cb o (by omega)) (branch ha wu cw cb (2816 + o) (by omega)) (Scalar.ofBits .f32 0x3F000000#32)

/-- A chunk as it is stored. -/
def piece (ha : FVec Ideal S528x1024 .bf16) (wu : Vec Ideal S1x1024x5632 .bf16) (cw : Vec Ideal S1x3x5632 .f32) (cb : Vec Ideal S1x1x5632 .f32)
    (o : ℕ) (h : o + 256 ≤ 2816) : View.Piece (Elt Ideal) S512x2816 .bf16 :=
  ⟨Rect.unit (s := S512x2816) ![0, o] ![512, 256] (inb_act o h), chunk ha wu cw cb o h⟩

/-- The eleven chunks, the last stored first. -/
def pieces (ha : FVec Ideal S528x1024 .bf16) (wu : Vec Ideal S1x1024x5632 .bf16) (cw : Vec Ideal S1x3x5632 .f32) (cb : Vec Ideal S1x1x5632 .f32) :
    List (View.Piece (Elt Ideal) S512x2816 .bf16) :=
  [piece ha wu cw cb 2560 (by decide), piece ha wu cw cb 2304 (by decide), piece ha wu cw cb 2048 (by decide), piece ha wu cw cb 1792 (by decide), piece ha wu cw cb 1536 (by decide), piece ha wu cw cb 1280 (by decide), piece ha wu cw cb 1024 (by decide), piece ha wu cw cb 768 (by decide), piece ha wu cw cb 512 (by decide), piece ha wu cw cb 256 (by decide), piece ha wu cw cb 0 (by decide)]

/-- A row of the modulation. -/
def modRow (x12 : Vec Ideal S1x1x6x1024 .f32) (k : ℕ) (h : ∀ a, (![0, 0, k, 0] : Fin S1x1x6x1024.rank → ℕ) a + (![1, 1, 1, 1024] : Fin S1x1x6x1024.rank → ℕ) a ≤ S1x1x6x1024.size a) : Vec Ideal S1x1x1x1024 .f32 :=
  View.ld x12 (Rect.unit (s := S1x1x6x1024) ![0, 0, k, 0] ![1, 1, 1, 1024] h)

set_option maxHeartbeats 4000000 in
/-- The result block from the rows with their mixed input added (`X`) and their modulated norm (`H`). -/
theorem out_eq  (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (arg11 : Memref sig .tc .vmem S512x1024 .bf16) (harg11 : arg11.IsWhole) (arg12 : Memref sig .tc .vmem S16x1024 .bf16) (harg12 : arg12.IsWhole) (arg13 : Memref sig .tc .vmem S1x1x6x1024 .f32) (harg13 : arg13.IsWhole) (arg14 : Memref sig .tc .vmem S1x1024x1024 .bf16) (harg14 : arg14.IsWhole) (arg15 : Memref sig .tc .vmem S1x1024 .f32) (harg15 : arg15.IsWhole) (arg16 : Memref sig .tc .vmem S1x1024x5632 .bf16) (harg16 : arg16.IsWhole) (arg17 : Memref sig .tc .vmem S1x3x5632 .f32) (harg17 : arg17.IsWhole) (arg18 : Memref sig .tc .vmem S1x1x5632 .f32) (harg18 : arg18.IsWhole) (arg19 : Memref sig .tc .vmem S1x2816x1024 .bf16) (harg19 : arg19.IsWhole) (arg20 : Memref sig .tc .vmem S1x1024 .f32) (harg20 : arg20.IsWhole) (arg21 : Memref sig .tc .vmem S512x1024 .f32) (harg21 : arg21.IsWhole) (arg22 : Memref sig .tc .vmem S512x2816 .bf16) (harg22 : arg22.IsWhole)
    (x0 : Vec Ideal S16x1024 .f32) (x1 : Vec Ideal S512x1024 .f32) (x2 : Vec Ideal S16x1024 .f32) (x3 : Vec Ideal S16x1024 .bf16) (x4 : Vec Ideal S512x1024 .bf16) (x5 : Vec Ideal S16x1024 .bf16) (x6 : Vec Ideal S16x1024 .bf16) (x7 : Vec Ideal S512x1024 .bf16) (x8 : Vec Ideal S16x1024 .bf16) (x9 : Vec Ideal S16x1024 .bf16) (x10 : Vec Ideal S512x1024 .bf16) (x11 : Vec Ideal S16x1024 .bf16) (x12 : Vec Ideal S1x1x6x1024 .f32) (x13 : Vec Ideal S1x1024x1024 .bf16) (x14 : Vec Ideal S1x1024 .f32) (x15 : Vec Ideal S1x1024x5632 .bf16) (x16 : Vec Ideal S1x3x5632 .f32) (x17 : Vec Ideal S1x1x5632 .f32) (x18 : Vec Ideal S1x2816x1024 .bf16) (x19 : Vec Ideal S1x1024 .f32)  :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 x19 =
      k0_pay66
        (k0_pay6 (k0_pay1 x0 x1 x2) (k0_pay2 x3 x4 x5) (k0_pay3 x6 x7 x8) (k0_pay4 x9 x10 x11) k0_pay5
          (modRow x12 2 inb_S1x1x6x1024_S1x1x1x1024_0_0_2_0) x13)
        (modRow x12 5 inb_S1x1x6x1024_S1x1x1x1024_0_0_5_0)
        (arg22.view.readCov (pieces (k0_pay11 (BitVec.ofNat 32 ↑(i 0))
            (k0_pay6 (k0_pay1 x0 x1 x2) (k0_pay2 x3 x4 x5) (k0_pay3 x6 x7 x8) (k0_pay4 x9 x10 x11) k0_pay5
              (modRow x12 2 inb_S1x1x6x1024_S1x1x1x1024_0_0_2_0) x13)
            (k0_pay7 x14) (k0_pay8 (modRow x12 3 inb_S1x1x6x1024_S1x1x1x1024_0_0_3_0)) (k0_pay9 (modRow x12 4 inb_S1x1x6x1024_S1x1x1x1024_0_0_4_0))
            (k0_pay10 (k0_pay1 x0 x1 x2) (k0_pay2 x3 x4 x5) (k0_pay3 x6 x7 x8) (k0_pay4 x9 x10 x11) k0_pay5
              (modRow x12 2 inb_S1x1x6x1024_S1x1x1x1024_0_0_2_0) x13)) x15 x16 x17)
          (Rect.unit (s := S512x2816) ![0, 0] ![512, 2816] inb_S512x2816_S512x2816_0_0).toLoadRect)
        x18 x19 := by
  unfold out0_A_20
  frame_out
  unfold modRow
  generalize k0_pay10 (F := Ideal) _ _ _ _ _ _ _ = D
  generalize k0_pay6 (F := Ideal) _ _ _ _ _ _ _ = X
  unfold k0_pay14 k0_pay15 k0_pay12
  generalize k0_pay11 (F := Ideal) _ _ _ _ _ _ = H
  rfl

end Cert.Tail
-- ==== Proof.TailSpec.lean ====
module

public import proofs.«01_k».proof.Proof.Scalars

@[expose] public section

/-! The tail of a layer for the latent stream, in plain words: its rows with the mixed input added, their modulated norm, the
three-tap convolution of the up projection along a sequence, the gated product, and the final norm. -/

noncomputable section

namespace Cert.Tail.Spec

open Idealize.ShloMosaic

/-- The arrays the feed-forward half of a tail reads, at the layer it is run for. -/
structure Ffn where
  md : Fin 8 → Fin 6 → Fin 1024 → EReal
  gn : Fin 1024 → EReal
  wu : Fin 1024 → Fin 5632 → EReal
  cw : Fin 3 → Fin 5632 → EReal
  cb : Fin 5632 → EReal
  wd : Fin 2816 → Fin 1024 → EReal

/-- The arrays the tail of an odd layer reads. -/
structure Args extends Ffn where
  x : Fin 16384 → Fin 1024 → EReal
  y : Fin 16384 → Fin 1024 → EReal
  hf : Fin 16384 → Fin 1024 → EReal
  hb : Fin 16384 → Fin 1024 → EReal
  wo : Fin 1024 → Fin 1024 → EReal

/-- Row `s` of sequence `n` among the flat rows. -/
def row (n : Fin 4) (s : Fin 4096) : Fin 16384 := ⟨n.val * 4096 + s.val, by omega⟩

/-- The modulation of sequence `n`: row 0 is the prompt's. -/
def cond (n : Fin 4) : Fin 8 := ⟨1 + n.val, by omega⟩

/-- The gelu by the hyperbolic tangent. -/
def gelu (y : EReal) : EReal :=
  y * (Ideal.ofBits .f32 0x3F000000#32 *
    (1 + Ideal.tanh (Ideal.ofBits .f32 0x3F4C422A#32 * (y + Ideal.ofBits .f32 0x3D372713#32 * (y * y * y)))))

/-- The factor a row is scaled by in its norm. -/
def inv (v : Fin 1024 → EReal) : EReal :=
  Ideal.rsqrt (Ideal.div (∑ k, v k * v k) (Ideal.ofBits .f32 0x44800000#32) + Ideal.ofBits .f32 0x358637BD#32)

/-- A flat row with its mixed input added; `n` says which modulation it takes. -/
def mixed (A : Args) (n : Fin 4) (r : Fin 16384) (k : Fin 1024) : EReal :=
  A.x r k + A.md (cond n) 2 k * ∑ j, gelu (A.y r j) * (A.hf r j + A.hb r j) * A.wo j k

variable (M : Fin 4 → Fin 16384 → Fin 1024 → EReal) (A : Ffn)

/-- The modulated norm of a row of `M`. -/
def normed (n : Fin 4) (r : Fin 16384) (k : Fin 1024) : EReal :=
  M n r k * inv (M n r) * A.gn k * (1 + A.md (cond n) 4 k) + A.md (cond n) 3 k

/-- The normed row at place `t - 1` of sequence `n`, and zero before the first and after the last. -/
def padded (n : Fin 4) (t : ℕ) (k : Fin 1024) : EReal :=
  if h : 1 ≤ t ∧ t ≤ 4096 then normed M A n (row n ⟨t - 1, by omega⟩) k else 0

/-- The up projection at place `t - 1`. -/
def up (n : Fin 4) (t : ℕ) (c : Fin 5632) : EReal := ∑ k, padded M A n t k * A.wu k c

/-- The convolution of the up projection. -/
def conv (n : Fin 4) (s : Fin 4096) (c : Fin 5632) : EReal :=
  up M A n s.val c * A.cw 0 c + up M A n (s.val + 1) c * A.cw 1 c + up M A n (s.val + 2) c * A.cw 2 c + A.cb c

/-- The gated activation. -/
def act (n : Fin 4) (s : Fin 4096) (q : Fin 2816) : EReal :=
  conv M A n s ⟨q.val, by omega⟩ * Cert.Layer.sgm (conv M A n s ⟨q.val, by omega⟩) * conv M A n s ⟨2816 + q.val, by omega⟩

/-- The layer's rows. -/
def layer (n : Fin 4) (s : Fin 4096) (k : Fin 1024) : EReal :=
  M n (row n s) k + A.md (cond n) 5 k * ∑ q, act M A n s q * A.wd q k

/-- The layer's rows, at a flat row. -/
def flat (r : Fin 16384) (k : Fin 1024) : EReal := layer M A ⟨r.val / 4096, by omega⟩ ⟨r.val % 4096, by omega⟩ k

/-- The final norm of the layer's rows, at a flat row. -/
def final (fn : Fin 1024 → EReal) (r : Fin 16384) (k : Fin 1024) : EReal := flat M A r k * inv (flat M A r) * fn k

/-- Outside the sequence the up projection is zero. -/
theorem up_outside (n : Fin 4) (t : ℕ) (h : ¬(1 ≤ t ∧ t ≤ 4096)) (c : Fin 5632) : up M A n t c = 0 := by
  unfold up padded
  simp only [dif_neg h, zero_mul, Finset.sum_const_zero]

/-- Inside it is the product of the normed row. -/
theorem up_inside (n : Fin 4) (t : ℕ) (h : 1 ≤ t) (h' : t - 1 < 4096) (c : Fin 5632) :
    up M A n t c = ∑ k, normed M A n (row n ⟨t - 1, h'⟩) k * A.wu k c := by
  have hh : 1 ≤ t ∧ t ≤ 4096 := by omega
  unfold up padded
  simp only [dif_pos hh]

end Cert.Tail.Spec
-- ==== Proof.TailChunk.lean ====
module

public import proofs.«01_k».proof.Proof.TailBlock
public import proofs.«01_k».proof.Proof.TailSpec
public import Idealize.ShloMosaic.Lib.Pointwise
public import Idealize.ShloMosaic.Lib.IdealHost

@[expose] public section

set_option maxRecDepth 16384

/-! The gated activations of a block, read at a row and a column. -/

noncomputable section

namespace Cert.Tail

open Cert.TailKernelIdeal Cert.TailKernelIdeal.Gen Cert.TailKernelIdeal.Value Idealize.ShloMosaic Idealize.ShloMosaic.TcCoe Idealize.SL.Sem

/-- The up projection of a row of the block at a column. -/
def upAt (H : FVec Ideal S528x1024 .bf16) (wu : Vec Ideal S1x1024x5632 .bf16) (r : Fin 528) (c : Fin 5632) : EReal :=
  ∑ k : Fin 1024, (H (ix2 r k) : EReal) * wu (ix3 0 k c)

/-- The convolution of the up projection at a row and a column. -/
def convAt (H : FVec Ideal S528x1024 .bf16) (wu : Vec Ideal S1x1024x5632 .bf16) (cw : Vec Ideal S1x3x5632 .f32) (cb : Vec Ideal S1x1x5632 .f32)
    (p : Fin 512) (c : Fin 5632) : EReal :=
  (upAt H wu ⟨7 + p.val, by omega⟩ c * cw (ix3 0 0 c) + upAt H wu ⟨8 + p.val, by omega⟩ c * cw (ix3 0 1 c)
    + upAt H wu ⟨9 + p.val, by omega⟩ c * cw (ix3 0 2 c) + cb (ix3 0 0 c) : EReal)

/-- A branch of the gate at a row and a column is the convolution there. -/
theorem branch_apply (H : FVec Ideal S528x1024 .bf16) (wu : Vec Ideal S1x1024x5632 .bf16) (cw : Vec Ideal S1x3x5632 .f32) (cb : Vec Ideal S1x1x5632 .f32)
    (o : ℕ) (h : o + 256 ≤ 5632) (p : Fin 512) (q : Fin 256) :
    branch H wu cw cb o h (ix2 p q) = convAt H wu cw cb p ⟨o + q.val, by omega⟩ := by
  unfold branch
  pointwise [k0_pay16]
  rfl

/-- A chunk at a row and a column is the gated activation there. -/
theorem chunk_apply (H : FVec Ideal S528x1024 .bf16) (wu : Vec Ideal S1x1024x5632 .bf16) (cw : Vec Ideal S1x3x5632 .f32) (cb : Vec Ideal S1x1x5632 .f32)
    (o : ℕ) (h : o + 256 ≤ 2816) (p : Fin 512) (q : Fin 256) :
    chunk H wu cw cb o h (ix2 p q) =
      (convAt H wu cw cb p ⟨o + q.val, by omega⟩ * Cert.Layer.sgm (convAt H wu cw cb p ⟨o + q.val, by omega⟩)
        * convAt H wu cw cb p ⟨2816 + o + q.val, by omega⟩ : EReal) := by
  unfold chunk
  pointwise [k0_pay65]
  rw [branch_apply, branch_apply, Cert.Layer.sig_tanh]

/-- The gated activation of a row at a column. -/
def actAt (H : FVec Ideal S528x1024 .bf16) (wu : Vec Ideal S1x1024x5632 .bf16) (cw : Vec Ideal S1x3x5632 .f32) (cb : Vec Ideal S1x1x5632 .f32)
    (p : Fin 512) (q : Fin 2816) : EReal :=
  convAt H wu cw cb p ⟨q.val, by omega⟩ * Cert.Layer.sgm (convAt H wu cw cb p ⟨q.val, by omega⟩)
    * convAt H wu cw cb p ⟨2816 + q.val, by omega⟩

/-- A chunk stored at its columns holds the gated activations of those columns. -/
theorem piece_apply (H : FVec Ideal S528x1024 .bf16) (wu : Vec Ideal S1x1024x5632 .bf16) (cw : Vec Ideal S1x3x5632 .f32) (cb : Vec Ideal S1x1x5632 .f32)
    (o : ℕ) (h : o + 256 ≤ 2816) (x : (piece H wu cw cb o h).1.shape.Idx) :
    (piece H wu cw cb o h).2 x = actAt H wu cw cb ((piece H wu cw cb o h).1.emb x 0) ((piece H wu cw cb o h).1.emb x 1) := by
  show chunk H wu cw cb o h x = _
  have x0 := (x 0).isLt
  have x1 := (x 1).isLt
  obtain ⟨p, q, rfl⟩ : ∃ (p : Fin 512) (q : Fin 256), x = ix2 p q := ⟨x 0, x 1, eq_ix2 x⟩
  rw [chunk_apply]
  have e0 : (piece H wu cw cb o h).1.emb (ix2 p q) 0 = p := Fin.ext (by show 0 + 1 * p.val = p.val; omega)
  have e1 : (piece H wu cw cb o h).1.emb (ix2 p q) 1 = (⟨o + q.val, by omega⟩ : Fin 2816) := Fin.ext (by show o + 1 * q.val = o + q.val; omega)
  rw [e0, e1]
  unfold actAt
  simp only [Nat.add_assoc]

/-- The columns of a chunk are those from its offset on. -/
theorem mem_piece (H : FVec Ideal S528x1024 .bf16) (wu : Vec Ideal S1x1024x5632 .bf16) (cw : Vec Ideal S1x3x5632 .f32) (cb : Vec Ideal S1x1x5632 .f32)
    (o : ℕ) (h : o + 256 ≤ 2816) (p : Fin 512) (q : Fin 2816) (h1 : o ≤ q.val) (h2 : q.val < o + 256) :
    (ix2 p q : S512x2816.Idx) ∈ (piece H wu cw cb o h).1.set := by
  show _ ∈ (Rect.unit (s := S512x2816) ![0, o] ![512, 256] (inb_act o h)).set
  refine Rect.mem_set_unit.mpr fun a => ?_
  fin_cases a
  · show 0 ≤ p.val ∧ p.val < 0 + 512
    omega
  · show o ≤ q.val ∧ q.val < o + 256
    omega

/-- Every column lies in a chunk. -/
theorem some_piece (H : FVec Ideal S528x1024 .bf16) (wu : Vec Ideal S1x1024x5632 .bf16) (cw : Vec Ideal S1x3x5632 .f32) (cb : Vec Ideal S1x1x5632 .f32)
    (p : Fin 512) (q : Fin 2816) : ∃ P ∈ pieces H wu cw cb, (ix2 p q : S512x2816.Idx) ∈ P.1.set := by
  by_cases h2560 : 2560 ≤ q.val
  · exact ⟨piece H wu cw cb 2560 (by decide), by simp [pieces], mem_piece H wu cw cb 2560 (by decide) p q h2560 (by omega)⟩
  by_cases h2304 : 2304 ≤ q.val
  · exact ⟨piece H wu cw cb 2304 (by decide), by simp [pieces], mem_piece H wu cw cb 2304 (by decide) p q h2304 (by omega)⟩
  by_cases h2048 : 2048 ≤ q.val
  · exact ⟨piece H wu cw cb 2048 (by decide), by simp [pieces], mem_piece H wu cw cb 2048 (by decide) p q h2048 (by omega)⟩
  by_cases h1792 : 1792 ≤ q.val
  · exact ⟨piece H wu cw cb 1792 (by decide), by simp [pieces], mem_piece H wu cw cb 1792 (by decide) p q h1792 (by omega)⟩
  by_cases h1536 : 1536 ≤ q.val
  · exact ⟨piece H wu cw cb 1536 (by decide), by simp [pieces], mem_piece H wu cw cb 1536 (by decide) p q h1536 (by omega)⟩
  by_cases h1280 : 1280 ≤ q.val
  · exact ⟨piece H wu cw cb 1280 (by decide), by simp [pieces], mem_piece H wu cw cb 1280 (by decide) p q h1280 (by omega)⟩
  by_cases h1024 : 1024 ≤ q.val
  · exact ⟨piece H wu cw cb 1024 (by decide), by simp [pieces], mem_piece H wu cw cb 1024 (by decide) p q h1024 (by omega)⟩
  by_cases h768 : 768 ≤ q.val
  · exact ⟨piece H wu cw cb 768 (by decide), by simp [pieces], mem_piece H wu cw cb 768 (by decide) p q h768 (by omega)⟩
  by_cases h512 : 512 ≤ q.val
  · exact ⟨piece H wu cw cb 512 (by decide), by simp [pieces], mem_piece H wu cw cb 512 (by decide) p q h512 (by omega)⟩
  by_cases h256 : 256 ≤ q.val
  · exact ⟨piece H wu cw cb 256 (by decide), by simp [pieces], mem_piece H wu cw cb 256 (by decide) p q h256 (by omega)⟩
  · exact ⟨piece H wu cw cb 0 (by decide), by simp [pieces], mem_piece H wu cw cb 0 (by decide) p q (by omega) (by omega)⟩

/-- The block of gated activations, read back. -/
def acts {sg : RefSig} (arg22 : Memref sg .tc .vmem S512x2816 .bf16) (H : FVec Ideal S528x1024 .bf16) (wu : Vec Ideal S1x1024x5632 .bf16) (cw : Vec Ideal S1x3x5632 .f32) (cb : Vec Ideal S1x1x5632 .f32) :
    Vec Ideal S512x2816 .bf16 :=
  arg22.view.readCov (pieces H wu cw cb) (Rect.unit (s := S512x2816) ![0, 0] ![512, 2816] inb_S512x2816_S512x2816_0_0).toLoadRect

/-- Read back, the block holds the gated activations. -/
theorem acts_apply {sg : RefSig} (arg22 : Memref sg .tc .vmem S512x2816 .bf16) (H : FVec Ideal S528x1024 .bf16) (wu : Vec Ideal S1x1024x5632 .bf16) (cw : Vec Ideal S1x3x5632 .f32) (cb : Vec Ideal S1x1x5632 .f32)
    (p : Fin 512) (q : Fin 2816) : acts arg22 H wu cw cb (ix2 p q) = actAt H wu cw cb p q := by
  unfold acts
  rw [View.readCov_eq_canon']
  pointwise
  refine View.canon_apply_of_pieces (fun y => actAt H wu cw cb (y 0) (y 1)) _ (fun P hP x => ?_) _ (some_piece H wu cw cb p q)
  simp only [pieces, List.mem_cons, List.not_mem_nil, or_false] at hP
  rcases hP with rfl | rfl | rfl | rfl | rfl | rfl | rfl | rfl | rfl | rfl | rfl <;> exact piece_apply H wu cw cb _ _ x

/-- The rows with the product of the activations added. -/
def lastAt (X : FVec Ideal S528x1024 .f32) (g : Vec Ideal S1x1x1x1024 .f32) (A : Vec Ideal S512x2816 .bf16) (wd : Vec Ideal S1x2816x1024 .bf16)
    (p : Fin 512) (k : Fin 1024) : EReal :=
  X (ix2 ⟨8 + p.val, by omega⟩ k) + (g (ix4 0 0 0 k) : EReal) * ∑ q : Fin 2816, (A (ix2 p q) : EReal) * wd (ix3 0 q k)

/-- The result block is their norm. -/
theorem last_apply (X : FVec Ideal S528x1024 .f32) (g : Vec Ideal S1x1x1x1024 .f32) (A : Vec Ideal S512x2816 .bf16) (wd : Vec Ideal S1x2816x1024 .bf16)
    (fn : Vec Ideal S1x1024 .f32) (p : Fin 512) (k : Fin 1024) :
    k0_pay66 X g A wd fn (ix2 p k) = (lastAt X g A wd p k * Spec.inv (lastAt X g A wd p) * fn (ix2 0 k) : EReal) := by
  pointwise [k0_pay66]
  rfl

/-- A row with its mixed input added. -/
theorem mixed_apply (X Y F B : FVec Ideal S528x1024 .f32) (g : Vec Ideal S1x1x1x1024 .f32) (w : Vec Ideal S1x1024x1024 .bf16)
    (p : Fin 528) (k : Fin 1024) : k0_pay6 X Y F B k0_pay5 g w (ix2 p k) =
      (X (ix2 p k) + g (ix4 0 0 0 k) * ∑ j, Spec.gelu (Y (ix2 p j)) * (F (ix2 p j) + B (ix2 p j)) * w (ix3 0 j k) : EReal) := by
  pointwise [k0_pay6, k0_pay5]
  refine congrArg (fun z : EReal => (X (ix2 p k) + g (ix4 0 0 0 k) * z : EReal)) (Finset.sum_congr rfl fun j _ => ?_)
  unfold Spec.gelu
  rw [mul_comm (Ideal.ofBits .f32 0x3F000000#32) (Y (ix2 p j) : EReal), mul_assoc (Y (ix2 p j) : EReal)]

/-- The mean of the squares of a row. -/
theorem sq_apply (X Y F B : FVec Ideal S528x1024 .f32) (g : Vec Ideal S1x1x1x1024 .f32) (w : Vec Ideal S1x1024x1024 .bf16)
    (p : Fin 528) : Ideal.rsqrt (k0_pay10 X Y F B k0_pay5 g w (ix2 p 0) : EReal) = Spec.inv fun k => k0_pay6 X Y F B k0_pay5 g w (ix2 p k) := by
  pointwise [k0_pay10]
  rfl

/-- The rows before the block, the block's own and the rows after it, one below the other. -/
theorem rows1_apply (x0 : Vec Ideal S16x1024 .f32) (x1 : Vec Ideal S512x1024 .f32) (x2 : Vec Ideal S16x1024 .f32)
    (p : Fin 528) (k : Fin 1024) : (k0_pay1 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay1]

/-- The rows before the block, the block's own and the rows after it, one below the other. -/
theorem rows2_apply (x0 : Vec Ideal S16x1024 .bf16) (x1 : Vec Ideal S512x1024 .bf16) (x2 : Vec Ideal S16x1024 .bf16)
    (p : Fin 528) (k : Fin 1024) : (k0_pay2 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay2]

/-- The rows before the block, the block's own and the rows after it, one below the other. -/
theorem rows3_apply (x0 : Vec Ideal S16x1024 .bf16) (x1 : Vec Ideal S512x1024 .bf16) (x2 : Vec Ideal S16x1024 .bf16)
    (p : Fin 528) (k : Fin 1024) : (k0_pay3 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay3]

/-- The rows before the block, the block's own and the rows after it, one below the other. -/
theorem rows4_apply (x0 : Vec Ideal S16x1024 .bf16) (x1 : Vec Ideal S512x1024 .bf16) (x2 : Vec Ideal S16x1024 .bf16)
    (p : Fin 528) (k : Fin 1024) : (k0_pay4 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay4]

/-- The place of a block in its sequence. -/
def place (a : BitVec 32) : BitVec 32 :=
  (Scalar.select
            (Scalar.andi
              (Scalar.xori
                (Scalar.cmpi .slt (Scalar.remsi a (Scalar.select (Scalar.cmpi .eq 8#32 0#32) 1#32 8#32)) 0#32)
                (Scalar.cmpi .slt (Scalar.select (Scalar.cmpi .eq 8#32 0#32) 1#32 8#32) 0#32))
              (Scalar.cmpi .ne (Scalar.remsi a (Scalar.select (Scalar.cmpi .eq 8#32 0#32) 1#32 8#32)) 0#32))
            (Scalar.addi (Scalar.remsi a (Scalar.select (Scalar.cmpi .eq 8#32 0#32) 1#32 8#32))
              (Scalar.select (Scalar.cmpi .eq 8#32 0#32) 1#32 8#32))
            (Scalar.remsi a (Scalar.select (Scalar.cmpi .eq 8#32 0#32) 1#32 8#32)))

/-- The first block of a sequence. -/
theorem place_first : ∀ t : Fin 32, Scalar.cmpi .eq (place (BitVec.ofNat 32 t.val)) 0#32 = if t.val % 8 = 0 then 1#1 else 0#1 := by decide +kernel

/-- The last block of a sequence. -/
theorem place_last : ∀ t : Fin 32, Scalar.cmpi .eq (place (BitVec.ofNat 32 t.val)) 7#32 = if t.val % 8 = 7 then 1#1 else 0#1 := by decide +kernel

/-- A row's modulated norm. -/
def normAt (X : FVec Ideal S528x1024 .f32) (g : Vec Ideal S1x1024 .f32) (s c : Vec Ideal S1x1x1x1024 .f32) (D : FVec Ideal S528x1 .f32)
    (p : Fin 528) (k : Fin 1024) : EReal :=
  X (ix2 p k) * Ideal.rsqrt (D (ix2 p 0)) * g (ix2 0 k) * (1 + c (ix4 0 0 0 k)) + s (ix4 0 0 0 k)

/-- The modulated norm, with zeros for the rows before and after a sequence. -/
theorem normed_apply (t : Fin 32) (X : FVec Ideal S528x1024 .f32) (g : Vec Ideal S1x1024 .f32) (s c : Vec Ideal S1x1x1x1024 .f32) (D : FVec Ideal S528x1 .f32)
    (p : Fin 528) (k : Fin 1024) : (k0_pay11 (BitVec.ofNat 32 t.val) X (k0_pay7 g) (k0_pay8 s) (k0_pay9 c) D (ix2 p k) : EReal) =
      if (p.val < 8 ∧ t.val % 8 = 0) ∨ (520 ≤ p.val ∧ t.val % 8 = 7) then 0 else normAt X g s c D p k := by
  pointwise [k0_pay11, k0_pay7, k0_pay8, k0_pay9]
  have hf := place_first t
  have hl := place_last t
  unfold place at hf hl
  by_cases h : p.val < 8
  · rw [dif_pos h]
    by_cases h0 : t.val % 8 = 0
    · rw [if_pos h0] at hf
      rw [hf]
      exact (if_pos (Or.inl ⟨h, h0⟩)).symm
    · have hn : ¬((p.val < 8 ∧ t.val % 8 = 0) ∨ (520 ≤ p.val ∧ t.val % 8 = 7)) := by omega
      rw [if_neg h0] at hf
      rw [hf]
      refine Eq.trans ?_ (if_neg hn).symm
      rfl
  · rw [dif_neg h]
    by_cases h' : p.val - 8 < 512
    · have hn : ¬((p.val < 8 ∧ t.val % 8 = 0) ∨ (520 ≤ p.val ∧ t.val % 8 = 7)) := by omega
      have e : (⟨8 + (p.val - 8), by omega⟩ : Fin 528) = p := Fin.ext (by show 8 + (p.val - 8) = p.val; omega)
      rw [dif_pos h']
      refine Eq.trans ?_ (if_neg hn).symm
      exact congrArg (fun r => normAt X g s c D r k) e
    · have e : (⟨520 + (p.val - 8 - 512), by omega⟩ : Fin 528) = p := Fin.ext (by show 520 + (p.val - 8 - 512) = p.val; omega)
      rw [dif_neg h']
      by_cases h7 : t.val % 8 = 7
      · have hp : (p.val < 8 ∧ t.val % 8 = 0) ∨ (520 ≤ p.val ∧ t.val % 8 = 7) := by omega
        rw [if_pos h7] at hl
        rw [hl]
        refine Eq.trans ?_ (if_pos hp).symm
        rfl
      · have hn : ¬((p.val < 8 ∧ t.val % 8 = 0) ∨ (520 ≤ p.val ∧ t.val % 8 = 7)) := by omega
        rw [if_neg h7] at hl
        rw [hl]
        refine Eq.trans ?_ (if_neg hn).symm
        exact congrArg (fun r => normAt X g s c D r k) e

/-- A row of the modulation, read. -/
theorem modRow_apply (x12 : Vec Ideal S1x1x6x1024 .f32) (k : ℕ) (hk : k < 6)
    (h : ∀ a, (![0, 0, k, 0] : Fin S1x1x6x1024.rank → ℕ) a + (![1, 1, 1, 1024] : Fin S1x1x6x1024.rank → ℕ) a ≤ S1x1x6x1024.size a) (j : Fin 1024) :
    modRow x12 k h (ix4 0 0 0 j) = x12 (ix4 0 0 ⟨k, hk⟩ j) := by
  unfold modRow
  pointwise

end Cert.Tail
-- ==== Proof.TailRows.lean ====
module

public import proofs.«01_k».proof.Proof.TailChunk

@[expose] public section

set_option maxRecDepth 16384

/-! A block of the result, once its rows are known to be rows of the arguments. -/

noncomputable section

namespace Cert.Tail

open Cert.TailKernelIdeal Cert.TailKernelIdeal.Gen Cert.TailKernelIdeal.Value Idealize.ShloMosaic Idealize.ShloMosaic.TcCoe Idealize.SL.Sem

/-- The sequence a block belongs to. -/
def seqOf (t : Fin 32) : Fin 4 := ⟨t.val / 8, by omega⟩

/-- What the feed-forward half of block `t` is given: 528 rows of the stream with their mixed input added, from the eighth before the
block to the eighth after it, the factors of their norm, and the weights. -/
structure Given (M : Fin 4 → Fin 16384 → Fin 1024 → EReal) (A : Spec.Ffn) (t : Fin 32) (X : FVec Ideal S528x1024 .f32) (D : FVec Ideal S528x1 .f32)
    (g3 g4 g5 : Vec Ideal S1x1x1x1024 .f32) (gn : Vec Ideal S1x1024 .f32) (wu : Vec Ideal S1x1024x5632 .bf16) (cw : Vec Ideal S1x3x5632 .f32)
    (cb : Vec Ideal S1x1x5632 .f32) (wd : Vec Ideal S1x2816x1024 .bf16) : Prop where
  x : ∀ (p : Fin 528) (r : Fin 16384), r.val + 8 = 512 * t.val + p.val → ∀ k, (X (ix2 p k) : EReal) = M (seqOf t) r k
  d : ∀ p : Fin 528, Ideal.rsqrt (D (ix2 p 0) : EReal) = Spec.inv fun k => X (ix2 p k)
  m3 : ∀ k, (g3 (ix4 0 0 0 k) : EReal) = A.md (Spec.cond (seqOf t)) 3 k
  m4 : ∀ k, (g4 (ix4 0 0 0 k) : EReal) = A.md (Spec.cond (seqOf t)) 4 k
  m5 : ∀ k, (g5 (ix4 0 0 0 k) : EReal) = A.md (Spec.cond (seqOf t)) 5 k
  gn : ∀ k, (gn (ix2 0 k) : EReal) = A.gn k
  wu : ∀ k c, (wu (ix3 0 k c) : EReal) = A.wu k c
  cw : ∀ j c, (cw (ix3 0 j c) : EReal) = A.cw j c
  cb : ∀ c, (cb (ix3 0 0 c) : EReal) = A.cb c
  wd : ∀ q k, (wd (ix3 0 q k) : EReal) = A.wd q k

/-- A row with its mixed input added, in the arguments of an odd layer. -/
theorem mixed_of {A : Spec.Args} {t : Fin 32} {X Y F B : FVec Ideal S528x1024 .f32} {g : Vec Ideal S1x1x1x1024 .f32} {wo : Vec Ideal S1x1024x1024 .bf16}
    (hx : ∀ (p : Fin 528) (r : Fin 16384), r.val + 8 = 512 * t.val + p.val → ∀ k, (X (ix2 p k) : EReal) = A.x r k)
    (hy : ∀ (p : Fin 528) (r : Fin 16384), r.val + 8 = 512 * t.val + p.val → ∀ k, (Y (ix2 p k) : EReal) = A.y r k)
    (hf : ∀ (p : Fin 528) (r : Fin 16384), r.val + 8 = 512 * t.val + p.val → ∀ k, (F (ix2 p k) : EReal) = A.hf r k)
    (hb : ∀ (p : Fin 528) (r : Fin 16384), r.val + 8 = 512 * t.val + p.val → ∀ k, (B (ix2 p k) : EReal) = A.hb r k)
    (hm : ∀ k, (g (ix4 0 0 0 k) : EReal) = A.md (Spec.cond (seqOf t)) 2 k) (hw : ∀ j k, (wo (ix3 0 j k) : EReal) = A.wo j k)
    (p : Fin 528) (r : Fin 16384) (h : r.val + 8 = 512 * t.val + p.val) (k : Fin 1024) :
    (k0_pay6 X Y F B k0_pay5 g wo (ix2 p k) : EReal) = Spec.mixed A (seqOf t) r k := by
  rw [mixed_apply]
  simp only [hx p r h, hy p r h, hf p r h, hb p r h, hm, hw]
  rfl

variable {M : Fin 4 → Fin 16384 → Fin 1024 → EReal} {A : Spec.Ffn} {t : Fin 32} {X : FVec Ideal S528x1024 .f32} {D : FVec Ideal S528x1 .f32}
  {g3 g4 g5 : Vec Ideal S1x1x1x1024 .f32} {gn : Vec Ideal S1x1024 .f32} {wu : Vec Ideal S1x1024x5632 .bf16} {cw : Vec Ideal S1x3x5632 .f32}
  {cb : Vec Ideal S1x1x5632 .f32} {wd : Vec Ideal S1x2816x1024 .bf16}
  (G : Given M A t X D g3 g4 g5 gn wu cw cb wd)

include G

/-- Its modulated norm, in the arguments. -/
theorem norm_of (p : Fin 528) (r : Fin 16384) (h : r.val + 8 = 512 * t.val + p.val) (k : Fin 1024) :
    normAt X gn g3 g4 D p k = Spec.normed M A (seqOf t) r k := by
  unfold normAt
  rw [G.d]
  simp only [G.x p r h, G.gn, G.m3, G.m4]
  rfl

/-- The rows the convolution reads: those of the block's sequence, and zeros past its ends. -/
theorem padded_of (p : Fin 528) (h1 : 7 ≤ p.val) (h2 : p.val ≤ 520) (k : Fin 1024) :
    (k0_pay11 (BitVec.ofNat 32 t.val) X (k0_pay7 gn) (k0_pay8 g3) (k0_pay9 g4) D (ix2 p k) : EReal)
      = Spec.padded M A (seqOf t) (t.val % 8 * 512 + p.val - 7) k := by
  have ht := t.isLt
  rw [normed_apply]
  unfold Spec.padded
  by_cases hz : (p.val < 8 ∧ t.val % 8 = 0) ∨ (520 ≤ p.val ∧ t.val % 8 = 7)
  · rw [if_pos hz, dif_neg (by omega)]
  · rw [if_neg hz, dif_pos (by omega)]
    refine norm_of G p _ ?_ k
    show t.val / 8 * 4096 + (t.val % 8 * 512 + p.val - 7 - 1) + 8 = 512 * t.val + p.val
    omega

/-- The rows the convolution reads. -/
def hidden (_ : Given M A t X D g3 g4 g5 gn wu cw cb wd) : FVec Ideal S528x1024 .bf16 :=
  k0_pay11 (BitVec.ofNat 32 t.val) X (k0_pay7 gn) (k0_pay8 g3) (k0_pay9 g4) D

/-- The up projection of a row, in the arguments. -/
theorem up_of (p : Fin 528) (h1 : 7 ≤ p.val) (h2 : p.val ≤ 520) (c : Fin 5632) (n : ℕ) (hn : n + 7 = t.val % 8 * 512 + p.val) :
    upAt (hidden G) wu p c = Spec.up M A (seqOf t) n c := by
  unfold upAt Spec.up hidden
  refine Finset.sum_congr rfl fun k _ => ?_
  rw [padded_of G p h1 h2, G.wu, show t.val % 8 * 512 + p.val - 7 = n by omega]

/-- The place in its sequence of a row of the block. -/
def placeOf (t : Fin 32) (p : Fin 512) : Fin 4096 := ⟨t.val % 8 * 512 + p.val, by omega⟩

/-- The convolution, in the arguments. -/
theorem conv_of (p : Fin 512) (c : Fin 5632) : convAt (hidden G) wu cw cb p c = Spec.conv M A (seqOf t) (placeOf t p) c := by
  have hp := p.isLt
  unfold convAt Spec.conv
  rw [up_of G ⟨7 + p.val, by omega⟩ (by show 7 ≤ 7 + p.val; omega) (by show 7 + p.val ≤ 520; omega) c (placeOf t p).val (by show t.val % 8 * 512 + p.val + 7 = t.val % 8 * 512 + (7 + p.val); omega),
    up_of G ⟨8 + p.val, by omega⟩ (by show 7 ≤ 8 + p.val; omega) (by show 8 + p.val ≤ 520; omega) c ((placeOf t p).val + 1) (by show t.val % 8 * 512 + p.val + 1 + 7 = t.val % 8 * 512 + (8 + p.val); omega),
    up_of G ⟨9 + p.val, by omega⟩ (by show 7 ≤ 9 + p.val; omega) (by show 9 + p.val ≤ 520; omega) c ((placeOf t p).val + 2) (by show t.val % 8 * 512 + p.val + 2 + 7 = t.val % 8 * 512 + (9 + p.val); omega),
    G.cw, G.cw, G.cw, G.cb]

/-- The gated activation, in the arguments. -/
theorem act_of (p : Fin 512) (q : Fin 2816) : actAt (hidden G) wu cw cb p q = Spec.act M A (seqOf t) (placeOf t p) q := by
  unfold actAt Spec.act
  rw [conv_of G, conv_of G]

/-- The layer's row, in the arguments. -/
theorem last_of {sg : RefSig} (arg22 : Memref sg .tc .vmem S512x2816 .bf16) (p : Fin 512) (k : Fin 1024) :
    lastAt X g5 (acts arg22 (hidden G) wu cw cb) wd p k = Spec.layer M A (seqOf t) (placeOf t p) k := by
  unfold lastAt Spec.layer
  rw [G.x ⟨8 + p.val, by omega⟩ (Spec.row (seqOf t) (placeOf t p))
    (by show t.val / 8 * 4096 + (t.val % 8 * 512 + p.val) + 8 = 512 * t.val + (8 + p.val); omega) k, G.m5]
  refine congrArg (fun z : EReal => (M (seqOf t) (Spec.row (seqOf t) (placeOf t p)) k + A.md (Spec.cond (seqOf t)) 5 k * z : EReal))
    (Finset.sum_congr rfl fun q _ => ?_)
  rw [acts_apply, act_of G, G.wd]

/-- The layer's row, at its flat row. -/
theorem flat_of {sg : RefSig} (arg22 : Memref sg .tc .vmem S512x2816 .bf16) (p : Fin 512) (k : Fin 1024) (r : Fin 16384) (hr : r.val = 512 * t.val + p.val) :
    lastAt X g5 (acts arg22 (hidden G) wu cw cb) wd p k = Spec.flat M A r k := by
  rw [last_of G]
  unfold Spec.flat
  have e1 : (⟨r.val / 4096, by omega⟩ : Fin 4) = seqOf t := Fin.ext (by show r.val / 4096 = t.val / 8; omega)
  have e2 : (⟨r.val % 4096, by omega⟩ : Fin 4096) = placeOf t p := Fin.ext (by show r.val % 4096 = t.val % 8 * 512 + p.val; omega)
  rw [e1, e2]

/-- The normed result's row, in the arguments. -/
theorem result_of {sg : RefSig} (arg22 : Memref sg .tc .vmem S512x2816 .bf16) {fn : Vec Ideal S1x1024 .f32} {wf : Fin 1024 → EReal}
    (hn : ∀ k, (fn (ix2 0 k) : EReal) = wf k) (p : Fin 512) (k : Fin 1024) (r : Fin 16384) (hr : r.val = 512 * t.val + p.val) :
    (k0_pay66 X g5 (acts arg22 (hidden G) wu cw cb) wd fn (ix2 p k) : EReal) = Spec.final M A wf r k := by
  rw [last_apply]
  unfold Spec.final
  rw [hn, funext fun k => flat_of G arg22 p k r hr]

end Cert.Tail
-- ==== Proof.TailArrays.lean ====
module

public import proofs.«01_k».proof.Proof.TailRows
public import Idealize.ShloMosaic.Lib.Pipeline.ValueKit
public import Idealize.ShloMosaic.Lib.StableHlo.ReadAt

@[expose] public section

set_option maxRecDepth 16384

/-! The array the tail leaves, as its arguments' final norm. -/

noncomputable section

namespace Cert.Tail

open Cert.TailKernelIdeal Cert.TailKernelIdeal.Gen Cert.TailKernelIdeal.Value Idealize.ShloMosaic Idealize.ShloMosaic.TcCoe Idealize.SL.Sem

variable (m : (ℓ : Loc nD τ sig) → Buf (Elt Ideal) ℓ) (dv : Dev nD)

/-- The arguments the kernel reads. -/
def kargs : Spec.Args where
  x r k := (m ((dv : Thread nD τ).loc main_arg0) : Vec Ideal S16384x1024 .f32) (ix2 r k)
  y r k := (m ((dv : Thread nD τ).loc main_arg1) : Vec Ideal S16384x1024 .bf16) (ix2 r k)
  hf r k := (m ((dv : Thread nD τ).loc main_arg2) : Vec Ideal S16384x1024 .bf16) (ix2 r k)
  hb r k := (m ((dv : Thread nD τ).loc main_arg3) : Vec Ideal S16384x1024 .bf16) (ix2 r k)
  md a b k := (m ((dv : Thread nD τ).loc main_arg4) : Vec Ideal S4x8x6x1024 .f32) (ix4 3 a b k)
  wo j k := (m ((dv : Thread nD τ).loc main_arg5) : Vec Ideal S2x1024x1024 .f32) (ix3 1 j k)
  gn k := (m ((dv : Thread nD τ).loc main_arg6) : Vec Ideal S4x1024 .f32) (ix2 3 k)
  wu k c := (m ((dv : Thread nD τ).loc main_arg7) : Vec Ideal S4x1024x5632 .f32) (ix3 3 k c)
  cw j c := (m ((dv : Thread nD τ).loc main_arg8) : Vec Ideal S4x3x5632 .f32) (ix3 3 j c)
  cb c := (m ((dv : Thread nD τ).loc main_arg9) : Vec Ideal S4x5632 .f32) (ix2 3 c)
  wd q k := (m ((dv : Thread nD τ).loc main_arg10) : Vec Ideal S4x2816x1024 .f32) (ix3 3 q k)

/-- The weights of the final norm. -/
def fnorm (k : Fin 1024) : EReal := (m ((dv : Thread nD τ).loc main_arg11) : Vec Ideal S1024 .f32) (ix1 k)

/-- Which blocks each point is given. -/
theorem idx_win : ∀ t : Fin grid0.N, win0_0.index t = ![32 * t.val - 1, 0] ∧
    win0_1.index t = ![t.val, 0] ∧
    win0_2.index t = ![min (32 * (t.val + 1)) 1023, 0] ∧
    win0_3.index t = ![32 * t.val - 1, 0] ∧
    win0_4.index t = ![t.val, 0] ∧
    win0_5.index t = ![min (32 * (t.val + 1)) 1023, 0] ∧
    win0_6.index t = ![32 * t.val - 1, 0] ∧
    win0_7.index t = ![t.val, 0] ∧
    win0_8.index t = ![min (32 * (t.val + 1)) 1023, 0] ∧
    win0_9.index t = ![32 * t.val - 1, 0] ∧
    win0_10.index t = ![t.val, 0] ∧
    win0_11.index t = ![min (32 * (t.val + 1)) 1023, 0] ∧
    win0_12.index t = ![3, 1 + t.val / 8, 0, 0] ∧
    win0_13.index t = ![1, 0, 0] ∧
    win0_14.index t = ![0, 0] ∧
    win0_15.index t = ![3, 0, 0] ∧
    win0_16.index t = ![3, 0, 0] ∧
    win0_17.index t = ![3, 0, 0] ∧
    win0_18.index t = ![3, 0, 0] ∧
    win0_19.index t = ![0, 0] ∧
    win0_20.index t = ![t.val, 0] := by decide +kernel

/-- There are thirty-two points. -/
theorem point_lt (t : Fin cfg0.N) : t.val < 32 := t.isLt

/-- The block of stream `x` and its neighbours, in the arguments. -/
theorem rows_x (t : Fin cfg0.N) (p : Fin 528) (r : Fin 16384) (h : r.val + 8 = 512 * t.val + p.val) (k : Fin 1024) :
    (k0_pay1 (iblk m dv 0 t : Vec Ideal S16x1024 .f32) (iblk m dv 1 t : Vec Ideal S512x1024 .f32) (iblk m dv 2 t : Vec Ideal S16x1024 .f32) (ix2 p k) : EReal) = (kargs m dv).x r k := by
  have ht := point_lt t
  have hp := p.isLt
  rw [rows1_apply]
  by_cases h1 : p.val < 8
  · rw [dif_pos h1]
    unfold kargs
    dsimp only
    blk_ext [iblk, V_main_arg0, idx_win t]
  · rw [dif_neg h1]
    by_cases h2 : p.val - 8 < 512
    · rw [dif_pos h2]
      unfold kargs
      dsimp only
      blk_ext [iblk, V_main_arg0, idx_win t]
    · rw [dif_neg h2]
      unfold kargs
      dsimp only
      blk_ext [iblk, V_main_arg0, idx_win t]

/-- The block of stream `y` and its neighbours, in the arguments. -/
theorem rows_y (t : Fin cfg0.N) (p : Fin 528) (r : Fin 16384) (h : r.val + 8 = 512 * t.val + p.val) (k : Fin 1024) :
    (k0_pay2 (iblk m dv 3 t : Vec Ideal S16x1024 .bf16) (iblk m dv 4 t : Vec Ideal S512x1024 .bf16) (iblk m dv 5 t : Vec Ideal S16x1024 .bf16) (ix2 p k) : EReal) = (kargs m dv).y r k := by
  have ht := point_lt t
  have hp := p.isLt
  rw [rows2_apply]
  by_cases h1 : p.val < 8
  · rw [dif_pos h1]
    unfold kargs
    dsimp only
    blk_ext [iblk, V_main_arg1, idx_win t]
  · rw [dif_neg h1]
    by_cases h2 : p.val - 8 < 512
    · rw [dif_pos h2]
      unfold kargs
      dsimp only
      blk_ext [iblk, V_main_arg1, idx_win t]
    · rw [dif_neg h2]
      unfold kargs
      dsimp only
      blk_ext [iblk, V_main_arg1, idx_win t]

/-- The block of stream `hf` and its neighbours, in the arguments. -/
theorem rows_hf (t : Fin cfg0.N) (p : Fin 528) (r : Fin 16384) (h : r.val + 8 = 512 * t.val + p.val) (k : Fin 1024) :
    (k0_pay3 (iblk m dv 6 t : Vec Ideal S16x1024 .bf16) (iblk m dv 7 t : Vec Ideal S512x1024 .bf16) (iblk m dv 8 t : Vec Ideal S16x1024 .bf16) (ix2 p k) : EReal) = (kargs m dv).hf r k := by
  have ht := point_lt t
  have hp := p.isLt
  rw [rows3_apply]
  by_cases h1 : p.val < 8
  · rw [dif_pos h1]
    unfold kargs
    dsimp only
    blk_ext [iblk, V_main_arg2, idx_win t]
  · rw [dif_neg h1]
    by_cases h2 : p.val - 8 < 512
    · rw [dif_pos h2]
      unfold kargs
      dsimp only
      blk_ext [iblk, V_main_arg2, idx_win t]
    · rw [dif_neg h2]
      unfold kargs
      dsimp only
      blk_ext [iblk, V_main_arg2, idx_win t]

/-- The block of stream `hb` and its neighbours, in the arguments. -/
theorem rows_hb (t : Fin cfg0.N) (p : Fin 528) (r : Fin 16384) (h : r.val + 8 = 512 * t.val + p.val) (k : Fin 1024) :
    (k0_pay4 (iblk m dv 9 t : Vec Ideal S16x1024 .bf16) (iblk m dv 10 t : Vec Ideal S512x1024 .bf16) (iblk m dv 11 t : Vec Ideal S16x1024 .bf16) (ix2 p k) : EReal) = (kargs m dv).hb r k := by
  have ht := point_lt t
  have hp := p.isLt
  rw [rows4_apply]
  by_cases h1 : p.val < 8
  · rw [dif_pos h1]
    unfold kargs
    dsimp only
    blk_ext [iblk, V_main_arg3, idx_win t]
  · rw [dif_neg h1]
    by_cases h2 : p.val - 8 < 512
    · rw [dif_pos h2]
      unfold kargs
      dsimp only
      blk_ext [iblk, V_main_arg3, idx_win t]
    · rw [dif_neg h2]
      unfold kargs
      dsimp only
      blk_ext [iblk, V_main_arg3, idx_win t]

/-- The modulation's block. -/
theorem blk_mod (t : Fin cfg0.N) (j : Fin 6) (k : Fin 1024) :
    (iblk m dv 12 t : Vec Ideal S1x1x6x1024 .f32) (ix4 0 0 j k) = (kargs m dv).md (Spec.cond (seqOf t)) j k := by
  have ht := point_lt t
  unfold kargs Spec.cond seqOf
  dsimp only
  blk_ext [iblk, V_main_arg4, idx_win t]

/-- The argument `wo` as the host hands it on. -/
theorem host_wo (j k : Fin 1024) : (V m dv main_v0 : Vec Ideal S2x1024x1024 .bf16) (ix3 1 j k) = (kargs m dv).wo j k := by
  entry_read
  rfl

/-- Its block. -/
theorem blk_wo (t : Fin cfg0.N) (j k : Fin 1024) : (iblk m dv 13 t : Vec Ideal S1x1024x1024 .bf16) (ix3 0 j k) = (kargs m dv).wo j k := by
  rw [← host_wo]
  blk_ext [iblk, idx_win t]

/-- The argument `gn` as the host hands it on. -/
theorem host_gn (k : Fin 1024) : (V m dv main_v3 : Vec Ideal S1x1024 .f32) (ix2 0 k) = (kargs m dv).gn k := by
  entry_read
  show ((shapeCast S1x1024 (shapeCast S1024 (extractStridedSlice S1x1024 ![3, 0] (m (dv, Proc.tc.devRef main_arg6) : Vec Ideal S4x1024 .f32) slices_S4x1024_S1x1024_3_0 : Vec Ideal S1x1024 .f32) shapeCasts_S1x1024_S1024 : Vec Ideal S1024 .f32) shapeCasts_S1024_S1x1024 : Vec Ideal S1x1024 .f32) (ix2 0 k) : EReal) = _
  pointwise
  rfl

/-- Its block. -/
theorem blk_gn (t : Fin cfg0.N) (k : Fin 1024) : (iblk m dv 14 t : Vec Ideal S1x1024 .f32) (ix2 0 k) = (kargs m dv).gn k := by
  rw [← host_gn]
  blk_ext [iblk, idx_win t]

/-- The argument `wu` as the host hands it on. -/
theorem host_wu (k : Fin 1024) (c : Fin 5632) : (V m dv main_v4 : Vec Ideal S4x1024x5632 .bf16) (ix3 3 k c) = (kargs m dv).wu k c := by
  entry_read
  rfl

/-- Its block. -/
theorem blk_wu (t : Fin cfg0.N) (k : Fin 1024) (c : Fin 5632) : (iblk m dv 15 t : Vec Ideal S1x1024x5632 .bf16) (ix3 0 k c) = (kargs m dv).wu k c := by
  rw [← host_wu]
  blk_ext [iblk, idx_win t]

/-- The block of `cw`. -/
theorem blk_cw (t : Fin cfg0.N) (j : Fin 3) (c : Fin 5632) : (iblk m dv 16 t : Vec Ideal S1x3x5632 .f32) (ix3 0 j c) = (kargs m dv).cw j c := by
  unfold kargs
  dsimp only
  blk_ext [iblk, V_main_arg8, idx_win t]

/-- A vector of rows, read as a stack of one-row matrices. -/
theorem stack_apply (x : Vec Ideal S4x5632 .f32) (g : Fin 4) (c : Fin 5632) :
    (shapeCast S4x1x5632 x shapeCasts_S4x5632_S4x1x5632 : Vec Ideal S4x1x5632 .f32) (ix3 g 0 c) = x (ix2 g c) := by
  pointwise

/-- The argument `cb` as the host hands it on. -/
theorem host_cb (c : Fin 5632) : (V m dv main_v5 : Vec Ideal S4x1x5632 .f32) (ix3 3 0 c) = (kargs m dv).cb c := by
  entry_read
  exact stack_apply (m (dv, Proc.tc.devRef main_arg9)) 3 c

/-- Its block. -/
theorem blk_cb (t : Fin cfg0.N) (c : Fin 5632) : (iblk m dv 17 t : Vec Ideal S1x1x5632 .f32) (ix3 0 0 c) = (kargs m dv).cb c := by
  rw [← host_cb]
  blk_ext [iblk, idx_win t]

/-- The argument `wd` as the host hands it on. -/
theorem host_wd (q : Fin 2816) (k : Fin 1024) : (V m dv main_v6 : Vec Ideal S4x2816x1024 .bf16) (ix3 3 q k) = (kargs m dv).wd q k := by
  entry_read
  rfl

/-- Its block. -/
theorem blk_wd (t : Fin cfg0.N) (q : Fin 2816) (k : Fin 1024) : (iblk m dv 18 t : Vec Ideal S1x2816x1024 .bf16) (ix3 0 q k) = (kargs m dv).wd q k := by
  rw [← host_wd]
  blk_ext [iblk, idx_win t]

/-- The argument `fn` as the host hands it on. -/
theorem host_fn (k : Fin 1024) : (V m dv main_v7 : Vec Ideal S1x1024 .f32) (ix2 0 k) = fnorm m dv k := by
  entry_read
  show ((shapeCast S1x1024 (m (dv, Proc.tc.devRef main_arg11) : Vec Ideal S1024 .f32) shapeCasts_S1024_S1x1024 : Vec Ideal S1x1024 .f32) (ix2 0 k) : EReal) = _
  pointwise
  rfl

/-- Its block. -/
theorem blk_fn (t : Fin cfg0.N) (k : Fin 1024) : (iblk m dv 19 t : Vec Ideal S1x1024 .f32) (ix2 0 k) = fnorm m dv k := by
  rw [← host_fn]
  blk_ext [iblk, idx_win t]

/-- What each point is given. -/
theorem given (t : Fin cfg0.N) : Given (Spec.mixed (kargs m dv)) (kargs m dv).toFfn t
    (k0_pay6 (k0_pay1 (iblk m dv 0 t : Vec Ideal S16x1024 .f32) (iblk m dv 1 t : Vec Ideal S512x1024 .f32) (iblk m dv 2 t : Vec Ideal S16x1024 .f32))
      (k0_pay2 (iblk m dv 3 t : Vec Ideal S16x1024 .bf16) (iblk m dv 4 t : Vec Ideal S512x1024 .bf16) (iblk m dv 5 t : Vec Ideal S16x1024 .bf16))
      (k0_pay3 (iblk m dv 6 t : Vec Ideal S16x1024 .bf16) (iblk m dv 7 t : Vec Ideal S512x1024 .bf16) (iblk m dv 8 t : Vec Ideal S16x1024 .bf16))
      (k0_pay4 (iblk m dv 9 t : Vec Ideal S16x1024 .bf16) (iblk m dv 10 t : Vec Ideal S512x1024 .bf16) (iblk m dv 11 t : Vec Ideal S16x1024 .bf16))
      k0_pay5 (modRow (iblk m dv 12 t : Vec Ideal S1x1x6x1024 .f32) 2 inb_S1x1x6x1024_S1x1x1x1024_0_0_2_0) (iblk m dv 13 t : Vec Ideal S1x1024x1024 .bf16))
    (k0_pay10 (k0_pay1 (iblk m dv 0 t : Vec Ideal S16x1024 .f32) (iblk m dv 1 t : Vec Ideal S512x1024 .f32) (iblk m dv 2 t : Vec Ideal S16x1024 .f32))
      (k0_pay2 (iblk m dv 3 t : Vec Ideal S16x1024 .bf16) (iblk m dv 4 t : Vec Ideal S512x1024 .bf16) (iblk m dv 5 t : Vec Ideal S16x1024 .bf16))
      (k0_pay3 (iblk m dv 6 t : Vec Ideal S16x1024 .bf16) (iblk m dv 7 t : Vec Ideal S512x1024 .bf16) (iblk m dv 8 t : Vec Ideal S16x1024 .bf16))
      (k0_pay4 (iblk m dv 9 t : Vec Ideal S16x1024 .bf16) (iblk m dv 10 t : Vec Ideal S512x1024 .bf16) (iblk m dv 11 t : Vec Ideal S16x1024 .bf16))
      k0_pay5 (modRow (iblk m dv 12 t : Vec Ideal S1x1x6x1024 .f32) 2 inb_S1x1x6x1024_S1x1x1x1024_0_0_2_0) (iblk m dv 13 t : Vec Ideal S1x1024x1024 .bf16))
    (modRow (iblk m dv 12 t : Vec Ideal S1x1x6x1024 .f32) 3 inb_S1x1x6x1024_S1x1x1x1024_0_0_3_0)
    (modRow (iblk m dv 12 t : Vec Ideal S1x1x6x1024 .f32) 4 inb_S1x1x6x1024_S1x1x1x1024_0_0_4_0)
    (modRow (iblk m dv 12 t : Vec Ideal S1x1x6x1024 .f32) 5 inb_S1x1x6x1024_S1x1x1x1024_0_0_5_0)
    (iblk m dv 14 t : Vec Ideal S1x1024 .f32) (iblk m dv 15 t : Vec Ideal S1x1024x5632 .bf16)
    (iblk m dv 16 t : Vec Ideal S1x3x5632 .f32) (iblk m dv 17 t : Vec Ideal S1x1x5632 .f32) (iblk m dv 18 t : Vec Ideal S1x2816x1024 .bf16) where
  x := mixed_of (fun p r h k => rows_x m dv t p r h k) (fun p r h k => rows_y m dv t p r h k) (fun p r h k => rows_hf m dv t p r h k)
    (fun p r h k => rows_hb m dv t p r h k) (fun k => (modRow_apply _ 2 (by decide) _ k).trans (blk_mod m dv t 2 k)) (blk_wo m dv t)
  d := sq_apply _ _ _ _ _ _
  m3 := fun k => (modRow_apply _ 3 (by decide) _ k).trans (blk_mod m dv t 3 k)
  m4 := fun k => (modRow_apply _ 4 (by decide) _ k).trans (blk_mod m dv t 4 k)
  m5 := fun k => (modRow_apply _ 5 (by decide) _ k).trans (blk_mod m dv t 5 k)
  gn := blk_gn m dv t
  wu := blk_wu m dv t
  cw := blk_cw m dv t
  cb := blk_cb m dv t
  wd := blk_wd m dv t

/-- The point's coordinate is its number. -/
theorem coord_eq : ∀ t : Fin grid0.N, ((grid0.coords t) 0).val = t.val := by decide +kernel

/-- The result's array. -/
def result (A : Spec.Args) (fn : Fin 1024 → EReal) : Vec Ideal S16384x1024 .f32 := fun j => Spec.final (Spec.mixed A) A.toFfn fn (j 0) (j 1)

/-- The result's array after the run. -/
theorem arr20 : (dats m 0 dv).arrAt 20 cfg0.N = result (kargs m dv) (fnorm m dv) := by
  refine (dats m 0 dv).arrAt_eq_of_covers 20 _ (by decide +kernel) fun t hf y => ?_
  blk_simp
  rw [after0_20]
  unfold outsAt0
  dsimp only
  rw [out_eq, coord_eq]
  obtain ⟨p, k, rfl⟩ : ∃ (p : Fin 512) (k : Fin 1024), y = ix2 p k := ⟨y 0, y 1, eq_ix2 y⟩
  have ht := point_lt t
  refine Eq.trans (result_of (given m dv t) _ (blk_fn m dv t) p k ⟨512 * t.val + p.val, by omega⟩ rfl) ?_
  unfold result
  refine congrArg₂ (Spec.final (Spec.mixed (kargs m dv)) (kargs m dv).toFfn (fnorm m dv)) (Fin.ext ?_) (Fin.ext ?_)
  · blk_simp [idx_win t]
    show 512 * t.val + p.val = t.val * 512 + p.val
    omega
  · blk_simp [idx_win t]

/-- What the program leaves. -/
theorem run_kernel (ρ : Dev nD → PrngReg) :
    θ_run defs (onTc (τ := τ) (main (F := Ideal))) ⟨m, fun _ => 0, ρ⟩ fun r => ∀ c : Dev nD,
      r.2.mem ((c : Thread nD τ).loc main_v8) = result (kargs m c) (fnorm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run _ _ _).mono (fun _ h c => ⟨(h c).1.trans (arr20 m c), (h c).2⟩) (run_blocks m ρ)

end Cert.Tail
-- ==== Proof.TailRef.lean ====
module

public import proofs.«01_k».proof.Proof.TailSpec
public import proofs.«01_k».proof.Proof.Gen.TailReferenceIdeal.Run
public import Idealize.ShloMosaic.Lib.Pipeline.ValueKit
public import Idealize.ShloMosaic.Lib.Pointwise
public import Idealize.ShloMosaic.Lib.IdealHost
public import Idealize.ShloMosaic.Lib.StableHlo.ReadAt

@[expose] public section

set_option maxRecDepth 16384

/-! The reference of the layer's tail, read at a row and a column. -/

noncomputable section

namespace Cert.TailRef

open Cert.TailReferenceIdeal Cert.TailReferenceIdeal.Gen Cert.TailReferenceIdeal.Value Idealize.ShloMosaic Idealize.ShloMosaic.TcCoe Idealize.SL.Sem
open Idealize.ShloMosaic.StableHlo

variable (V : Valuation τ sig (Elt Ideal))

/-- The arguments the reference reads. -/
def args : Cert.Tail.Spec.Args where
  x r k := V (Proc.devRef .tc main_arg0) (ix2 r k)
  y r k := V (Proc.devRef .tc main_arg1) (ix2 r k)
  hf r k := V (Proc.devRef .tc main_arg2) (ix2 r k)
  hb r k := V (Proc.devRef .tc main_arg3) (ix2 r k)
  md a b k := V (Proc.devRef .tc main_arg4) (ix4 3 a b k)
  wo j k := V (Proc.devRef .tc main_arg5) (ix3 1 j k)
  gn k := V (Proc.devRef .tc main_arg6) (ix2 3 k)
  wu k c := V (Proc.devRef .tc main_arg7) (ix3 3 k c)
  cw t c := V (Proc.devRef .tc main_arg8) (ix3 3 t c)
  cb c := V (Proc.devRef .tc main_arg9) (ix2 3 c)
  wd q k := V (Proc.devRef .tc main_arg10) (ix3 3 q k)

/-- The weights of the final norm. -/
def fnorm (k : Fin 1024) : EReal := V (Proc.devRef .tc main_arg11) (ix1 k)

/-- The rows with their mixed input added. -/
theorem mixed_apply (n : Fin 4) (s : Fin 4096) (k : Fin 1024) :
    res_main_v39 V (ix3 n s k) = Cert.Tail.Spec.mixed (args V) n (Cert.Tail.Spec.row n s) k := by
  unfold res_main_v39 res_main_v16
  pointwise
  rfl

/-- The integer zero as a float. -/
theorem zero_float : (FloatOps.sitofp FTy.f32 (0#32) : Ideal .f32) = (0 : EReal) := by
  show (((0#32 : BitVec 32).toInt : ℝ) : EReal) = 0
  simp

/-- The padded up projection. -/
theorem up_apply (n : Fin 4) (s : Fin 4098) (c : Fin 5632) :
    res_main_v64 V (ix3 n s c) = Cert.Tail.Spec.up (Cert.Tail.Spec.mixed (args V)) (args V).toFfn n s.val c := by
  unfold res_main_v64
  pointwise
  by_cases h : 1 ≤ s.val ∧ s.val - 1 < 4096
  · rw [dif_pos h]
    refine Eq.trans ?_ (Cert.Tail.Spec.up_inside _ _ n s.val h.1 h.2 c).symm
    simp only [mixed_apply]
    rfl
  · rw [dif_neg h, Cert.Tail.Spec.up_outside _ _ _ _ (by omega)]
    exact zero_float

/-- The convolution. -/
theorem conv_apply (n : Fin 4) (s : Fin 4096) (c : Fin 5632) :
    res_main_v91 V (ix3 n s c) = Cert.Tail.Spec.conv (Cert.Tail.Spec.mixed (args V)) (args V).toFfn n s c := by
  unfold res_main_v91 res_main_v66
  pointwise
  rw [up_apply, up_apply, up_apply]
  unfold Cert.Tail.Spec.conv
  rw [Nat.add_comm s.val 1, Nat.add_comm s.val 2]
  rfl

/-- The layer's rows. -/
theorem layer_apply (n : Fin 4) (s : Fin 4096) (k : Fin 1024) :
    res_main_v101 V (ix3 n s k) = Cert.Tail.Spec.layer (Cert.Tail.Spec.mixed (args V)) (args V).toFfn n s k := by
  unfold res_main_v101 res_main_v92
  pointwise
  simp only [conv_apply, mixed_apply]
  rfl

/-- The result. -/
theorem final_apply (r : Fin 16384) (k : Fin 1024) :
    (shapeCast _ (mulf (mulf (res_main_v101 V) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v101 V) (res_main_v101 V)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (V (Proc.devRef .tc main_arg11))))) shapeCasts_S4x4096x1024_S16384x1024 : Vec Ideal S16384x1024 .f32) (ix2 r k) = Cert.Tail.Spec.final (Cert.Tail.Spec.mixed (args V)) (args V).toFfn (fnorm V) r k := by
  pointwise
  simp only [layer_apply]
  rfl

end Cert.TailRef
-- ==== Proof.PromptSpec.lean ====
module

public import proofs.«01_k».proof.Proof.TailSpec

@[expose] public section

/-! The tail of the last layer for the prompt stream, in plain words: as for the latent stream, with 32 sequences of 256 rows that
all take the first row of the modulation. -/

noncomputable section

namespace Cert.Prompt.Spec

open Idealize.ShloMosaic Cert.Tail.Spec

/-- The arrays the tail reads. -/
structure Args extends Ffn where
  x : Fin 8192 → Fin 1024 → EReal
  y : Fin 8192 → Fin 1024 → EReal
  hf : Fin 8192 → Fin 1024 → EReal
  hb : Fin 8192 → Fin 1024 → EReal
  wo : Fin 1024 → Fin 1024 → EReal

/-- Row `s` of sequence `n` among the flat rows. -/
def row (n : Fin 32) (s : Fin 256) : Fin 8192 := ⟨n.val * 256 + s.val, by omega⟩

/-- A flat row with its mixed input added. -/
def mixed (A : Args) (r : Fin 8192) (k : Fin 1024) : EReal :=
  A.x r k + A.md 0 2 k * ∑ j, gelu (A.y r j) * (A.hf r j + A.hb r j) * A.wo j k

variable (M : Fin 8192 → Fin 1024 → EReal) (A : Ffn)

/-- The modulated norm of a row of `M`. -/
def normed (r : Fin 8192) (k : Fin 1024) : EReal :=
  M r k * inv (M r) * A.gn k * (1 + A.md 0 4 k) + A.md 0 3 k

/-- The normed row at place `t - 1` of sequence `n`, and zero before the first and after the last. -/
def padded (n : Fin 32) (t : ℕ) (k : Fin 1024) : EReal :=
  if h : 1 ≤ t ∧ t ≤ 256 then normed M A (row n ⟨t - 1, by omega⟩) k else 0

/-- The up projection at place `t - 1`. -/
def up (n : Fin 32) (t : ℕ) (c : Fin 5632) : EReal := ∑ k, padded M A n t k * A.wu k c

/-- The convolution of the up projection. -/
def conv (n : Fin 32) (s : Fin 256) (c : Fin 5632) : EReal :=
  up M A n s.val c * A.cw 0 c + up M A n (s.val + 1) c * A.cw 1 c + up M A n (s.val + 2) c * A.cw 2 c + A.cb c

/-- The gated activation. -/
def act (n : Fin 32) (s : Fin 256) (q : Fin 2816) : EReal :=
  conv M A n s ⟨q.val, by omega⟩ * Cert.Layer.sgm (conv M A n s ⟨q.val, by omega⟩) * conv M A n s ⟨2816 + q.val, by omega⟩

/-- The layer's rows. -/
def layer (n : Fin 32) (s : Fin 256) (k : Fin 1024) : EReal :=
  M (row n s) k + A.md 0 5 k * ∑ q, act M A n s q * A.wd q k

/-- The layer's rows, at a flat row. -/
def flat (r : Fin 8192) (k : Fin 1024) : EReal := layer M A ⟨r.val / 256, by omega⟩ ⟨r.val % 256, by omega⟩ k

/-- The final norm of the layer's rows, at a flat row. -/
def final (fn : Fin 1024 → EReal) (r : Fin 8192) (k : Fin 1024) : EReal := flat M A r k * inv (flat M A r) * fn k

/-- Outside the sequence the up projection is zero. -/
theorem up_outside (n : Fin 32) (t : ℕ) (h : ¬(1 ≤ t ∧ t ≤ 256)) (c : Fin 5632) : up M A n t c = 0 := by
  unfold up padded
  simp only [dif_neg h, zero_mul, Finset.sum_const_zero]

/-- Inside it is the product of the normed row. -/
theorem up_inside (n : Fin 32) (t : ℕ) (h : 1 ≤ t) (h' : t - 1 < 256) (c : Fin 5632) :
    up M A n t c = ∑ k, normed M A (row n ⟨t - 1, h'⟩) k * A.wu k c := by
  have hh : 1 ≤ t ∧ t ≤ 256 := by omega
  unfold up padded
  simp only [dif_pos hh]

end Cert.Prompt.Spec
-- ==== Proof.PromptBlock.lean ====
module

public import proofs.«01_k».proof.Proof.TailBlock
public import proofs.«01_k».proof.Proof.PromptSpec
public import proofs.«01_k».proof.Proof.Gen.PromptKernelIdeal.Value
public import Idealize.ShloMosaic.Lib.Pipeline.ValueKit
public import Idealize.ShloMosaic.Lib.Pointwise
public import Idealize.ShloMosaic.Lib.IdealHost

@[expose] public section

set_option maxRecDepth 16384

/-! What the body of the prompt's tail leaves in its result block. A block is two whole sequences; the rows the convolution reads are
the normed rows of both, with eight zeros before and after each. -/

noncomputable section

namespace Cert.Prompt

open Cert.PromptKernelIdeal Cert.PromptKernelIdeal.Gen Cert.PromptKernelIdeal.Value Idealize.ShloMosaic Idealize.ShloMosaic.TcCoe Idealize.SL.Sem

/-- The three-tap convolution of 256 columns of the up projection, starting at column `o`. -/
def branch (ha : FVec Ideal S544x1024 .bf16) (wu : Vec Ideal S1x1024x5632 .bf16) (cw : Vec Ideal S1x3x5632 .f32) (cb : Vec Ideal S1x1x5632 .f32)
    (o : ℕ) (h : o + 256 ≤ 5632) : FVec Ideal S512x256 .f32 :=
  k0_pay12 ha (View.ld wu (Rect.unit (s := S1x1024x5632) ![0, 0, o] ![1, 1024, 256] (Cert.Tail.inb_up o h)))
    (View.ld cw (Rect.unit (s := S1x3x5632) ![0, 0, o] ![1, 3, 256] (Cert.Tail.inb_taps o h)))
    (View.ld cb (Rect.unit (s := S1x1x5632) ![0, 0, o] ![1, 1, 256] (Cert.Tail.inb_bias o h)))

/-- One chunk of the gated activations. -/
def chunk (ha : FVec Ideal S544x1024 .bf16) (wu : Vec Ideal S1x1024x5632 .bf16) (cw : Vec Ideal S1x3x5632 .f32) (cb : Vec Ideal S1x1x5632 .f32)
    (o : ℕ) (h : o + 256 ≤ 2816) : FVec Ideal S512x256 .bf16 :=
  k0_pay75 (branch ha wu cw cb o (by omega)) (branch ha wu cw cb (2816 + o) (by omega)) k0_pay74

/-- A chunk as it is stored. -/
def piece (ha : FVec Ideal S544x1024 .bf16) (wu : Vec Ideal S1x1024x5632 .bf16) (cw : Vec Ideal S1x3x5632 .f32) (cb : Vec Ideal S1x1x5632 .f32)
    (o : ℕ) (h : o + 256 ≤ 2816) : View.Piece (Elt Ideal) S512x2816 .bf16 :=
  ⟨Rect.unit (s := S512x2816) ![0, o] ![512, 256] (Cert.Tail.inb_act o h), chunk ha wu cw cb o h⟩

/-- The eleven chunks, the last stored first. -/
def pieces (ha : FVec Ideal S544x1024 .bf16) (wu : Vec Ideal S1x1024x5632 .bf16) (cw : Vec Ideal S1x3x5632 .f32) (cb : Vec Ideal S1x1x5632 .f32) :
    List (View.Piece (Elt Ideal) S512x2816 .bf16) :=
  [piece ha wu cw cb 2560 (by decide), piece ha wu cw cb 2304 (by decide), piece ha wu cw cb 2048 (by decide), piece ha wu cw cb 1792 (by decide), piece ha wu cw cb 1536 (by decide), piece ha wu cw cb 1280 (by decide), piece ha wu cw cb 1024 (by decide), piece ha wu cw cb 768 (by decide), piece ha wu cw cb 512 (by decide), piece ha wu cw cb 256 (by decide), piece ha wu cw cb 0 (by decide)]

/-- The block of gated activations, read back. -/
def acts {sg : RefSig} (arg14 : Memref sg .tc .vmem S512x2816 .bf16) (ha : FVec Ideal S544x1024 .bf16) (wu : Vec Ideal S1x1024x5632 .bf16) (cw : Vec Ideal S1x3x5632 .f32) (cb : Vec Ideal S1x1x5632 .f32) :
    Vec Ideal S512x2816 .bf16 :=
  arg14.view.readCov (pieces ha wu cw cb) (Rect.unit (s := S512x2816) ![0, 0] ![512, 2816] inb_S512x2816_S512x2816_0_0).toLoadRect

set_option maxHeartbeats 4000000 in
/-- The result block from the rows with their mixed input added and their modulated norm. -/
theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x1x6x1024 .f32) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024x5632 .bf16) (harg8 : arg8.IsWhole) (arg9 : Memref sig .tc .vmem S1x3x5632 .f32) (harg9 : arg9.IsWhole) (arg10 : Memref sig .tc .vmem S1x1x5632 .f32) (harg10 : arg10.IsWhole) (arg11 : Memref sig .tc .vmem S1x2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x2816 .bf16) (harg14 : arg14.IsWhole)
    (x0 : Vec Ideal S512x1024 .f32) (x1 : Vec Ideal S512x1024 .bf16) (x2 : Vec Ideal S512x1024 .bf16) (x3 : Vec Ideal S512x1024 .bf16) (x4 : Vec Ideal S1x1x6x1024 .f32) (x5 : Vec Ideal S1x1024x1024 .bf16) (x6 : Vec Ideal S1x1024 .f32) (x7 : Vec Ideal S1x1024x5632 .bf16) (x8 : Vec Ideal S1x3x5632 .f32) (x9 : Vec Ideal S1x1x5632 .f32) (x10 : Vec Ideal S1x2816x1024 .bf16) (x11 : Vec Ideal S1x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 =
      k0_pay1
        (k0_pay76 (k0_pay2 x0 x1 x2 x3 (Cert.Tail.modRow x4 2 inb_S1x1x6x1024_S1x1x1x1024_0_0_2_0) x5) (Cert.Tail.modRow x4 5 inb_S1x1x6x1024_S1x1x1x1024_0_0_5_0)
          (acts arg14 (k0_pay4 (k0_pay2 x0 x1 x2 x3 (Cert.Tail.modRow x4 2 inb_S1x1x6x1024_S1x1x1x1024_0_0_2_0) x5) (k0_pay3 x6)
            (Cert.Tail.modRow x4 3 inb_S1x1x6x1024_S1x1x1x1024_0_0_3_0) (Cert.Tail.modRow x4 4 inb_S1x1x6x1024_S1x1x1x1024_0_0_4_0)) x7 x8 x9) x10)
        (k0_pay77 x11)
        (k0_pay78 (k0_pay2 x0 x1 x2 x3 (Cert.Tail.modRow x4 2 inb_S1x1x6x1024_S1x1x1x1024_0_0_2_0) x5) (Cert.Tail.modRow x4 5 inb_S1x1x6x1024_S1x1x1x1024_0_0_5_0)
          (acts arg14 (k0_pay4 (k0_pay2 x0 x1 x2 x3 (Cert.Tail.modRow x4 2 inb_S1x1x6x1024_S1x1x1x1024_0_0_2_0) x5) (k0_pay3 x6)
            (Cert.Tail.modRow x4 3 inb_S1x1x6x1024_S1x1x1x1024_0_0_3_0) (Cert.Tail.modRow x4 4 inb_S1x1x6x1024_S1x1x1x1024_0_0_4_0)) x7 x8 x9) x10) := by
  unfold out0_A_12
  frame_out
  unfold Cert.Tail.modRow acts
  generalize k0_pay2 (F := Ideal) _ _ _ _ _ _ = X
  unfold k0_pay7 k0_pay8 k0_pay5
  generalize k0_pay4 (F := Ideal) _ _ _ _ = H
  rfl

/-- The up projection of a row of the block at a column. -/
def upAt (H : FVec Ideal S544x1024 .bf16) (wu : Vec Ideal S1x1024x5632 .bf16) (r : Fin 544) (c : Fin 5632) : EReal :=
  ∑ k : Fin 1024, (H (ix2 r k) : EReal) * wu (ix3 0 k c)

/-- The convolution of the up projection at a row and a column: sixteen rows of zeros lie between the two sequences. -/
def convAt (H : FVec Ideal S544x1024 .bf16) (wu : Vec Ideal S1x1024x5632 .bf16) (cw : Vec Ideal S1x3x5632 .f32) (cb : Vec Ideal S1x1x5632 .f32)
    (p : Fin 512) (c : Fin 5632) : EReal :=
  (upAt H wu ⟨7 + (16 * (p.val / 256) + p.val), by omega⟩ c * cw (ix3 0 0 c) + upAt H wu ⟨8 + (16 * (p.val / 256) + p.val), by omega⟩ c * cw (ix3 0 1 c)
    + upAt H wu ⟨9 + (16 * (p.val / 256) + p.val), by omega⟩ c * cw (ix3 0 2 c) + cb (ix3 0 0 c) : EReal)

/-- A branch of the gate at a row and a column is the convolution there. -/
theorem branch_apply (H : FVec Ideal S544x1024 .bf16) (wu : Vec Ideal S1x1024x5632 .bf16) (cw : Vec Ideal S1x3x5632 .f32) (cb : Vec Ideal S1x1x5632 .f32)
    (o : ℕ) (h : o + 256 ≤ 5632) (p : Fin 512) (q : Fin 256) :
    branch H wu cw cb o h (ix2 p q) = convAt H wu cw cb p ⟨o + q.val, by omega⟩ := by
  have hp := p.isLt
  unfold branch
  pointwise [k0_pay12]
  unfold convAt
  by_cases h1 : p.val < 256
  · have e : 16 * (p.val / 256) + p.val = p.val := by omega
    simp only [e]
    rw [dif_pos h1]
    rfl
  · have e : 16 * (p.val / 256) + p.val = 272 + (p.val - 256) := by omega
    simp only [e]
    rw [dif_neg h1]
    rfl

/-- The gated activation of a row at a column. -/
def actAt (H : FVec Ideal S544x1024 .bf16) (wu : Vec Ideal S1x1024x5632 .bf16) (cw : Vec Ideal S1x3x5632 .f32) (cb : Vec Ideal S1x1x5632 .f32)
    (p : Fin 512) (q : Fin 2816) : EReal :=
  convAt H wu cw cb p ⟨q.val, by omega⟩ * Cert.Layer.sgm (convAt H wu cw cb p ⟨q.val, by omega⟩)
    * convAt H wu cw cb p ⟨2816 + q.val, by omega⟩

/-- A chunk at a row and a column is the gated activation there. -/
theorem chunk_apply (H : FVec Ideal S544x1024 .bf16) (wu : Vec Ideal S1x1024x5632 .bf16) (cw : Vec Ideal S1x3x5632 .f32) (cb : Vec Ideal S1x1x5632 .f32)
    (o : ℕ) (h : o + 256 ≤ 2816) (p : Fin 512) (q : Fin 256) :
    chunk H wu cw cb o h (ix2 p q) = actAt H wu cw cb p ⟨o + q.val, by omega⟩ := by
  unfold chunk
  pointwise [k0_pay75, k0_pay74]
  rw [branch_apply, branch_apply, Cert.Layer.sig_tanh]
  unfold actAt
  simp only [Nat.add_assoc]

/-- A chunk stored at its columns holds the gated activations of those columns. -/
theorem piece_apply (H : FVec Ideal S544x1024 .bf16) (wu : Vec Ideal S1x1024x5632 .bf16) (cw : Vec Ideal S1x3x5632 .f32) (cb : Vec Ideal S1x1x5632 .f32)
    (o : ℕ) (h : o + 256 ≤ 2816) (x : (piece H wu cw cb o h).1.shape.Idx) :
    (piece H wu cw cb o h).2 x = actAt H wu cw cb ((piece H wu cw cb o h).1.emb x 0) ((piece H wu cw cb o h).1.emb x 1) := by
  show chunk H wu cw cb o h x = _
  obtain ⟨p, q, rfl⟩ : ∃ (p : Fin 512) (q : Fin 256), x = ix2 p q := ⟨x 0, x 1, eq_ix2 x⟩
  have hq := q.isLt
  rw [chunk_apply]
  exact congrArg₂ (actAt H wu cw cb) (Fin.ext (by show p.val = 0 + 1 * p.val; omega)) (Fin.ext (by show o + q.val = o + 1 * q.val; omega))

/-- Every column lies in a chunk. -/
theorem some_piece (H : FVec Ideal S544x1024 .bf16) (wu : Vec Ideal S1x1024x5632 .bf16) (cw : Vec Ideal S1x3x5632 .f32) (cb : Vec Ideal S1x1x5632 .f32)
    (p : Fin 512) (q : Fin 2816) : ∃ P ∈ pieces H wu cw cb, (ix2 p q : S512x2816.Idx) ∈ P.1.set := by
  have hq := q.isLt
  obtain ⟨n, hn, h1, h2⟩ : ∃ n : Fin 11, True ∧ 256 * n.val ≤ q.val ∧ q.val < 256 * n.val + 256 :=
    ⟨⟨q.val / 256, by omega⟩, trivial, by show 256 * (q.val / 256) ≤ q.val; omega, by show q.val < 256 * (q.val / 256) + 256; omega⟩
  have hm := n.isLt
  refine ⟨piece H wu cw cb (256 * n.val) (by omega), ?_, ?_⟩
  · fin_cases n <;> simp [pieces]
  · show _ ∈ (Rect.unit (s := S512x2816) ![0, 256 * n.val] ![512, 256] (Cert.Tail.inb_act (256 * n.val) (by omega))).set
    refine Rect.mem_set_unit.mpr fun a => ?_
    fin_cases a
    · show 0 ≤ p.val ∧ p.val < 0 + 512
      omega
    · show 256 * n.val ≤ q.val ∧ q.val < 256 * n.val + 256
      omega

/-- Read back, the block holds the gated activations. -/
theorem acts_apply {sg : RefSig} (arg14 : Memref sg .tc .vmem S512x2816 .bf16) (H : FVec Ideal S544x1024 .bf16) (wu : Vec Ideal S1x1024x5632 .bf16) (cw : Vec Ideal S1x3x5632 .f32) (cb : Vec Ideal S1x1x5632 .f32)
    (p : Fin 512) (q : Fin 2816) : acts arg14 H wu cw cb (ix2 p q) = actAt H wu cw cb p q := by
  unfold acts
  rw [View.readCov_eq_canon']
  pointwise
  refine View.canon_apply_of_pieces (fun y => actAt H wu cw cb (y 0) (y 1)) _ (fun P hP x => ?_) _ (some_piece H wu cw cb p q)
  simp only [pieces, List.mem_cons, List.not_mem_nil, or_false] at hP
  rcases hP with rfl | rfl | rfl | rfl | rfl | rfl | rfl | rfl | rfl | rfl | rfl <;> exact piece_apply H wu cw cb _ _ x

/-- The rows with the product of the activations added. -/
def lastAt (X : FVec Ideal S512x1024 .f32) (g : Vec Ideal S1x1x1x1024 .f32) (A : Vec Ideal S512x2816 .bf16) (wd : Vec Ideal S1x2816x1024 .bf16)
    (p : Fin 512) (k : Fin 1024) : EReal :=
  X (ix2 p k) + (g (ix4 0 0 0 k) : EReal) * ∑ q : Fin 2816, (A (ix2 p q) : EReal) * wd (ix3 0 q k)

/-- The result block is their norm. -/
theorem last_apply (X : FVec Ideal S512x1024 .f32) (g : Vec Ideal S1x1x1x1024 .f32) (A : Vec Ideal S512x2816 .bf16) (wd : Vec Ideal S1x2816x1024 .bf16)
    (fn : Vec Ideal S1x1024 .f32) (p : Fin 512) (k : Fin 1024) :
    k0_pay1 (k0_pay76 X g A wd) (k0_pay77 fn) (k0_pay78 X g A wd) (ix2 p k)
      = (lastAt X g A wd p k * Cert.Tail.Spec.inv (lastAt X g A wd p) * fn (ix2 0 k) : EReal) := by
  pointwise [k0_pay1, k0_pay76, k0_pay77, k0_pay78]
  rfl

/-- A row with its mixed input added. -/
theorem mixed_apply (X : Vec Ideal S512x1024 .f32) (Y F B : Vec Ideal S512x1024 .bf16) (g : Vec Ideal S1x1x1x1024 .f32) (w : Vec Ideal S1x1024x1024 .bf16)
    (p : Fin 512) (k : Fin 1024) : k0_pay2 X Y F B g w (ix2 p k) =
      (X (ix2 p k) + g (ix4 0 0 0 k) * ∑ j, Cert.Tail.Spec.gelu (Y (ix2 p j)) * ((F (ix2 p j) : EReal) + B (ix2 p j)) * w (ix3 0 j k) : EReal) := by
  pointwise [k0_pay2]
  refine congrArg (fun z : EReal => (X (ix2 p k) + g (ix4 0 0 0 k) * z : EReal)) (Finset.sum_congr rfl fun j _ => ?_)
  unfold Cert.Tail.Spec.gelu
  rw [mul_comm (Ideal.ofBits .f32 0x3F000000#32) (Y (ix2 p j) : EReal), mul_assoc (Y (ix2 p j) : EReal)]

/-- A row's modulated norm. -/
def normAt (X : FVec Ideal S512x1024 .f32) (g : Vec Ideal S1x1024 .f32) (s c : Vec Ideal S1x1x1x1024 .f32)
    (p : Fin 512) (k : Fin 1024) : EReal :=
  X (ix2 p k) * Cert.Tail.Spec.inv (fun k => X (ix2 p k)) * g (ix2 0 k) * (1 + c (ix4 0 0 0 k)) + s (ix4 0 0 0 k)

/-- The rows the convolution reads: the modulated norms of either sequence, with eight zeros before and after. -/
theorem normed_apply (X : FVec Ideal S512x1024 .f32) (g : Vec Ideal S1x1024 .f32) (s c : Vec Ideal S1x1x1x1024 .f32)
    (r : Fin 544) (k : Fin 1024) : (k0_pay4 X (k0_pay3 g) s c (ix2 r k) : EReal) =
      if h : 8 ≤ r.val % 272 ∧ r.val % 272 < 264 then normAt X g s c ⟨256 * (r.val / 272) + (r.val % 272 - 8), by omega⟩ k else 0 := by
  have hr := r.isLt
  pointwise [k0_pay4, k0_pay3]
  by_cases h1 : r.val < 8
  · rw [dif_pos h1, dif_neg (by omega)]
  rw [dif_neg h1]
  by_cases h2 : r.val - 8 < 256
  · rw [dif_pos h2, dif_pos (by omega)]
    exact congrArg (fun p => normAt X g s c p k) (Fin.ext (by show r.val - 8 = 256 * (r.val / 272) + (r.val % 272 - 8); omega))
  rw [dif_neg h2]
  by_cases h3 : r.val - 8 - 256 < 8
  · rw [dif_pos h3, dif_neg (by omega)]
  rw [dif_neg h3]
  by_cases h4 : r.val - 8 - 256 - 8 < 8
  · rw [dif_pos h4, dif_neg (by omega)]
  rw [dif_neg h4]
  by_cases h5 : r.val - 8 - 256 - 8 - 8 < 256
  · rw [dif_pos h5, dif_pos (by omega)]
    exact congrArg (fun p => normAt X g s c p k)
      (Fin.ext (by show 256 + (r.val - 8 - 256 - 8 - 8) = 256 * (r.val / 272) + (r.val % 272 - 8); omega))
  · rw [dif_neg h5, dif_neg (by omega)]

end Cert.Prompt
-- ==== Proof.PromptRows.lean ====
module

public import proofs.«01_k».proof.Proof.PromptBlock

@[expose] public section

set_option maxRecDepth 16384

/-! A block of the prompt's result, once its rows are known to be rows of the arguments. -/

noncomputable section

namespace Cert.Prompt

open Cert.PromptKernelIdeal Cert.PromptKernelIdeal.Gen Cert.PromptKernelIdeal.Value Idealize.ShloMosaic Idealize.ShloMosaic.TcCoe Idealize.SL.Sem

/-- The flat row of a row of block `t`. -/
def rowOf (t : Fin 16) (p : Fin 512) : Fin 8192 := ⟨512 * t.val + p.val, by omega⟩

/-- The sequence a row of block `t` belongs to. -/
def seqOf (t : Fin 16) (p : Fin 512) : Fin 32 := ⟨2 * t.val + p.val / 256, by omega⟩

/-- Its place in the sequence. -/
def placeOf (p : Fin 512) : Fin 256 := ⟨p.val % 256, by omega⟩

/-- Row and place of a row of a block. -/
theorem row_seqOf (t : Fin 16) (p : Fin 512) : Spec.row (seqOf t p) (placeOf p) = rowOf t p :=
  Fin.ext (by show (2 * t.val + p.val / 256) * 256 + p.val % 256 = 512 * t.val + p.val; omega)

/-- What the feed-forward half of block `t` is given: the rows of its two sequences with their mixed input added, and the weights. -/
structure Given (M : Fin 8192 → Fin 1024 → EReal) (A : Cert.Tail.Spec.Ffn) (t : Fin 16) (X : FVec Ideal S512x1024 .f32)
    (g3 g4 g5 : Vec Ideal S1x1x1x1024 .f32) (gn : Vec Ideal S1x1024 .f32) (wu : Vec Ideal S1x1024x5632 .bf16) (cw : Vec Ideal S1x3x5632 .f32)
    (cb : Vec Ideal S1x1x5632 .f32) (wd : Vec Ideal S1x2816x1024 .bf16) : Prop where
  x : ∀ (p : Fin 512) (k : Fin 1024), (X (ix2 p k) : EReal) = M (rowOf t p) k
  m3 : ∀ k, (g3 (ix4 0 0 0 k) : EReal) = A.md 0 3 k
  m4 : ∀ k, (g4 (ix4 0 0 0 k) : EReal) = A.md 0 4 k
  m5 : ∀ k, (g5 (ix4 0 0 0 k) : EReal) = A.md 0 5 k
  gn : ∀ k, (gn (ix2 0 k) : EReal) = A.gn k
  wu : ∀ k c, (wu (ix3 0 k c) : EReal) = A.wu k c
  cw : ∀ j c, (cw (ix3 0 j c) : EReal) = A.cw j c
  cb : ∀ c, (cb (ix3 0 0 c) : EReal) = A.cb c
  wd : ∀ q k, (wd (ix3 0 q k) : EReal) = A.wd q k

variable {M : Fin 8192 → Fin 1024 → EReal} {A : Cert.Tail.Spec.Ffn} {t : Fin 16} {X : FVec Ideal S512x1024 .f32}
  {g3 g4 g5 : Vec Ideal S1x1x1x1024 .f32} {gn : Vec Ideal S1x1024 .f32} {wu : Vec Ideal S1x1024x5632 .bf16} {cw : Vec Ideal S1x3x5632 .f32}
  {cb : Vec Ideal S1x1x5632 .f32} {wd : Vec Ideal S1x2816x1024 .bf16}
  (G : Given M A t X g3 g4 g5 gn wu cw cb wd)

include G

/-- A row's modulated norm, in the arguments. -/
theorem norm_of (p : Fin 512) (k : Fin 1024) : normAt X gn g3 g4 p k = Spec.normed M A (rowOf t p) k := by
  unfold normAt
  simp only [G.x p, G.gn, G.m3, G.m4]
  rfl

/-- The rows the convolution reads around a row of the block: those of its sequence, and zeros past the ends. -/
theorem padded_of (p : Fin 512) (r : Fin 544) (n : ℕ) (hn : n ≤ 257) (h : r.val = 272 * (p.val / 256) + 7 + n) (k : Fin 1024) :
    (k0_pay4 X (k0_pay3 gn) g3 g4 (ix2 r k) : EReal) = Spec.padded M A (seqOf t p) n k := by
  have hp := p.isLt
  have ht := t.isLt
  rw [normed_apply]
  unfold Spec.padded
  by_cases h1 : 1 ≤ n ∧ n ≤ 256
  · rw [dif_pos h1, dif_pos (by omega), norm_of G]
    refine congrArg (fun z => Spec.normed M A z k) (Fin.ext ?_)
    show 512 * t.val + (256 * (r.val / 272) + (r.val % 272 - 8)) = (2 * t.val + p.val / 256) * 256 + (n - 1)
    omega
  · rw [dif_neg h1, dif_neg (by omega)]

/-- The rows the convolution reads. -/
def hidden (_ : Given M A t X g3 g4 g5 gn wu cw cb wd) : FVec Ideal S544x1024 .bf16 := k0_pay4 X (k0_pay3 gn) g3 g4

/-- The up projection of a row, in the arguments. -/
theorem up_of (p : Fin 512) (r : Fin 544) (c : Fin 5632) (n : ℕ) (hn : n ≤ 257) (h : r.val = 272 * (p.val / 256) + 7 + n) :
    upAt (hidden G) wu r c = Spec.up M A (seqOf t p) n c := by
  unfold upAt Spec.up hidden
  refine Finset.sum_congr rfl fun k _ => ?_
  rw [padded_of G p r n hn h, G.wu]

/-- The convolution, in the arguments. -/
theorem conv_of (p : Fin 512) (c : Fin 5632) : convAt (hidden G) wu cw cb p c = Spec.conv M A (seqOf t p) (placeOf p) c := by
  have hp := p.isLt
  have e : (placeOf p).val = p.val % 256 := rfl
  unfold convAt Spec.conv
  rw [up_of G p _ c (placeOf p).val (by omega) (by show 7 + (16 * (p.val / 256) + p.val) = _; omega),
    up_of G p _ c ((placeOf p).val + 1) (by omega) (by show 8 + (16 * (p.val / 256) + p.val) = _; omega),
    up_of G p _ c ((placeOf p).val + 2) (by omega) (by show 9 + (16 * (p.val / 256) + p.val) = _; omega),
    G.cw, G.cw, G.cw, G.cb]

/-- The gated activation, in the arguments. -/
theorem act_of (p : Fin 512) (q : Fin 2816) : actAt (hidden G) wu cw cb p q = Spec.act M A (seqOf t p) (placeOf p) q := by
  unfold actAt Spec.act
  rw [conv_of G, conv_of G]

/-- The layer's row, at its flat row. -/
theorem flat_of {sg : RefSig} (arg14 : Memref sg .tc .vmem S512x2816 .bf16) (p : Fin 512) (k : Fin 1024) :
    lastAt X g5 (acts arg14 (hidden G) wu cw cb) wd p k = Spec.flat M A (rowOf t p) k := by
  have hp := p.isLt
  unfold Spec.flat
  have e1 : (⟨(rowOf t p).val / 256, by omega⟩ : Fin 32) = seqOf t p :=
    Fin.ext (by show (512 * t.val + p.val) / 256 = 2 * t.val + p.val / 256; omega)
  have e2 : (⟨(rowOf t p).val % 256, by omega⟩ : Fin 256) = placeOf p :=
    Fin.ext (by show (512 * t.val + p.val) % 256 = p.val % 256; omega)
  rw [e1, e2]
  unfold lastAt Spec.layer
  rw [row_seqOf, G.x, G.m5]
  refine congrArg (fun z : EReal => (M (rowOf t p) k + A.md 0 5 k * z : EReal)) (Finset.sum_congr rfl fun q _ => ?_)
  rw [acts_apply, act_of G, G.wd]

/-- The normed result's row, in the arguments. -/
theorem result_of {sg : RefSig} (arg14 : Memref sg .tc .vmem S512x2816 .bf16) {fn : Vec Ideal S1x1024 .f32} {wf : Fin 1024 → EReal}
    (hn : ∀ k, (fn (ix2 0 k) : EReal) = wf k) (p : Fin 512) (k : Fin 1024) :
    (k0_pay1 (k0_pay76 X g5 (acts arg14 (hidden G) wu cw cb) wd) (k0_pay77 fn) (k0_pay78 X g5 (acts arg14 (hidden G) wu cw cb) wd) (ix2 p k) : EReal)
      = Spec.final M A wf (rowOf t p) k := by
  rw [last_apply]
  unfold Spec.final
  rw [hn, funext fun k => flat_of G arg14 p k]

end Cert.Prompt
-- ==== Proof.PromptArrays.lean ====
module

public import proofs.«01_k».proof.Proof.PromptRows
public import proofs.«01_k».proof.Proof.TailArrays
public import Idealize.ShloMosaic.Lib.Pipeline.ValueKit
public import Idealize.ShloMosaic.Lib.StableHlo.ReadAt

@[expose] public section

set_option maxRecDepth 16384

/-! The array the prompt's last tail leaves, as its arguments' final norm. -/

noncomputable section

namespace Cert.Prompt

open Cert.PromptKernelIdeal Cert.PromptKernelIdeal.Gen Cert.PromptKernelIdeal.Value Idealize.ShloMosaic Idealize.ShloMosaic.TcCoe Idealize.SL.Sem

variable (m : (ℓ : Loc nD τ sig) → Buf (Elt Ideal) ℓ) (dv : Dev nD)

/-- The arguments the kernel reads. -/
def kargs : Spec.Args where
  x r k := (m ((dv : Thread nD τ).loc main_arg0) : Vec Ideal S8192x1024 .f32) (ix2 r k)
  y r k := (m ((dv : Thread nD τ).loc main_arg1) : Vec Ideal S8192x1024 .bf16) (ix2 r k)
  hf r k := (m ((dv : Thread nD τ).loc main_arg2) : Vec Ideal S8192x1024 .bf16) (ix2 r k)
  hb r k := (m ((dv : Thread nD τ).loc main_arg3) : Vec Ideal S8192x1024 .bf16) (ix2 r k)
  md a b k := (m ((dv : Thread nD τ).loc main_arg4) : Vec Ideal S4x8x6x1024 .f32) (ix4 3 a b k)
  wo j k := (m ((dv : Thread nD τ).loc main_arg5) : Vec Ideal S2x1024x1024 .f32) (ix3 1 j k)
  gn k := (m ((dv : Thread nD τ).loc main_arg6) : Vec Ideal S4x1024 .f32) (ix2 3 k)
  wu k c := (m ((dv : Thread nD τ).loc main_arg7) : Vec Ideal S4x1024x5632 .f32) (ix3 3 k c)
  cw j c := (m ((dv : Thread nD τ).loc main_arg8) : Vec Ideal S4x3x5632 .f32) (ix3 3 j c)
  cb c := (m ((dv : Thread nD τ).loc main_arg9) : Vec Ideal S4x5632 .f32) (ix2 3 c)
  wd q k := (m ((dv : Thread nD τ).loc main_arg10) : Vec Ideal S4x2816x1024 .f32) (ix3 3 q k)

/-- The weights of the final norm. -/
def fnorm (k : Fin 1024) : EReal := (m ((dv : Thread nD τ).loc main_arg11) : Vec Ideal S1024 .f32) (ix1 k)

/-- Which blocks each point is given. -/
theorem idx_win : ∀ t : Fin grid0.N, win0_0.index t = ![t.val, 0] ∧
    win0_1.index t = ![t.val, 0] ∧
    win0_2.index t = ![t.val, 0] ∧
    win0_3.index t = ![t.val, 0] ∧
    win0_4.index t = ![3, 0, 0, 0] ∧
    win0_5.index t = ![1, 0, 0] ∧
    win0_6.index t = ![0, 0] ∧
    win0_7.index t = ![3, 0, 0] ∧
    win0_8.index t = ![3, 0, 0] ∧
    win0_9.index t = ![3, 0, 0] ∧
    win0_10.index t = ![3, 0, 0] ∧
    win0_11.index t = ![0, 0] ∧
    win0_12.index t = ![t.val, 0] := by decide +kernel

/-- There are sixteen points. -/
theorem point_lt (t : Fin cfg0.N) : t.val < 16 := t.isLt

/-- The block of stream `x`. -/
theorem rows_x (t : Fin cfg0.N) (p : Fin 512) (k : Fin 1024) :
    ((iblk m dv 0 t : Vec Ideal S512x1024 .f32) (ix2 p k) : EReal) = (kargs m dv).x (rowOf t p) k := by
  have ht := point_lt t
  have hp := p.isLt
  unfold kargs rowOf
  dsimp only
  blk_ext [iblk, V_main_arg0, idx_win t]

/-- The block of stream `y`. -/
theorem rows_y (t : Fin cfg0.N) (p : Fin 512) (k : Fin 1024) :
    ((iblk m dv 1 t : Vec Ideal S512x1024 .bf16) (ix2 p k) : EReal) = (kargs m dv).y (rowOf t p) k := by
  have ht := point_lt t
  have hp := p.isLt
  unfold kargs rowOf
  dsimp only
  blk_ext [iblk, V_main_arg1, idx_win t]

/-- The block of stream `hf`. -/
theorem rows_hf (t : Fin cfg0.N) (p : Fin 512) (k : Fin 1024) :
    ((iblk m dv 2 t : Vec Ideal S512x1024 .bf16) (ix2 p k) : EReal) = (kargs m dv).hf (rowOf t p) k := by
  have ht := point_lt t
  have hp := p.isLt
  unfold kargs rowOf
  dsimp only
  blk_ext [iblk, V_main_arg2, idx_win t]

/-- The block of stream `hb`. -/
theorem rows_hb (t : Fin cfg0.N) (p : Fin 512) (k : Fin 1024) :
    ((iblk m dv 3 t : Vec Ideal S512x1024 .bf16) (ix2 p k) : EReal) = (kargs m dv).hb (rowOf t p) k := by
  have ht := point_lt t
  have hp := p.isLt
  unfold kargs rowOf
  dsimp only
  blk_ext [iblk, V_main_arg3, idx_win t]

/-- The modulation's block. -/
theorem blk_mod (t : Fin cfg0.N) (j : Fin 6) (k : Fin 1024) :
    (iblk m dv 4 t : Vec Ideal S1x1x6x1024 .f32) (ix4 0 0 j k) = (kargs m dv).md 0 j k := by
  have ht := point_lt t
  unfold kargs
  dsimp only
  blk_ext [iblk, V_main_arg4, idx_win t]

/-- The argument `wo` as the host hands it on. -/
theorem host_wo (j k : Fin 1024) : (V m dv main_v0 : Vec Ideal S2x1024x1024 .bf16) (ix3 1 j k) = (kargs m dv).wo j k := by
  entry_read
  rfl

/-- Its block. -/
theorem blk_wo (t : Fin cfg0.N) (j k : Fin 1024) : (iblk m dv 5 t : Vec Ideal S1x1024x1024 .bf16) (ix3 0 j k) = (kargs m dv).wo j k := by
  rw [← host_wo]
  blk_ext [iblk, idx_win t]

/-- The argument `gn` as the host hands it on. -/
theorem host_gn (k : Fin 1024) : (V m dv main_v3 : Vec Ideal S1x1024 .f32) (ix2 0 k) = (kargs m dv).gn k := by
  entry_read
  show ((shapeCast S1x1024 (shapeCast S1024 (extractStridedSlice S1x1024 ![3, 0] (m (dv, Proc.tc.devRef main_arg6) : Vec Ideal S4x1024 .f32) slices_S4x1024_S1x1024_3_0 : Vec Ideal S1x1024 .f32) shapeCasts_S1x1024_S1024 : Vec Ideal S1024 .f32) shapeCasts_S1024_S1x1024 : Vec Ideal S1x1024 .f32) (ix2 0 k) : EReal) = _
  pointwise
  rfl

/-- Its block. -/
theorem blk_gn (t : Fin cfg0.N) (k : Fin 1024) : (iblk m dv 6 t : Vec Ideal S1x1024 .f32) (ix2 0 k) = (kargs m dv).gn k := by
  rw [← host_gn]
  blk_ext [iblk, idx_win t]

/-- The argument `wu` as the host hands it on. -/
theorem host_wu (k : Fin 1024) (c : Fin 5632) : (V m dv main_v4 : Vec Ideal S4x1024x5632 .bf16) (ix3 3 k c) = (kargs m dv).wu k c := by
  entry_read
  rfl

/-- Its block. -/
theorem blk_wu (t : Fin cfg0.N) (k : Fin 1024) (c : Fin 5632) : (iblk m dv 7 t : Vec Ideal S1x1024x5632 .bf16) (ix3 0 k c) = (kargs m dv).wu k c := by
  rw [← host_wu]
  blk_ext [iblk, idx_win t]

/-- The block of `cw`. -/
theorem blk_cw (t : Fin cfg0.N) (j : Fin 3) (c : Fin 5632) : (iblk m dv 8 t : Vec Ideal S1x3x5632 .f32) (ix3 0 j c) = (kargs m dv).cw j c := by
  unfold kargs
  dsimp only
  blk_ext [iblk, V_main_arg8, idx_win t]

/-- The argument `cb` as the host hands it on. -/
theorem host_cb (c : Fin 5632) : (V m dv main_v5 : Vec Ideal S4x1x5632 .f32) (ix3 3 0 c) = (kargs m dv).cb c := by
  entry_read
  exact Cert.Tail.stack_apply (m (dv, Proc.tc.devRef main_arg9)) 3 c

/-- Its block. -/
theorem blk_cb (t : Fin cfg0.N) (c : Fin 5632) : (iblk m dv 9 t : Vec Ideal S1x1x5632 .f32) (ix3 0 0 c) = (kargs m dv).cb c := by
  rw [← host_cb]
  blk_ext [iblk, idx_win t]

/-- The argument `wd` as the host hands it on. -/
theorem host_wd (q : Fin 2816) (k : Fin 1024) : (V m dv main_v6 : Vec Ideal S4x2816x1024 .bf16) (ix3 3 q k) = (kargs m dv).wd q k := by
  entry_read
  rfl

/-- Its block. -/
theorem blk_wd (t : Fin cfg0.N) (q : Fin 2816) (k : Fin 1024) : (iblk m dv 10 t : Vec Ideal S1x2816x1024 .bf16) (ix3 0 q k) = (kargs m dv).wd q k := by
  rw [← host_wd]
  blk_ext [iblk, idx_win t]

/-- The argument `fn` as the host hands it on. -/
theorem host_fn (k : Fin 1024) : (V m dv main_v7 : Vec Ideal S1x1024 .f32) (ix2 0 k) = fnorm m dv k := by
  entry_read
  show ((shapeCast S1x1024 (m (dv, Proc.tc.devRef main_arg11) : Vec Ideal S1024 .f32) shapeCasts_S1024_S1x1024 : Vec Ideal S1x1024 .f32) (ix2 0 k) : EReal) = _
  pointwise
  rfl

/-- Its block. -/
theorem blk_fn (t : Fin cfg0.N) (k : Fin 1024) : (iblk m dv 11 t : Vec Ideal S1x1024 .f32) (ix2 0 k) = fnorm m dv k := by
  rw [← host_fn]
  blk_ext [iblk, idx_win t]

/-- A row of the block with its mixed input added. -/
theorem rows_mixed (t : Fin cfg0.N) (p : Fin 512) (k : Fin 1024) :
    ((k0_pay2 (iblk m dv 0 t : Vec Ideal S512x1024 .f32) (iblk m dv 1 t : Vec Ideal S512x1024 .bf16) (iblk m dv 2 t : Vec Ideal S512x1024 .bf16)
      (iblk m dv 3 t : Vec Ideal S512x1024 .bf16) (Cert.Tail.modRow (iblk m dv 4 t : Vec Ideal S1x1x6x1024 .f32) 2 inb_S1x1x6x1024_S1x1x1x1024_0_0_2_0)
      (iblk m dv 5 t : Vec Ideal S1x1024x1024 .bf16))
      (ix2 p k) : EReal) = Spec.mixed (kargs m dv) (rowOf t p) k := by
  rw [mixed_apply, Cert.Tail.modRow_apply _ 2 (by decide), blk_mod, rows_x]
  unfold Spec.mixed
  refine congrArg (fun z : EReal => ((kargs m dv).x (rowOf t p) k + (kargs m dv).md 0 2 k * z : EReal)) (Finset.sum_congr rfl fun j _ => ?_)
  rw [rows_y, rows_hf, rows_hb, blk_wo]

/-- What each point is given. -/
theorem given (t : Fin cfg0.N) : Given (Spec.mixed (kargs m dv)) (kargs m dv).toFfn t
    (k0_pay2 (iblk m dv 0 t : Vec Ideal S512x1024 .f32) (iblk m dv 1 t : Vec Ideal S512x1024 .bf16) (iblk m dv 2 t : Vec Ideal S512x1024 .bf16)
      (iblk m dv 3 t : Vec Ideal S512x1024 .bf16) (Cert.Tail.modRow (iblk m dv 4 t : Vec Ideal S1x1x6x1024 .f32) 2 inb_S1x1x6x1024_S1x1x1x1024_0_0_2_0)
      (iblk m dv 5 t : Vec Ideal S1x1024x1024 .bf16))
    (Cert.Tail.modRow (iblk m dv 4 t : Vec Ideal S1x1x6x1024 .f32) 3 inb_S1x1x6x1024_S1x1x1x1024_0_0_3_0)
    (Cert.Tail.modRow (iblk m dv 4 t : Vec Ideal S1x1x6x1024 .f32) 4 inb_S1x1x6x1024_S1x1x1x1024_0_0_4_0)
    (Cert.Tail.modRow (iblk m dv 4 t : Vec Ideal S1x1x6x1024 .f32) 5 inb_S1x1x6x1024_S1x1x1x1024_0_0_5_0)
    (iblk m dv 6 t : Vec Ideal S1x1024 .f32) (iblk m dv 7 t : Vec Ideal S1x1024x5632 .bf16)
    (iblk m dv 8 t : Vec Ideal S1x3x5632 .f32) (iblk m dv 9 t : Vec Ideal S1x1x5632 .f32) (iblk m dv 10 t : Vec Ideal S1x2816x1024 .bf16) where
  x := rows_mixed m dv t
  m3 := fun k => (Cert.Tail.modRow_apply _ 3 (by decide) _ k).trans (blk_mod m dv t 3 k)
  m4 := fun k => (Cert.Tail.modRow_apply _ 4 (by decide) _ k).trans (blk_mod m dv t 4 k)
  m5 := fun k => (Cert.Tail.modRow_apply _ 5 (by decide) _ k).trans (blk_mod m dv t 5 k)
  gn := blk_gn m dv t
  wu := blk_wu m dv t
  cw := blk_cw m dv t
  cb := blk_cb m dv t
  wd := blk_wd m dv t

/-- The result's array. -/
def result (A : Spec.Args) (fn : Fin 1024 → EReal) : Vec Ideal S8192x1024 .f32 := fun j => Spec.final (Spec.mixed A) A.toFfn fn (j 0) (j 1)

/-- The result's array after the run. -/
theorem arr12 : (dats m 0 dv).arrAt 12 cfg0.N = result (kargs m dv) (fnorm m dv) := by
  refine (dats m 0 dv).arrAt_eq_of_covers 12 _ (by decide +kernel) fun t hf y => ?_
  blk_simp
  rw [after0_12]
  unfold outsAt0
  dsimp only
  rw [out_eq]
  obtain ⟨p, k, rfl⟩ : ∃ (p : Fin 512) (k : Fin 1024), y = ix2 p k := ⟨y 0, y 1, eq_ix2 y⟩
  have ht := point_lt t
  refine Eq.trans (result_of (given m dv t) _ (blk_fn m dv t) p k) ?_
  unfold result
  refine congrArg₂ (Spec.final (Spec.mixed (kargs m dv)) (kargs m dv).toFfn (fnorm m dv)) (Fin.ext ?_) (Fin.ext ?_)
  · blk_simp [idx_win t]
    show 512 * t.val + p.val = t.val * 512 + p.val
    omega
  · blk_simp [idx_win t]

/-- What the program leaves. -/
theorem run_kernel (ρ : Dev nD → PrngReg) :
    θ_run defs (onTc (τ := τ) (main (F := Ideal))) ⟨m, fun _ => 0, ρ⟩ fun r => ∀ c : Dev nD,
      r.2.mem ((c : Thread nD τ).loc main_v8) = result (kargs m c) (fnorm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run _ _ _).mono (fun _ h c => ⟨(h c).1.trans (arr12 m c), (h c).2⟩) (run_blocks m ρ)

end Cert.Prompt
-- ==== Proof.PromptRef.lean ====
module

public import proofs.«01_k».proof.Proof.PromptSpec
public import proofs.«01_k».proof.Proof.Gen.PromptReferenceIdeal.Run
public import Idealize.ShloMosaic.Lib.Pipeline.ValueKit
public import Idealize.ShloMosaic.Lib.Pointwise
public import Idealize.ShloMosaic.Lib.IdealHost
public import Idealize.ShloMosaic.Lib.StableHlo.ReadAt

@[expose] public section

set_option maxRecDepth 8192

/-! The reference of the prompt's last tail, read at a row and a column. -/

noncomputable section

namespace Cert.PromptRef

open Cert.PromptReferenceIdeal Cert.PromptReferenceIdeal.Gen Cert.PromptReferenceIdeal.Value Idealize.ShloMosaic Idealize.ShloMosaic.TcCoe Idealize.SL.Sem
open Idealize.ShloMosaic.StableHlo

variable (V : Valuation τ sig (Elt Ideal))

/-- The arguments the reference reads. -/
def args : Cert.Prompt.Spec.Args where
  x r k := V (Proc.devRef .tc main_arg0) (ix2 r k)
  y r k := V (Proc.devRef .tc main_arg1) (ix2 r k)
  hf r k := V (Proc.devRef .tc main_arg2) (ix2 r k)
  hb r k := V (Proc.devRef .tc main_arg3) (ix2 r k)
  md a b k := V (Proc.devRef .tc main_arg4) (ix4 3 a b k)
  wo j k := V (Proc.devRef .tc main_arg5) (ix3 1 j k)
  gn k := V (Proc.devRef .tc main_arg6) (ix2 3 k)
  wu k c := V (Proc.devRef .tc main_arg7) (ix3 3 k c)
  cw t c := V (Proc.devRef .tc main_arg8) (ix3 3 t c)
  cb c := V (Proc.devRef .tc main_arg9) (ix2 3 c)
  wd q k := V (Proc.devRef .tc main_arg10) (ix3 3 q k)

/-- The weights of the final norm. -/
def fnorm (k : Fin 1024) : EReal := V (Proc.devRef .tc main_arg11) (ix1 k)

/-- The rows with their mixed input added. -/
theorem mixed_apply (n : Fin 32) (s : Fin 256) (k : Fin 1024) :
    res_main_v39 V (ix3 n s k) = Cert.Prompt.Spec.mixed (args V) (Cert.Prompt.Spec.row n s) k := by
  unfold res_main_v39 res_main_v16
  pointwise
  rfl

/-- The integer zero as a float. -/
theorem zero_float : (FloatOps.sitofp FTy.f32 (0#32) : Ideal .f32) = (0 : EReal) := by
  show (((0#32 : BitVec 32).toInt : ℝ) : EReal) = 0
  simp

/-- The padded up projection. -/
theorem up_apply (n : Fin 32) (s : Fin 258) (c : Fin 5632) :
    res_main_v64 V (ix3 n s c) = Cert.Prompt.Spec.up (Cert.Prompt.Spec.mixed (args V)) (args V).toFfn n s.val c := by
  unfold res_main_v64
  pointwise
  by_cases h : 1 ≤ s.val ∧ s.val - 1 < 256
  · rw [dif_pos h]
    refine Eq.trans ?_ (Cert.Prompt.Spec.up_inside _ _ n s.val h.1 h.2 c).symm
    simp only [mixed_apply]
    rfl
  · rw [dif_neg h, Cert.Prompt.Spec.up_outside _ _ _ _ (by omega)]
    exact zero_float

/-- The convolution. -/
theorem conv_apply (n : Fin 32) (s : Fin 256) (c : Fin 5632) :
    res_main_v91 V (ix3 n s c) = Cert.Prompt.Spec.conv (Cert.Prompt.Spec.mixed (args V)) (args V).toFfn n s c := by
  unfold res_main_v91 res_main_v66
  pointwise
  rw [up_apply, up_apply, up_apply]
  unfold Cert.Prompt.Spec.conv
  rw [Nat.add_comm s.val 1, Nat.add_comm s.val 2]
  rfl

/-- The layer's rows. -/
theorem layer_apply (n : Fin 32) (s : Fin 256) (k : Fin 1024) :
    res_main_v101 V (ix3 n s k) = Cert.Prompt.Spec.layer (Cert.Prompt.Spec.mixed (args V)) (args V).toFfn n s k := by
  unfold res_main_v101 res_main_v92
  pointwise
  simp only [conv_apply, mixed_apply]
  rfl

/-- The result. -/
theorem final_apply (r : Fin 8192) (k : Fin 1024) :
    (shapeCast _ (mulf (mulf (res_main_v101 V) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (res_main_v101 V) (res_main_v101 V)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (V (Proc.devRef .tc main_arg11))))) shapeCasts_S32x256x1024_S8192x1024 : Vec Ideal S8192x1024 .f32) (ix2 r k) = Cert.Prompt.Spec.final (Cert.Prompt.Spec.mixed (args V)) (args V).toFfn (fnorm V) r k := by
  pointwise
  simp only [layer_apply]
  rfl

end Cert.PromptRef
-- ==== Proof.MidBlock.lean ====
module

public import proofs.«01_k».proof.Proof.TailChunk
public import proofs.«01_k».proof.Proof.Gen.MidKernelIdeal.Value
public import Idealize.ShloMosaic.Lib.Pipeline.ValueKit

@[expose] public section

set_option maxRecDepth 16384

/-! What the body of the second layer's tail leaves in its result block: it computes as the last layer's does, without the final norm. -/

noncomputable section

namespace Cert.Mid

open Cert.MidKernelIdeal Cert.MidKernelIdeal.Gen Cert.MidKernelIdeal.Value Idealize.ShloMosaic Idealize.ShloMosaic.TcCoe Idealize.SL.Sem

/-- The rows of the first stream, computed as in the last layer. -/
theorem pay1_eq : @Cert.TailKernelIdeal.Gen.k0_pay1 Ideal = @k0_pay1 Ideal := rfl

/-- The rows of the second stream, computed as in the last layer. -/
theorem pay2_eq : @Cert.TailKernelIdeal.Gen.k0_pay2 Ideal _ = @k0_pay2 Ideal _ := rfl

/-- The rows of the third stream, computed as in the last layer. -/
theorem pay3_eq : @Cert.TailKernelIdeal.Gen.k0_pay3 Ideal _ = @k0_pay3 Ideal _ := rfl

/-- The rows of the fourth stream, computed as in the last layer. -/
theorem pay4_eq : @Cert.TailKernelIdeal.Gen.k0_pay4 Ideal _ = @k0_pay4 Ideal _ := rfl

/-- The zero of the mask, computed as in the last layer. -/
theorem pay5_eq : @Cert.TailKernelIdeal.Gen.k0_pay5 Ideal _ = @k0_pay5 Ideal _ := rfl

/-- The rows with their mixed input added, computed as in the last layer. -/
theorem pay6_eq : @Cert.TailKernelIdeal.Gen.k0_pay6 Ideal _ = @k0_pay6 Ideal _ := rfl

/-- The row of norm weights, computed as in the last layer. -/
theorem pay7_eq : @Cert.TailKernelIdeal.Gen.k0_pay7 Ideal = @k0_pay7 Ideal := rfl

/-- The row of shifts, computed as in the last layer. -/
theorem pay8_eq : @Cert.TailKernelIdeal.Gen.k0_pay8 Ideal = @k0_pay8 Ideal := rfl

/-- The row of scales, computed as in the last layer. -/
theorem pay9_eq : @Cert.TailKernelIdeal.Gen.k0_pay9 Ideal = @k0_pay9 Ideal := rfl

/-- The factors of the norm, computed as in the last layer. -/
theorem pay10_eq : @Cert.TailKernelIdeal.Gen.k0_pay10 Ideal _ = @k0_pay10 Ideal _ := rfl

/-- The modulated norm, computed as in the last layer. -/
theorem pay11_eq : @Cert.TailKernelIdeal.Gen.k0_pay11 Ideal _ = @k0_pay11 Ideal _ := rfl

set_option maxHeartbeats 4000000 in
/-- The result block from the rows with their mixed input added and their modulated norm. -/
theorem out_eq (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (arg11 : Memref sig .tc .vmem S512x1024 .bf16) (harg11 : arg11.IsWhole) (arg12 : Memref sig .tc .vmem S16x1024 .bf16) (harg12 : arg12.IsWhole) (arg13 : Memref sig .tc .vmem S1x1x6x1024 .f32) (harg13 : arg13.IsWhole) (arg14 : Memref sig .tc .vmem S1x1024x1024 .bf16) (harg14 : arg14.IsWhole) (arg15 : Memref sig .tc .vmem S1x1024 .f32) (harg15 : arg15.IsWhole) (arg16 : Memref sig .tc .vmem S1x1024x5632 .bf16) (harg16 : arg16.IsWhole) (arg17 : Memref sig .tc .vmem S1x3x5632 .f32) (harg17 : arg17.IsWhole) (arg18 : Memref sig .tc .vmem S1x1x5632 .f32) (harg18 : arg18.IsWhole) (arg19 : Memref sig .tc .vmem S1x2816x1024 .bf16) (harg19 : arg19.IsWhole) (arg20 : Memref sig .tc .vmem S512x1024 .f32) (harg20 : arg20.IsWhole) (arg21 : Memref sig .tc .vmem S512x2816 .bf16) (harg21 : arg21.IsWhole)
    (x0 : Vec Ideal S16x1024 .f32) (x1 : Vec Ideal S512x1024 .f32) (x2 : Vec Ideal S16x1024 .f32) (x3 : Vec Ideal S16x1024 .bf16) (x4 : Vec Ideal S512x1024 .bf16) (x5 : Vec Ideal S16x1024 .bf16) (x6 : Vec Ideal S16x1024 .bf16) (x7 : Vec Ideal S512x1024 .bf16) (x8 : Vec Ideal S16x1024 .bf16) (x9 : Vec Ideal S16x1024 .bf16) (x10 : Vec Ideal S512x1024 .bf16) (x11 : Vec Ideal S16x1024 .bf16) (x12 : Vec Ideal S1x1x6x1024 .f32) (x13 : Vec Ideal S1x1024x1024 .bf16) (x14 : Vec Ideal S1x1024 .f32) (x15 : Vec Ideal S1x1024x5632 .bf16) (x16 : Vec Ideal S1x3x5632 .f32) (x17 : Vec Ideal S1x1x5632 .f32) (x18 : Vec Ideal S1x2816x1024 .bf16) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 =
      k0_pay66
        (Cert.TailKernelIdeal.Gen.k0_pay6 (Cert.TailKernelIdeal.Gen.k0_pay1 x0 x1 x2) (Cert.TailKernelIdeal.Gen.k0_pay2 x3 x4 x5) (Cert.TailKernelIdeal.Gen.k0_pay3 x6 x7 x8) (Cert.TailKernelIdeal.Gen.k0_pay4 x9 x10 x11) Cert.TailKernelIdeal.Gen.k0_pay5
          (Cert.Tail.modRow x12 2 inb_S1x1x6x1024_S1x1x1x1024_0_0_2_0) x13)
        (Cert.Tail.modRow x12 5 inb_S1x1x6x1024_S1x1x1x1024_0_0_5_0)
        (Cert.Tail.acts arg21 (Cert.TailKernelIdeal.Gen.k0_pay11 (BitVec.ofNat 32 ↑(i 0))
            (Cert.TailKernelIdeal.Gen.k0_pay6 (Cert.TailKernelIdeal.Gen.k0_pay1 x0 x1 x2) (Cert.TailKernelIdeal.Gen.k0_pay2 x3 x4 x5) (Cert.TailKernelIdeal.Gen.k0_pay3 x6 x7 x8) (Cert.TailKernelIdeal.Gen.k0_pay4 x9 x10 x11) Cert.TailKernelIdeal.Gen.k0_pay5
          (Cert.Tail.modRow x12 2 inb_S1x1x6x1024_S1x1x1x1024_0_0_2_0) x13)
            (Cert.TailKernelIdeal.Gen.k0_pay7 x14) (Cert.TailKernelIdeal.Gen.k0_pay8 (Cert.Tail.modRow x12 3 inb_S1x1x6x1024_S1x1x1x1024_0_0_3_0)) (Cert.TailKernelIdeal.Gen.k0_pay9 (Cert.Tail.modRow x12 4 inb_S1x1x6x1024_S1x1x1x1024_0_0_4_0))
            (Cert.TailKernelIdeal.Gen.k0_pay10 (Cert.TailKernelIdeal.Gen.k0_pay1 x0 x1 x2) (Cert.TailKernelIdeal.Gen.k0_pay2 x3 x4 x5) (Cert.TailKernelIdeal.Gen.k0_pay3 x6 x7 x8) (Cert.TailKernelIdeal.Gen.k0_pay4 x9 x10 x11) Cert.TailKernelIdeal.Gen.k0_pay5
          (Cert.Tail.modRow x12 2 inb_S1x1x6x1024_S1x1x1x1024_0_0_2_0) x13)) x15 x16 x17)
        x18 := by
  unfold out0_A_19
  frame_out
  unfold Cert.Tail.modRow Cert.Tail.acts
  rw [pay1_eq, pay2_eq, pay3_eq, pay4_eq, pay5_eq, pay6_eq, pay7_eq, pay8_eq, pay9_eq, pay10_eq, pay11_eq]
  generalize eD : k0_pay10 (F := Ideal) _ _ _ _ _ _ _ = D
  generalize eX : k0_pay6 (F := Ideal) _ _ _ _ _ _ _ = X
  unfold k0_pay14 k0_pay15 k0_pay12
  generalize eH : k0_pay11 (F := Ideal) _ _ _ _ _ _ = H
  rfl

/-- The rows with the product of the activations added. -/
theorem out_apply (X : FVec Ideal S528x1024 .f32) (g : Vec Ideal S1x1x1x1024 .f32) (A : Vec Ideal S512x2816 .bf16) (wd : Vec Ideal S1x2816x1024 .bf16)
    (p : Fin 512) (k : Fin 1024) : k0_pay66 X g A wd (ix2 p k) = Cert.Tail.lastAt X g A wd p k := by
  pointwise [k0_pay66]
  rfl

end Cert.Mid
-- ==== Proof.MidArrays.lean ====
module

public import proofs.«01_k».proof.Proof.MidBlock
public import proofs.«01_k».proof.Proof.TailArrays
public import Idealize.ShloMosaic.Lib.Pipeline.ValueKit
public import Idealize.ShloMosaic.Lib.StableHlo.ReadAt

@[expose] public section

set_option maxRecDepth 16384

/-! The array the second layer's tail leaves, as the layer of its arguments. -/

noncomputable section

namespace Cert.Mid

open Cert.Tail Cert.MidKernelIdeal Cert.MidKernelIdeal.Gen Cert.MidKernelIdeal.Value Idealize.ShloMosaic Idealize.ShloMosaic.TcCoe Idealize.SL.Sem

variable (m : (ℓ : Loc nD τ sig) → Buf (Elt Ideal) ℓ) (dv : Dev nD)

/-- The arguments the kernel reads. -/
def kargs : Spec.Args where
  x r k := (m ((dv : Thread nD τ).loc main_arg0) : Vec Ideal S16384x1024 .f32) (ix2 r k)
  y r k := (m ((dv : Thread nD τ).loc main_arg1) : Vec Ideal S16384x1024 .bf16) (ix2 r k)
  hf r k := (m ((dv : Thread nD τ).loc main_arg2) : Vec Ideal S16384x1024 .bf16) (ix2 r k)
  hb r k := (m ((dv : Thread nD τ).loc main_arg3) : Vec Ideal S16384x1024 .bf16) (ix2 r k)
  md a b k := (m ((dv : Thread nD τ).loc main_arg4) : Vec Ideal S4x8x6x1024 .f32) (ix4 1 a b k)
  wo j k := (m ((dv : Thread nD τ).loc main_arg5) : Vec Ideal S2x1024x1024 .f32) (ix3 0 j k)
  gn k := (m ((dv : Thread nD τ).loc main_arg6) : Vec Ideal S4x1024 .f32) (ix2 1 k)
  wu k c := (m ((dv : Thread nD τ).loc main_arg7) : Vec Ideal S4x1024x5632 .f32) (ix3 1 k c)
  cw j c := (m ((dv : Thread nD τ).loc main_arg8) : Vec Ideal S4x3x5632 .f32) (ix3 1 j c)
  cb c := (m ((dv : Thread nD τ).loc main_arg9) : Vec Ideal S4x5632 .f32) (ix2 1 c)
  wd q k := (m ((dv : Thread nD τ).loc main_arg10) : Vec Ideal S4x2816x1024 .f32) (ix3 1 q k)

/-- Which blocks each point is given. -/
theorem idx_win : ∀ t : Fin grid0.N, win0_0.index t = ![32 * t.val - 1, 0] ∧
    win0_1.index t = ![t.val, 0] ∧
    win0_2.index t = ![min (32 * (t.val + 1)) 1023, 0] ∧
    win0_3.index t = ![32 * t.val - 1, 0] ∧
    win0_4.index t = ![t.val, 0] ∧
    win0_5.index t = ![min (32 * (t.val + 1)) 1023, 0] ∧
    win0_6.index t = ![32 * t.val - 1, 0] ∧
    win0_7.index t = ![t.val, 0] ∧
    win0_8.index t = ![min (32 * (t.val + 1)) 1023, 0] ∧
    win0_9.index t = ![32 * t.val - 1, 0] ∧
    win0_10.index t = ![t.val, 0] ∧
    win0_11.index t = ![min (32 * (t.val + 1)) 1023, 0] ∧
    win0_12.index t = ![1, 1 + t.val / 8, 0, 0] ∧
    win0_13.index t = ![0, 0, 0] ∧
    win0_14.index t = ![0, 0] ∧
    win0_15.index t = ![1, 0, 0] ∧
    win0_16.index t = ![1, 0, 0] ∧
    win0_17.index t = ![1, 0, 0] ∧
    win0_18.index t = ![1, 0, 0] ∧
    win0_19.index t = ![t.val, 0] := by decide +kernel

/-- There are thirty-two points. -/
theorem point_lt (t : Fin cfg0.N) : t.val < 32 := t.isLt

/-- The block of stream `x` and its neighbours, in the arguments. -/
theorem rows_x (t : Fin cfg0.N) (p : Fin 528) (r : Fin 16384) (h : r.val + 8 = 512 * t.val + p.val) (k : Fin 1024) :
    (Cert.TailKernelIdeal.Gen.k0_pay1 (iblk m dv 0 t : Vec Ideal S16x1024 .f32) (iblk m dv 1 t : Vec Ideal S512x1024 .f32) (iblk m dv 2 t : Vec Ideal S16x1024 .f32) (ix2 p k) : EReal) = (kargs m dv).x r k := by
  have ht := point_lt t
  have hp := p.isLt
  rw [rows1_apply]
  by_cases h1 : p.val < 8
  · rw [dif_pos h1]
    unfold kargs
    dsimp only
    blk_ext [iblk, V_main_arg0, idx_win t]
  · rw [dif_neg h1]
    by_cases h2 : p.val - 8 < 512
    · rw [dif_pos h2]
      unfold kargs
      dsimp only
      blk_ext [iblk, V_main_arg0, idx_win t]
    · rw [dif_neg h2]
      unfold kargs
      dsimp only
      blk_ext [iblk, V_main_arg0, idx_win t]

/-- The block of stream `y` and its neighbours, in the arguments. -/
theorem rows_y (t : Fin cfg0.N) (p : Fin 528) (r : Fin 16384) (h : r.val + 8 = 512 * t.val + p.val) (k : Fin 1024) :
    (Cert.TailKernelIdeal.Gen.k0_pay2 (iblk m dv 3 t : Vec Ideal S16x1024 .bf16) (iblk m dv 4 t : Vec Ideal S512x1024 .bf16) (iblk m dv 5 t : Vec Ideal S16x1024 .bf16) (ix2 p k) : EReal) = (kargs m dv).y r k := by
  have ht := point_lt t
  have hp := p.isLt
  rw [rows2_apply]
  by_cases h1 : p.val < 8
  · rw [dif_pos h1]
    unfold kargs
    dsimp only
    blk_ext [iblk, V_main_arg1, idx_win t]
  · rw [dif_neg h1]
    by_cases h2 : p.val - 8 < 512
    · rw [dif_pos h2]
      unfold kargs
      dsimp only
      blk_ext [iblk, V_main_arg1, idx_win t]
    · rw [dif_neg h2]
      unfold kargs
      dsimp only
      blk_ext [iblk, V_main_arg1, idx_win t]

/-- The block of stream `hf` and its neighbours, in the arguments. -/
theorem rows_hf (t : Fin cfg0.N) (p : Fin 528) (r : Fin 16384) (h : r.val + 8 = 512 * t.val + p.val) (k : Fin 1024) :
    (Cert.TailKernelIdeal.Gen.k0_pay3 (iblk m dv 6 t : Vec Ideal S16x1024 .bf16) (iblk m dv 7 t : Vec Ideal S512x1024 .bf16) (iblk m dv 8 t : Vec Ideal S16x1024 .bf16) (ix2 p k) : EReal) = (kargs m dv).hf r k := by
  have ht := point_lt t
  have hp := p.isLt
  rw [rows3_apply]
  by_cases h1 : p.val < 8
  · rw [dif_pos h1]
    unfold kargs
    dsimp only
    blk_ext [iblk, V_main_arg2, idx_win t]
  · rw [dif_neg h1]
    by_cases h2 : p.val - 8 < 512
    · rw [dif_pos h2]
      unfold kargs
      dsimp only
      blk_ext [iblk, V_main_arg2, idx_win t]
    · rw [dif_neg h2]
      unfold kargs
      dsimp only
      blk_ext [iblk, V_main_arg2, idx_win t]

/-- The block of stream `hb` and its neighbours, in the arguments. -/
theorem rows_hb (t : Fin cfg0.N) (p : Fin 528) (r : Fin 16384) (h : r.val + 8 = 512 * t.val + p.val) (k : Fin 1024) :
    (Cert.TailKernelIdeal.Gen.k0_pay4 (iblk m dv 9 t : Vec Ideal S16x1024 .bf16) (iblk m dv 10 t : Vec Ideal S512x1024 .bf16) (iblk m dv 11 t : Vec Ideal S16x1024 .bf16) (ix2 p k) : EReal) = (kargs m dv).hb r k := by
  have ht := point_lt t
  have hp := p.isLt
  rw [rows4_apply]
  by_cases h1 : p.val < 8
  · rw [dif_pos h1]
    unfold kargs
    dsimp only
    blk_ext [iblk, V_main_arg3, idx_win t]
  · rw [dif_neg h1]
    by_cases h2 : p.val - 8 < 512
    · rw [dif_pos h2]
      unfold kargs
      dsimp only
      blk_ext [iblk, V_main_arg3, idx_win t]
    · rw [dif_neg h2]
      unfold kargs
      dsimp only
      blk_ext [iblk, V_main_arg3, idx_win t]

/-- The modulation's block. -/
theorem blk_mod (t : Fin cfg0.N) (j : Fin 6) (k : Fin 1024) :
    (iblk m dv 12 t : Vec Ideal S1x1x6x1024 .f32) (ix4 0 0 j k) = (kargs m dv).md (Spec.cond (seqOf t)) j k := by
  have ht := point_lt t
  unfold kargs Spec.cond seqOf
  dsimp only
  blk_ext [iblk, V_main_arg4, idx_win t]

/-- The argument `wo` as the host hands it on. -/
theorem host_wo (j k : Fin 1024) : (V m dv main_v0 : Vec Ideal S2x1024x1024 .bf16) (ix3 0 j k) = (kargs m dv).wo j k := by
  entry_read
  rfl

/-- Its block. -/
theorem blk_wo (t : Fin cfg0.N) (j k : Fin 1024) : (iblk m dv 13 t : Vec Ideal S1x1024x1024 .bf16) (ix3 0 j k) = (kargs m dv).wo j k := by
  rw [← host_wo]
  blk_ext [iblk, idx_win t]

/-- The argument `gn` as the host hands it on. -/
theorem host_gn (k : Fin 1024) : (V m dv main_v3 : Vec Ideal S1x1024 .f32) (ix2 0 k) = (kargs m dv).gn k := by
  entry_read
  show ((shapeCast S1x1024 (shapeCast S1024 (extractStridedSlice S1x1024 ![1, 0] (m (dv, Proc.tc.devRef main_arg6) : Vec Ideal S4x1024 .f32) slices_S4x1024_S1x1024_1_0 : Vec Ideal S1x1024 .f32) shapeCasts_S1x1024_S1024 : Vec Ideal S1024 .f32) shapeCasts_S1024_S1x1024 : Vec Ideal S1x1024 .f32) (ix2 0 k) : EReal) = _
  pointwise
  rfl

/-- Its block. -/
theorem blk_gn (t : Fin cfg0.N) (k : Fin 1024) : (iblk m dv 14 t : Vec Ideal S1x1024 .f32) (ix2 0 k) = (kargs m dv).gn k := by
  rw [← host_gn]
  blk_ext [iblk, idx_win t]

/-- The argument `wu` as the host hands it on. -/
theorem host_wu (k : Fin 1024) (c : Fin 5632) : (V m dv main_v4 : Vec Ideal S4x1024x5632 .bf16) (ix3 1 k c) = (kargs m dv).wu k c := by
  entry_read
  rfl

/-- Its block. -/
theorem blk_wu (t : Fin cfg0.N) (k : Fin 1024) (c : Fin 5632) : (iblk m dv 15 t : Vec Ideal S1x1024x5632 .bf16) (ix3 0 k c) = (kargs m dv).wu k c := by
  rw [← host_wu]
  blk_ext [iblk, idx_win t]

/-- The block of `cw`. -/
theorem blk_cw (t : Fin cfg0.N) (j : Fin 3) (c : Fin 5632) : (iblk m dv 16 t : Vec Ideal S1x3x5632 .f32) (ix3 0 j c) = (kargs m dv).cw j c := by
  unfold kargs
  dsimp only
  blk_ext [iblk, V_main_arg8, idx_win t]

/-- The argument `cb` as the host hands it on. -/
theorem host_cb (c : Fin 5632) : (V m dv main_v5 : Vec Ideal S4x1x5632 .f32) (ix3 1 0 c) = (kargs m dv).cb c := by
  entry_read
  exact stack_apply (m (dv, Proc.tc.devRef main_arg9)) 1 c

/-- Its block. -/
theorem blk_cb (t : Fin cfg0.N) (c : Fin 5632) : (iblk m dv 17 t : Vec Ideal S1x1x5632 .f32) (ix3 0 0 c) = (kargs m dv).cb c := by
  rw [← host_cb]
  blk_ext [iblk, idx_win t]

/-- The argument `wd` as the host hands it on. -/
theorem host_wd (q : Fin 2816) (k : Fin 1024) : (V m dv main_v6 : Vec Ideal S4x2816x1024 .bf16) (ix3 1 q k) = (kargs m dv).wd q k := by
  entry_read
  rfl

/-- Its block. -/
theorem blk_wd (t : Fin cfg0.N) (q : Fin 2816) (k : Fin 1024) : (iblk m dv 18 t : Vec Ideal S1x2816x1024 .bf16) (ix3 0 q k) = (kargs m dv).wd q k := by
  rw [← host_wd]
  blk_ext [iblk, idx_win t]

/-- What each point is given. -/
theorem given (t : Fin cfg0.N) : Given (Spec.mixed (kargs m dv)) (kargs m dv).toFfn t
    (Cert.TailKernelIdeal.Gen.k0_pay6 (Cert.TailKernelIdeal.Gen.k0_pay1 (iblk m dv 0 t : Vec Ideal S16x1024 .f32) (iblk m dv 1 t : Vec Ideal S512x1024 .f32) (iblk m dv 2 t : Vec Ideal S16x1024 .f32))
      (Cert.TailKernelIdeal.Gen.k0_pay2 (iblk m dv 3 t : Vec Ideal S16x1024 .bf16) (iblk m dv 4 t : Vec Ideal S512x1024 .bf16) (iblk m dv 5 t : Vec Ideal S16x1024 .bf16))
      (Cert.TailKernelIdeal.Gen.k0_pay3 (iblk m dv 6 t : Vec Ideal S16x1024 .bf16) (iblk m dv 7 t : Vec Ideal S512x1024 .bf16) (iblk m dv 8 t : Vec Ideal S16x1024 .bf16))
      (Cert.TailKernelIdeal.Gen.k0_pay4 (iblk m dv 9 t : Vec Ideal S16x1024 .bf16) (iblk m dv 10 t : Vec Ideal S512x1024 .bf16) (iblk m dv 11 t : Vec Ideal S16x1024 .bf16))
      Cert.TailKernelIdeal.Gen.k0_pay5 (modRow (iblk m dv 12 t : Vec Ideal S1x1x6x1024 .f32) 2 inb_S1x1x6x1024_S1x1x1x1024_0_0_2_0) (iblk m dv 13 t : Vec Ideal S1x1024x1024 .bf16))
    (Cert.TailKernelIdeal.Gen.k0_pay10 (Cert.TailKernelIdeal.Gen.k0_pay1 (iblk m dv 0 t : Vec Ideal S16x1024 .f32) (iblk m dv 1 t : Vec Ideal S512x1024 .f32) (iblk m dv 2 t : Vec Ideal S16x1024 .f32))
      (Cert.TailKernelIdeal.Gen.k0_pay2 (iblk m dv 3 t : Vec Ideal S16x1024 .bf16) (iblk m dv 4 t : Vec Ideal S512x1024 .bf16) (iblk m dv 5 t : Vec Ideal S16x1024 .bf16))
      (Cert.TailKernelIdeal.Gen.k0_pay3 (iblk m dv 6 t : Vec Ideal S16x1024 .bf16) (iblk m dv 7 t : Vec Ideal S512x1024 .bf16) (iblk m dv 8 t : Vec Ideal S16x1024 .bf16))
      (Cert.TailKernelIdeal.Gen.k0_pay4 (iblk m dv 9 t : Vec Ideal S16x1024 .bf16) (iblk m dv 10 t : Vec Ideal S512x1024 .bf16) (iblk m dv 11 t : Vec Ideal S16x1024 .bf16))
      Cert.TailKernelIdeal.Gen.k0_pay5 (modRow (iblk m dv 12 t : Vec Ideal S1x1x6x1024 .f32) 2 inb_S1x1x6x1024_S1x1x1x1024_0_0_2_0) (iblk m dv 13 t : Vec Ideal S1x1024x1024 .bf16))
    (modRow (iblk m dv 12 t : Vec Ideal S1x1x6x1024 .f32) 3 inb_S1x1x6x1024_S1x1x1x1024_0_0_3_0)
    (modRow (iblk m dv 12 t : Vec Ideal S1x1x6x1024 .f32) 4 inb_S1x1x6x1024_S1x1x1x1024_0_0_4_0)
    (modRow (iblk m dv 12 t : Vec Ideal S1x1x6x1024 .f32) 5 inb_S1x1x6x1024_S1x1x1x1024_0_0_5_0)
    (iblk m dv 14 t : Vec Ideal S1x1024 .f32) (iblk m dv 15 t : Vec Ideal S1x1024x5632 .bf16)
    (iblk m dv 16 t : Vec Ideal S1x3x5632 .f32) (iblk m dv 17 t : Vec Ideal S1x1x5632 .f32) (iblk m dv 18 t : Vec Ideal S1x2816x1024 .bf16) where
  x := mixed_of (fun p r h k => rows_x m dv t p r h k) (fun p r h k => rows_y m dv t p r h k) (fun p r h k => rows_hf m dv t p r h k)
    (fun p r h k => rows_hb m dv t p r h k) (fun k => (modRow_apply _ 2 (by decide) _ k).trans (blk_mod m dv t 2 k)) (blk_wo m dv t)
  d := sq_apply _ _ _ _ _ _
  m3 := fun k => (modRow_apply _ 3 (by decide) _ k).trans (blk_mod m dv t 3 k)
  m4 := fun k => (modRow_apply _ 4 (by decide) _ k).trans (blk_mod m dv t 4 k)
  m5 := fun k => (modRow_apply _ 5 (by decide) _ k).trans (blk_mod m dv t 5 k)
  gn := blk_gn m dv t
  wu := blk_wu m dv t
  cw := blk_cw m dv t
  cb := blk_cb m dv t
  wd := blk_wd m dv t

/-- The point's coordinate is its number. -/
theorem coord_eq : ∀ t : Fin grid0.N, ((grid0.coords t) 0).val = t.val := by decide +kernel

/-- The result's array. -/
def result (A : Spec.Args) : Vec Ideal S16384x1024 .f32 := fun j => Spec.flat (Spec.mixed A) A.toFfn (j 0) (j 1)

/-- The result's array after the run. -/
theorem arr19 : (dats m 0 dv).arrAt 19 cfg0.N = result (kargs m dv) := by
  refine (dats m 0 dv).arrAt_eq_of_covers 19 _ (by decide +kernel) fun t hf y => ?_
  blk_simp
  rw [after0_19]
  unfold outsAt0
  dsimp only
  rw [out_eq, coord_eq]
  obtain ⟨p, k, rfl⟩ : ∃ (p : Fin 512) (k : Fin 1024), y = ix2 p k := ⟨y 0, y 1, eq_ix2 y⟩
  have ht := point_lt t
  refine (out_apply _ _ _ _ p k).trans (Eq.trans (flat_of (given m dv t) _ p k ⟨512 * t.val + p.val, by omega⟩ rfl) ?_)
  unfold result
  refine congrArg₂ (Spec.flat (Spec.mixed (kargs m dv)) (kargs m dv).toFfn) (Fin.ext ?_) (Fin.ext ?_)
  · blk_simp [idx_win t]
    show 512 * t.val + p.val = t.val * 512 + p.val
    omega
  · blk_simp [idx_win t]

/-- What the program leaves. -/
theorem run_kernel (ρ : Dev nD → PrngReg) :
    θ_run defs (onTc (τ := τ) (main (F := Ideal))) ⟨m, fun _ => 0, ρ⟩ fun r => ∀ c : Dev nD,
      r.2.mem ((c : Thread nD τ).loc main_v7) = result (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run _ _ _).mono (fun _ h c => ⟨(h c).1.trans (arr19 m c), (h c).2⟩) (run_blocks m ρ)

end Cert.Mid
-- ==== Proof.MidRef.lean ====
module

public import proofs.«01_k».proof.Proof.TailRef
public import proofs.«01_k».proof.Proof.Gen.MidReferenceIdeal.Run
public import Idealize.ShloMosaic.Lib.Pipeline.ValueKit
public import Idealize.ShloMosaic.Lib.Pointwise
public import Idealize.ShloMosaic.Lib.IdealHost
public import Idealize.ShloMosaic.Lib.StableHlo.ReadAt

@[expose] public section

set_option maxRecDepth 16384

/-! The reference of the second layer's tail, read at a row and a column. -/

noncomputable section

namespace Cert.MidRef

open Cert.MidReferenceIdeal Cert.MidReferenceIdeal.Gen Cert.MidReferenceIdeal.Value Idealize.ShloMosaic Idealize.ShloMosaic.TcCoe Idealize.SL.Sem
open Idealize.ShloMosaic.StableHlo

/-- The stream as floats. -/
def inVec {F : FTy → Type} [FloatOps F] (V : Valuation τ sig (Elt F)) : FVec F S4x4096x1024 .f32 :=
  extf .f32 (shapeCast _ (V (Proc.devRef .tc main_arg1)) shapeCasts_S16384x1024_S4x4096x1024) bitsLt_bf16_f32

/-- The rows with their mixed input added. -/
def mixVec {F : FTy → Type} [FloatOps F] (V : Valuation τ sig (Elt F)) : FVec F S4x4096x1024 .f32 :=
  addf (shapeCast _ (V (Proc.devRef .tc main_arg0)) shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1x1024 ![1, 1, 2, 0] (V (Proc.devRef .tc main_arg4)) slices_S4x8x6x1024_S1x4x1x1024_1_1_2_0) shapeCasts_S1x4x1x1024_S4x1024))) (Host.dotGeneral dot_S4x4096x1024_S1024x1024_S4x4096x1024_2_0_01_1_n_n none (mulf (mulf (inVec V) (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf (inVec V) (mulf (broadcastInDim S4x4096x1024 ![] bcast_S_S4x4096x1024 (constant S_ .f32 0x3D372713#32)) (mulf (mulf (inVec V) (inVec V)) (inVec V))))))))) (addf (extf .f32 (shapeCast _ (V (Proc.devRef .tc main_arg2)) shapeCasts_S16384x1024_S4x4096x1024) bitsLt_bf16_f32) (extf .f32 (shapeCast _ (V (Proc.devRef .tc main_arg3)) shapeCasts_S16384x1024_S4x4096x1024) bitsLt_bf16_f32))) (shapeCast _ (extractStridedSlice S1x1024x1024 ![0, 0, 0] (V (Proc.devRef .tc main_arg5)) slices_S2x1024x1024_S1x1024x1024_0_0_0) shapeCasts_S1x1024x1024_S1024x1024)))

/-- The padded up projection. -/
def upVec {F : FTy → Type} [FloatOps F] (V : Valuation τ sig (Elt F)) : FVec F S4x4098x5632 .f32 :=
  pad S4x4098x5632 ![0, 1, 0] ![0, 1, 0] ![0, 0, 0] (Host.dotGeneral dot_S4x4096x1024_S1024x5632_S4x4096x5632_2_0_01_1_n_n none (addf (mulf (mulf (mulf (mixVec V) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (mixVec V) (mixVec V)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![1, 0] (V (Proc.devRef .tc main_arg6)) slices_S4x1024_S1x1024_1_0) shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S1x4x1x1024 ![1, 1, 4, 0] (V (Proc.devRef .tc main_arg4)) slices_S4x8x6x1024_S1x4x1x1024_1_1_4_0) shapeCasts_S1x4x1x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S1x4x1x1024 ![1, 1, 3, 0] (V (Proc.devRef .tc main_arg4)) slices_S4x8x6x1024_S1x4x1x1024_1_1_3_0) shapeCasts_S1x4x1x1024_S4x1024)))) (shapeCast _ (extractStridedSlice S1x1024x5632 ![1, 0, 0] (V (Proc.devRef .tc main_arg7)) slices_S4x1024x5632_S1x1024x5632_1_0_0) shapeCasts_S1x1024x5632_S1024x5632)) (sitofp .f32 (constantI S_ 32 0#32)) pads_S4x4096x5632_S4x4098x5632_000_110_000 h_S_

/-- The taps. -/
def tapVec {F : FTy → Type} [FloatOps F] (V : Valuation τ sig (Elt F)) : FVec F S3x5632 .f32 :=
  shapeCast _ (extractStridedSlice S1x3x5632 ![1, 0, 0] (V (Proc.devRef .tc main_arg8)) slices_S4x3x5632_S1x3x5632_1_0_0) shapeCasts_S1x3x5632_S3x5632

/-- The convolution. -/
def convVec {F : FTy → Type} [FloatOps F] (V : Valuation τ sig (Elt F)) : FVec F S4x4096x5632 .f32 :=
  addf (addf (addf (mulf (extractStridedSlice S4x4096x5632 ![0, 0, 0] (upVec V) slices_S4x4098x5632_S4x4096x5632_0_0_0) (broadcastInDim S4x4096x5632 ![0, 1, 2] bcast_S1x1x5632_S4x4096x5632_0_1_2 (broadcastInDim S1x1x5632 ![2] bcast_S5632_S1x1x5632_2 (shapeCast _ (extractStridedSlice S1x5632 ![0, 0] (tapVec V) slices_S3x5632_S1x5632_0_0) shapeCasts_S1x5632_S5632)))) (mulf (extractStridedSlice S4x4096x5632 ![0, 1, 0] (upVec V) slices_S4x4098x5632_S4x4096x5632_0_1_0) (broadcastInDim S4x4096x5632 ![0, 1, 2] bcast_S1x1x5632_S4x4096x5632_0_1_2 (broadcastInDim S1x1x5632 ![2] bcast_S5632_S1x1x5632_2 (shapeCast _ (extractStridedSlice S1x5632 ![1, 0] (tapVec V) slices_S3x5632_S1x5632_1_0) shapeCasts_S1x5632_S5632))))) (mulf (extractStridedSlice S4x4096x5632 ![0, 2, 0] (upVec V) slices_S4x4098x5632_S4x4096x5632_0_2_0) (broadcastInDim S4x4096x5632 ![0, 1, 2] bcast_S1x1x5632_S4x4096x5632_0_1_2 (broadcastInDim S1x1x5632 ![2] bcast_S5632_S1x1x5632_2 (shapeCast _ (extractStridedSlice S1x5632 ![2, 0] (tapVec V) slices_S3x5632_S1x5632_2_0) shapeCasts_S1x5632_S5632))))) (broadcastInDim S4x4096x5632 ![0, 1, 2] bcast_S1x1x5632_S4x4096x5632_0_1_2 (broadcastInDim S1x1x5632 ![2] bcast_S5632_S1x1x5632_2 (shapeCast _ (extractStridedSlice S1x5632 ![1, 0] (V (Proc.devRef .tc main_arg9)) slices_S4x5632_S1x5632_1_0) shapeCasts_S1x5632_S5632)))

/-- The gate's half. -/
def gateVec {F : FTy → Type} [FloatOps F] (V : Valuation τ sig (Elt F)) : FVec F S4x4096x2816 .f32 :=
  extractStridedSlice S4x4096x2816 ![0, 0, 0] (convVec V) slices_S4x4096x5632_S4x4096x2816_0_0_0

/-- The layer's rows. -/
def layerVec {F : FTy → Type} [FloatOps F] (V : Valuation τ sig (Elt F)) : FVec F S4x4096x1024 .f32 :=
  addf (mixVec V) (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1x1024 ![1, 1, 5, 0] (V (Proc.devRef .tc main_arg4)) slices_S4x8x6x1024_S1x4x1x1024_1_1_5_0) shapeCasts_S1x4x1x1024_S4x1024))) (Host.dotGeneral dot_S4x4096x2816_S2816x1024_S4x4096x1024_2_0_01_1_n_n none (mulf (mulf (gateVec V) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (gateVec V)))))) (extractStridedSlice S4x4096x2816 ![0, 0, 2816] (convVec V) slices_S4x4096x5632_S4x4096x2816_0_0_2816)) (shapeCast _ (extractStridedSlice S1x2816x1024 ![1, 0, 0] (V (Proc.devRef .tc main_arg10)) slices_S4x2816x1024_S1x2816x1024_1_0_0) shapeCasts_S1x2816x1024_S2816x1024)))

variable (V : Valuation τ sig (Elt Ideal))

/-- The arguments the reference reads. -/
def args : Cert.Tail.Spec.Args where
  x r k := V (Proc.devRef .tc main_arg0) (ix2 r k)
  y r k := V (Proc.devRef .tc main_arg1) (ix2 r k)
  hf r k := V (Proc.devRef .tc main_arg2) (ix2 r k)
  hb r k := V (Proc.devRef .tc main_arg3) (ix2 r k)
  md a b k := V (Proc.devRef .tc main_arg4) (ix4 1 a b k)
  wo j k := V (Proc.devRef .tc main_arg5) (ix3 0 j k)
  gn k := V (Proc.devRef .tc main_arg6) (ix2 1 k)
  wu k c := V (Proc.devRef .tc main_arg7) (ix3 1 k c)
  cw t c := V (Proc.devRef .tc main_arg8) (ix3 1 t c)
  cb c := V (Proc.devRef .tc main_arg9) (ix2 1 c)
  wd q k := V (Proc.devRef .tc main_arg10) (ix3 1 q k)

/-- The rows with their mixed input added. -/
theorem mixed_apply (n : Fin 4) (s : Fin 4096) (k : Fin 1024) :
    mixVec V (ix3 n s k) = Cert.Tail.Spec.mixed (args V) n (Cert.Tail.Spec.row n s) k := by
  unfold mixVec inVec
  pointwise
  rfl

/-- The padded up projection. -/
theorem up_apply (n : Fin 4) (s : Fin 4098) (c : Fin 5632) :
    upVec V (ix3 n s c) = Cert.Tail.Spec.up (Cert.Tail.Spec.mixed (args V)) (args V).toFfn n s.val c := by
  unfold upVec
  pointwise
  by_cases h : 1 ≤ s.val ∧ s.val - 1 < 4096
  · rw [dif_pos h]
    refine Eq.trans ?_ (Cert.Tail.Spec.up_inside _ _ n s.val h.1 h.2 c).symm
    simp only [mixed_apply]
    rfl
  · rw [dif_neg h, Cert.Tail.Spec.up_outside _ _ _ _ (by omega)]
    exact Cert.TailRef.zero_float

/-- The convolution. -/
theorem conv_apply (n : Fin 4) (s : Fin 4096) (c : Fin 5632) :
    convVec V (ix3 n s c) = Cert.Tail.Spec.conv (Cert.Tail.Spec.mixed (args V)) (args V).toFfn n s c := by
  unfold convVec tapVec
  pointwise
  rw [up_apply, up_apply, up_apply]
  unfold Cert.Tail.Spec.conv
  rw [Nat.add_comm s.val 1, Nat.add_comm s.val 2]
  rfl

/-- The layer's rows. -/
theorem layer_apply (n : Fin 4) (s : Fin 4096) (k : Fin 1024) :
    layerVec V (ix3 n s k) = Cert.Tail.Spec.layer (Cert.Tail.Spec.mixed (args V)) (args V).toFfn n s k := by
  unfold layerVec gateVec
  pointwise
  simp only [conv_apply, mixed_apply]
  rfl

/-- The reference's result is the layer's rows, row after row. -/
theorem out_eq (m : (ℓ : Loc nD τ sig) → Buf (Elt Ideal) ℓ) (c : Dev nD) :
    (res_main_v102 m c : Vec Ideal S16384x1024 .f32) = shapeCast S16384x1024 (layerVec (launchContents m c)) shapeCasts_S4x4096x1024_S16384x1024 := rfl

/-- The result. -/
theorem result_apply (m : (ℓ : Loc nD τ sig) → Buf (Elt Ideal) ℓ) (c : Dev nD) (r : Fin 16384) (k : Fin 1024) :
    (res_main_v102 m c : Vec Ideal S16384x1024 .f32) (ix2 r k) = Cert.Tail.Spec.flat (Cert.Tail.Spec.mixed (args (launchContents m c))) (args (launchContents m c)).toFfn r k := by
  rw [out_eq]
  pointwise
  rw [layer_apply]
  rfl

end Cert.MidRef
-- ==== Proof.EvenFrame.lean ====
module

public import proofs.«01_k».proof.Proof.EvenBody
public import Idealize.ShloMosaic.Lib.Claim

@[expose] public section

set_option maxRecDepth 16384

/-! The run of the third layer's tail. -/

noncomputable section

namespace Cert.EvenKernel.Run

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The body's store covers the result block. -/
theorem cover0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1 S512x1024.size (by sl_kernel_rfl) y

/-- The result block that the body leaves. -/
def out0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) : Vec F S512x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1)

/-- The result block at each grid point. -/
def outsAt0 (c : Dev nD) (t : Fin cfg0.N) : Vec F S512x1024 .f32 :=
  out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- What each window holds before and after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q w := Pipeline.shareOf spec0 w
  owed _ := 0

/-- Each window's array at the start is the host's. -/
theorem A_eq (c : Dev nD) (w : Fin cfg0.W) : (dats m 0 c).A w = V m c (Pipeline.arrRef spec0 w) := by
  dsimp only [dats]

/-- The body leaves this input block as it was. -/
theorem after0_0 (c : Dev nD) (t : Fin cfg0.N) : (dats m 0 c).after 0 t = iblk m c 0 t := by dsimp only [dats]
/-- The body leaves this input block as it was. -/
theorem after0_1 (c : Dev nD) (t : Fin cfg0.N) : (dats m 0 c).after 1 t = iblk m c 1 t := by dsimp only [dats]
/-- The body leaves this input block as it was. -/
theorem after0_2 (c : Dev nD) (t : Fin cfg0.N) : (dats m 0 c).after 2 t = iblk m c 2 t := by dsimp only [dats]
/-- The body leaves this input block as it was. -/
theorem after0_3 (c : Dev nD) (t : Fin cfg0.N) : (dats m 0 c).after 3 t = iblk m c 3 t := by dsimp only [dats]
/-- The body leaves this input block as it was. -/
theorem after0_4 (c : Dev nD) (t : Fin cfg0.N) : (dats m 0 c).after 4 t = iblk m c 4 t := by dsimp only [dats]
/-- The body leaves this input block as it was. -/
theorem after0_5 (c : Dev nD) (t : Fin cfg0.N) : (dats m 0 c).after 5 t = iblk m c 5 t := by dsimp only [dats]
/-- The body leaves this input block as it was. -/
theorem after0_6 (c : Dev nD) (t : Fin cfg0.N) : (dats m 0 c).after 6 t = iblk m c 6 t := by dsimp only [dats]
/-- The body leaves this input block as it was. -/
theorem after0_7 (c : Dev nD) (t : Fin cfg0.N) : (dats m 0 c).after 7 t = iblk m c 7 t := by dsimp only [dats]
/-- The body leaves this input block as it was. -/
theorem after0_8 (c : Dev nD) (t : Fin cfg0.N) : (dats m 0 c).after 8 t = iblk m c 8 t := by dsimp only [dats]
/-- The body leaves this input block as it was. -/
theorem after0_9 (c : Dev nD) (t : Fin cfg0.N) : (dats m 0 c).after 9 t = iblk m c 9 t := by dsimp only [dats]
/-- The body leaves this input block as it was. -/
theorem after0_10 (c : Dev nD) (t : Fin cfg0.N) : (dats m 0 c).after 10 t = iblk m c 10 t := by dsimp only [dats]
/-- The body leaves this input block as it was. -/
theorem after0_11 (c : Dev nD) (t : Fin cfg0.N) : (dats m 0 c).after 11 t = iblk m c 11 t := by dsimp only [dats]
/-- The body leaves this input block as it was. -/
theorem after0_12 (c : Dev nD) (t : Fin cfg0.N) : (dats m 0 c).after 12 t = iblk m c 12 t := by dsimp only [dats]
/-- The body leaves this input block as it was. -/
theorem after0_13 (c : Dev nD) (t : Fin cfg0.N) : (dats m 0 c).after 13 t = iblk m c 13 t := by dsimp only [dats]
/-- The body leaves this input block as it was. -/
theorem after0_14 (c : Dev nD) (t : Fin cfg0.N) : (dats m 0 c).after 14 t = iblk m c 14 t := by dsimp only [dats]
/-- The body leaves this input block as it was. -/
theorem after0_15 (c : Dev nD) (t : Fin cfg0.N) : (dats m 0 c).after 15 t = iblk m c 15 t := by dsimp only [dats]
/-- The body leaves this input block as it was. -/
theorem after0_16 (c : Dev nD) (t : Fin cfg0.N) : (dats m 0 c).after 16 t = iblk m c 16 t := by dsimp only [dats]
/-- The body leaves this input block as it was. -/
theorem after0_17 (c : Dev nD) (t : Fin cfg0.N) : (dats m 0 c).after 17 t = iblk m c 17 t := by dsimp only [dats]
/-- The body leaves this input block as it was. -/
theorem after0_18 (c : Dev nD) (t : Fin cfg0.N) : (dats m 0 c).after 18 t = iblk m c 18 t := by dsimp only [dats]
/-- The body leaves this input block as it was. -/
theorem after0_19 (c : Dev nD) (t : Fin cfg0.N) : (dats m 0 c).after 19 t = iblk m c 19 t := by dsimp only [dats]
/-- The body leaves this input block as it was. -/
theorem after0_20 (c : Dev nD) (t : Fin cfg0.N) : (dats m 0 c).after 20 t = iblk m c 20 t := by dsimp only [dats]
/-- The body leaves this input block as it was. -/
theorem after0_21 (c : Dev nD) (t : Fin cfg0.N) : (dats m 0 c).after 21 t = iblk m c 21 t := by dsimp only [dats]
/-- The body leaves this input block as it was. -/
theorem after0_22 (c : Dev nD) (t : Fin cfg0.N) : (dats m 0 c).after 22 t = iblk m c 22 t := by dsimp only [dats]
/-- After a grid point the result window holds the body's block. -/
theorem after0_23 (c : Dev nD) (t : Fin cfg0.N) : (dats m 0 c).after 23 t = (outsAt0 m c t) := by dsimp only [dats]

/-- The body finds this input's block. -/
theorem before0_0 (c : Dev nD) (t : Fin cfg0.N) (d) : (dats m 0 c).before 0 t d = iblk m c 0 t :=
  before0_0_of m (dats m 0 c) (A_eq m c 0) (after0_0 m c) t d
/-- The body finds this input's block. -/
theorem before0_1 (c : Dev nD) (t : Fin cfg0.N) (d) : (dats m 0 c).before 1 t d = iblk m c 1 t :=
  before0_1_of m (dats m 0 c) (A_eq m c 1) (after0_1 m c) t d
/-- The body finds this input's block. -/
theorem before0_2 (c : Dev nD) (t : Fin cfg0.N) (d) : (dats m 0 c).before 2 t d = iblk m c 2 t :=
  before0_2_of m (dats m 0 c) (A_eq m c 2) (after0_2 m c) t d
/-- The body finds this input's block. -/
theorem before0_3 (c : Dev nD) (t : Fin cfg0.N) (d) : (dats m 0 c).before 3 t d = iblk m c 3 t :=
  before0_3_of m (dats m 0 c) (A_eq m c 3) (after0_3 m c) t d
/-- The body finds this input's block. -/
theorem before0_4 (c : Dev nD) (t : Fin cfg0.N) (d) : (dats m 0 c).before 4 t d = iblk m c 4 t :=
  before0_4_of m (dats m 0 c) (A_eq m c 4) (after0_4 m c) t d
/-- The body finds this input's block. -/
theorem before0_5 (c : Dev nD) (t : Fin cfg0.N) (d) : (dats m 0 c).before 5 t d = iblk m c 5 t :=
  before0_5_of m (dats m 0 c) (A_eq m c 5) (after0_5 m c) t d
/-- The body finds this input's block. -/
theorem before0_6 (c : Dev nD) (t : Fin cfg0.N) (d) : (dats m 0 c).before 6 t d = iblk m c 6 t :=
  before0_6_of m (dats m 0 c) (A_eq m c 6) (after0_6 m c) t d
/-- The body finds this input's block. -/
theorem before0_7 (c : Dev nD) (t : Fin cfg0.N) (d) : (dats m 0 c).before 7 t d = iblk m c 7 t :=
  before0_7_of m (dats m 0 c) (A_eq m c 7) (after0_7 m c) t d
/-- The body finds this input's block. -/
theorem before0_8 (c : Dev nD) (t : Fin cfg0.N) (d) : (dats m 0 c).before 8 t d = iblk m c 8 t :=
  before0_8_of m (dats m 0 c) (A_eq m c 8) (after0_8 m c) t d
/-- The body finds this input's block. -/
theorem before0_9 (c : Dev nD) (t : Fin cfg0.N) (d) : (dats m 0 c).before 9 t d = iblk m c 9 t :=
  before0_9_of m (dats m 0 c) (A_eq m c 9) (after0_9 m c) t d
/-- The body finds this input's block. -/
theorem before0_10 (c : Dev nD) (t : Fin cfg0.N) (d) : (dats m 0 c).before 10 t d = iblk m c 10 t :=
  before0_10_of m (dats m 0 c) (A_eq m c 10) (after0_10 m c) t d
/-- The body finds this input's block. -/
theorem before0_11 (c : Dev nD) (t : Fin cfg0.N) (d) : (dats m 0 c).before 11 t d = iblk m c 11 t :=
  before0_11_of m (dats m 0 c) (A_eq m c 11) (after0_11 m c) t d
/-- The body finds this input's block. -/
theorem before0_12 (c : Dev nD) (t : Fin cfg0.N) (d) : (dats m 0 c).before 12 t d = iblk m c 12 t :=
  before0_12_of m (dats m 0 c) (A_eq m c 12) (after0_12 m c) t d
/-- The body finds this input's block. -/
theorem before0_13 (c : Dev nD) (t : Fin cfg0.N) (d) : (dats m 0 c).before 13 t d = iblk m c 13 t :=
  before0_13_of m (dats m 0 c) (A_eq m c 13) (after0_13 m c) t d
/-- The body finds this input's block. -/
theorem before0_14 (c : Dev nD) (t : Fin cfg0.N) (d) : (dats m 0 c).before 14 t d = iblk m c 14 t :=
  before0_14_of m (dats m 0 c) (A_eq m c 14) (after0_14 m c) t d
/-- The body finds this input's block. -/
theorem before0_15 (c : Dev nD) (t : Fin cfg0.N) (d) : (dats m 0 c).before 15 t d = iblk m c 15 t :=
  before0_15_of m (dats m 0 c) (A_eq m c 15) (after0_15 m c) t d
/-- The body finds this input's block. -/
theorem before0_16 (c : Dev nD) (t : Fin cfg0.N) (d) : (dats m 0 c).before 16 t d = iblk m c 16 t :=
  before0_16_of m (dats m 0 c) (A_eq m c 16) (after0_16 m c) t d
/-- The body finds this input's block. -/
theorem before0_17 (c : Dev nD) (t : Fin cfg0.N) (d) : (dats m 0 c).before 17 t d = iblk m c 17 t :=
  before0_17_of m (dats m 0 c) (A_eq m c 17) (after0_17 m c) t d
/-- The body finds this input's block. -/
theorem before0_18 (c : Dev nD) (t : Fin cfg0.N) (d) : (dats m 0 c).before 18 t d = iblk m c 18 t :=
  before0_18_of m (dats m 0 c) (A_eq m c 18) (after0_18 m c) t d
/-- The body finds this input's block. -/
theorem before0_19 (c : Dev nD) (t : Fin cfg0.N) (d) : (dats m 0 c).before 19 t d = iblk m c 19 t :=
  before0_19_of m (dats m 0 c) (A_eq m c 19) (after0_19 m c) t d
/-- The body finds this input's block. -/
theorem before0_20 (c : Dev nD) (t : Fin cfg0.N) (d) : (dats m 0 c).before 20 t d = iblk m c 20 t :=
  before0_20_of m (dats m 0 c) (A_eq m c 20) (after0_20 m c) t d
/-- The body finds this input's block. -/
theorem before0_21 (c : Dev nD) (t : Fin cfg0.N) (d) : (dats m 0 c).before 21 t d = iblk m c 21 t :=
  before0_21_of m (dats m 0 c) (A_eq m c 21) (after0_21 m c) t d
/-- The body finds this input's block. -/
theorem before0_22 (c : Dev nD) (t : Fin cfg0.N) (d) : (dats m 0 c).before 22 t d = iblk m c 22 t :=
  before0_22_of m (dats m 0 c) (A_eq m c 22) (after0_22 m c) t d

/-- What the body is given at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What the body gives back at a grid point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body does so at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_23
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [HS0]; · iexact HS0
  iintro ⟨H0, H1, H2, H3, H4, H5, H6, H7, H8, H9, H10, H11, H12, H13, H14, H15, H16, H17, H18, H19, H20, H21, H22, ⟨%e23, H23⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the launch calls at a grid point. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program runs. -/
theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.EvenKernel.Run

end
-- ==== Proof.EvenSpec.lean ====
module

public import proofs.«01_k».proof.Proof.TailSpec

@[expose] public section

set_option maxRecDepth 16384

/-! The mixed input of an even layer, in plain words: the attention's columns beside the two scans' sum, normed head by head and gated. -/

noncomputable section

namespace Cert.Even.Spec

open Idealize.ShloMosaic

/-- The arrays the tail of an even layer reads. -/
structure Args extends Cert.Tail.Spec.Ffn where
  x : Fin 16384 → Fin 1024 → EReal
  oa : Fin 16384 → Fin 512 → EReal
  sf : Fin 16384 → Fin 512 → EReal
  sb : Fin 16384 → Fin 512 → EReal
  gb : Fin 16384 → Fin 512 → EReal
  nh : Fin 128 → EReal
  wo : Fin 1024 → Fin 1024 → EReal

/-- The factor a head of a row is scaled by in its norm. -/
def headInv (v : Fin 128 → EReal) : EReal :=
  Ideal.rsqrt (Ideal.div (∑ k, v k * v k) (Ideal.ofBits .f32 0x43000000#32) + Ideal.ofBits .f32 0x358637BD#32)

/-- Column `q` of the head that starts at column `b`: the two scans' sum `f + s`, normed over the head, times the gate. -/
def head (f s g : Fin 512 → EReal) (nh : Fin 128 → EReal) (b : ℕ) (h : b + 128 ≤ 512) (q : Fin 128) : EReal :=
  (f ⟨b + q.val, by omega⟩ + s ⟨b + q.val, by omega⟩)
    * headInv (fun j : Fin 128 => f ⟨b + j.val, by omega⟩ + s ⟨b + j.val, by omega⟩) * nh q
    * (g ⟨b + q.val, by omega⟩ * Cert.Layer.sgm (g ⟨b + q.val, by omega⟩))

/-- A row of the mixer's output: the attention's columns, then the scans' heads. -/
def columns (o f s g : Fin 512 → EReal) (nh : Fin 128 → EReal) (j : Fin 1024) : EReal :=
  if h : j.val < 512 then o ⟨j.val, h⟩
  else head f s g nh ((j.val - 512) / 128 * 128) (by omega) ⟨(j.val - 512) % 128, by omega⟩

/-- A flat row with its mixed input added; `n` says which modulation it takes. -/
def mixed (A : Args) (n : Fin 4) (r : Fin 16384) (k : Fin 1024) : EReal :=
  A.x r k + A.md (Cert.Tail.Spec.cond n) 2 k * ∑ j, columns (A.oa r) (A.sf r) (A.sb r) (A.gb r) A.nh j * A.wo j k

end Cert.Even.Spec
-- ==== Proof.EvenMix.lean ====
module

public import proofs.«01_k».proof.Proof.EvenSpec
public import proofs.«01_k».proof.Proof.TailRows
public import proofs.«01_k».proof.Proof.Gen.EvenKernelIdeal.Skeleton
public import Idealize.ShloMosaic.Lib.Pointwise
public import Idealize.ShloMosaic.Lib.IdealHost

@[expose] public section

set_option maxRecDepth 16384

/-! The rows of an even layer with their mixed input added, read at a row and a column. -/

noncomputable section

namespace Cert.Even

open Cert.EvenKernelIdeal Cert.EvenKernelIdeal.Gen Idealize.ShloMosaic Idealize.ShloMosaic.TcCoe Idealize.SL.Sem

/-- A head of a block's row. -/
def headAt (F S G : FVec Ideal S528x512 .f32) (nh : Vec Ideal S1x128 .f32) (p : Fin 528) (b : ℕ) (h : b + 128 ≤ 512) (q : Fin 128) : EReal :=
  Spec.head (fun j => F (ix2 p j)) (fun j => S (ix2 p j)) (fun j => G (ix2 p j)) (fun j => nh (ix2 0 j)) b h q

/-- The first head. -/
theorem head0_apply (F S : FVec Ideal S528x512 .f32) (g0 : Vec Ideal S16x512 .bf16) (g1 : Vec Ideal S512x512 .bf16) (g2 : Vec Ideal S16x512 .bf16)
    (nh : Vec Ideal S1x128 .f32) (p : Fin 528) (q : Fin 128) :
    (k0_pay9 F S g0 g1 g2 nh (ix2 p q) : EReal) = headAt F S (k0_pay5 g0 g1 g2) nh p 0 (by decide) q := by
  unfold k0_pay9
  generalize k0_pay5 (F := Ideal) g0 g1 g2 = G
  pointwise [k0_pay6, k0_pay7]
  rw [Cert.Layer.sig_tanh]
  unfold headAt Spec.head Spec.headInv
  simp only [Nat.zero_add]
  try rfl

/-- The second head. -/
theorem head1_apply (F S : FVec Ideal S528x512 .f32) (g0 : Vec Ideal S16x512 .bf16) (g1 : Vec Ideal S512x512 .bf16) (g2 : Vec Ideal S16x512 .bf16)
    (nh : Vec Ideal S1x128 .f32) (p : Fin 528) (q : Fin 128) :
    (k0_pay14 (k0_pay6 nh) (k0_pay10 g0 g1 g2) (k0_pay11 F S) (k0_pay12 F S) k0_pay13 (ix2 p q) : EReal)
      = headAt F S (k0_pay5 g0 g1 g2) nh p 128 (by decide) q := by
  unfold k0_pay10
  generalize k0_pay5 (F := Ideal) g0 g1 g2 = G
  pointwise [k0_pay14, k0_pay11, k0_pay12, k0_pay13, k0_pay6, k0_pay7]
  rw [Cert.Layer.sig_tanh]
  rfl

/-- The third head. -/
theorem head2_apply (F S G : FVec Ideal S528x512 .f32) (nh : Vec Ideal S1x128 .f32) (p : Fin 528) (q : Fin 128) :
    (k0_pay15 G (k0_pay6 nh) (k0_pay7 F S) (ix2 p q) : EReal) = headAt F S G nh p 256 (by decide) q := by
  pointwise [k0_pay15, k0_pay6, k0_pay7]
  rw [Cert.Layer.sig_tanh]
  rfl

/-- The rows of an even layer with their mixed input added, as the body computes them. -/
def mixVec (X : FVec Ideal S528x1024 .f32) (O F S : FVec Ideal S528x512 .f32) (g0 : Vec Ideal S16x512 .bf16) (g1 : Vec Ideal S512x512 .bf16)
    (g2 : Vec Ideal S16x512 .bf16) (nh : Vec Ideal S1x128 .f32) (g : Vec Ideal S1x1x1x1024 .f32) (wo : Vec Ideal S1x1024x1024 .bf16) : FVec Ideal S528x1024 .f32 :=
  k0_pay20 X (k0_pay6 nh) (k0_pay8 O) (k0_pay9 F S g0 g1 g2 nh) (k0_pay14 (k0_pay6 nh) (k0_pay10 g0 g1 g2) (k0_pay11 F S) (k0_pay12 F S) k0_pay13)
    (k0_pay15 (k0_pay5 g0 g1 g2) (k0_pay6 nh) (k0_pay7 F S)) (k0_pay16 (k0_pay5 g0 g1 g2)) (k0_pay17 (k0_pay7 F S)) (k0_pay18 (k0_pay7 F S)) k0_pay19 g wo

/-- The means of the squares of those rows, as the body computes them. -/
def sqVec (X : FVec Ideal S528x1024 .f32) (O F S : FVec Ideal S528x512 .f32) (g0 : Vec Ideal S16x512 .bf16) (g1 : Vec Ideal S512x512 .bf16)
    (g2 : Vec Ideal S16x512 .bf16) (nh : Vec Ideal S1x128 .f32) (g : Vec Ideal S1x1x1x1024 .f32) (wo : Vec Ideal S1x1024x1024 .bf16) : FVec Ideal S528x1 .f32 :=
  addf (k0_pay24 X (k0_pay6 nh) (k0_pay8 O) (k0_pay9 F S g0 g1 g2 nh) (k0_pay14 (k0_pay6 nh) (k0_pay10 g0 g1 g2) (k0_pay11 F S) (k0_pay12 F S) k0_pay13)
    (k0_pay15 (k0_pay5 g0 g1 g2) (k0_pay6 nh) (k0_pay7 F S)) (k0_pay16 (k0_pay5 g0 g1 g2)) (k0_pay17 (k0_pay7 F S)) (k0_pay18 (k0_pay7 F S)) k0_pay19 g wo)
    (broadcast S528x1 (Scalar.ofBits .f32 0x358637BD#32))

/-- The fourth head. -/
theorem head3_apply (F S G : FVec Ideal S528x512 .f32) (nh : Vec Ideal S1x128 .f32) (p : Fin 528) (q : Fin 128) :
    (k0_pay14 (k0_pay6 nh) (k0_pay16 G) (k0_pay17 (k0_pay7 F S)) (k0_pay18 (k0_pay7 F S)) k0_pay19 (ix2 p q) : EReal) = headAt F S G nh p 384 (by decide) q := by
  pointwise [k0_pay14, k0_pay16, k0_pay17, k0_pay18, k0_pay19, k0_pay6, k0_pay7]
  rw [Cert.Layer.sig_tanh]
  rfl

/-- The rows with the product of five pieces side by side added. -/
def joinVec (X : FVec Ideal S528x1024 .f32) (O : FVec Ideal S528x512 .bf16) (h0 h1 h2 h3 : FVec Ideal S528x128 .bf16)
    (g : Vec Ideal S1x1x1x1024 .f32) (wo : Vec Ideal S1x1024x1024 .bf16) : FVec Ideal S528x1024 .f32 :=
  addf X (mulf (broadcastTo S528x1024 (shapeCast S1x1024 g shapeCasts_S1x1x1x1024_S1x1024) broadcasts_S1x1024_S528x1024)
    (matmul dot_S528x1024_S1024x1024_S528x1024_1_0_0_1_n_n none
      (concatenate S528x1024 1 [⟨S528x512, O⟩, ⟨S528x128, h0⟩, ⟨S528x128, h1⟩, ⟨S528x128, h2⟩, ⟨S528x128, h3⟩] concatenates_S528x512_S528x128_S528x128_S528x128_S528x128_S528x1024_d1)
      (shapeCast S1024x1024 wo shapeCasts_S1x1024x1024_S1024x1024 : FVec Ideal S1024x1024 .bf16) (constant S528x1024 .f32 0x00000000#32)))

/-- The body computes the fourth head in place. -/
theorem join_eq (X : FVec Ideal S528x1024 .f32) (F S G : FVec Ideal S528x512 .f32) (O : FVec Ideal S528x512 .bf16) (h0 h1 h2 : FVec Ideal S528x128 .bf16)
    (nh : Vec Ideal S1x128 .f32) (g : Vec Ideal S1x1x1x1024 .f32) (wo : Vec Ideal S1x1024x1024 .bf16) :
    k0_pay20 X (k0_pay6 nh) O h0 h1 h2 (k0_pay16 G) (k0_pay17 (k0_pay7 F S)) (k0_pay18 (k0_pay7 F S)) k0_pay19 g wo
      = joinVec X O h0 h1 h2 (k0_pay14 (k0_pay6 nh) (k0_pay16 G) (k0_pay17 (k0_pay7 F S)) (k0_pay18 (k0_pay7 F S)) k0_pay19) g wo := rfl

/-- A row with the five pieces of its mixer's output side by side. -/
theorem join_apply (X : FVec Ideal S528x1024 .f32) (O : FVec Ideal S528x512 .bf16) (h0 h1 h2 h3 : FVec Ideal S528x128 .bf16)
    (g : Vec Ideal S1x1x1x1024 .f32) (wo : Vec Ideal S1x1024x1024 .bf16) (p : Fin 528) (k : Fin 1024) :
    (joinVec X O h0 h1 h2 h3 g wo (ix2 p k) : EReal) =
      X (ix2 p k) + g (ix4 0 0 0 k) * ∑ j : Fin 1024,
        (if h : j.val < 512 then O (ix2 p ⟨j.val, h⟩)
        else if h' : j.val - 512 < 128 then h0 (ix2 p ⟨j.val - 512, h'⟩)
        else if h'' : j.val - 512 - 128 < 128 then h1 (ix2 p ⟨j.val - 512 - 128, h''⟩)
        else if h4 : j.val - 512 - 128 - 128 < 128 then h2 (ix2 p ⟨j.val - 512 - 128 - 128, h4⟩)
        else h3 (ix2 p ⟨j.val - 512 - 128 - 128 - 128, by omega⟩) : EReal) * wo (ix3 0 j k) := by
  pointwise [joinVec]

/-- A head's column, named by its place among the 512. -/
theorem headAt_eq (F S G : FVec Ideal S528x512 .f32) (nh : Vec Ideal S1x128 .f32) (p : Fin 528) (b b' : ℕ) (h : b + 128 ≤ 512) (h' : b' + 128 ≤ 512)
    (q q' : Fin 128) (e : b = b') (e' : q = q') : headAt F S G nh p b h q = headAt F S G nh p b' h' q' := by
  subst e e'
  rfl

/-- A row with its mixed input added. -/
theorem mix_apply (X : FVec Ideal S528x1024 .f32) (O F S : FVec Ideal S528x512 .f32) (g0 : Vec Ideal S16x512 .bf16) (g1 : Vec Ideal S512x512 .bf16)
    (g2 : Vec Ideal S16x512 .bf16) (nh : Vec Ideal S1x128 .f32) (g : Vec Ideal S1x1x1x1024 .f32) (wo : Vec Ideal S1x1024x1024 .bf16) (p : Fin 528) (k : Fin 1024) :
    (mixVec X O F S g0 g1 g2 nh g wo (ix2 p k) : EReal) =
      X (ix2 p k) + g (ix4 0 0 0 k) * ∑ j : Fin 1024, Spec.columns (fun j => O (ix2 p j)) (fun j => F (ix2 p j)) (fun j => S (ix2 p j))
        (fun j => k0_pay5 g0 g1 g2 (ix2 p j)) (fun j => nh (ix2 0 j)) j * wo (ix3 0 j k) := by
  unfold mixVec
  rw [join_eq, join_apply]
  refine congrArg (fun z : EReal => (X (ix2 p k) + g (ix4 0 0 0 k) * z : EReal)) (Finset.sum_congr rfl fun j _ => ?_)
  refine congrArg (fun z : EReal => (z * wo (ix3 0 j k) : EReal)) ?_
  have hj := j.isLt
  unfold Spec.columns
  by_cases h : j.val < 512
  · rw [dif_pos h, dif_pos h]
    rfl
  rw [dif_neg h, dif_neg h]
  by_cases h0 : j.val - 512 < 128
  · rw [dif_pos h0, head0_apply]
    exact headAt_eq _ _ _ _ _ _ _ _ _ _ _ (by omega) (Fin.ext (by show j.val - 512 = (j.val - 512) % 128; omega))
  rw [dif_neg h0]
  by_cases h1 : j.val - 512 - 128 < 128
  · rw [dif_pos h1, head1_apply]
    exact headAt_eq _ _ _ _ _ _ _ _ _ _ _ (by omega) (Fin.ext (by show j.val - 512 - 128 = (j.val - 512) % 128; omega))
  rw [dif_neg h1]
  by_cases h2 : j.val - 512 - 128 - 128 < 128
  · rw [dif_pos h2, head2_apply]
    exact headAt_eq _ _ _ _ _ _ _ _ _ _ _ (by omega) (Fin.ext (by show j.val - 512 - 128 - 128 = (j.val - 512) % 128; omega))
  rw [dif_neg h2, head3_apply]
  exact headAt_eq _ _ _ _ _ _ _ _ _ _ _ (by omega) (Fin.ext (by show j.val - 512 - 128 - 128 - 128 = (j.val - 512) % 128; omega))

/-- The factors of the norm of those rows. -/
theorem factor_apply (X : FVec Ideal S528x1024 .f32) (O F S : FVec Ideal S528x512 .f32) (g0 : Vec Ideal S16x512 .bf16) (g1 : Vec Ideal S512x512 .bf16)
    (g2 : Vec Ideal S16x512 .bf16) (nh : Vec Ideal S1x128 .f32) (g : Vec Ideal S1x1x1x1024 .f32) (wo : Vec Ideal S1x1024x1024 .bf16) (p : Fin 528) :
    Ideal.rsqrt (sqVec X O F S g0 g1 g2 nh g wo (ix2 p 0) : EReal) = Cert.Tail.Spec.inv fun k => mixVec X O F S g0 g1 g2 nh g wo (ix2 p k) := by
  unfold sqVec mixVec k0_pay24
  generalize k0_pay20 (F := Ideal) _ _ _ _ _ _ _ _ _ _ _ _ = Z
  pointwise
  rfl

/-- The rows before the block, the block's own and the rows after it, one below the other. -/
theorem rows1_apply (x0 : Vec Ideal S16x1024 .f32) (x1 : Vec Ideal S512x1024 .f32) (x2 : Vec Ideal S16x1024 .f32)
    (p : Fin 528) (k : Fin 1024) : (k0_pay1 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay1]

/-- The rows before the block, the block's own and the rows after it, one below the other. -/
theorem rows2_apply (x0 : Vec Ideal S16x512 .bf16) (x1 : Vec Ideal S512x512 .bf16) (x2 : Vec Ideal S16x512 .bf16)
    (p : Fin 528) (k : Fin 512) : (k0_pay2 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay2]

/-- The rows before the block, the block's own and the rows after it, one below the other. -/
theorem rows3_apply (x0 : Vec Ideal S16x512 .bf16) (x1 : Vec Ideal S512x512 .bf16) (x2 : Vec Ideal S16x512 .bf16)
    (p : Fin 528) (k : Fin 512) : (k0_pay3 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay3]

/-- The rows before the block, the block's own and the rows after it, one below the other. -/
theorem rows4_apply (x0 : Vec Ideal S16x512 .bf16) (x1 : Vec Ideal S512x512 .bf16) (x2 : Vec Ideal S16x512 .bf16)
    (p : Fin 528) (k : Fin 512) : (k0_pay4 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay4]

/-- The rows before the block, the block's own and the rows after it, one below the other. -/
theorem rows5_apply (x0 : Vec Ideal S16x512 .bf16) (x1 : Vec Ideal S512x512 .bf16) (x2 : Vec Ideal S16x512 .bf16)
    (p : Fin 528) (k : Fin 512) : (k0_pay5 x0 x1 x2 (ix2 p k) : EReal) =
      if h : p.val < 8 then x0 (ix2 ⟨8 + p.val, by omega⟩ k)
      else if h' : p.val - 8 < 512 then x1 (ix2 ⟨p.val - 8, h'⟩ k) else x2 (ix2 ⟨p.val - 8 - 512, by omega⟩ k) := by
  pointwise [k0_pay5]

/-- The result block: those rows with the product of the activations added. -/
theorem out_apply (X : FVec Ideal S528x1024 .f32) (g : Vec Ideal S1x1x1x1024 .f32) (A : Vec Ideal S512x2816 .bf16) (wd : Vec Ideal S1x2816x1024 .bf16)
    (p : Fin 512) (k : Fin 1024) : k0_pay79 X g A wd (ix2 p k) = Cert.Tail.lastAt X g A wd p k := by
  pointwise [k0_pay79]
  rfl

/-- The modulated norm of those rows is computed as in the last layer. -/
theorem norm_eq (a : BitVec 32) (X : FVec Ideal S528x1024 .f32) (g s c : FVec Ideal S1x1024 .f32) (D : FVec Ideal S528x1 .f32) :
    k0_pay25 a X g s c D (Scalar.ofBits .f32 0x358637BD#32)
      = Cert.TailKernelIdeal.Gen.k0_pay11 a X g s c (addf D (broadcast S528x1 (Scalar.ofBits .f32 0x358637BD#32))) := rfl

/-- A row with its mixed input added, in the arguments of an even layer. -/
theorem mixed_of {A : Spec.Args} {t : Fin 32} {X : FVec Ideal S528x1024 .f32} {O F S : FVec Ideal S528x512 .f32} {g0 : Vec Ideal S16x512 .bf16}
    {g1 : Vec Ideal S512x512 .bf16} {g2 : Vec Ideal S16x512 .bf16} {nh : Vec Ideal S1x128 .f32} {g : Vec Ideal S1x1x1x1024 .f32} {wo : Vec Ideal S1x1024x1024 .bf16}
    (hx : ∀ (p : Fin 528) (r : Fin 16384), r.val + 8 = 512 * t.val + p.val → ∀ k, (X (ix2 p k) : EReal) = A.x r k)
    (ho : ∀ (p : Fin 528) (r : Fin 16384), r.val + 8 = 512 * t.val + p.val → ∀ k, (O (ix2 p k) : EReal) = A.oa r k)
    (hf : ∀ (p : Fin 528) (r : Fin 16384), r.val + 8 = 512 * t.val + p.val → ∀ k, (F (ix2 p k) : EReal) = A.sf r k)
    (hs : ∀ (p : Fin 528) (r : Fin 16384), r.val + 8 = 512 * t.val + p.val → ∀ k, (S (ix2 p k) : EReal) = A.sb r k)
    (hg : ∀ (p : Fin 528) (r : Fin 16384), r.val + 8 = 512 * t.val + p.val → ∀ k, (k0_pay5 g0 g1 g2 (ix2 p k) : EReal) = A.gb r k)
    (hn : ∀ q, (nh (ix2 0 q) : EReal) = A.nh q) (hm : ∀ k, (g (ix4 0 0 0 k) : EReal) = A.md (Cert.Tail.Spec.cond (Cert.Tail.seqOf t)) 2 k)
    (hw : ∀ j k, (wo (ix3 0 j k) : EReal) = A.wo j k) (p : Fin 528) (r : Fin 16384) (h : r.val + 8 = 512 * t.val + p.val) (k : Fin 1024) :
    (mixVec X O F S g0 g1 g2 nh g wo (ix2 p k) : EReal) = Spec.mixed A (Cert.Tail.seqOf t) r k := by
  rw [mix_apply]
  simp only [hx p r h, ho p r h, hf p r h, hs p r h, hg p r h, hn, hm, hw]
  rfl

end Cert.Even
-- ==== Proof.EvenIdealBody.lean ====
module

public import proofs.«01_k».proof.Proof.Gen.EvenKernelIdeal.Frame.Runs

@[expose] public section

set_option maxRecDepth 16384

/-! The run of the body of the third layer's tail on the extended reals. -/

noncomputable section

namespace Cert.EvenKernelIdeal.Run

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 2400000 in
/-- The body, run on whole staging blocks: it ends with its inputs as they were and with the pieces it stores in the result block and in the scratch, which the run finds. -/
noncomputable def kernelRun0_A (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) :
    Σ' (L23 : List (View.Piece (Elt F) S512x1024 .f32)), { LT0 : List (View.Piece (Elt F) S512x2816 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f LT0)) -∗ K ⟨⟩))
          ⊢ wp frame (wpE (defs₀ (F := F)) Variants.none c none) E (cc0_tail_even_latent i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_tail_even_latent_eq_skeleton]; unfold cc0_tail_even_latent_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    iexists _; iexact HS0

end Cert.EvenKernelIdeal.Run

end
-- ==== Proof.EvenIdealFrame.lean ====
module

public import proofs.«01_k».proof.Proof.EvenIdealBody
public import Idealize.ShloMosaic.Lib.Claim
public import Idealize.ShloMosaic.Lib.Pipeline.Value

@[expose] public section

set_option maxRecDepth 16384

/-! The run of the third layer's tail on the extended reals. -/

noncomputable section

namespace Cert.EvenKernelIdeal.Run

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The body's store covers the result block. -/
theorem cover0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1 S512x1024.size (by sl_kernel_rfl) y

/-- The result block that the body leaves. -/
def out0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) : Vec F S512x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1)

/-- The result block at each grid point. -/
def outsAt0 (c : Dev nD) (t : Fin cfg0.N) : Vec F S512x1024 .f32 :=
  out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- What each window holds before and after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q w := Pipeline.shareOf spec0 w
  owed _ := 0

/-- Each window's array at the start is the host's. -/
theorem A_eq (c : Dev nD) (w : Fin cfg0.W) : (dats m 0 c).A w = V m c (Pipeline.arrRef spec0 w) := by
  dsimp only [dats]

/-- The body leaves this input block as it was. -/
theorem after0_0 (c : Dev nD) (t : Fin cfg0.N) : (dats m 0 c).after 0 t = iblk m c 0 t := by dsimp only [dats]
/-- The body leaves this input block as it was. -/
theorem after0_1 (c : Dev nD) (t : Fin cfg0.N) : (dats m 0 c).after 1 t = iblk m c 1 t := by dsimp only [dats]
/-- The body leaves this input block as it was. -/
theorem after0_2 (c : Dev nD) (t : Fin cfg0.N) : (dats m 0 c).after 2 t = iblk m c 2 t := by dsimp only [dats]
/-- The body leaves this input block as it was. -/
theorem after0_3 (c : Dev nD) (t : Fin cfg0.N) : (dats m 0 c).after 3 t = iblk m c 3 t := by dsimp only [dats]
/-- The body leaves this input block as it was. -/
theorem after0_4 (c : Dev nD) (t : Fin cfg0.N) : (dats m 0 c).after 4 t = iblk m c 4 t := by dsimp only [dats]
/-- The body leaves this input block as it was. -/
theorem after0_5 (c : Dev nD) (t : Fin cfg0.N) : (dats m 0 c).after 5 t = iblk m c 5 t := by dsimp only [dats]
/-- The body leaves this input block as it was. -/
theorem after0_6 (c : Dev nD) (t : Fin cfg0.N) : (dats m 0 c).after 6 t = iblk m c 6 t := by dsimp only [dats]
/-- The body leaves this input block as it was. -/
theorem after0_7 (c : Dev nD) (t : Fin cfg0.N) : (dats m 0 c).after 7 t = iblk m c 7 t := by dsimp only [dats]
/-- The body leaves this input block as it was. -/
theorem after0_8 (c : Dev nD) (t : Fin cfg0.N) : (dats m 0 c).after 8 t = iblk m c 8 t := by dsimp only [dats]
/-- The body leaves this input block as it was. -/
theorem after0_9 (c : Dev nD) (t : Fin cfg0.N) : (dats m 0 c).after 9 t = iblk m c 9 t := by dsimp only [dats]
/-- The body leaves this input block as it was. -/
theorem after0_10 (c : Dev nD) (t : Fin cfg0.N) : (dats m 0 c).after 10 t = iblk m c 10 t := by dsimp only [dats]
/-- The body leaves this input block as it was. -/
theorem after0_11 (c : Dev nD) (t : Fin cfg0.N) : (dats m 0 c).after 11 t = iblk m c 11 t := by dsimp only [dats]
/-- The body leaves this input block as it was. -/
theorem after0_12 (c : Dev nD) (t : Fin cfg0.N) : (dats m 0 c).after 12 t = iblk m c 12 t := by dsimp only [dats]
/-- The body leaves this input block as it was. -/
theorem after0_13 (c : Dev nD) (t : Fin cfg0.N) : (dats m 0 c).after 13 t = iblk m c 13 t := by dsimp only [dats]
/-- The body leaves this input block as it was. -/
theorem after0_14 (c : Dev nD) (t : Fin cfg0.N) : (dats m 0 c).after 14 t = iblk m c 14 t := by dsimp only [dats]
/-- The body leaves this input block as it was. -/
theorem after0_15 (c : Dev nD) (t : Fin cfg0.N) : (dats m 0 c).after 15 t = iblk m c 15 t := by dsimp only [dats]
/-- The body leaves this input block as it was. -/
theorem after0_16 (c : Dev nD) (t : Fin cfg0.N) : (dats m 0 c).after 16 t = iblk m c 16 t := by dsimp only [dats]
/-- The body leaves this input block as it was. -/
theorem after0_17 (c : Dev nD) (t : Fin cfg0.N) : (dats m 0 c).after 17 t = iblk m c 17 t := by dsimp only [dats]
/-- The body leaves this input block as it was. -/
theorem after0_18 (c : Dev nD) (t : Fin cfg0.N) : (dats m 0 c).after 18 t = iblk m c 18 t := by dsimp only [dats]
/-- The body leaves this input block as it was. -/
theorem after0_19 (c : Dev nD) (t : Fin cfg0.N) : (dats m 0 c).after 19 t = iblk m c 19 t := by dsimp only [dats]
/-- The body leaves this input block as it was. -/
theorem after0_20 (c : Dev nD) (t : Fin cfg0.N) : (dats m 0 c).after 20 t = iblk m c 20 t := by dsimp only [dats]
/-- The body leaves this input block as it was. -/
theorem after0_21 (c : Dev nD) (t : Fin cfg0.N) : (dats m 0 c).after 21 t = iblk m c 21 t := by dsimp only [dats]
/-- The body leaves this input block as it was. -/
theorem after0_22 (c : Dev nD) (t : Fin cfg0.N) : (dats m 0 c).after 22 t = iblk m c 22 t := by dsimp only [dats]
/-- After a grid point the result window holds the body's block. -/
theorem after0_23 (c : Dev nD) (t : Fin cfg0.N) : (dats m 0 c).after 23 t = (outsAt0 m c t) := by dsimp only [dats]

/-- The body finds this input's block. -/
theorem before0_0 (c : Dev nD) (t : Fin cfg0.N) (d) : (dats m 0 c).before 0 t d = iblk m c 0 t :=
  before0_0_of m (dats m 0 c) (A_eq m c 0) (after0_0 m c) t d
/-- The body finds this input's block. -/
theorem before0_1 (c : Dev nD) (t : Fin cfg0.N) (d) : (dats m 0 c).before 1 t d = iblk m c 1 t :=
  before0_1_of m (dats m 0 c) (A_eq m c 1) (after0_1 m c) t d
/-- The body finds this input's block. -/
theorem before0_2 (c : Dev nD) (t : Fin cfg0.N) (d) : (dats m 0 c).before 2 t d = iblk m c 2 t :=
  before0_2_of m (dats m 0 c) (A_eq m c 2) (after0_2 m c) t d
/-- The body finds this input's block. -/
theorem before0_3 (c : Dev nD) (t : Fin cfg0.N) (d) : (dats m 0 c).before 3 t d = iblk m c 3 t :=
  before0_3_of m (dats m 0 c) (A_eq m c 3) (after0_3 m c) t d
/-- The body finds this input's block. -/
theorem before0_4 (c : Dev nD) (t : Fin cfg0.N) (d) : (dats m 0 c).before 4 t d = iblk m c 4 t :=
  before0_4_of m (dats m 0 c) (A_eq m c 4) (after0_4 m c) t d
/-- The body finds this input's block. -/
theorem before0_5 (c : Dev nD) (t : Fin cfg0.N) (d) : (dats m 0 c).before 5 t d = iblk m c 5 t :=
  before0_5_of m (dats m 0 c) (A_eq m c 5) (after0_5 m c) t d
/-- The body finds this input's block. -/
theorem before0_6 (c : Dev nD) (t : Fin cfg0.N) (d) : (dats m 0 c).before 6 t d = iblk m c 6 t :=
  before0_6_of m (dats m 0 c) (A_eq m c 6) (after0_6 m c) t d
/-- The body finds this input's block. -/
theorem before0_7 (c : Dev nD) (t : Fin cfg0.N) (d) : (dats m 0 c).before 7 t d = iblk m c 7 t :=
  before0_7_of m (dats m 0 c) (A_eq m c 7) (after0_7 m c) t d
/-- The body finds this input's block. -/
theorem before0_8 (c : Dev nD) (t : Fin cfg0.N) (d) : (dats m 0 c).before 8 t d = iblk m c 8 t :=
  before0_8_of m (dats m 0 c) (A_eq m c 8) (after0_8 m c) t d
/-- The body finds this input's block. -/
theorem before0_9 (c : Dev nD) (t : Fin cfg0.N) (d) : (dats m 0 c).before 9 t d = iblk m c 9 t :=
  before0_9_of m (dats m 0 c) (A_eq m c 9) (after0_9 m c) t d
/-- The body finds this input's block. -/
theorem before0_10 (c : Dev nD) (t : Fin cfg0.N) (d) : (dats m 0 c).before 10 t d = iblk m c 10 t :=
  before0_10_of m (dats m 0 c) (A_eq m c 10) (after0_10 m c) t d
/-- The body finds this input's block. -/
theorem before0_11 (c : Dev nD) (t : Fin cfg0.N) (d) : (dats m 0 c).before 11 t d = iblk m c 11 t :=
  before0_11_of m (dats m 0 c) (A_eq m c 11) (after0_11 m c) t d
/-- The body finds this input's block. -/
theorem before0_12 (c : Dev nD) (t : Fin cfg0.N) (d) : (dats m 0 c).before 12 t d = iblk m c 12 t :=
  before0_12_of m (dats m 0 c) (A_eq m c 12) (after0_12 m c) t d
/-- The body finds this input's block. -/
theorem before0_13 (c : Dev nD) (t : Fin cfg0.N) (d) : (dats m 0 c).before 13 t d = iblk m c 13 t :=
  before0_13_of m (dats m 0 c) (A_eq m c 13) (after0_13 m c) t d
/-- The body finds this input's block. -/
theorem before0_14 (c : Dev nD) (t : Fin cfg0.N) (d) : (dats m 0 c).before 14 t d = iblk m c 14 t :=
  before0_14_of m (dats m 0 c) (A_eq m c 14) (after0_14 m c) t d
/-- The body finds this input's block. -/
theorem before0_15 (c : Dev nD) (t : Fin cfg0.N) (d) : (dats m 0 c).before 15 t d = iblk m c 15 t :=
  before0_15_of m (dats m 0 c) (A_eq m c 15) (after0_15 m c) t d
/-- The body finds this input's block. -/
theorem before0_16 (c : Dev nD) (t : Fin cfg0.N) (d) : (dats m 0 c).before 16 t d = iblk m c 16 t :=
  before0_16_of m (dats m 0 c) (A_eq m c 16) (after0_16 m c) t d
/-- The body finds this input's block. -/
theorem before0_17 (c : Dev nD) (t : Fin cfg0.N) (d) : (dats m 0 c).before 17 t d = iblk m c 17 t :=
  before0_17_of m (dats m 0 c) (A_eq m c 17) (after0_17 m c) t d
/-- The body finds this input's block. -/
theorem before0_18 (c : Dev nD) (t : Fin cfg0.N) (d) : (dats m 0 c).before 18 t d = iblk m c 18 t :=
  before0_18_of m (dats m 0 c) (A_eq m c 18) (after0_18 m c) t d
/-- The body finds this input's block. -/
theorem before0_19 (c : Dev nD) (t : Fin cfg0.N) (d) : (dats m 0 c).before 19 t d = iblk m c 19 t :=
  before0_19_of m (dats m 0 c) (A_eq m c 19) (after0_19 m c) t d
/-- The body finds this input's block. -/
theorem before0_20 (c : Dev nD) (t : Fin cfg0.N) (d) : (dats m 0 c).before 20 t d = iblk m c 20 t :=
  before0_20_of m (dats m 0 c) (A_eq m c 20) (after0_20 m c) t d
/-- The body finds this input's block. -/
theorem before0_21 (c : Dev nD) (t : Fin cfg0.N) (d) : (dats m 0 c).before 21 t d = iblk m c 21 t :=
  before0_21_of m (dats m 0 c) (A_eq m c 21) (after0_21 m c) t d
/-- The body finds this input's block. -/
theorem before0_22 (c : Dev nD) (t : Fin cfg0.N) (d) : (dats m 0 c).before 22 t d = iblk m c 22 t :=
  before0_22_of m (dats m 0 c) (A_eq m c 22) (after0_22 m c) t d

/-- What the body is given at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What the body gives back at a grid point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body does so at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_23
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [HS0]; · iexact HS0
  iintro ⟨H0, H1, H2, H3, H4, H5, H6, H7, H8, H9, H10, H11, H12, H13, H14, H15, H16, H17, H18, H19, H20, H21, H22, ⟨%e23, H23⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the launch calls at a grid point. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program runs. -/
theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

/-- After the run the result is the pipeline's array. -/
theorem post23 (r : PUnit × MemSt nD τ sig (Elt F)) (h : Pipeline.FramePost cfgs (dats m) 0 (V m) r) (c : Dev nD) :
    r.2.mem ((c : Thread nD τ).loc main_v10) = (dats m 0 c).arrAt 23 cfg0.N :=
  (h c).1 23

/-- After the run this argument is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the run this argument is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the run this argument is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 8).trans (((dats m 0 c).arrAt_in 8 rfl _).trans ((A_eq m c 8).trans (V_main_arg2 m c)))

/-- After the run this argument is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 11).trans (((dats m 0 c).arrAt_in 11 rfl _).trans ((A_eq m c 11).trans (V_main_arg3 m c)))

/-- After the run this argument is as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 14).trans (((dats m 0 c).arrAt_in 14 rfl _).trans ((A_eq m c 14).trans (V_main_arg4 m c)))

/-- After the run this argument is as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 15).trans (((dats m 0 c).arrAt_in 15 rfl _).trans ((A_eq m c 15).trans (V_main_arg5 m c)))

/-- After the run this argument is as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the run this argument is as it was. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the run this argument is as it was. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the run this argument is as it was. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the run this argument is as it was. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 20).trans (((dats m 0 c).arrAt_in 20 rfl _).trans ((A_eq m c 20).trans (V_main_arg10 m c)))

/-- After the run this argument is as it was. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the run this argument is as it was. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The run, with the result's array named. -/
theorem run_blocks : θ_run defs (onTc (τ := τ) (main (F := F))) ⟨m, fun _ => 0, ρ⟩ fun r => ∀ c : Dev nD,
      r.2.mem ((c : Thread nD τ).loc main_v10) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.EvenKernelIdeal.Run

end
-- ==== Proof.EvenBlock.lean ====
module

public import proofs.«01_k».proof.Proof.EvenMix
public import proofs.«01_k».proof.Proof.EvenIdealFrame
public import Idealize.ShloMosaic.Lib.Pipeline.ValueKit

@[expose] public section

set_option maxRecDepth 16384

/-! What the body of the third layer's tail leaves in its result block. -/

noncomputable section

namespace Cert.Even

open Cert.EvenKernelIdeal Cert.EvenKernelIdeal.Gen Cert.EvenKernelIdeal.Run Idealize.ShloMosaic Idealize.ShloMosaic.TcCoe Idealize.SL.Sem

/-- The row of norm weights, computed as in the last layer. -/
theorem pay21_eq : @Cert.TailKernelIdeal.Gen.k0_pay7 Ideal = @k0_pay21 Ideal := rfl

/-- The row of shifts, computed as in the last layer. -/
theorem pay22_eq : @Cert.TailKernelIdeal.Gen.k0_pay8 Ideal = @k0_pay22 Ideal := rfl

/-- The row of scales, computed as in the last layer. -/
theorem pay23_eq : @Cert.TailKernelIdeal.Gen.k0_pay9 Ideal = @k0_pay23 Ideal := rfl

set_option maxHeartbeats 4000000 in
/-- The result block from the rows with their mixed input added and their modulated norm. -/
theorem out_eq (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec Ideal S16x1024 .f32) (x1 : Vec Ideal S512x1024 .f32) (x2 : Vec Ideal S16x1024 .f32) (x3 : Vec Ideal S16x512 .bf16) (x4 : Vec Ideal S512x512 .bf16) (x5 : Vec Ideal S16x512 .bf16) (x6 : Vec Ideal S16x512 .bf16) (x7 : Vec Ideal S512x512 .bf16) (x8 : Vec Ideal S16x512 .bf16) (x9 : Vec Ideal S16x512 .bf16) (x10 : Vec Ideal S512x512 .bf16) (x11 : Vec Ideal S16x512 .bf16) (x12 : Vec Ideal S16x512 .bf16) (x13 : Vec Ideal S512x512 .bf16) (x14 : Vec Ideal S16x512 .bf16) (x15 : Vec Ideal S1x1x6x1024 .f32) (x16 : Vec Ideal S1x128 .f32) (x17 : Vec Ideal S1x1024x1024 .bf16) (x18 : Vec Ideal S1x1024 .f32) (x19 : Vec Ideal S1x1024x5632 .bf16) (x20 : Vec Ideal S1x3x5632 .f32) (x21 : Vec Ideal S1x1x5632 .f32) (x22 : Vec Ideal S1x2816x1024 .bf16) :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22 =
      k0_pay79 (mixVec (k0_pay1 x0 x1 x2) (k0_pay2 x3 x4 x5) (k0_pay3 x6 x7 x8) (k0_pay4 x9 x10 x11) x12 x13 x14 x16 (Cert.Tail.modRow x15 2 inb_S1x1x6x1024_S1x1x1x1024_0_0_2_0) x17)
        (Cert.Tail.modRow x15 5 inb_S1x1x6x1024_S1x1x1x1024_0_0_5_0)
        (Cert.Tail.acts arg25 (Cert.TailKernelIdeal.Gen.k0_pay11 (BitVec.ofNat 32 ↑(i 0)) (mixVec (k0_pay1 x0 x1 x2) (k0_pay2 x3 x4 x5) (k0_pay3 x6 x7 x8) (k0_pay4 x9 x10 x11) x12 x13 x14 x16 (Cert.Tail.modRow x15 2 inb_S1x1x6x1024_S1x1x1x1024_0_0_2_0) x17)
            (Cert.TailKernelIdeal.Gen.k0_pay7 x18) (Cert.TailKernelIdeal.Gen.k0_pay8 (Cert.Tail.modRow x15 3 inb_S1x1x6x1024_S1x1x1x1024_0_0_3_0)) (Cert.TailKernelIdeal.Gen.k0_pay9 (Cert.Tail.modRow x15 4 inb_S1x1x6x1024_S1x1x1x1024_0_0_4_0))
            (sqVec (k0_pay1 x0 x1 x2) (k0_pay2 x3 x4 x5) (k0_pay3 x6 x7 x8) (k0_pay4 x9 x10 x11) x12 x13 x14 x16 (Cert.Tail.modRow x15 2 inb_S1x1x6x1024_S1x1x1x1024_0_0_2_0) x17)) x19 x20 x21)
        x22 := by
  unfold out0_A_23
  frame_out
  unfold mixVec sqVec Cert.Tail.modRow Cert.Tail.acts
  rw [← norm_eq, pay21_eq, pay22_eq, pay23_eq]
  generalize eD : k0_pay24 (F := Ideal) _ _ _ _ _ _ _ _ _ _ _ _ = D
  generalize eX : k0_pay20 (F := Ideal) _ _ _ _ _ _ _ _ _ _ _ _ = X
  unfold k0_pay28 k0_pay26
  generalize eH : k0_pay25 (F := Ideal) _ _ _ _ _ _ _ = H
  rfl

end Cert.Even
-- ==== Proof.EvenArrays.lean ====
module

public import proofs.«01_k».proof.Proof.EvenBlock
public import proofs.«01_k».proof.Proof.TailArrays
public import Idealize.ShloMosaic.Lib.Pipeline.ValueKit
public import Idealize.ShloMosaic.Lib.StableHlo.ReadAt

@[expose] public section

set_option maxRecDepth 16384

/-! The array the third layer's tail leaves, as the layer of its arguments. -/

noncomputable section

namespace Cert.Even

open Cert.EvenKernelIdeal Cert.EvenKernelIdeal.Gen Cert.EvenKernelIdeal.Run Idealize.ShloMosaic Idealize.ShloMosaic.TcCoe Idealize.SL.Sem

variable (m : (ℓ : Loc nD τ sig) → Buf (Elt Ideal) ℓ) (dv : Dev nD)

/-- The arguments the kernel reads. -/
def kargs : Cert.Even.Spec.Args where
  x r k := (m ((dv : Thread nD τ).loc main_arg0) : Vec Ideal S16384x1024 .f32) (ix2 r k)
  oa r k := (m ((dv : Thread nD τ).loc main_arg1) : Vec Ideal S16384x512 .bf16) (ix2 r k)
  sf r k := (m ((dv : Thread nD τ).loc main_arg2) : Vec Ideal S16384x512 .bf16) (ix2 r k)
  sb r k := (m ((dv : Thread nD τ).loc main_arg3) : Vec Ideal S16384x512 .bf16) (ix2 r k)
  gb r k := (m ((dv : Thread nD τ).loc main_arg4) : Vec Ideal S16384x512 .bf16) (ix2 r k)
  md a b k := (m ((dv : Thread nD τ).loc main_arg5) : Vec Ideal S4x8x6x1024 .f32) (ix4 2 a b k)
  nh q := (m ((dv : Thread nD τ).loc main_arg6) : Vec Ideal S2x128 .f32) (ix2 1 q)
  wo j k := (m ((dv : Thread nD τ).loc main_arg7) : Vec Ideal S2x1024x1024 .f32) (ix3 1 j k)
  gn k := (m ((dv : Thread nD τ).loc main_arg8) : Vec Ideal S4x1024 .f32) (ix2 2 k)
  wu k c := (m ((dv : Thread nD τ).loc main_arg9) : Vec Ideal S4x1024x5632 .f32) (ix3 2 k c)
  cw j c := (m ((dv : Thread nD τ).loc main_arg10) : Vec Ideal S4x3x5632 .f32) (ix3 2 j c)
  cb c := (m ((dv : Thread nD τ).loc main_arg11) : Vec Ideal S4x5632 .f32) (ix2 2 c)
  wd q k := (m ((dv : Thread nD τ).loc main_arg12) : Vec Ideal S4x2816x1024 .f32) (ix3 2 q k)

/-- Which blocks each point is given. -/
theorem idx_win : ∀ t : Fin grid0.N, win0_0.index t = ![32 * t.val - 1, 0] ∧
    win0_1.index t = ![t.val, 0] ∧
    win0_2.index t = ![min (32 * (t.val + 1)) 1023, 0] ∧
    win0_3.index t = ![32 * t.val - 1, 0] ∧
    win0_4.index t = ![t.val, 0] ∧
    win0_5.index t = ![min (32 * (t.val + 1)) 1023, 0] ∧
    win0_6.index t = ![32 * t.val - 1, 0] ∧
    win0_7.index t = ![t.val, 0] ∧
    win0_8.index t = ![min (32 * (t.val + 1)) 1023, 0] ∧
    win0_9.index t = ![32 * t.val - 1, 0] ∧
    win0_10.index t = ![t.val, 0] ∧
    win0_11.index t = ![min (32 * (t.val + 1)) 1023, 0] ∧
    win0_12.index t = ![32 * t.val - 1, 0] ∧
    win0_13.index t = ![t.val, 0] ∧
    win0_14.index t = ![min (32 * (t.val + 1)) 1023, 0] ∧
    win0_15.index t = ![2, 1 + t.val / 8, 0, 0] ∧
    win0_16.index t = ![0, 0] ∧
    win0_17.index t = ![1, 0, 0] ∧
    win0_18.index t = ![0, 0] ∧
    win0_19.index t = ![2, 0, 0] ∧
    win0_20.index t = ![2, 0, 0] ∧
    win0_21.index t = ![2, 0, 0] ∧
    win0_22.index t = ![2, 0, 0] ∧
    win0_23.index t = ![t.val, 0] := by decide +kernel

/-- There are thirty-two points. -/
theorem point_lt (t : Fin cfg0.N) : t.val < 32 := t.isLt

/-- The block of stream `x` and its neighbours, in the arguments. -/
theorem rows_x (t : Fin cfg0.N) (p : Fin 528) (r : Fin 16384) (h : r.val + 8 = 512 * t.val + p.val) (k : Fin 1024) :
    (Cert.EvenKernelIdeal.Gen.k0_pay1 (iblk m dv 0 t : Vec Ideal S16x1024 .f32) (iblk m dv 1 t : Vec Ideal S512x1024 .f32) (iblk m dv 2 t : Vec Ideal S16x1024 .f32) (ix2 p k) : EReal) = (kargs m dv).x r k := by
  have ht := point_lt t
  have hp := p.isLt
  rw [Cert.Even.rows1_apply]
  by_cases h1 : p.val < 8
  · rw [dif_pos h1]
    unfold kargs
    dsimp only
    blk_ext [iblk, V_main_arg0, idx_win t]
  · rw [dif_neg h1]
    by_cases h2 : p.val - 8 < 512
    · rw [dif_pos h2]
      unfold kargs
      dsimp only
      blk_ext [iblk, V_main_arg0, idx_win t]
    · rw [dif_neg h2]
      unfold kargs
      dsimp only
      blk_ext [iblk, V_main_arg0, idx_win t]

/-- The block of stream `oa` and its neighbours, in the arguments. -/
theorem rows_oa (t : Fin cfg0.N) (p : Fin 528) (r : Fin 16384) (h : r.val + 8 = 512 * t.val + p.val) (k : Fin 512) :
    (Cert.EvenKernelIdeal.Gen.k0_pay2 (iblk m dv 3 t : Vec Ideal S16x512 .bf16) (iblk m dv 4 t : Vec Ideal S512x512 .bf16) (iblk m dv 5 t : Vec Ideal S16x512 .bf16) (ix2 p k) : EReal) = (kargs m dv).oa r k := by
  have ht := point_lt t
  have hp := p.isLt
  rw [Cert.Even.rows2_apply]
  by_cases h1 : p.val < 8
  · rw [dif_pos h1]
    unfold kargs
    dsimp only
    blk_ext [iblk, V_main_arg1, idx_win t]
  · rw [dif_neg h1]
    by_cases h2 : p.val - 8 < 512
    · rw [dif_pos h2]
      unfold kargs
      dsimp only
      blk_ext [iblk, V_main_arg1, idx_win t]
    · rw [dif_neg h2]
      unfold kargs
      dsimp only
      blk_ext [iblk, V_main_arg1, idx_win t]

/-- The block of stream `sf` and its neighbours, in the arguments. -/
theorem rows_sf (t : Fin cfg0.N) (p : Fin 528) (r : Fin 16384) (h : r.val + 8 = 512 * t.val + p.val) (k : Fin 512) :
    (Cert.EvenKernelIdeal.Gen.k0_pay3 (iblk m dv 6 t : Vec Ideal S16x512 .bf16) (iblk m dv 7 t : Vec Ideal S512x512 .bf16) (iblk m dv 8 t : Vec Ideal S16x512 .bf16) (ix2 p k) : EReal) = (kargs m dv).sf r k := by
  have ht := point_lt t
  have hp := p.isLt
  rw [Cert.Even.rows3_apply]
  by_cases h1 : p.val < 8
  · rw [dif_pos h1]
    unfold kargs
    dsimp only
    blk_ext [iblk, V_main_arg2, idx_win t]
  · rw [dif_neg h1]
    by_cases h2 : p.val - 8 < 512
    · rw [dif_pos h2]
      unfold kargs
      dsimp only
      blk_ext [iblk, V_main_arg2, idx_win t]
    · rw [dif_neg h2]
      unfold kargs
      dsimp only
      blk_ext [iblk, V_main_arg2, idx_win t]

/-- The block of stream `sb` and its neighbours, in the arguments. -/
theorem rows_sb (t : Fin cfg0.N) (p : Fin 528) (r : Fin 16384) (h : r.val + 8 = 512 * t.val + p.val) (k : Fin 512) :
    (Cert.EvenKernelIdeal.Gen.k0_pay4 (iblk m dv 9 t : Vec Ideal S16x512 .bf16) (iblk m dv 10 t : Vec Ideal S512x512 .bf16) (iblk m dv 11 t : Vec Ideal S16x512 .bf16) (ix2 p k) : EReal) = (kargs m dv).sb r k := by
  have ht := point_lt t
  have hp := p.isLt
  rw [Cert.Even.rows4_apply]
  by_cases h1 : p.val < 8
  · rw [dif_pos h1]
    unfold kargs
    dsimp only
    blk_ext [iblk, V_main_arg3, idx_win t]
  · rw [dif_neg h1]
    by_cases h2 : p.val - 8 < 512
    · rw [dif_pos h2]
      unfold kargs
      dsimp only
      blk_ext [iblk, V_main_arg3, idx_win t]
    · rw [dif_neg h2]
      unfold kargs
      dsimp only
      blk_ext [iblk, V_main_arg3, idx_win t]

/-- The block of stream `gb` and its neighbours, in the arguments. -/
theorem rows_gb (t : Fin cfg0.N) (p : Fin 528) (r : Fin 16384) (h : r.val + 8 = 512 * t.val + p.val) (k : Fin 512) :
    (Cert.EvenKernelIdeal.Gen.k0_pay5 (iblk m dv 12 t : Vec Ideal S16x512 .bf16) (iblk m dv 13 t : Vec Ideal S512x512 .bf16) (iblk m dv 14 t : Vec Ideal S16x512 .bf16) (ix2 p k) : EReal) = (kargs m dv).gb r k := by
  have ht := point_lt t
  have hp := p.isLt
  rw [Cert.Even.rows5_apply]
  by_cases h1 : p.val < 8
  · rw [dif_pos h1]
    unfold kargs
    dsimp only
    blk_ext [iblk, V_main_arg4, idx_win t]
  · rw [dif_neg h1]
    by_cases h2 : p.val - 8 < 512
    · rw [dif_pos h2]
      unfold kargs
      dsimp only
      blk_ext [iblk, V_main_arg4, idx_win t]
    · rw [dif_neg h2]
      unfold kargs
      dsimp only
      blk_ext [iblk, V_main_arg4, idx_win t]

/-- The modulation's block. -/
theorem blk_mod (t : Fin cfg0.N) (j : Fin 6) (k : Fin 1024) :
    (iblk m dv 15 t : Vec Ideal S1x1x6x1024 .f32) (ix4 0 0 j k) = (kargs m dv).md (Cert.Tail.Spec.cond (Cert.Tail.seqOf t)) j k := by
  have ht := point_lt t
  unfold kargs Cert.Tail.Spec.cond Cert.Tail.seqOf
  dsimp only
  blk_ext [iblk, V_main_arg5, idx_win t]

/-- The argument `wo` as the host hands it on. -/
theorem host_wo (j k : Fin 1024) : (V m dv main_v0 : Vec Ideal S2x1024x1024 .bf16) (ix3 1 j k) = (kargs m dv).wo j k := by
  entry_read
  rfl

/-- Its block. -/
theorem blk_wo (t : Fin cfg0.N) (j k : Fin 1024) : (iblk m dv 17 t : Vec Ideal S1x1024x1024 .bf16) (ix3 0 j k) = (kargs m dv).wo j k := by
  rw [← host_wo]
  blk_ext [iblk, idx_win t]

/-- The argument `gn` as the host hands it on. -/
theorem host_gn (k : Fin 1024) : (V m dv main_v3 : Vec Ideal S1x1024 .f32) (ix2 0 k) = (kargs m dv).gn k := by
  entry_read
  show ((shapeCast S1x1024 (shapeCast S1024 (extractStridedSlice S1x1024 ![2, 0] (m (dv, Proc.tc.devRef main_arg8) : Vec Ideal S4x1024 .f32) slices_S4x1024_S1x1024_2_0 : Vec Ideal S1x1024 .f32) shapeCasts_S1x1024_S1024 : Vec Ideal S1024 .f32) shapeCasts_S1024_S1x1024 : Vec Ideal S1x1024 .f32) (ix2 0 k) : EReal) = _
  pointwise
  rfl

/-- Its block. -/
theorem blk_gn (t : Fin cfg0.N) (k : Fin 1024) : (iblk m dv 18 t : Vec Ideal S1x1024 .f32) (ix2 0 k) = (kargs m dv).gn k := by
  rw [← host_gn]
  blk_ext [iblk, idx_win t]

/-- The argument `wu` as the host hands it on. -/
theorem host_wu (k : Fin 1024) (c : Fin 5632) : (V m dv main_v4 : Vec Ideal S4x1024x5632 .bf16) (ix3 2 k c) = (kargs m dv).wu k c := by
  entry_read
  rfl

/-- Its block. -/
theorem blk_wu (t : Fin cfg0.N) (k : Fin 1024) (c : Fin 5632) : (iblk m dv 19 t : Vec Ideal S1x1024x5632 .bf16) (ix3 0 k c) = (kargs m dv).wu k c := by
  rw [← host_wu]
  blk_ext [iblk, idx_win t]

/-- The block of `cw`. -/
theorem blk_cw (t : Fin cfg0.N) (j : Fin 3) (c : Fin 5632) : (iblk m dv 20 t : Vec Ideal S1x3x5632 .f32) (ix3 0 j c) = (kargs m dv).cw j c := by
  unfold kargs
  dsimp only
  blk_ext [iblk, V_main_arg10, idx_win t]

/-- The argument `cb` as the host hands it on. -/
theorem host_cb (c : Fin 5632) : (V m dv main_v5 : Vec Ideal S4x1x5632 .f32) (ix3 2 0 c) = (kargs m dv).cb c := by
  entry_read
  exact Cert.Tail.stack_apply (m (dv, Proc.tc.devRef main_arg11)) 2 c

/-- Its block. -/
theorem blk_cb (t : Fin cfg0.N) (c : Fin 5632) : (iblk m dv 21 t : Vec Ideal S1x1x5632 .f32) (ix3 0 0 c) = (kargs m dv).cb c := by
  rw [← host_cb]
  blk_ext [iblk, idx_win t]

/-- The argument `wd` as the host hands it on. -/
theorem host_wd (q : Fin 2816) (k : Fin 1024) : (V m dv main_v6 : Vec Ideal S4x2816x1024 .bf16) (ix3 2 q k) = (kargs m dv).wd q k := by
  entry_read
  rfl

/-- Its block. -/
theorem blk_wd (t : Fin cfg0.N) (q : Fin 2816) (k : Fin 1024) : (iblk m dv 22 t : Vec Ideal S1x2816x1024 .bf16) (ix3 0 q k) = (kargs m dv).wd q k := by
  rw [← host_wd]
  blk_ext [iblk, idx_win t]

/-- The argument `nh` as the host hands it on. -/
theorem host_nh (q : Fin 128) : (V m dv main_v9 : Vec Ideal S1x128 .f32) (ix2 0 q) = (kargs m dv).nh q := by
  entry_read
  show ((shapeCast S1x128 (shapeCast S128 (extractStridedSlice S1x128 ![1, 0] (m (dv, Proc.tc.devRef main_arg6) : Vec Ideal S2x128 .f32) slices_S2x128_S1x128_1_0 : Vec Ideal S1x128 .f32) shapeCasts_S1x128_S128 : Vec Ideal S128 .f32) shapeCasts_S128_S1x128 : Vec Ideal S1x128 .f32) (ix2 0 q) : EReal) = _
  pointwise
  rfl

/-- Its block. -/
theorem blk_nh (t : Fin cfg0.N) (q : Fin 128) : (iblk m dv 16 t : Vec Ideal S1x128 .f32) (ix2 0 q) = (kargs m dv).nh q := by
  rw [← host_nh]
  blk_ext [iblk, idx_win t]

/-- What each point is given. -/
theorem given (t : Fin cfg0.N) : Cert.Tail.Given (Cert.Even.Spec.mixed (kargs m dv)) (kargs m dv).toFfn t
    (Cert.Even.mixVec (Cert.EvenKernelIdeal.Gen.k0_pay1 (iblk m dv 0 t : Vec Ideal S16x1024 .f32) (iblk m dv 1 t : Vec Ideal S512x1024 .f32) (iblk m dv 2 t : Vec Ideal S16x1024 .f32))
      (Cert.EvenKernelIdeal.Gen.k0_pay2 (iblk m dv 3 t : Vec Ideal S16x512 .bf16) (iblk m dv 4 t : Vec Ideal S512x512 .bf16) (iblk m dv 5 t : Vec Ideal S16x512 .bf16))
      (Cert.EvenKernelIdeal.Gen.k0_pay3 (iblk m dv 6 t : Vec Ideal S16x512 .bf16) (iblk m dv 7 t : Vec Ideal S512x512 .bf16) (iblk m dv 8 t : Vec Ideal S16x512 .bf16))
      (Cert.EvenKernelIdeal.Gen.k0_pay4 (iblk m dv 9 t : Vec Ideal S16x512 .bf16) (iblk m dv 10 t : Vec Ideal S512x512 .bf16) (iblk m dv 11 t : Vec Ideal S16x512 .bf16))
      (iblk m dv 12 t : Vec Ideal S16x512 .bf16) (iblk m dv 13 t : Vec Ideal S512x512 .bf16) (iblk m dv 14 t : Vec Ideal S16x512 .bf16)
      (iblk m dv 16 t : Vec Ideal S1x128 .f32) (Cert.Tail.modRow (iblk m dv 15 t : Vec Ideal S1x1x6x1024 .f32) 2 inb_S1x1x6x1024_S1x1x1x1024_0_0_2_0) (iblk m dv 17 t : Vec Ideal S1x1024x1024 .bf16))
    (Cert.Even.sqVec (Cert.EvenKernelIdeal.Gen.k0_pay1 (iblk m dv 0 t : Vec Ideal S16x1024 .f32) (iblk m dv 1 t : Vec Ideal S512x1024 .f32) (iblk m dv 2 t : Vec Ideal S16x1024 .f32))
      (Cert.EvenKernelIdeal.Gen.k0_pay2 (iblk m dv 3 t : Vec Ideal S16x512 .bf16) (iblk m dv 4 t : Vec Ideal S512x512 .bf16) (iblk m dv 5 t : Vec Ideal S16x512 .bf16))
      (Cert.EvenKernelIdeal.Gen.k0_pay3 (iblk m dv 6 t : Vec Ideal S16x512 .bf16) (iblk m dv 7 t : Vec Ideal S512x512 .bf16) (iblk m dv 8 t : Vec Ideal S16x512 .bf16))
      (Cert.EvenKernelIdeal.Gen.k0_pay4 (iblk m dv 9 t : Vec Ideal S16x512 .bf16) (iblk m dv 10 t : Vec Ideal S512x512 .bf16) (iblk m dv 11 t : Vec Ideal S16x512 .bf16))
      (iblk m dv 12 t : Vec Ideal S16x512 .bf16) (iblk m dv 13 t : Vec Ideal S512x512 .bf16) (iblk m dv 14 t : Vec Ideal S16x512 .bf16)
      (iblk m dv 16 t : Vec Ideal S1x128 .f32) (Cert.Tail.modRow (iblk m dv 15 t : Vec Ideal S1x1x6x1024 .f32) 2 inb_S1x1x6x1024_S1x1x1x1024_0_0_2_0) (iblk m dv 17 t : Vec Ideal S1x1024x1024 .bf16))
    (Cert.Tail.modRow (iblk m dv 15 t : Vec Ideal S1x1x6x1024 .f32) 3 inb_S1x1x6x1024_S1x1x1x1024_0_0_3_0)
    (Cert.Tail.modRow (iblk m dv 15 t : Vec Ideal S1x1x6x1024 .f32) 4 inb_S1x1x6x1024_S1x1x1x1024_0_0_4_0)
    (Cert.Tail.modRow (iblk m dv 15 t : Vec Ideal S1x1x6x1024 .f32) 5 inb_S1x1x6x1024_S1x1x1x1024_0_0_5_0)
    (iblk m dv 18 t : Vec Ideal S1x1024 .f32) (iblk m dv 19 t : Vec Ideal S1x1024x5632 .bf16)
    (iblk m dv 20 t : Vec Ideal S1x3x5632 .f32) (iblk m dv 21 t : Vec Ideal S1x1x5632 .f32) (iblk m dv 22 t : Vec Ideal S1x2816x1024 .bf16) where
  x := Cert.Even.mixed_of (fun p r h k => rows_x m dv t p r h k) (fun p r h k => rows_oa m dv t p r h k) (fun p r h k => rows_sf m dv t p r h k)
    (fun p r h k => rows_sb m dv t p r h k) (fun p r h k => rows_gb m dv t p r h k) (blk_nh m dv t) (fun k => (Cert.Tail.modRow_apply _ 2 (by decide) _ k).trans (blk_mod m dv t 2 k)) (blk_wo m dv t)
  d := Cert.Even.factor_apply _ _ _ _ _ _ _ _ _ _
  m3 := (fun k => (Cert.Tail.modRow_apply _ 3 (by decide) _ k).trans (blk_mod m dv t 3 k))
  m4 := (fun k => (Cert.Tail.modRow_apply _ 4 (by decide) _ k).trans (blk_mod m dv t 4 k))
  m5 := (fun k => (Cert.Tail.modRow_apply _ 5 (by decide) _ k).trans (blk_mod m dv t 5 k))
  gn := blk_gn m dv t
  wu := blk_wu m dv t
  cw := blk_cw m dv t
  cb := blk_cb m dv t
  wd := blk_wd m dv t

/-- The point's coordinate is its number. -/
theorem coord_eq : ∀ t : Fin grid0.N, ((grid0.coords t) 0).val = t.val := by decide +kernel

/-- The result's array. -/
def result (A : Cert.Even.Spec.Args) : Vec Ideal S16384x1024 .f32 := fun j => Cert.Tail.Spec.flat (Cert.Even.Spec.mixed A) A.toFfn (j 0) (j 1)

/-- The result's array after the run. -/
theorem arr23 : (dats m 0 dv).arrAt 23 cfg0.N = result (kargs m dv) := by
  refine (dats m 0 dv).arrAt_eq_of_covers 23 _ (by decide +kernel) fun t hf y => ?_
  blk_simp
  rw [after0_23]
  unfold outsAt0
  dsimp only
  rw [out_eq, coord_eq]
  obtain ⟨p, k, rfl⟩ : ∃ (p : Fin 512) (k : Fin 1024), y = ix2 p k := ⟨y 0, y 1, eq_ix2 y⟩
  have ht := point_lt t
  refine (Cert.Even.out_apply _ _ _ _ p k).trans (Eq.trans (Cert.Tail.flat_of (given m dv t) _ p k ⟨512 * t.val + p.val, by omega⟩ rfl) ?_)
  unfold result
  refine congrArg₂ (Cert.Tail.Spec.flat (Cert.Even.Spec.mixed (kargs m dv)) (kargs m dv).toFfn) (Fin.ext ?_) (Fin.ext ?_)
  · blk_simp [idx_win t]
    show 512 * t.val + p.val = t.val * 512 + p.val
    omega
  · blk_simp [idx_win t]

/-- What the program leaves. -/
theorem run_kernel (ρ : Dev nD → PrngReg) :
    θ_run defs (onTc (τ := τ) (main (F := Ideal))) ⟨m, fun _ => 0, ρ⟩ fun r => ∀ c : Dev nD,
      r.2.mem ((c : Thread nD τ).loc main_v10) = result (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run _ _ _).mono (fun _ h c => ⟨(h c).1.trans (arr23 m c), (h c).2⟩) (run_blocks m ρ)

end Cert.Even
-- ==== Proof.EvenRef.lean ====
module

public import proofs.«01_k».proof.Proof.EvenSpec
public import proofs.«01_k».proof.Proof.TailRef
public import proofs.«01_k».proof.Proof.Gen.EvenReferenceIdeal.Run
public import Idealize.ShloMosaic.Lib.Pointwise
public import Idealize.ShloMosaic.Lib.IdealHost

@[expose] public section

set_option maxRecDepth 16384

/-! The reference of the third layer's tail, read at a row and a column. -/

noncomputable section

namespace Cert.EvenRef

open Cert.EvenReferenceIdeal Cert.EvenReferenceIdeal.Gen Cert.EvenReferenceIdeal.Value Idealize.ShloMosaic Idealize.ShloMosaic.TcCoe Idealize.SL.Sem
open Idealize.ShloMosaic.StableHlo

/-- The attention's columns. -/
def attVec {F : FTy → Type} [FloatOps F] (V : Valuation τ sig (Elt F)) : FVec F S4x4096x512 .f32 :=
  shapeCast _ (extf .f32 (V (Proc.devRef .tc main_arg1)) bitsLt_bf16_f32) shapeCasts_S16384x512_S4x4096x512

/-- The scans' heads, normed and gated. -/
def headVec {F : FTy → Type} [FloatOps F] (V : Valuation τ sig (Elt F)) : FVec F S4x4096x512 .f32 :=
  mulf (shapeCast _ (mulf (mulf (res_main_v22 V) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (res_main_v22 V) (res_main_v22 V)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast _ (extractStridedSlice S1x128 ![1, 0] (V (Proc.devRef .tc main_arg6)) slices_S2x128_S1x128_1_0) shapeCasts_S1x128_S128)))) shapeCasts_S4x4096x4x128_S4x4096x512) (mulf (res_main_v8 V) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (res_main_v8 V))))))

/-- The rows with their mixed input added, from the attention's columns and the heads. -/
def joinVec {F : FTy → Type} [FloatOps F] (V : Valuation τ sig (Elt F)) (a h : FVec F S4x4096x512 .f32) : FVec F S4x4096x1024 .f32 :=
  addf (shapeCast _ (V (Proc.devRef .tc main_arg0)) shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1x1024 ![2, 1, 2, 0] (V (Proc.devRef .tc main_arg5)) slices_S4x8x6x1024_S1x4x1x1024_2_1_2_0) shapeCasts_S1x4x1x1024_S4x1024))) (Host.dotGeneral dot_S4x4096x1024_S1024x1024_S4x4096x1024_2_0_01_1_n_n none (concatenate S4x4096x1024 2 [⟨S4x4096x512, a⟩, ⟨S4x4096x512, h⟩] concatenates_S4x4096x512_S4x4096x512_S4x4096x1024_d2) (shapeCast _ (extractStridedSlice S1x1024x1024 ![1, 0, 0] (V (Proc.devRef .tc main_arg7)) slices_S2x1024x1024_S1x1024x1024_1_0_0) shapeCasts_S1x1024x1024_S1024x1024)))

/-- The layer's rows. -/
def layerVec {F : FTy → Type} [FloatOps F] (V : Valuation τ sig (Elt F)) : FVec F S4x4096x1024 .f32 :=
  addf (res_main_v47 V) (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1x1024 ![2, 1, 5, 0] (V (Proc.devRef .tc main_arg5)) slices_S4x8x6x1024_S1x4x1x1024_2_1_5_0) shapeCasts_S1x4x1x1024_S4x1024))) (Host.dotGeneral dot_S4x4096x2816_S2816x1024_S4x4096x1024_2_0_01_1_n_n none (mulf (mulf (res_main_v100 V) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (res_main_v100 V)))))) (extractStridedSlice S4x4096x2816 ![0, 0, 2816] (res_main_v99 V) slices_S4x4096x5632_S4x4096x2816_0_0_2816)) (shapeCast _ (extractStridedSlice S1x2816x1024 ![2, 0, 0] (V (Proc.devRef .tc main_arg12)) slices_S4x2816x1024_S1x2816x1024_2_0_0) shapeCasts_S1x2816x1024_S2816x1024)))

variable (V : Valuation τ sig (Elt Ideal))

/-- The arguments the reference reads. -/
def args : Cert.Even.Spec.Args where
  x r k := V (Proc.devRef .tc main_arg0) (ix2 r k)
  oa r k := V (Proc.devRef .tc main_arg1) (ix2 r k)
  sf r k := V (Proc.devRef .tc main_arg2) (ix2 r k)
  sb r k := V (Proc.devRef .tc main_arg3) (ix2 r k)
  gb r k := V (Proc.devRef .tc main_arg4) (ix2 r k)
  md a b k := V (Proc.devRef .tc main_arg5) (ix4 2 a b k)
  nh q := V (Proc.devRef .tc main_arg6) (ix2 1 q)
  wo j k := V (Proc.devRef .tc main_arg7) (ix3 1 j k)
  gn k := V (Proc.devRef .tc main_arg8) (ix2 2 k)
  wu k c := V (Proc.devRef .tc main_arg9) (ix3 2 k c)
  cw t c := V (Proc.devRef .tc main_arg10) (ix3 2 t c)
  cb c := V (Proc.devRef .tc main_arg11) (ix2 2 c)
  wd q k := V (Proc.devRef .tc main_arg12) (ix3 2 q k)

/-- The attention's columns, in the arguments. -/
theorem att_apply (n : Fin 4) (s : Fin 4096) (j : Fin 512) : attVec V (ix3 n s j) = (args V).oa (Cert.Tail.Spec.row n s) j := by
  unfold attVec
  pointwise
  rfl

/-- A column of a head, in the arguments. -/
theorem head_apply (n : Fin 4) (s : Fin 4096) (j : Fin 512) :
    headVec V (ix3 n s j) = Cert.Even.Spec.head ((args V).sf (Cert.Tail.Spec.row n s)) ((args V).sb (Cert.Tail.Spec.row n s)) ((args V).gb (Cert.Tail.Spec.row n s)) (args V).nh
      (j.val / 128 * 128) (by omega) ⟨j.val % 128, by omega⟩ := by
  unfold headVec res_main_v22 res_main_v8
  pointwise
  have e : (⟨j.val / 128 * 128 + j.val % 128, by omega⟩ : Fin 512) = j := Fin.ext (by show j.val / 128 * 128 + j.val % 128 = j.val; omega)
  unfold Cert.Even.Spec.head
  dsimp only
  rw [e]
  rfl

/-- The rows are so joined. -/
theorem join_eq : (res_main_v47 V : FVec Ideal S4x4096x1024 .f32) = joinVec V (attVec V) (headVec V) := rfl

/-- A joined row, read at a column. -/
theorem join_apply (a h : FVec Ideal S4x4096x512 .f32) (n : Fin 4) (s : Fin 4096) (k : Fin 1024) :
    joinVec V a h (ix3 n s k) = (args V).x (Cert.Tail.Spec.row n s) k + (args V).md (Cert.Tail.Spec.cond n) 2 k * ∑ j : Fin 1024,
      (if e : j.val < 512 then (a (ix3 n s ⟨j.val, e⟩) : EReal) else h (ix3 n s ⟨j.val - 512, by omega⟩)) * (args V).wo j k := by
  unfold joinVec
  pointwise
  rfl

/-- The rows with their mixed input added. -/
theorem mixed_apply (n : Fin 4) (s : Fin 4096) (k : Fin 1024) :
    res_main_v47 V (ix3 n s k) = Cert.Even.Spec.mixed (args V) n (Cert.Tail.Spec.row n s) k := by
  refine (congrFun (join_eq V) (ix3 n s k)).trans ((join_apply V _ _ n s k).trans ?_)
  unfold Cert.Even.Spec.mixed
  refine congrArg (fun z : EReal => (args V).x (Cert.Tail.Spec.row n s) k + (args V).md (Cert.Tail.Spec.cond n) 2 k * z) (Finset.sum_congr rfl fun j _ => ?_)
  refine congrArg (fun z : EReal => z * (args V).wo j k) ?_
  unfold Cert.Even.Spec.columns
  by_cases e : j.val < 512
  · rw [dif_pos e, dif_pos e, att_apply]
  · rw [dif_neg e, dif_neg e, head_apply]

/-- The padded up projection. -/
theorem up_apply (n : Fin 4) (s : Fin 4098) (c : Fin 5632) :
    res_main_v72 V (ix3 n s c) = Cert.Tail.Spec.up (Cert.Even.Spec.mixed (args V)) (args V).toFfn n s.val c := by
  unfold res_main_v72
  pointwise
  by_cases h : 1 ≤ s.val ∧ s.val - 1 < 4096
  · rw [dif_pos h]
    refine Eq.trans ?_ (Cert.Tail.Spec.up_inside _ _ n s.val h.1 h.2 c).symm
    simp only [mixed_apply]
    rfl
  · rw [dif_neg h, Cert.Tail.Spec.up_outside _ _ _ _ (by omega)]
    exact Cert.TailRef.zero_float

/-- The convolution. -/
theorem conv_apply (n : Fin 4) (s : Fin 4096) (c : Fin 5632) :
    res_main_v99 V (ix3 n s c) = Cert.Tail.Spec.conv (Cert.Even.Spec.mixed (args V)) (args V).toFfn n s c := by
  unfold res_main_v99 res_main_v74
  pointwise
  rw [up_apply, up_apply, up_apply]
  unfold Cert.Tail.Spec.conv
  rw [Nat.add_comm s.val 1, Nat.add_comm s.val 2]
  rfl

/-- The layer's rows. -/
theorem layer_apply (n : Fin 4) (s : Fin 4096) (k : Fin 1024) :
    layerVec V (ix3 n s k) = Cert.Tail.Spec.layer (Cert.Even.Spec.mixed (args V)) (args V).toFfn n s k := by
  unfold layerVec res_main_v100
  pointwise
  simp only [conv_apply, mixed_apply]
  rfl

/-- The result. -/
theorem result_apply (r : Fin 16384) (k : Fin 1024) :
    (shapeCast S16384x1024 (layerVec V) shapeCasts_S4x4096x1024_S16384x1024 : Vec Ideal S16384x1024 .f32) (ix2 r k)
      = Cert.Tail.Spec.flat (Cert.Even.Spec.mixed (args V)) (args V).toFfn r k := by
  pointwise
  rw [layer_apply]
  rfl

end Cert.EvenRef
-- ==== Proof.FirstFrame.lean ====
module

public import proofs.«01_k».proof.Proof.FirstBody
public import Idealize.ShloMosaic.Lib.Claim

@[expose] public section

set_option maxRecDepth 16384

/-! The run of the first layer's tail. -/

noncomputable section

namespace Cert.FirstKernel.Run

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The body's store covers the result block. -/
theorem cover0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1 S512x1024.size (by sl_kernel_rfl) y

/-- The result block that the body leaves. -/
def out0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) : Vec F S512x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1)

/-- The result block at each grid point. -/
def outsAt0 (c : Dev nD) (t : Fin cfg0.N) : Vec F S512x1024 .f32 :=
  out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- What each window holds before and after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q w := Pipeline.shareOf spec0 w
  owed _ := 0

/-- Each window's array at the start is the host's. -/
theorem A_eq (c : Dev nD) (w : Fin cfg0.W) : (dats m 0 c).A w = V m c (Pipeline.arrRef spec0 w) := by
  dsimp only [dats]

/-- The body leaves this input block as it was. -/
theorem after0_0 (c : Dev nD) (t : Fin cfg0.N) : (dats m 0 c).after 0 t = iblk m c 0 t := by dsimp only [dats]
/-- The body leaves this input block as it was. -/
theorem after0_1 (c : Dev nD) (t : Fin cfg0.N) : (dats m 0 c).after 1 t = iblk m c 1 t := by dsimp only [dats]
/-- The body leaves this input block as it was. -/
theorem after0_2 (c : Dev nD) (t : Fin cfg0.N) : (dats m 0 c).after 2 t = iblk m c 2 t := by dsimp only [dats]
/-- The body leaves this input block as it was. -/
theorem after0_3 (c : Dev nD) (t : Fin cfg0.N) : (dats m 0 c).after 3 t = iblk m c 3 t := by dsimp only [dats]
/-- The body leaves this input block as it was. -/
theorem after0_4 (c : Dev nD) (t : Fin cfg0.N) : (dats m 0 c).after 4 t = iblk m c 4 t := by dsimp only [dats]
/-- The body leaves this input block as it was. -/
theorem after0_5 (c : Dev nD) (t : Fin cfg0.N) : (dats m 0 c).after 5 t = iblk m c 5 t := by dsimp only [dats]
/-- The body leaves this input block as it was. -/
theorem after0_6 (c : Dev nD) (t : Fin cfg0.N) : (dats m 0 c).after 6 t = iblk m c 6 t := by dsimp only [dats]
/-- The body leaves this input block as it was. -/
theorem after0_7 (c : Dev nD) (t : Fin cfg0.N) : (dats m 0 c).after 7 t = iblk m c 7 t := by dsimp only [dats]
/-- The body leaves this input block as it was. -/
theorem after0_8 (c : Dev nD) (t : Fin cfg0.N) : (dats m 0 c).after 8 t = iblk m c 8 t := by dsimp only [dats]
/-- The body leaves this input block as it was. -/
theorem after0_9 (c : Dev nD) (t : Fin cfg0.N) : (dats m 0 c).after 9 t = iblk m c 9 t := by dsimp only [dats]
/-- The body leaves this input block as it was. -/
theorem after0_10 (c : Dev nD) (t : Fin cfg0.N) : (dats m 0 c).after 10 t = iblk m c 10 t := by dsimp only [dats]
/-- The body leaves this input block as it was. -/
theorem after0_11 (c : Dev nD) (t : Fin cfg0.N) : (dats m 0 c).after 11 t = iblk m c 11 t := by dsimp only [dats]
/-- The body leaves this input block as it was. -/
theorem after0_12 (c : Dev nD) (t : Fin cfg0.N) : (dats m 0 c).after 12 t = iblk m c 12 t := by dsimp only [dats]
/-- The body leaves this input block as it was. -/
theorem after0_13 (c : Dev nD) (t : Fin cfg0.N) : (dats m 0 c).after 13 t = iblk m c 13 t := by dsimp only [dats]
/-- The body leaves this input block as it was. -/
theorem after0_14 (c : Dev nD) (t : Fin cfg0.N) : (dats m 0 c).after 14 t = iblk m c 14 t := by dsimp only [dats]
/-- The body leaves this input block as it was. -/
theorem after0_15 (c : Dev nD) (t : Fin cfg0.N) : (dats m 0 c).after 15 t = iblk m c 15 t := by dsimp only [dats]
/-- The body leaves this input block as it was. -/
theorem after0_16 (c : Dev nD) (t : Fin cfg0.N) : (dats m 0 c).after 16 t = iblk m c 16 t := by dsimp only [dats]
/-- The body leaves this input block as it was. -/
theorem after0_17 (c : Dev nD) (t : Fin cfg0.N) : (dats m 0 c).after 17 t = iblk m c 17 t := by dsimp only [dats]
/-- The body leaves this input block as it was. -/
theorem after0_18 (c : Dev nD) (t : Fin cfg0.N) : (dats m 0 c).after 18 t = iblk m c 18 t := by dsimp only [dats]
/-- The body leaves this input block as it was. -/
theorem after0_19 (c : Dev nD) (t : Fin cfg0.N) : (dats m 0 c).after 19 t = iblk m c 19 t := by dsimp only [dats]
/-- The body leaves this input block as it was. -/
theorem after0_20 (c : Dev nD) (t : Fin cfg0.N) : (dats m 0 c).after 20 t = iblk m c 20 t := by dsimp only [dats]
/-- The body leaves this input block as it was. -/
theorem after0_21 (c : Dev nD) (t : Fin cfg0.N) : (dats m 0 c).after 21 t = iblk m c 21 t := by dsimp only [dats]
/-- The body leaves this input block as it was. -/
theorem after0_22 (c : Dev nD) (t : Fin cfg0.N) : (dats m 0 c).after 22 t = iblk m c 22 t := by dsimp only [dats]
/-- After a grid point the result window holds the body's block. -/
theorem after0_23 (c : Dev nD) (t : Fin cfg0.N) : (dats m 0 c).after 23 t = (outsAt0 m c t) := by dsimp only [dats]

/-- The body finds this input's block. -/
theorem before0_0 (c : Dev nD) (t : Fin cfg0.N) (d) : (dats m 0 c).before 0 t d = iblk m c 0 t :=
  before0_0_of m (dats m 0 c) (A_eq m c 0) (after0_0 m c) t d
/-- The body finds this input's block. -/
theorem before0_1 (c : Dev nD) (t : Fin cfg0.N) (d) : (dats m 0 c).before 1 t d = iblk m c 1 t :=
  before0_1_of m (dats m 0 c) (A_eq m c 1) (after0_1 m c) t d
/-- The body finds this input's block. -/
theorem before0_2 (c : Dev nD) (t : Fin cfg0.N) (d) : (dats m 0 c).before 2 t d = iblk m c 2 t :=
  before0_2_of m (dats m 0 c) (A_eq m c 2) (after0_2 m c) t d
/-- The body finds this input's block. -/
theorem before0_3 (c : Dev nD) (t : Fin cfg0.N) (d) : (dats m 0 c).before 3 t d = iblk m c 3 t :=
  before0_3_of m (dats m 0 c) (A_eq m c 3) (after0_3 m c) t d
/-- The body finds this input's block. -/
theorem before0_4 (c : Dev nD) (t : Fin cfg0.N) (d) : (dats m 0 c).before 4 t d = iblk m c 4 t :=
  before0_4_of m (dats m 0 c) (A_eq m c 4) (after0_4 m c) t d
/-- The body finds this input's block. -/
theorem before0_5 (c : Dev nD) (t : Fin cfg0.N) (d) : (dats m 0 c).before 5 t d = iblk m c 5 t :=
  before0_5_of m (dats m 0 c) (A_eq m c 5) (after0_5 m c) t d
/-- The body finds this input's block. -/
theorem before0_6 (c : Dev nD) (t : Fin cfg0.N) (d) : (dats m 0 c).before 6 t d = iblk m c 6 t :=
  before0_6_of m (dats m 0 c) (A_eq m c 6) (after0_6 m c) t d
/-- The body finds this input's block. -/
theorem before0_7 (c : Dev nD) (t : Fin cfg0.N) (d) : (dats m 0 c).before 7 t d = iblk m c 7 t :=
  before0_7_of m (dats m 0 c) (A_eq m c 7) (after0_7 m c) t d
/-- The body finds this input's block. -/
theorem before0_8 (c : Dev nD) (t : Fin cfg0.N) (d) : (dats m 0 c).before 8 t d = iblk m c 8 t :=
  before0_8_of m (dats m 0 c) (A_eq m c 8) (after0_8 m c) t d
/-- The body finds this input's block. -/
theorem before0_9 (c : Dev nD) (t : Fin cfg0.N) (d) : (dats m 0 c).before 9 t d = iblk m c 9 t :=
  before0_9_of m (dats m 0 c) (A_eq m c 9) (after0_9 m c) t d
/-- The body finds this input's block. -/
theorem before0_10 (c : Dev nD) (t : Fin cfg0.N) (d) : (dats m 0 c).before 10 t d = iblk m c 10 t :=
  before0_10_of m (dats m 0 c) (A_eq m c 10) (after0_10 m c) t d
/-- The body finds this input's block. -/
theorem before0_11 (c : Dev nD) (t : Fin cfg0.N) (d) : (dats m 0 c).before 11 t d = iblk m c 11 t :=
  before0_11_of m (dats m 0 c) (A_eq m c 11) (after0_11 m c) t d
/-- The body finds this input's block. -/
theorem before0_12 (c : Dev nD) (t : Fin cfg0.N) (d) : (dats m 0 c).before 12 t d = iblk m c 12 t :=
  before0_12_of m (dats m 0 c) (A_eq m c 12) (after0_12 m c) t d
/-- The body finds this input's block. -/
theorem before0_13 (c : Dev nD) (t : Fin cfg0.N) (d) : (dats m 0 c).before 13 t d = iblk m c 13 t :=
  before0_13_of m (dats m 0 c) (A_eq m c 13) (after0_13 m c) t d
/-- The body finds this input's block. -/
theorem before0_14 (c : Dev nD) (t : Fin cfg0.N) (d) : (dats m 0 c).before 14 t d = iblk m c 14 t :=
  before0_14_of m (dats m 0 c) (A_eq m c 14) (after0_14 m c) t d
/-- The body finds this input's block. -/
theorem before0_15 (c : Dev nD) (t : Fin cfg0.N) (d) : (dats m 0 c).before 15 t d = iblk m c 15 t :=
  before0_15_of m (dats m 0 c) (A_eq m c 15) (after0_15 m c) t d
/-- The body finds this input's block. -/
theorem before0_16 (c : Dev nD) (t : Fin cfg0.N) (d) : (dats m 0 c).before 16 t d = iblk m c 16 t :=
  before0_16_of m (dats m 0 c) (A_eq m c 16) (after0_16 m c) t d
/-- The body finds this input's block. -/
theorem before0_17 (c : Dev nD) (t : Fin cfg0.N) (d) : (dats m 0 c).before 17 t d = iblk m c 17 t :=
  before0_17_of m (dats m 0 c) (A_eq m c 17) (after0_17 m c) t d
/-- The body finds this input's block. -/
theorem before0_18 (c : Dev nD) (t : Fin cfg0.N) (d) : (dats m 0 c).before 18 t d = iblk m c 18 t :=
  before0_18_of m (dats m 0 c) (A_eq m c 18) (after0_18 m c) t d
/-- The body finds this input's block. -/
theorem before0_19 (c : Dev nD) (t : Fin cfg0.N) (d) : (dats m 0 c).before 19 t d = iblk m c 19 t :=
  before0_19_of m (dats m 0 c) (A_eq m c 19) (after0_19 m c) t d
/-- The body finds this input's block. -/
theorem before0_20 (c : Dev nD) (t : Fin cfg0.N) (d) : (dats m 0 c).before 20 t d = iblk m c 20 t :=
  before0_20_of m (dats m 0 c) (A_eq m c 20) (after0_20 m c) t d
/-- The body finds this input's block. -/
theorem before0_21 (c : Dev nD) (t : Fin cfg0.N) (d) : (dats m 0 c).before 21 t d = iblk m c 21 t :=
  before0_21_of m (dats m 0 c) (A_eq m c 21) (after0_21 m c) t d
/-- The body finds this input's block. -/
theorem before0_22 (c : Dev nD) (t : Fin cfg0.N) (d) : (dats m 0 c).before 22 t d = iblk m c 22 t :=
  before0_22_of m (dats m 0 c) (A_eq m c 22) (after0_22 m c) t d

/-- What the body is given at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What the body gives back at a grid point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body does so at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_23
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [HS0]; · iexact HS0
  iintro ⟨H0, H1, H2, H3, H4, H5, H6, H7, H8, H9, H10, H11, H12, H13, H14, H15, H16, H17, H18, H19, H20, H21, H22, ⟨%e23, H23⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the launch calls at a grid point. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program runs. -/
theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.FirstKernel.Run

end
-- ==== Proof.FirstIdealBody.lean ====
module

public import proofs.«01_k».proof.Proof.Gen.FirstKernelIdeal.Frame.Runs

@[expose] public section

set_option maxRecDepth 16384

/-! The run of the body of the first layer's tail on the extended reals. -/

noncomputable section

namespace Cert.FirstKernelIdeal.Run

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 2400000 in
/-- The body, run on whole staging blocks: it ends with its inputs as they were and with the pieces it stores in the result block and in the scratch, which the run finds. -/
noncomputable def kernelRun0_A (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) :
    Σ' (L23 : List (View.Piece (Elt F) S512x1024 .f32)), { LT0 : List (View.Piece (Elt F) S512x2816 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f LT0)) -∗ K ⟨⟩))
          ⊢ wp frame (wpE (defs₀ (F := F)) Variants.none c none) E (cc0_tail_even_latent i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_tail_even_latent_eq_skeleton]; unfold cc0_tail_even_latent_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    iexists _; iexact HS0

end Cert.FirstKernelIdeal.Run

end
-- ==== Proof.FirstIdealFrame.lean ====
module

public import proofs.«01_k».proof.Proof.FirstIdealBody
public import Idealize.ShloMosaic.Lib.Claim
public import Idealize.ShloMosaic.Lib.Pipeline.Value

@[expose] public section

set_option maxRecDepth 16384

/-! The run of the first layer's tail on the extended reals. -/

noncomputable section

namespace Cert.FirstKernelIdeal.Run

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The body's store covers the result block. -/
theorem cover0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1 S512x1024.size (by sl_kernel_rfl) y

/-- The result block that the body leaves. -/
def out0_A_23 (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec F S16x1024 .f32) (x1 : Vec F S512x1024 .f32) (x2 : Vec F S16x1024 .f32) (x3 : Vec F S16x512 .bf16) (x4 : Vec F S512x512 .bf16) (x5 : Vec F S16x512 .bf16) (x6 : Vec F S16x512 .bf16) (x7 : Vec F S512x512 .bf16) (x8 : Vec F S16x512 .bf16) (x9 : Vec F S16x512 .bf16) (x10 : Vec F S512x512 .bf16) (x11 : Vec F S16x512 .bf16) (x12 : Vec F S16x512 .bf16) (x13 : Vec F S512x512 .bf16) (x14 : Vec F S16x512 .bf16) (x15 : Vec F S1x1x6x1024 .f32) (x16 : Vec F S1x128 .f32) (x17 : Vec F S1x1024x1024 .bf16) (x18 : Vec F S1x1024 .f32) (x19 : Vec F S1x1024x5632 .bf16) (x20 : Vec F S1x3x5632 .f32) (x21 : Vec F S1x1x5632 .f32) (x22 : Vec F S1x2816x1024 .bf16) : Vec F S512x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22).1)

/-- The result block at each grid point. -/
def outsAt0 (c : Dev nD) (t : Fin cfg0.N) : Vec F S512x1024 .f32 :=
  out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- What each window holds before and after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q w := Pipeline.shareOf spec0 w
  owed _ := 0

/-- Each window's array at the start is the host's. -/
theorem A_eq (c : Dev nD) (w : Fin cfg0.W) : (dats m 0 c).A w = V m c (Pipeline.arrRef spec0 w) := by
  dsimp only [dats]

/-- The body leaves this input block as it was. -/
theorem after0_0 (c : Dev nD) (t : Fin cfg0.N) : (dats m 0 c).after 0 t = iblk m c 0 t := by dsimp only [dats]
/-- The body leaves this input block as it was. -/
theorem after0_1 (c : Dev nD) (t : Fin cfg0.N) : (dats m 0 c).after 1 t = iblk m c 1 t := by dsimp only [dats]
/-- The body leaves this input block as it was. -/
theorem after0_2 (c : Dev nD) (t : Fin cfg0.N) : (dats m 0 c).after 2 t = iblk m c 2 t := by dsimp only [dats]
/-- The body leaves this input block as it was. -/
theorem after0_3 (c : Dev nD) (t : Fin cfg0.N) : (dats m 0 c).after 3 t = iblk m c 3 t := by dsimp only [dats]
/-- The body leaves this input block as it was. -/
theorem after0_4 (c : Dev nD) (t : Fin cfg0.N) : (dats m 0 c).after 4 t = iblk m c 4 t := by dsimp only [dats]
/-- The body leaves this input block as it was. -/
theorem after0_5 (c : Dev nD) (t : Fin cfg0.N) : (dats m 0 c).after 5 t = iblk m c 5 t := by dsimp only [dats]
/-- The body leaves this input block as it was. -/
theorem after0_6 (c : Dev nD) (t : Fin cfg0.N) : (dats m 0 c).after 6 t = iblk m c 6 t := by dsimp only [dats]
/-- The body leaves this input block as it was. -/
theorem after0_7 (c : Dev nD) (t : Fin cfg0.N) : (dats m 0 c).after 7 t = iblk m c 7 t := by dsimp only [dats]
/-- The body leaves this input block as it was. -/
theorem after0_8 (c : Dev nD) (t : Fin cfg0.N) : (dats m 0 c).after 8 t = iblk m c 8 t := by dsimp only [dats]
/-- The body leaves this input block as it was. -/
theorem after0_9 (c : Dev nD) (t : Fin cfg0.N) : (dats m 0 c).after 9 t = iblk m c 9 t := by dsimp only [dats]
/-- The body leaves this input block as it was. -/
theorem after0_10 (c : Dev nD) (t : Fin cfg0.N) : (dats m 0 c).after 10 t = iblk m c 10 t := by dsimp only [dats]
/-- The body leaves this input block as it was. -/
theorem after0_11 (c : Dev nD) (t : Fin cfg0.N) : (dats m 0 c).after 11 t = iblk m c 11 t := by dsimp only [dats]
/-- The body leaves this input block as it was. -/
theorem after0_12 (c : Dev nD) (t : Fin cfg0.N) : (dats m 0 c).after 12 t = iblk m c 12 t := by dsimp only [dats]
/-- The body leaves this input block as it was. -/
theorem after0_13 (c : Dev nD) (t : Fin cfg0.N) : (dats m 0 c).after 13 t = iblk m c 13 t := by dsimp only [dats]
/-- The body leaves this input block as it was. -/
theorem after0_14 (c : Dev nD) (t : Fin cfg0.N) : (dats m 0 c).after 14 t = iblk m c 14 t := by dsimp only [dats]
/-- The body leaves this input block as it was. -/
theorem after0_15 (c : Dev nD) (t : Fin cfg0.N) : (dats m 0 c).after 15 t = iblk m c 15 t := by dsimp only [dats]
/-- The body leaves this input block as it was. -/
theorem after0_16 (c : Dev nD) (t : Fin cfg0.N) : (dats m 0 c).after 16 t = iblk m c 16 t := by dsimp only [dats]
/-- The body leaves this input block as it was. -/
theorem after0_17 (c : Dev nD) (t : Fin cfg0.N) : (dats m 0 c).after 17 t = iblk m c 17 t := by dsimp only [dats]
/-- The body leaves this input block as it was. -/
theorem after0_18 (c : Dev nD) (t : Fin cfg0.N) : (dats m 0 c).after 18 t = iblk m c 18 t := by dsimp only [dats]
/-- The body leaves this input block as it was. -/
theorem after0_19 (c : Dev nD) (t : Fin cfg0.N) : (dats m 0 c).after 19 t = iblk m c 19 t := by dsimp only [dats]
/-- The body leaves this input block as it was. -/
theorem after0_20 (c : Dev nD) (t : Fin cfg0.N) : (dats m 0 c).after 20 t = iblk m c 20 t := by dsimp only [dats]
/-- The body leaves this input block as it was. -/
theorem after0_21 (c : Dev nD) (t : Fin cfg0.N) : (dats m 0 c).after 21 t = iblk m c 21 t := by dsimp only [dats]
/-- The body leaves this input block as it was. -/
theorem after0_22 (c : Dev nD) (t : Fin cfg0.N) : (dats m 0 c).after 22 t = iblk m c 22 t := by dsimp only [dats]
/-- After a grid point the result window holds the body's block. -/
theorem after0_23 (c : Dev nD) (t : Fin cfg0.N) : (dats m 0 c).after 23 t = (outsAt0 m c t) := by dsimp only [dats]

/-- The body finds this input's block. -/
theorem before0_0 (c : Dev nD) (t : Fin cfg0.N) (d) : (dats m 0 c).before 0 t d = iblk m c 0 t :=
  before0_0_of m (dats m 0 c) (A_eq m c 0) (after0_0 m c) t d
/-- The body finds this input's block. -/
theorem before0_1 (c : Dev nD) (t : Fin cfg0.N) (d) : (dats m 0 c).before 1 t d = iblk m c 1 t :=
  before0_1_of m (dats m 0 c) (A_eq m c 1) (after0_1 m c) t d
/-- The body finds this input's block. -/
theorem before0_2 (c : Dev nD) (t : Fin cfg0.N) (d) : (dats m 0 c).before 2 t d = iblk m c 2 t :=
  before0_2_of m (dats m 0 c) (A_eq m c 2) (after0_2 m c) t d
/-- The body finds this input's block. -/
theorem before0_3 (c : Dev nD) (t : Fin cfg0.N) (d) : (dats m 0 c).before 3 t d = iblk m c 3 t :=
  before0_3_of m (dats m 0 c) (A_eq m c 3) (after0_3 m c) t d
/-- The body finds this input's block. -/
theorem before0_4 (c : Dev nD) (t : Fin cfg0.N) (d) : (dats m 0 c).before 4 t d = iblk m c 4 t :=
  before0_4_of m (dats m 0 c) (A_eq m c 4) (after0_4 m c) t d
/-- The body finds this input's block. -/
theorem before0_5 (c : Dev nD) (t : Fin cfg0.N) (d) : (dats m 0 c).before 5 t d = iblk m c 5 t :=
  before0_5_of m (dats m 0 c) (A_eq m c 5) (after0_5 m c) t d
/-- The body finds this input's block. -/
theorem before0_6 (c : Dev nD) (t : Fin cfg0.N) (d) : (dats m 0 c).before 6 t d = iblk m c 6 t :=
  before0_6_of m (dats m 0 c) (A_eq m c 6) (after0_6 m c) t d
/-- The body finds this input's block. -/
theorem before0_7 (c : Dev nD) (t : Fin cfg0.N) (d) : (dats m 0 c).before 7 t d = iblk m c 7 t :=
  before0_7_of m (dats m 0 c) (A_eq m c 7) (after0_7 m c) t d
/-- The body finds this input's block. -/
theorem before0_8 (c : Dev nD) (t : Fin cfg0.N) (d) : (dats m 0 c).before 8 t d = iblk m c 8 t :=
  before0_8_of m (dats m 0 c) (A_eq m c 8) (after0_8 m c) t d
/-- The body finds this input's block. -/
theorem before0_9 (c : Dev nD) (t : Fin cfg0.N) (d) : (dats m 0 c).before 9 t d = iblk m c 9 t :=
  before0_9_of m (dats m 0 c) (A_eq m c 9) (after0_9 m c) t d
/-- The body finds this input's block. -/
theorem before0_10 (c : Dev nD) (t : Fin cfg0.N) (d) : (dats m 0 c).before 10 t d = iblk m c 10 t :=
  before0_10_of m (dats m 0 c) (A_eq m c 10) (after0_10 m c) t d
/-- The body finds this input's block. -/
theorem before0_11 (c : Dev nD) (t : Fin cfg0.N) (d) : (dats m 0 c).before 11 t d = iblk m c 11 t :=
  before0_11_of m (dats m 0 c) (A_eq m c 11) (after0_11 m c) t d
/-- The body finds this input's block. -/
theorem before0_12 (c : Dev nD) (t : Fin cfg0.N) (d) : (dats m 0 c).before 12 t d = iblk m c 12 t :=
  before0_12_of m (dats m 0 c) (A_eq m c 12) (after0_12 m c) t d
/-- The body finds this input's block. -/
theorem before0_13 (c : Dev nD) (t : Fin cfg0.N) (d) : (dats m 0 c).before 13 t d = iblk m c 13 t :=
  before0_13_of m (dats m 0 c) (A_eq m c 13) (after0_13 m c) t d
/-- The body finds this input's block. -/
theorem before0_14 (c : Dev nD) (t : Fin cfg0.N) (d) : (dats m 0 c).before 14 t d = iblk m c 14 t :=
  before0_14_of m (dats m 0 c) (A_eq m c 14) (after0_14 m c) t d
/-- The body finds this input's block. -/
theorem before0_15 (c : Dev nD) (t : Fin cfg0.N) (d) : (dats m 0 c).before 15 t d = iblk m c 15 t :=
  before0_15_of m (dats m 0 c) (A_eq m c 15) (after0_15 m c) t d
/-- The body finds this input's block. -/
theorem before0_16 (c : Dev nD) (t : Fin cfg0.N) (d) : (dats m 0 c).before 16 t d = iblk m c 16 t :=
  before0_16_of m (dats m 0 c) (A_eq m c 16) (after0_16 m c) t d
/-- The body finds this input's block. -/
theorem before0_17 (c : Dev nD) (t : Fin cfg0.N) (d) : (dats m 0 c).before 17 t d = iblk m c 17 t :=
  before0_17_of m (dats m 0 c) (A_eq m c 17) (after0_17 m c) t d
/-- The body finds this input's block. -/
theorem before0_18 (c : Dev nD) (t : Fin cfg0.N) (d) : (dats m 0 c).before 18 t d = iblk m c 18 t :=
  before0_18_of m (dats m 0 c) (A_eq m c 18) (after0_18 m c) t d
/-- The body finds this input's block. -/
theorem before0_19 (c : Dev nD) (t : Fin cfg0.N) (d) : (dats m 0 c).before 19 t d = iblk m c 19 t :=
  before0_19_of m (dats m 0 c) (A_eq m c 19) (after0_19 m c) t d
/-- The body finds this input's block. -/
theorem before0_20 (c : Dev nD) (t : Fin cfg0.N) (d) : (dats m 0 c).before 20 t d = iblk m c 20 t :=
  before0_20_of m (dats m 0 c) (A_eq m c 20) (after0_20 m c) t d
/-- The body finds this input's block. -/
theorem before0_21 (c : Dev nD) (t : Fin cfg0.N) (d) : (dats m 0 c).before 21 t d = iblk m c 21 t :=
  before0_21_of m (dats m 0 c) (A_eq m c 21) (after0_21 m c) t d
/-- The body finds this input's block. -/
theorem before0_22 (c : Dev nD) (t : Fin cfg0.N) (d) : (dats m 0 c).before 22 t d = iblk m c 22 t :=
  before0_22_of m (dats m 0 c) (A_eq m c 22) (after0_22 m c) t d

/-- What the body is given at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- What the body gives back at a grid point. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body does so at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_23
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [HS0]; · iexact HS0
  iintro ⟨H0, H1, H2, H3, H4, H5, H6, H7, H8, H9, H10, H11, H12, H13, H14, H15, H16, H17, H18, H19, H20, H21, H22, ⟨%e23, H23⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the launch calls at a grid point. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program runs. -/
theorem run_main : θ_run defs (onTc (τ := τ) (main (F := F))) (s₀ m ρ) (Pipeline.FramePost cfgs (dats m) 0 (V m)) :=
  (θ_run defs _ _).mono (fun _ h => h.1) (run_main_quiescent m ρ)

/-- The program runs and leaves its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

/-- After the run the result is the pipeline's array. -/
theorem post23 (r : PUnit × MemSt nD τ sig (Elt F)) (h : Pipeline.FramePost cfgs (dats m) 0 (V m) r) (c : Dev nD) :
    r.2.mem ((c : Thread nD τ).loc main_v10) = (dats m 0 c).arrAt 23 cfg0.N :=
  (h c).1 23

/-- After the run this argument is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the run this argument is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the run this argument is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 8).trans (((dats m 0 c).arrAt_in 8 rfl _).trans ((A_eq m c 8).trans (V_main_arg2 m c)))

/-- After the run this argument is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 11).trans (((dats m 0 c).arrAt_in 11 rfl _).trans ((A_eq m c 11).trans (V_main_arg3 m c)))

/-- After the run this argument is as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 14).trans (((dats m 0 c).arrAt_in 14 rfl _).trans ((A_eq m c 14).trans (V_main_arg4 m c)))

/-- After the run this argument is as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 15).trans (((dats m 0 c).arrAt_in 15 rfl _).trans ((A_eq m c 15).trans (V_main_arg5 m c)))

/-- After the run this argument is as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the run this argument is as it was. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the run this argument is as it was. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the run this argument is as it was. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the run this argument is as it was. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 20).trans (((dats m 0 c).arrAt_in 20 rfl _).trans ((A_eq m c 20).trans (V_main_arg10 m c)))

/-- After the run this argument is as it was. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the run this argument is as it was. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The run, with the result's array named. -/
theorem run_blocks : θ_run defs (onTc (τ := τ) (main (F := F))) ⟨m, fun _ => 0, ρ⟩ fun r => ∀ c : Dev nD,
      r.2.mem ((c : Thread nD τ).loc main_v10) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.FirstKernelIdeal.Run

end
-- ==== Proof.FirstBlock.lean ====
module

public import proofs.«01_k».proof.Proof.EvenMix
public import proofs.«01_k».proof.Proof.FirstIdealFrame
public import Idealize.ShloMosaic.Lib.Pipeline.ValueKit

@[expose] public section

set_option maxRecDepth 16384

/-! What the body of the first layer's tail leaves in its result block. -/

noncomputable section

namespace Cert.First

open Cert.FirstKernelIdeal Cert.FirstKernelIdeal.Gen Cert.FirstKernelIdeal.Run Idealize.ShloMosaic Idealize.ShloMosaic.TcCoe Idealize.SL.Sem

/-- The rows with their mixed input added are computed as in the third layer. -/
theorem mix_eq (X : FVec Ideal S528x1024 .f32) (O F S : FVec Ideal S528x512 .f32) (g0 : Vec Ideal S16x512 .bf16) (g1 : Vec Ideal S512x512 .bf16)
    (g2 : Vec Ideal S16x512 .bf16) (nh : Vec Ideal S1x128 .f32) (g : Vec Ideal S1x1x1x1024 .f32) (wo : Vec Ideal S1x1024x1024 .bf16) :
    Cert.Even.mixVec X O F S g0 g1 g2 nh g wo
      = k0_pay20 X (k0_pay6 nh) (k0_pay8 O) (k0_pay9 F S g0 g1 g2 nh) (k0_pay14 (k0_pay6 nh) (k0_pay10 g0 g1 g2) (k0_pay11 F S) (k0_pay12 F S) k0_pay13)
        (k0_pay15 (k0_pay5 g0 g1 g2) (k0_pay6 nh) (k0_pay7 F S)) (k0_pay16 (k0_pay5 g0 g1 g2)) (k0_pay17 (k0_pay7 F S)) (k0_pay18 (k0_pay7 F S)) k0_pay19 g wo := rfl

/-- The means of their squares are computed as in the third layer. -/
theorem sq_eq (X : FVec Ideal S528x1024 .f32) (O F S : FVec Ideal S528x512 .f32) (g0 : Vec Ideal S16x512 .bf16) (g1 : Vec Ideal S512x512 .bf16)
    (g2 : Vec Ideal S16x512 .bf16) (nh : Vec Ideal S1x128 .f32) (g : Vec Ideal S1x1x1x1024 .f32) (wo : Vec Ideal S1x1024x1024 .bf16) :
    Cert.Even.sqVec X O F S g0 g1 g2 nh g wo
      = addf (k0_pay24 X (k0_pay6 nh) (k0_pay8 O) (k0_pay9 F S g0 g1 g2 nh) (k0_pay14 (k0_pay6 nh) (k0_pay10 g0 g1 g2) (k0_pay11 F S) (k0_pay12 F S) k0_pay13)
        (k0_pay15 (k0_pay5 g0 g1 g2) (k0_pay6 nh) (k0_pay7 F S)) (k0_pay16 (k0_pay5 g0 g1 g2)) (k0_pay17 (k0_pay7 F S)) (k0_pay18 (k0_pay7 F S)) k0_pay19 g wo)
        (broadcast S528x1 (Scalar.ofBits .f32 0x358637BD#32)) := rfl

/-- Their modulated norm is computed as in the last layer. -/
theorem norm_eq (a : BitVec 32) (X : FVec Ideal S528x1024 .f32) (g s c : FVec Ideal S1x1024 .f32) (D : FVec Ideal S528x1 .f32) :
    Cert.TailKernelIdeal.Gen.k0_pay11 a X g s c (addf D (broadcast S528x1 (Scalar.ofBits .f32 0x358637BD#32)))
      = k0_pay25 a X g s c D (Scalar.ofBits .f32 0x358637BD#32) := rfl

/-- The rows of the first stream, computed as in the third layer. -/
theorem pay1_eq : @Cert.EvenKernelIdeal.Gen.k0_pay1 Ideal = @k0_pay1 Ideal := rfl

/-- The rows of the second stream, computed as in the third layer. -/
theorem pay2_eq : @Cert.EvenKernelIdeal.Gen.k0_pay2 Ideal _ = @k0_pay2 Ideal _ := rfl

/-- The rows of the third stream, computed as in the third layer. -/
theorem pay3_eq : @Cert.EvenKernelIdeal.Gen.k0_pay3 Ideal _ = @k0_pay3 Ideal _ := rfl

/-- The rows of the fourth stream, computed as in the third layer. -/
theorem pay4_eq : @Cert.EvenKernelIdeal.Gen.k0_pay4 Ideal _ = @k0_pay4 Ideal _ := rfl

/-- The row of norm weights, computed as in the last layer. -/
theorem pay21_eq : @Cert.TailKernelIdeal.Gen.k0_pay7 Ideal = @k0_pay21 Ideal := rfl

/-- The row of shifts, computed as in the last layer. -/
theorem pay22_eq : @Cert.TailKernelIdeal.Gen.k0_pay8 Ideal = @k0_pay22 Ideal := rfl

/-- The row of scales, computed as in the last layer. -/
theorem pay23_eq : @Cert.TailKernelIdeal.Gen.k0_pay9 Ideal = @k0_pay23 Ideal := rfl

set_option maxHeartbeats 4000000 in
/-- The result block from the rows with their mixed input added and their modulated norm. -/
theorem out_eq (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S16x512 .bf16) (harg4 : arg4.IsWhole) (arg5 : Memref sig .tc .vmem S512x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .bf16) (harg8 : arg8.IsWhole) (arg9 : Memref sig .tc .vmem S16x512 .bf16) (harg9 : arg9.IsWhole) (arg10 : Memref sig .tc .vmem S16x512 .bf16) (harg10 : arg10.IsWhole) (arg11 : Memref sig .tc .vmem S512x512 .bf16) (harg11 : arg11.IsWhole) (arg12 : Memref sig .tc .vmem S16x512 .bf16) (harg12 : arg12.IsWhole) (arg13 : Memref sig .tc .vmem S16x512 .bf16) (harg13 : arg13.IsWhole) (arg14 : Memref sig .tc .vmem S512x512 .bf16) (harg14 : arg14.IsWhole) (arg15 : Memref sig .tc .vmem S16x512 .bf16) (harg15 : arg15.IsWhole) (arg16 : Memref sig .tc .vmem S1x1x6x1024 .f32) (harg16 : arg16.IsWhole) (arg17 : Memref sig .tc .vmem S1x128 .f32) (harg17 : arg17.IsWhole) (arg18 : Memref sig .tc .vmem S1x1024x1024 .bf16) (harg18 : arg18.IsWhole) (arg19 : Memref sig .tc .vmem S1x1024 .f32) (harg19 : arg19.IsWhole) (arg20 : Memref sig .tc .vmem S1x1024x5632 .bf16) (harg20 : arg20.IsWhole) (arg21 : Memref sig .tc .vmem S1x3x5632 .f32) (harg21 : arg21.IsWhole) (arg22 : Memref sig .tc .vmem S1x1x5632 .f32) (harg22 : arg22.IsWhole) (arg23 : Memref sig .tc .vmem S1x2816x1024 .bf16) (harg23 : arg23.IsWhole) (arg24 : Memref sig .tc .vmem S512x1024 .f32) (harg24 : arg24.IsWhole) (arg25 : Memref sig .tc .vmem S512x2816 .bf16) (harg25 : arg25.IsWhole)
    (x0 : Vec Ideal S16x1024 .f32) (x1 : Vec Ideal S512x1024 .f32) (x2 : Vec Ideal S16x1024 .f32) (x3 : Vec Ideal S16x512 .bf16) (x4 : Vec Ideal S512x512 .bf16) (x5 : Vec Ideal S16x512 .bf16) (x6 : Vec Ideal S16x512 .bf16) (x7 : Vec Ideal S512x512 .bf16) (x8 : Vec Ideal S16x512 .bf16) (x9 : Vec Ideal S16x512 .bf16) (x10 : Vec Ideal S512x512 .bf16) (x11 : Vec Ideal S16x512 .bf16) (x12 : Vec Ideal S16x512 .bf16) (x13 : Vec Ideal S512x512 .bf16) (x14 : Vec Ideal S16x512 .bf16) (x15 : Vec Ideal S1x1x6x1024 .f32) (x16 : Vec Ideal S1x128 .f32) (x17 : Vec Ideal S1x1024x1024 .bf16) (x18 : Vec Ideal S1x1024 .f32) (x19 : Vec Ideal S1x1024x5632 .bf16) (x20 : Vec Ideal S1x3x5632 .f32) (x21 : Vec Ideal S1x1x5632 .f32) (x22 : Vec Ideal S1x2816x1024 .bf16) :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 x22 =
      Cert.EvenKernelIdeal.Gen.k0_pay79 (Cert.Even.mixVec (Cert.EvenKernelIdeal.Gen.k0_pay1 x0 x1 x2) (Cert.EvenKernelIdeal.Gen.k0_pay2 x3 x4 x5) (Cert.EvenKernelIdeal.Gen.k0_pay3 x6 x7 x8) (Cert.EvenKernelIdeal.Gen.k0_pay4 x9 x10 x11) x12 x13 x14 x16 (Cert.Tail.modRow x15 2 inb_S1x1x6x1024_S1x1x1x1024_0_0_2_0) x17)
        (Cert.Tail.modRow x15 5 inb_S1x1x6x1024_S1x1x1x1024_0_0_5_0)
        (Cert.Tail.acts arg25 (Cert.TailKernelIdeal.Gen.k0_pay11 (BitVec.ofNat 32 ↑(i 0)) (Cert.Even.mixVec (Cert.EvenKernelIdeal.Gen.k0_pay1 x0 x1 x2) (Cert.EvenKernelIdeal.Gen.k0_pay2 x3 x4 x5) (Cert.EvenKernelIdeal.Gen.k0_pay3 x6 x7 x8) (Cert.EvenKernelIdeal.Gen.k0_pay4 x9 x10 x11) x12 x13 x14 x16 (Cert.Tail.modRow x15 2 inb_S1x1x6x1024_S1x1x1x1024_0_0_2_0) x17)
            (Cert.TailKernelIdeal.Gen.k0_pay7 x18) (Cert.TailKernelIdeal.Gen.k0_pay8 (Cert.Tail.modRow x15 3 inb_S1x1x6x1024_S1x1x1x1024_0_0_3_0)) (Cert.TailKernelIdeal.Gen.k0_pay9 (Cert.Tail.modRow x15 4 inb_S1x1x6x1024_S1x1x1x1024_0_0_4_0))
            (Cert.Even.sqVec (Cert.EvenKernelIdeal.Gen.k0_pay1 x0 x1 x2) (Cert.EvenKernelIdeal.Gen.k0_pay2 x3 x4 x5) (Cert.EvenKernelIdeal.Gen.k0_pay3 x6 x7 x8) (Cert.EvenKernelIdeal.Gen.k0_pay4 x9 x10 x11) x12 x13 x14 x16 (Cert.Tail.modRow x15 2 inb_S1x1x6x1024_S1x1x1x1024_0_0_2_0) x17)) x19 x20 x21)
        x22 := by
  unfold out0_A_23
  frame_out
  unfold Cert.Tail.modRow Cert.Tail.acts
  rw [mix_eq, sq_eq, norm_eq, pay1_eq, pay2_eq, pay3_eq, pay4_eq, pay21_eq, pay22_eq, pay23_eq]
  generalize eD : k0_pay24 (F := Ideal) _ _ _ _ _ _ _ _ _ _ _ _ = D
  generalize eX : k0_pay20 (F := Ideal) _ _ _ _ _ _ _ _ _ _ _ _ = X
  unfold k0_pay28 k0_pay26
  generalize eH : k0_pay25 (F := Ideal) _ _ _ _ _ _ _ = H
  rfl

end Cert.First
-- ==== Proof.FirstArrays.lean ====
module

public import proofs.«01_k».proof.Proof.FirstBlock
public import proofs.«01_k».proof.Proof.TailArrays
public import Idealize.ShloMosaic.Lib.Pipeline.ValueKit
public import Idealize.ShloMosaic.Lib.StableHlo.ReadAt

@[expose] public section

set_option maxRecDepth 16384

/-! The array the first layer's tail leaves, as the layer of its arguments. -/

noncomputable section

namespace Cert.First

open Cert.FirstKernelIdeal Cert.FirstKernelIdeal.Gen Cert.FirstKernelIdeal.Run Idealize.ShloMosaic Idealize.ShloMosaic.TcCoe Idealize.SL.Sem

variable (m : (ℓ : Loc nD τ sig) → Buf (Elt Ideal) ℓ) (dv : Dev nD)

/-- The arguments the kernel reads. -/
def kargs : Cert.Even.Spec.Args where
  x r k := (m ((dv : Thread nD τ).loc main_arg0) : Vec Ideal S16384x1024 .f32) (ix2 r k)
  oa r k := (m ((dv : Thread nD τ).loc main_arg1) : Vec Ideal S16384x512 .bf16) (ix2 r k)
  sf r k := (m ((dv : Thread nD τ).loc main_arg2) : Vec Ideal S16384x512 .bf16) (ix2 r k)
  sb r k := (m ((dv : Thread nD τ).loc main_arg3) : Vec Ideal S16384x512 .bf16) (ix2 r k)
  gb r k := (m ((dv : Thread nD τ).loc main_arg4) : Vec Ideal S16384x512 .bf16) (ix2 r k)
  md a b k := (m ((dv : Thread nD τ).loc main_arg5) : Vec Ideal S4x8x6x1024 .f32) (ix4 0 a b k)
  nh q := (m ((dv : Thread nD τ).loc main_arg6) : Vec Ideal S2x128 .f32) (ix2 0 q)
  wo j k := (m ((dv : Thread nD τ).loc main_arg7) : Vec Ideal S2x1024x1024 .f32) (ix3 0 j k)
  gn k := (m ((dv : Thread nD τ).loc main_arg8) : Vec Ideal S4x1024 .f32) (ix2 0 k)
  wu k c := (m ((dv : Thread nD τ).loc main_arg9) : Vec Ideal S4x1024x5632 .f32) (ix3 0 k c)
  cw j c := (m ((dv : Thread nD τ).loc main_arg10) : Vec Ideal S4x3x5632 .f32) (ix3 0 j c)
  cb c := (m ((dv : Thread nD τ).loc main_arg11) : Vec Ideal S4x5632 .f32) (ix2 0 c)
  wd q k := (m ((dv : Thread nD τ).loc main_arg12) : Vec Ideal S4x2816x1024 .f32) (ix3 0 q k)

/-- Which blocks each point is given. -/
theorem idx_win : ∀ t : Fin grid0.N, win0_0.index t = ![32 * t.val - 1, 0] ∧
    win0_1.index t = ![t.val, 0] ∧
    win0_2.index t = ![min (32 * (t.val + 1)) 1023, 0] ∧
    win0_3.index t = ![32 * t.val - 1, 0] ∧
    win0_4.index t = ![t.val, 0] ∧
    win0_5.index t = ![min (32 * (t.val + 1)) 1023, 0] ∧
    win0_6.index t = ![32 * t.val - 1, 0] ∧
    win0_7.index t = ![t.val, 0] ∧
    win0_8.index t = ![min (32 * (t.val + 1)) 1023, 0] ∧
    win0_9.index t = ![32 * t.val - 1, 0] ∧
    win0_10.index t = ![t.val, 0] ∧
    win0_11.index t = ![min (32 * (t.val + 1)) 1023, 0] ∧
    win0_12.index t = ![32 * t.val - 1, 0] ∧
    win0_13.index t = ![t.val, 0] ∧
    win0_14.index t = ![min (32 * (t.val + 1)) 1023, 0] ∧
    win0_15.index t = ![0, 1 + t.val / 8, 0, 0] ∧
    win0_16.index t = ![0, 0] ∧
    win0_17.index t = ![0, 0, 0] ∧
    win0_18.index t = ![0, 0] ∧
    win0_19.index t = ![0, 0, 0] ∧
    win0_20.index t = ![0, 0, 0] ∧
    win0_21.index t = ![0, 0, 0] ∧
    win0_22.index t = ![0, 0, 0] ∧
    win0_23.index t = ![t.val, 0] := by decide +kernel

/-- There are thirty-two points. -/
theorem point_lt (t : Fin cfg0.N) : t.val < 32 := t.isLt

/-- The block of stream `x` and its neighbours, in the arguments. -/
theorem rows_x (t : Fin cfg0.N) (p : Fin 528) (r : Fin 16384) (h : r.val + 8 = 512 * t.val + p.val) (k : Fin 1024) :
    (Cert.EvenKernelIdeal.Gen.k0_pay1 (iblk m dv 0 t : Vec Ideal S16x1024 .f32) (iblk m dv 1 t : Vec Ideal S512x1024 .f32) (iblk m dv 2 t : Vec Ideal S16x1024 .f32) (ix2 p k) : EReal) = (kargs m dv).x r k := by
  have ht := point_lt t
  have hp := p.isLt
  rw [Cert.Even.rows1_apply]
  by_cases h1 : p.val < 8
  · rw [dif_pos h1]
    unfold kargs
    dsimp only
    blk_ext [iblk, V_main_arg0, idx_win t]
  · rw [dif_neg h1]
    by_cases h2 : p.val - 8 < 512
    · rw [dif_pos h2]
      unfold kargs
      dsimp only
      blk_ext [iblk, V_main_arg0, idx_win t]
    · rw [dif_neg h2]
      unfold kargs
      dsimp only
      blk_ext [iblk, V_main_arg0, idx_win t]

/-- The block of stream `oa` and its neighbours, in the arguments. -/
theorem rows_oa (t : Fin cfg0.N) (p : Fin 528) (r : Fin 16384) (h : r.val + 8 = 512 * t.val + p.val) (k : Fin 512) :
    (Cert.EvenKernelIdeal.Gen.k0_pay2 (iblk m dv 3 t : Vec Ideal S16x512 .bf16) (iblk m dv 4 t : Vec Ideal S512x512 .bf16) (iblk m dv 5 t : Vec Ideal S16x512 .bf16) (ix2 p k) : EReal) = (kargs m dv).oa r k := by
  have ht := point_lt t
  have hp := p.isLt
  rw [Cert.Even.rows2_apply]
  by_cases h1 : p.val < 8
  · rw [dif_pos h1]
    unfold kargs
    dsimp only
    blk_ext [iblk, V_main_arg1, idx_win t]
  · rw [dif_neg h1]
    by_cases h2 : p.val - 8 < 512
    · rw [dif_pos h2]
      unfold kargs
      dsimp only
      blk_ext [iblk, V_main_arg1, idx_win t]
    · rw [dif_neg h2]
      unfold kargs
      dsimp only
      blk_ext [iblk, V_main_arg1, idx_win t]

/-- The block of stream `sf` and its neighbours, in the arguments. -/
theorem rows_sf (t : Fin cfg0.N) (p : Fin 528) (r : Fin 16384) (h : r.val + 8 = 512 * t.val + p.val) (k : Fin 512) :
    (Cert.EvenKernelIdeal.Gen.k0_pay3 (iblk m dv 6 t : Vec Ideal S16x512 .bf16) (iblk m dv 7 t : Vec Ideal S512x512 .bf16) (iblk m dv 8 t : Vec Ideal S16x512 .bf16) (ix2 p k) : EReal) = (kargs m dv).sf r k := by
  have ht := point_lt t
  have hp := p.isLt
  rw [Cert.Even.rows3_apply]
  by_cases h1 : p.val < 8
  · rw [dif_pos h1]
    unfold kargs
    dsimp only
    blk_ext [iblk, V_main_arg2, idx_win t]
  · rw [dif_neg h1]
    by_cases h2 : p.val - 8 < 512
    · rw [dif_pos h2]
      unfold kargs
      dsimp only
      blk_ext [iblk, V_main_arg2, idx_win t]
    · rw [dif_neg h2]
      unfold kargs
      dsimp only
      blk_ext [iblk, V_main_arg2, idx_win t]

/-- The block of stream `sb` and its neighbours, in the arguments. -/
theorem rows_sb (t : Fin cfg0.N) (p : Fin 528) (r : Fin 16384) (h : r.val + 8 = 512 * t.val + p.val) (k : Fin 512) :
    (Cert.EvenKernelIdeal.Gen.k0_pay4 (iblk m dv 9 t : Vec Ideal S16x512 .bf16) (iblk m dv 10 t : Vec Ideal S512x512 .bf16) (iblk m dv 11 t : Vec Ideal S16x512 .bf16) (ix2 p k) : EReal) = (kargs m dv).sb r k := by
  have ht := point_lt t
  have hp := p.isLt
  rw [Cert.Even.rows4_apply]
  by_cases h1 : p.val < 8
  · rw [dif_pos h1]
    unfold kargs
    dsimp only
    blk_ext [iblk, V_main_arg3, idx_win t]
  · rw [dif_neg h1]
    by_cases h2 : p.val - 8 < 512
    · rw [dif_pos h2]
      unfold kargs
      dsimp only
      blk_ext [iblk, V_main_arg3, idx_win t]
    · rw [dif_neg h2]
      unfold kargs
      dsimp only
      blk_ext [iblk, V_main_arg3, idx_win t]

/-- The block of stream `gb` and its neighbours, in the arguments. -/
theorem rows_gb (t : Fin cfg0.N) (p : Fin 528) (r : Fin 16384) (h : r.val + 8 = 512 * t.val + p.val) (k : Fin 512) :
    (Cert.EvenKernelIdeal.Gen.k0_pay5 (iblk m dv 12 t : Vec Ideal S16x512 .bf16) (iblk m dv 13 t : Vec Ideal S512x512 .bf16) (iblk m dv 14 t : Vec Ideal S16x512 .bf16) (ix2 p k) : EReal) = (kargs m dv).gb r k := by
  have ht := point_lt t
  have hp := p.isLt
  rw [Cert.Even.rows5_apply]
  by_cases h1 : p.val < 8
  · rw [dif_pos h1]
    unfold kargs
    dsimp only
    blk_ext [iblk, V_main_arg4, idx_win t]
  · rw [dif_neg h1]
    by_cases h2 : p.val - 8 < 512
    · rw [dif_pos h2]
      unfold kargs
      dsimp only
      blk_ext [iblk, V_main_arg4, idx_win t]
    · rw [dif_neg h2]
      unfold kargs
      dsimp only
      blk_ext [iblk, V_main_arg4, idx_win t]

/-- The modulation's block. -/
theorem blk_mod (t : Fin cfg0.N) (j : Fin 6) (k : Fin 1024) :
    (iblk m dv 15 t : Vec Ideal S1x1x6x1024 .f32) (ix4 0 0 j k) = (kargs m dv).md (Cert.Tail.Spec.cond (Cert.Tail.seqOf t)) j k := by
  have ht := point_lt t
  unfold kargs Cert.Tail.Spec.cond Cert.Tail.seqOf
  dsimp only
  blk_ext [iblk, V_main_arg5, idx_win t]

/-- The argument `wo` as the host hands it on. -/
theorem host_wo (j k : Fin 1024) : (V m dv main_v0 : Vec Ideal S2x1024x1024 .bf16) (ix3 0 j k) = (kargs m dv).wo j k := by
  entry_read
  rfl

/-- Its block. -/
theorem blk_wo (t : Fin cfg0.N) (j k : Fin 1024) : (iblk m dv 17 t : Vec Ideal S1x1024x1024 .bf16) (ix3 0 j k) = (kargs m dv).wo j k := by
  rw [← host_wo]
  blk_ext [iblk, idx_win t]

/-- The argument `gn` as the host hands it on. -/
theorem host_gn (k : Fin 1024) : (V m dv main_v3 : Vec Ideal S1x1024 .f32) (ix2 0 k) = (kargs m dv).gn k := by
  entry_read
  show ((shapeCast S1x1024 (shapeCast S1024 (extractStridedSlice S1x1024 ![0, 0] (m (dv, Proc.tc.devRef main_arg8) : Vec Ideal S4x1024 .f32) slices_S4x1024_S1x1024_0_0 : Vec Ideal S1x1024 .f32) shapeCasts_S1x1024_S1024 : Vec Ideal S1024 .f32) shapeCasts_S1024_S1x1024 : Vec Ideal S1x1024 .f32) (ix2 0 k) : EReal) = _
  pointwise
  rfl

/-- Its block. -/
theorem blk_gn (t : Fin cfg0.N) (k : Fin 1024) : (iblk m dv 18 t : Vec Ideal S1x1024 .f32) (ix2 0 k) = (kargs m dv).gn k := by
  rw [← host_gn]
  blk_ext [iblk, idx_win t]

/-- The argument `wu` as the host hands it on. -/
theorem host_wu (k : Fin 1024) (c : Fin 5632) : (V m dv main_v4 : Vec Ideal S4x1024x5632 .bf16) (ix3 0 k c) = (kargs m dv).wu k c := by
  entry_read
  rfl

/-- Its block. -/
theorem blk_wu (t : Fin cfg0.N) (k : Fin 1024) (c : Fin 5632) : (iblk m dv 19 t : Vec Ideal S1x1024x5632 .bf16) (ix3 0 k c) = (kargs m dv).wu k c := by
  rw [← host_wu]
  blk_ext [iblk, idx_win t]

/-- The block of `cw`. -/
theorem blk_cw (t : Fin cfg0.N) (j : Fin 3) (c : Fin 5632) : (iblk m dv 20 t : Vec Ideal S1x3x5632 .f32) (ix3 0 j c) = (kargs m dv).cw j c := by
  unfold kargs
  dsimp only
  blk_ext [iblk, V_main_arg10, idx_win t]

/-- The argument `cb` as the host hands it on. -/
theorem host_cb (c : Fin 5632) : (V m dv main_v5 : Vec Ideal S4x1x5632 .f32) (ix3 0 0 c) = (kargs m dv).cb c := by
  entry_read
  exact Cert.Tail.stack_apply (m (dv, Proc.tc.devRef main_arg11)) 0 c

/-- Its block. -/
theorem blk_cb (t : Fin cfg0.N) (c : Fin 5632) : (iblk m dv 21 t : Vec Ideal S1x1x5632 .f32) (ix3 0 0 c) = (kargs m dv).cb c := by
  rw [← host_cb]
  blk_ext [iblk, idx_win t]

/-- The argument `wd` as the host hands it on. -/
theorem host_wd (q : Fin 2816) (k : Fin 1024) : (V m dv main_v6 : Vec Ideal S4x2816x1024 .bf16) (ix3 0 q k) = (kargs m dv).wd q k := by
  entry_read
  rfl

/-- Its block. -/
theorem blk_wd (t : Fin cfg0.N) (q : Fin 2816) (k : Fin 1024) : (iblk m dv 22 t : Vec Ideal S1x2816x1024 .bf16) (ix3 0 q k) = (kargs m dv).wd q k := by
  rw [← host_wd]
  blk_ext [iblk, idx_win t]

/-- The argument `nh` as the host hands it on. -/
theorem host_nh (q : Fin 128) : (V m dv main_v9 : Vec Ideal S1x128 .f32) (ix2 0 q) = (kargs m dv).nh q := by
  entry_read
  show ((shapeCast S1x128 (shapeCast S128 (extractStridedSlice S1x128 ![0, 0] (m (dv, Proc.tc.devRef main_arg6) : Vec Ideal S2x128 .f32) slices_S2x128_S1x128_0_0 : Vec Ideal S1x128 .f32) shapeCasts_S1x128_S128 : Vec Ideal S128 .f32) shapeCasts_S128_S1x128 : Vec Ideal S1x128 .f32) (ix2 0 q) : EReal) = _
  pointwise
  rfl

/-- Its block. -/
theorem blk_nh (t : Fin cfg0.N) (q : Fin 128) : (iblk m dv 16 t : Vec Ideal S1x128 .f32) (ix2 0 q) = (kargs m dv).nh q := by
  rw [← host_nh]
  blk_ext [iblk, idx_win t]

/-- What each point is given. -/
theorem given (t : Fin cfg0.N) : Cert.Tail.Given (Cert.Even.Spec.mixed (kargs m dv)) (kargs m dv).toFfn t
    (Cert.Even.mixVec (Cert.EvenKernelIdeal.Gen.k0_pay1 (iblk m dv 0 t : Vec Ideal S16x1024 .f32) (iblk m dv 1 t : Vec Ideal S512x1024 .f32) (iblk m dv 2 t : Vec Ideal S16x1024 .f32))
      (Cert.EvenKernelIdeal.Gen.k0_pay2 (iblk m dv 3 t : Vec Ideal S16x512 .bf16) (iblk m dv 4 t : Vec Ideal S512x512 .bf16) (iblk m dv 5 t : Vec Ideal S16x512 .bf16))
      (Cert.EvenKernelIdeal.Gen.k0_pay3 (iblk m dv 6 t : Vec Ideal S16x512 .bf16) (iblk m dv 7 t : Vec Ideal S512x512 .bf16) (iblk m dv 8 t : Vec Ideal S16x512 .bf16))
      (Cert.EvenKernelIdeal.Gen.k0_pay4 (iblk m dv 9 t : Vec Ideal S16x512 .bf16) (iblk m dv 10 t : Vec Ideal S512x512 .bf16) (iblk m dv 11 t : Vec Ideal S16x512 .bf16))
      (iblk m dv 12 t : Vec Ideal S16x512 .bf16) (iblk m dv 13 t : Vec Ideal S512x512 .bf16) (iblk m dv 14 t : Vec Ideal S16x512 .bf16)
      (iblk m dv 16 t : Vec Ideal S1x128 .f32) (Cert.Tail.modRow (iblk m dv 15 t : Vec Ideal S1x1x6x1024 .f32) 2 inb_S1x1x6x1024_S1x1x1x1024_0_0_2_0) (iblk m dv 17 t : Vec Ideal S1x1024x1024 .bf16))
    (Cert.Even.sqVec (Cert.EvenKernelIdeal.Gen.k0_pay1 (iblk m dv 0 t : Vec Ideal S16x1024 .f32) (iblk m dv 1 t : Vec Ideal S512x1024 .f32) (iblk m dv 2 t : Vec Ideal S16x1024 .f32))
      (Cert.EvenKernelIdeal.Gen.k0_pay2 (iblk m dv 3 t : Vec Ideal S16x512 .bf16) (iblk m dv 4 t : Vec Ideal S512x512 .bf16) (iblk m dv 5 t : Vec Ideal S16x512 .bf16))
      (Cert.EvenKernelIdeal.Gen.k0_pay3 (iblk m dv 6 t : Vec Ideal S16x512 .bf16) (iblk m dv 7 t : Vec Ideal S512x512 .bf16) (iblk m dv 8 t : Vec Ideal S16x512 .bf16))
      (Cert.EvenKernelIdeal.Gen.k0_pay4 (iblk m dv 9 t : Vec Ideal S16x512 .bf16) (iblk m dv 10 t : Vec Ideal S512x512 .bf16) (iblk m dv 11 t : Vec Ideal S16x512 .bf16))
      (iblk m dv 12 t : Vec Ideal S16x512 .bf16) (iblk m dv 13 t : Vec Ideal S512x512 .bf16) (iblk m dv 14 t : Vec Ideal S16x512 .bf16)
      (iblk m dv 16 t : Vec Ideal S1x128 .f32) (Cert.Tail.modRow (iblk m dv 15 t : Vec Ideal S1x1x6x1024 .f32) 2 inb_S1x1x6x1024_S1x1x1x1024_0_0_2_0) (iblk m dv 17 t : Vec Ideal S1x1024x1024 .bf16))
    (Cert.Tail.modRow (iblk m dv 15 t : Vec Ideal S1x1x6x1024 .f32) 3 inb_S1x1x6x1024_S1x1x1x1024_0_0_3_0)
    (Cert.Tail.modRow (iblk m dv 15 t : Vec Ideal S1x1x6x1024 .f32) 4 inb_S1x1x6x1024_S1x1x1x1024_0_0_4_0)
    (Cert.Tail.modRow (iblk m dv 15 t : Vec Ideal S1x1x6x1024 .f32) 5 inb_S1x1x6x1024_S1x1x1x1024_0_0_5_0)
    (iblk m dv 18 t : Vec Ideal S1x1024 .f32) (iblk m dv 19 t : Vec Ideal S1x1024x5632 .bf16)
    (iblk m dv 20 t : Vec Ideal S1x3x5632 .f32) (iblk m dv 21 t : Vec Ideal S1x1x5632 .f32) (iblk m dv 22 t : Vec Ideal S1x2816x1024 .bf16) where
  x := Cert.Even.mixed_of (fun p r h k => rows_x m dv t p r h k) (fun p r h k => rows_oa m dv t p r h k) (fun p r h k => rows_sf m dv t p r h k)
    (fun p r h k => rows_sb m dv t p r h k) (fun p r h k => rows_gb m dv t p r h k) (blk_nh m dv t) (fun k => (Cert.Tail.modRow_apply _ 2 (by decide) _ k).trans (blk_mod m dv t 2 k)) (blk_wo m dv t)
  d := Cert.Even.factor_apply _ _ _ _ _ _ _ _ _ _
  m3 := (fun k => (Cert.Tail.modRow_apply _ 3 (by decide) _ k).trans (blk_mod m dv t 3 k))
  m4 := (fun k => (Cert.Tail.modRow_apply _ 4 (by decide) _ k).trans (blk_mod m dv t 4 k))
  m5 := (fun k => (Cert.Tail.modRow_apply _ 5 (by decide) _ k).trans (blk_mod m dv t 5 k))
  gn := blk_gn m dv t
  wu := blk_wu m dv t
  cw := blk_cw m dv t
  cb := blk_cb m dv t
  wd := blk_wd m dv t

/-- The point's coordinate is its number. -/
theorem coord_eq : ∀ t : Fin grid0.N, ((grid0.coords t) 0).val = t.val := by decide +kernel

/-- The result's array. -/
def result (A : Cert.Even.Spec.Args) : Vec Ideal S16384x1024 .f32 := fun j => Cert.Tail.Spec.flat (Cert.Even.Spec.mixed A) A.toFfn (j 0) (j 1)

/-- The result's array after the run. -/
theorem arr23 : (dats m 0 dv).arrAt 23 cfg0.N = result (kargs m dv) := by
  refine (dats m 0 dv).arrAt_eq_of_covers 23 _ (by decide +kernel) fun t hf y => ?_
  blk_simp
  rw [after0_23]
  unfold outsAt0
  dsimp only
  rw [out_eq, coord_eq]
  obtain ⟨p, k, rfl⟩ : ∃ (p : Fin 512) (k : Fin 1024), y = ix2 p k := ⟨y 0, y 1, eq_ix2 y⟩
  have ht := point_lt t
  refine (Cert.Even.out_apply _ _ _ _ p k).trans (Eq.trans (Cert.Tail.flat_of (given m dv t) _ p k ⟨512 * t.val + p.val, by omega⟩ rfl) ?_)
  unfold result
  refine congrArg₂ (Cert.Tail.Spec.flat (Cert.Even.Spec.mixed (kargs m dv)) (kargs m dv).toFfn) (Fin.ext ?_) (Fin.ext ?_)
  · blk_simp [idx_win t]
    show 512 * t.val + p.val = t.val * 512 + p.val
    omega
  · blk_simp [idx_win t]

/-- What the program leaves. -/
theorem run_kernel (ρ : Dev nD → PrngReg) :
    θ_run defs (onTc (τ := τ) (main (F := Ideal))) ⟨m, fun _ => 0, ρ⟩ fun r => ∀ c : Dev nD,
      r.2.mem ((c : Thread nD τ).loc main_v10) = result (kargs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run _ _ _).mono (fun _ h c => ⟨(h c).1.trans (arr23 m c), (h c).2⟩) (run_blocks m ρ)

end Cert.First
-- ==== Proof.FirstRef.lean ====
module

public import proofs.«01_k».proof.Proof.EvenSpec
public import proofs.«01_k».proof.Proof.TailRef
public import proofs.«01_k».proof.Proof.Gen.FirstReferenceIdeal.Run
public import Idealize.ShloMosaic.Lib.Pointwise
public import Idealize.ShloMosaic.Lib.IdealHost

@[expose] public section

set_option maxRecDepth 16384

/-! The reference of the first layer's tail, read at a row and a column. -/

noncomputable section

namespace Cert.FirstRef

open Cert.FirstReferenceIdeal Cert.FirstReferenceIdeal.Gen Cert.FirstReferenceIdeal.Value Idealize.ShloMosaic Idealize.ShloMosaic.TcCoe Idealize.SL.Sem
open Idealize.ShloMosaic.StableHlo

/-- The attention's columns. -/
def attVec {F : FTy → Type} [FloatOps F] (V : Valuation τ sig (Elt F)) : FVec F S4x4096x512 .f32 :=
  shapeCast _ (extf .f32 (V (Proc.devRef .tc main_arg1)) bitsLt_bf16_f32) shapeCasts_S16384x512_S4x4096x512

/-- The scans' heads, normed and gated. -/
def headVec {F : FTy → Type} [FloatOps F] (V : Valuation τ sig (Elt F)) : FVec F S4x4096x512 .f32 :=
  mulf (shapeCast _ (mulf (mulf (res_main_v22 V) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (res_main_v22 V) (res_main_v22 V)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast _ (extractStridedSlice S1x128 ![0, 0] (V (Proc.devRef .tc main_arg6)) slices_S2x128_S1x128_0_0) shapeCasts_S1x128_S128)))) shapeCasts_S4x4096x4x128_S4x4096x512) (mulf (res_main_v8 V) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (res_main_v8 V))))))

/-- The rows with their mixed input added, from the attention's columns and the heads. -/
def joinVec {F : FTy → Type} [FloatOps F] (V : Valuation τ sig (Elt F)) (a h : FVec F S4x4096x512 .f32) : FVec F S4x4096x1024 .f32 :=
  addf (shapeCast _ (V (Proc.devRef .tc main_arg0)) shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1x1024 ![0, 1, 2, 0] (V (Proc.devRef .tc main_arg5)) slices_S4x8x6x1024_S1x4x1x1024_0_1_2_0) shapeCasts_S1x4x1x1024_S4x1024))) (Host.dotGeneral dot_S4x4096x1024_S1024x1024_S4x4096x1024_2_0_01_1_n_n none (concatenate S4x4096x1024 2 [⟨S4x4096x512, a⟩, ⟨S4x4096x512, h⟩] concatenates_S4x4096x512_S4x4096x512_S4x4096x1024_d2) (shapeCast _ (extractStridedSlice S1x1024x1024 ![0, 0, 0] (V (Proc.devRef .tc main_arg7)) slices_S2x1024x1024_S1x1024x1024_0_0_0) shapeCasts_S1x1024x1024_S1024x1024)))

/-- The layer's rows. -/
def layerVec {F : FTy → Type} [FloatOps F] (V : Valuation τ sig (Elt F)) : FVec F S4x4096x1024 .f32 :=
  addf (res_main_v47 V) (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1x1024 ![0, 1, 5, 0] (V (Proc.devRef .tc main_arg5)) slices_S4x8x6x1024_S1x4x1x1024_0_1_5_0) shapeCasts_S1x4x1x1024_S4x1024))) (Host.dotGeneral dot_S4x4096x2816_S2816x1024_S4x4096x1024_2_0_01_1_n_n none (mulf (mulf (res_main_v100 V) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (res_main_v100 V)))))) (extractStridedSlice S4x4096x2816 ![0, 0, 2816] (res_main_v99 V) slices_S4x4096x5632_S4x4096x2816_0_0_2816)) (shapeCast _ (extractStridedSlice S1x2816x1024 ![0, 0, 0] (V (Proc.devRef .tc main_arg12)) slices_S4x2816x1024_S1x2816x1024_0_0_0) shapeCasts_S1x2816x1024_S2816x1024)))

variable (V : Valuation τ sig (Elt Ideal))

/-- The arguments the reference reads. -/
def args : Cert.Even.Spec.Args where
  x r k := V (Proc.devRef .tc main_arg0) (ix2 r k)
  oa r k := V (Proc.devRef .tc main_arg1) (ix2 r k)
  sf r k := V (Proc.devRef .tc main_arg2) (ix2 r k)
  sb r k := V (Proc.devRef .tc main_arg3) (ix2 r k)
  gb r k := V (Proc.devRef .tc main_arg4) (ix2 r k)
  md a b k := V (Proc.devRef .tc main_arg5) (ix4 0 a b k)
  nh q := V (Proc.devRef .tc main_arg6) (ix2 0 q)
  wo j k := V (Proc.devRef .tc main_arg7) (ix3 0 j k)
  gn k := V (Proc.devRef .tc main_arg8) (ix2 0 k)
  wu k c := V (Proc.devRef .tc main_arg9) (ix3 0 k c)
  cw t c := V (Proc.devRef .tc main_arg10) (ix3 0 t c)
  cb c := V (Proc.devRef .tc main_arg11) (ix2 0 c)
  wd q k := V (Proc.devRef .tc main_arg12) (ix3 0 q k)

/-- The attention's columns, in the arguments. -/
theorem att_apply (n : Fin 4) (s : Fin 4096) (j : Fin 512) : attVec V (ix3 n s j) = (args V).oa (Cert.Tail.Spec.row n s) j := by
  unfold attVec
  pointwise
  rfl

/-- A column of a head, in the arguments. -/
theorem head_apply (n : Fin 4) (s : Fin 4096) (j : Fin 512) :
    headVec V (ix3 n s j) = Cert.Even.Spec.head ((args V).sf (Cert.Tail.Spec.row n s)) ((args V).sb (Cert.Tail.Spec.row n s)) ((args V).gb (Cert.Tail.Spec.row n s)) (args V).nh
      (j.val / 128 * 128) (by omega) ⟨j.val % 128, by omega⟩ := by
  unfold headVec res_main_v22 res_main_v8
  pointwise
  have e : (⟨j.val / 128 * 128 + j.val % 128, by omega⟩ : Fin 512) = j := Fin.ext (by show j.val / 128 * 128 + j.val % 128 = j.val; omega)
  unfold Cert.Even.Spec.head
  dsimp only
  rw [e]
  rfl

/-- The rows are so joined. -/
theorem join_eq : (res_main_v47 V : FVec Ideal S4x4096x1024 .f32) = joinVec V (attVec V) (headVec V) := rfl

/-- A joined row, read at a column. -/
theorem join_apply (a h : FVec Ideal S4x4096x512 .f32) (n : Fin 4) (s : Fin 4096) (k : Fin 1024) :
    joinVec V a h (ix3 n s k) = (args V).x (Cert.Tail.Spec.row n s) k + (args V).md (Cert.Tail.Spec.cond n) 2 k * ∑ j : Fin 1024,
      (if e : j.val < 512 then (a (ix3 n s ⟨j.val, e⟩) : EReal) else h (ix3 n s ⟨j.val - 512, by omega⟩)) * (args V).wo j k := by
  unfold joinVec
  pointwise
  rfl

/-- The rows with their mixed input added. -/
theorem mixed_apply (n : Fin 4) (s : Fin 4096) (k : Fin 1024) :
    res_main_v47 V (ix3 n s k) = Cert.Even.Spec.mixed (args V) n (Cert.Tail.Spec.row n s) k := by
  refine (congrFun (join_eq V) (ix3 n s k)).trans ((join_apply V _ _ n s k).trans ?_)
  unfold Cert.Even.Spec.mixed
  refine congrArg (fun z : EReal => (args V).x (Cert.Tail.Spec.row n s) k + (args V).md (Cert.Tail.Spec.cond n) 2 k * z) (Finset.sum_congr rfl fun j _ => ?_)
  refine congrArg (fun z : EReal => z * (args V).wo j k) ?_
  unfold Cert.Even.Spec.columns
  by_cases e : j.val < 512
  · rw [dif_pos e, dif_pos e, att_apply]
  · rw [dif_neg e, dif_neg e, head_apply]

/-- The padded up projection. -/
theorem up_apply (n : Fin 4) (s : Fin 4098) (c : Fin 5632) :
    res_main_v72 V (ix3 n s c) = Cert.Tail.Spec.up (Cert.Even.Spec.mixed (args V)) (args V).toFfn n s.val c := by
  unfold res_main_v72
  pointwise
  by_cases h : 1 ≤ s.val ∧ s.val - 1 < 4096
  · rw [dif_pos h]
    refine Eq.trans ?_ (Cert.Tail.Spec.up_inside _ _ n s.val h.1 h.2 c).symm
    simp only [mixed_apply]
    rfl
  · rw [dif_neg h, Cert.Tail.Spec.up_outside _ _ _ _ (by omega)]
    exact Cert.TailRef.zero_float

/-- The convolution. -/
theorem conv_apply (n : Fin 4) (s : Fin 4096) (c : Fin 5632) :
    res_main_v99 V (ix3 n s c) = Cert.Tail.Spec.conv (Cert.Even.Spec.mixed (args V)) (args V).toFfn n s c := by
  unfold res_main_v99 res_main_v74
  pointwise
  rw [up_apply, up_apply, up_apply]
  unfold Cert.Tail.Spec.conv
  rw [Nat.add_comm s.val 1, Nat.add_comm s.val 2]
  rfl

/-- The layer's rows. -/
theorem layer_apply (n : Fin 4) (s : Fin 4096) (k : Fin 1024) :
    layerVec V (ix3 n s k) = Cert.Tail.Spec.layer (Cert.Even.Spec.mixed (args V)) (args V).toFfn n s k := by
  unfold layerVec res_main_v100
  pointwise
  simp only [conv_apply, mixed_apply]
  rfl

/-- The result. -/
theorem result_apply (r : Fin 16384) (k : Fin 1024) :
    (shapeCast S16384x1024 (layerVec V) shapeCasts_S4x4096x1024_S16384x1024 : Vec Ideal S16384x1024 .f32) (ix2 r k)
      = Cert.Tail.Spec.flat (Cert.Even.Spec.mixed (args V)) (args V).toFfn r k := by
  pointwise
  rw [layer_apply]
  rfl

end Cert.FirstRef
-- ==== Proof.InSpec.lean ====
module

public import proofs.«01_k».proof.Proof.TailSpec
public import proofs.«01_k».proof.Proof.Scalars
public import Idealize.ShloMosaic.Lib.Routing.OpsSet
public import Idealize.ShloMosaic.Lib.Pointwise

@[expose] public section

/-! The projections of an even layer on the prompt's rows, written over plain functions, and one lemma about rows set in a table. -/

noncomputable section

namespace Cert.In

open Idealize.ShloMosaic Idealize.ShloMosaic.Routing

namespace Spec

/-- The arrays the projections read: the rows, the modulation's shift and scale, the norm's weights, the projection's weights, and
the two gates' weights and biases. -/
structure Args where
  x : Fin 8192 → Fin 1024 → EReal
  md : Fin 8 → Fin 6 → Fin 1024 → EReal
  gn : Fin 1024 → EReal
  w : Fin 1024 → Fin 2336 → EReal
  wf : Fin 16 → Fin 256 → EReal
  bf : Fin 256 → EReal
  wb : Fin 16 → Fin 256 → EReal
  bb : Fin 256 → EReal

/-- A row's modulated norm. -/
def normed (A : Args) (r : Fin 8192) (k : Fin 1024) : EReal :=
  A.x r k * Cert.Tail.Spec.inv (A.x r) * A.gn k * (1 + A.md 0 1 k) + A.md 0 0 k

/-- The projection of a row at a column. -/
def proj (A : Args) (r : Fin 8192) (c : Fin 2336) : EReal := ∑ k : Fin 1024, normed A r k * A.w k c

/-- `n` columns of the projection from column `o` on. -/
def cut (A : Args) (o n : ℕ) (h : o + n ≤ 2336) (r : Fin 8192) (c : Fin n) : EReal := proj A r ⟨o + c.val, by omega⟩

/-- A gate's logarithm: the logarithm of the logistic function of sixteen columns' projection, divided by sixteen. -/
def gate (A : Args) (o : ℕ) (h : o + 16 ≤ 2336) (W : Fin 16 → Fin 256 → EReal) (b : Fin 256 → EReal) (r : Fin 8192) (c : Fin 256) : EReal :=
  Cert.Layer.logsig ((∑ a : Fin 16, cut A o 16 h r a * W a c) + b c) * Ideal.ofBits .f32 0x3D800000#32

end Spec

variable {R C U w : ℕ}

/-- Update `(a, b)` of rows set in a table from a given row on lands that many rows further on, in its own column. -/
theorem lands_rows (d : ScatterDims (shape2 R C) (shape1 1) (shape2 U C)) (hiw : d.insertedWindowDims = [])
    (huw : d.updateWindowDims = [0, 1]) (hsd : d.scatterDimsToOperandDims = [0])
    (hivd : d.indexVectorDim = 0) (idx : IVec (shape1 1) w) (a : Fin U) (b : Fin C) (r : Fin R) (c : Fin C) :
    d.resultIdx? (ix2 a b) idx = some (ix2 r c) ↔ (idx (ix1 (0 : Fin 1))).toInt + (a.val : Int) = r.val ∧ b.val = c.val := by
  obtain ⟨uw, iw, sd, ivd, wf⟩ := d
  dsimp only at hiw huw hsd hivd
  subst hiw huw hsd hivd
  set d : ScatterDims (shape2 R C) (shape1 1) (shape2 U C) := ⟨[0, 1], [], [0], 0, wf⟩ with hd
  have hk : d.sKept = [0, 1] := rfl
  have hwin0 : d.window (ix2 a b) 0 = a.val := by
    unfold ScatterDims.window
    rw [dif_pos (by rw [hk]; simp)]
    rfl
  have hwin1 : d.window (ix2 a b) 1 = b.val := by
    unfold ScatterDims.window
    rw [dif_pos (by rw [hk]; simp)]
    rfl
  have hst0 : d.start (ix2 a b) idx 0 = (idx (ix1 (0 : Fin 1))).toInt := by
    unfold ScatterDims.start
    rw [dif_pos (by simp [hd])]
    exact congrArg (fun i => (idx i).toInt) (funext fun b' => match b' with | ⟨0, _⟩ => Subsingleton.elim (α := Fin 1) _ _)
  have hst1 : d.start (ix2 a b) idx 1 = 0 := by
    unfold ScatterDims.start
    rw [dif_neg (by simp [hd])]
  refine (resultIdx?_ix2 d (ix2 a b) idx r c).trans ?_
  rw [hst0, hst1, hwin0, hwin1]
  omega

/-- Rows set in a table from row `o` on, read at a row and a column. -/
theorem set_rows {α : Type} (d : ScatterDims (shape2 R C) (shape1 1) (shape2 U C)) (hiw : d.insertedWindowDims = [])
    (huw : d.updateWindowDims = [0, 1]) (hsd : d.scatterDimsToOperandDims = [0])
    (hivd : d.indexVectorDim = 0) (x0 : (shape2 R C).Idx → α) (idx : IVec (shape1 1) w) (upd : (shape2 U C).Idx → α) (o : ℕ)
    (ho : (idx (ix1 (0 : Fin 1))).toInt = (o : Int)) (r : Fin R) (c : Fin C) :
    Host.scatter d (fun _ b => b) x0 idx upd (ix2 r c) = if h : o ≤ r.val ∧ r.val < o + U then upd (ix2 ⟨r.val - o, by omega⟩ c) else x0 (ix2 r c) := by
  have lands := lands_rows d hiw huw hsd hivd idx
  by_cases h : o ≤ r.val ∧ r.val < o + U
  · rw [dif_pos h]
    refine scatter_set_hit d x0 idx upd _ _ (fun k' hk' => ?_) (ix2 ⟨r.val - o, by omega⟩ c) ((lands _ _ r c).2 ⟨?_, rfl⟩)
    · obtain ⟨a, b, rfl⟩ : ∃ (a : Fin U) (b : Fin C), k' = ix2 a b := ⟨k' 0, k' 1, eq_ix2 k'⟩
      have q := (lands a b r c).1 hk'
      refine congrArg upd (congrArg₂ ix2 (Fin.ext ?_) (Fin.ext q.2))
      show a.val = r.val - o
      omega
    · show _ + ((r.val - o : ℕ) : Int) = _
      omega
  · rw [dif_neg h]
    refine scatter_set_miss d x0 idx upd _ fun k' hk' => h ?_
    obtain ⟨a, b, rfl⟩ : ∃ (a : Fin U) (b : Fin C), k' = ix2 a b := ⟨k' 0, k' 1, eq_ix2 k'⟩
    have q := (lands a b r c).1 hk'
    have := a.isLt
    omega

end Cert.In
-- ==== Proof.InBlock.lean ====
module

public import proofs.«01_k».proof.Proof.InSpec
public import proofs.«01_k».proof.Proof.TailChunk
public import proofs.«01_k».proof.Proof.Gates
public import proofs.«01_k».proof.Proof.Gen.InKernelIdeal.Value
public import Idealize.ShloMosaic.Lib.Pipeline.ValueKit
public import Idealize.ShloMosaic.Lib.Pointwise
public import Idealize.ShloMosaic.Lib.IdealHost

@[expose] public section

set_option maxRecDepth 16384

/-! What the body of an even layer's projections leaves in its result blocks. The projection's weights have ninety-six columns of zeros
more than the projection, and a gate's weights are sixteen rows of a table of 128 rows that is zero elsewhere. -/

noncomputable section

namespace Cert.In

open Cert.InKernelIdeal Cert.InKernelIdeal.Gen Cert.InKernelIdeal.Value Idealize.ShloMosaic Idealize.ShloMosaic.TcCoe Idealize.SL.Sem

/-- The projection's block at a row and a column. -/
theorem prod_apply (x : Vec Ideal S1024x1024 .f32) (g : Vec Ideal S1x1024 .f32) (s c : Vec Ideal S1x1x1x1024 .f32) (w : Vec Ideal S1x1024x2432 .bf16)
    (p : Fin 1024) (q : Fin 2432) : (k0_pay7 x g s c w (ix2 p q) : EReal) =
      ∑ k : Fin 1024, (x (ix2 p k) * Cert.Tail.Spec.inv (fun k => x (ix2 p k)) * g (ix2 0 k) * (1 + c (ix4 0 0 0 k)) + s (ix4 0 0 0 k) : EReal) * w (ix3 0 k q) := by
  pointwise [k0_pay7]
  rfl

/-- A gate's logarithm from its product and its bias. -/
theorem gate_f (P : FVec Ideal S1024x256 .f32) (b : Vec Ideal S1x256 .f32) (p : Fin 1024) (c : Fin 256) :
    (k0_pay10 P b (ix2 p c) : EReal) = Cert.Layer.logsig (P (ix2 p c) + b (ix2 0 c)) * Ideal.ofBits .f32 0x3D800000#32 := by
  pointwise [k0_pay10]
  rw [Cert.Layer.absf_max, zero_sub]
  rfl

/-- The first gate's product. -/
theorem prod_f (x : Vec Ideal S1024x1024 .f32) (g : Vec Ideal S1x1024 .f32) (s c : Vec Ideal S1x1x1x1024 .f32) (w : Vec Ideal S1x1024x2432 .bf16)
    (W : Vec Ideal S128x256 .bf16) (p : Fin 1024) (q : Fin 256) : (k0_pay9 x g s c w W (ix2 p q) : EReal) =
      ∑ a : Fin 128, (k0_pay7 x g s c w (ix2 p ⟨2304 + a.val, by omega⟩) : EReal) * W (ix2 a q) := by
  unfold k0_pay9 k0_pay8
  generalize k0_pay7 (F := Ideal) x g s c w = P
  pointwise

/-- The second gate's logarithm. -/
theorem gate_b (x : Vec Ideal S1024x1024 .f32) (g : Vec Ideal S1x1024 .f32) (s c : Vec Ideal S1x1x1x1024 .f32) (w : Vec Ideal S1x1024x2432 .bf16)
    (W : Vec Ideal S128x256 .bf16) (b : Vec Ideal S1x256 .f32) (p : Fin 1024) (q : Fin 256) : (k0_pay11 (k0_pay8 x g s c w) W b (ix2 p q) : EReal) =
      Cert.Layer.logsig ((∑ a : Fin 128, (k0_pay7 x g s c w (ix2 p ⟨2304 + a.val, by omega⟩) : EReal) * W (ix2 a q)) + b (ix2 0 q)) * Ideal.ofBits .f32 0x3D800000#32 := by
  unfold k0_pay8
  generalize k0_pay7 (F := Ideal) x g s c w = P
  pointwise [k0_pay11]
  rw [Cert.Layer.absf_max, zero_sub]
  rfl

/-- A sum over 128 columns of which only sixteen have weights. -/
theorem sum_sixteen (f : Fin 128 → EReal) (W : Fin 128 → EReal) (V : Fin 16 → EReal) (o : ℕ) (ho : o + 16 ≤ 128)
    (hW : ∀ a : Fin 128, W a = if h : o ≤ a.val ∧ a.val < o + 16 then V ⟨a.val - o, by omega⟩ else 0) :
    ∑ a : Fin 128, f a * W a = ∑ a : Fin 16, f ⟨o + a.val, by omega⟩ * V a := by
  have e : ∑ a : Fin 16, f ⟨o + a.val, by omega⟩ * V a = ∑ a ∈ Finset.univ.map ⟨fun a : Fin 16 => (⟨o + a.val, by omega⟩ : Fin 128), fun a b h => Fin.ext (by
      have := congrArg Fin.val h
      dsimp only at this
      omega)⟩, f a * W a := by
    rw [Finset.sum_map]
    refine Finset.sum_congr rfl fun a _ => ?_
    have ha := a.isLt
    rw [hW]
    show _ = f ⟨o + a.val, _⟩ * dite (o ≤ o + a.val ∧ o + a.val < o + 16) _ _
    rw [dif_pos ⟨by omega, by omega⟩]
    exact congrArg (fun z => f ⟨o + a.val, by omega⟩ * V z) (Fin.ext (by show a.val = o + a.val - o; omega))
  rw [e]
  refine (Finset.sum_subset (Finset.subset_univ _) fun a _ h => ?_).symm
  rw [hW, dif_neg, mul_zero]
  rintro ⟨h1, h2⟩
  refine h (Finset.mem_map.2 ⟨⟨a.val - o, by omega⟩, Finset.mem_univ _, Fin.ext ?_⟩)
  show o + (a.val - o) = a.val
  omega

end Cert.In
-- ==== Proof.InArrays.lean ====
module

public import proofs.«01_k».proof.Proof.InBlock
public import proofs.«01_k».proof.Proof.TailArrays
public import Idealize.ShloMosaic.Lib.Pipeline.ValueKit
public import Idealize.ShloMosaic.Lib.StableHlo.ReadAt

@[expose] public section

set_option maxRecDepth 16384

/-! The arrays an even layer's projections leave on the prompt's rows, as functions of its arguments. -/

noncomputable section

namespace Cert.In

open Cert.InKernelIdeal Cert.InKernelIdeal.Gen Cert.InKernelIdeal.Value Idealize.ShloMosaic Idealize.ShloMosaic.TcCoe Idealize.SL.Sem

variable (m : (ℓ : Loc nD τ sig) → Buf (Elt Ideal) ℓ) (dv : Dev nD)

/-- The arguments the kernel reads. -/
def kargs : Spec.Args where
  x r k := (m ((dv : Thread nD τ).loc main_arg0) : Vec Ideal S8192x1024 .f32) (ix2 r k)
  md a b k := (m ((dv : Thread nD τ).loc main_arg1) : Vec Ideal S4x8x6x1024 .f32) (ix4 0 a b k)
  gn k := (m ((dv : Thread nD τ).loc main_arg2) : Vec Ideal S4x1024 .f32) (ix2 0 k)
  w k q := (m ((dv : Thread nD τ).loc main_arg3) : Vec Ideal S2x1024x2336 .f32) (ix3 0 k q)
  wf a q := (m ((dv : Thread nD τ).loc main_arg4) : Vec Ideal S2x16x256 .f32) (ix3 0 a q)
  bf q := (m ((dv : Thread nD τ).loc main_arg5) : Vec Ideal S2x256 .f32) (ix2 0 q)
  wb a q := (m ((dv : Thread nD τ).loc main_arg6) : Vec Ideal S2x16x256 .f32) (ix3 0 a q)
  bb q := (m ((dv : Thread nD τ).loc main_arg7) : Vec Ideal S2x256 .f32) (ix2 0 q)

/-- Which blocks each point is given. -/
theorem idx_win : ∀ t : Fin grid0.N, win0_0.index t = ![t.val, 0] ∧
    win0_1.index t = ![0, 0, 0, 0] ∧
    win0_2.index t = ![0, 0] ∧
    win0_3.index t = ![0, 0, 0] ∧
    win0_4.index t = ![0, 0] ∧
    win0_5.index t = ![0, 0] ∧
    win0_6.index t = ![0, 0] ∧
    win0_7.index t = ![0, 0] ∧
    win0_8.index t = ![t.val, 0] ∧
    win0_9.index t = ![t.val, 0] ∧
    win0_10.index t = ![t.val, 0] ∧
    win0_11.index t = ![t.val, 0] ∧
    win0_12.index t = ![t.val, 0] ∧
    win0_13.index t = ![t.val, 0] ∧
    win0_14.index t = ![t.val, 0] ∧
    win0_15.index t = ![t.val, 0] ∧
    win0_16.index t = ![t.val, 0] := by decide +kernel

/-- There are eight points. -/
theorem point_lt (t : Fin cfg0.N) : t.val < 8 := t.isLt

/-- A row of a block among all rows. -/
def rowOf (t : Fin cfg0.N) (p : Fin 1024) : Fin 8192 := ⟨1024 * t.val + p.val, by have := point_lt t; omega⟩

/-- The block of rows. -/
theorem blk_x (t : Fin cfg0.N) (p k : Fin 1024) :
    (iblk m dv 0 t : Vec Ideal S1024x1024 .f32) (ix2 p k) = (kargs m dv).x (rowOf t p) k := by
  have ht := point_lt t
  have hp := p.isLt
  unfold kargs rowOf
  dsimp only
  blk_ext [iblk, V_main_arg0, idx_win t]

/-- The modulation's block. -/
theorem blk_mod (t : Fin cfg0.N) (j : Fin 6) (k : Fin 1024) :
    (iblk m dv 1 t : Vec Ideal S1x1x6x1024 .f32) (ix4 0 0 j k) = (kargs m dv).md 0 j k := by
  have ht := point_lt t
  unfold kargs
  dsimp only
  blk_ext [iblk, V_main_arg1, idx_win t]

/-- The norm's weights as the host hands them on. -/
theorem host_gn (k : Fin 1024) : (V m dv main_v4 : Vec Ideal S1x1024 .f32) (ix2 0 k) = (kargs m dv).gn k := by
  entry_read
  show ((shapeCast S1x1024 (shapeCast S1024 (extractStridedSlice S1x1024 ![0, 0] (m (dv, Proc.tc.devRef main_arg2) : Vec Ideal S4x1024 .f32) slices_S4x1024_S1x1024_0_0 : Vec Ideal S1x1024 .f32) shapeCasts_S1x1024_S1024 : Vec Ideal S1024 .f32) shapeCasts_S1024_S1x1024 : Vec Ideal S1x1024 .f32) (ix2 0 k) : EReal) = _
  pointwise
  rfl

/-- Their block. -/
theorem blk_gn (t : Fin cfg0.N) (k : Fin 1024) : (iblk m dv 2 t : Vec Ideal S1x1024 .f32) (ix2 0 k) = (kargs m dv).gn k := by
  rw [← host_gn]
  blk_ext [iblk, idx_win t]

/-- A bias as the host hands it on. -/
theorem host_bf (q : Fin 256) : (V m dv main_v13 : Vec Ideal S1x256 .f32) (ix2 0 q) = (kargs m dv).bf q := by
  entry_read
  show ((shapeCast S1x256 (shapeCast S256 (extractStridedSlice S1x256 ![0, 0] (m (dv, Proc.tc.devRef main_arg5) : Vec Ideal S2x256 .f32) slices_S2x256_S1x256_0_0 : Vec Ideal S1x256 .f32) shapeCasts_S1x256_S256 : Vec Ideal S256 .f32) shapeCasts_S256_S1x256 : Vec Ideal S1x256 .f32) (ix2 0 q) : EReal) = _
  pointwise
  rfl

/-- Its block. -/
theorem blk_bf (t : Fin cfg0.N) (q : Fin 256) : (iblk m dv 5 t : Vec Ideal S1x256 .f32) (ix2 0 q) = (kargs m dv).bf q := by
  rw [← host_bf]
  blk_ext [iblk, idx_win t]

/-- The other bias as the host hands it on. -/
theorem host_bb (q : Fin 256) : (V m dv main_v22 : Vec Ideal S1x256 .f32) (ix2 0 q) = (kargs m dv).bb q := by
  entry_read
  show ((shapeCast S1x256 (shapeCast S256 (extractStridedSlice S1x256 ![0, 0] (m (dv, Proc.tc.devRef main_arg7) : Vec Ideal S2x256 .f32) slices_S2x256_S1x256_0_0 : Vec Ideal S1x256 .f32) shapeCasts_S1x256_S256 : Vec Ideal S256 .f32) shapeCasts_S256_S1x256 : Vec Ideal S1x256 .f32) (ix2 0 q) : EReal) = _
  pointwise
  rfl

/-- Its block. -/
theorem blk_bb (t : Fin cfg0.N) (q : Fin 256) : (iblk m dv 7 t : Vec Ideal S1x256 .f32) (ix2 0 q) = (kargs m dv).bb q := by
  rw [← host_bb]
  blk_ext [iblk, idx_win t]

/-- The projection's weights with ninety-six columns of padding, read at a column the projection has. -/
theorem pad_read (W : FVec Ideal S2x1024x2336 .f32) (z : FVec Ideal S_ .f32) (k : Fin 1024) (q : Fin 2432) (h : q.val < 2336) :
    ((truncf (F := Ideal) .bf16 (pad S2x1024x2432 ![0, 0, 0] ![0, 0, 96] ![0, 0, 0] W z pads_S2x1024x2336_S2x1024x2432_000_000_0960 h_S_) bitsLt_bf16_f32 : FVec Ideal S2x1024x2432 .bf16) (ix3 0 k q) : EReal)
      = W (ix3 0 k ⟨q.val, h⟩) := by
  pointwise
  rw [dif_pos h]

/-- The projection's weights as the host hands them on, at the columns the projection has. -/
theorem host_w (k : Fin 1024) (q : Fin 2432) (h : q.val < 2336) : (V m dv main_v1 : Vec Ideal S2x1024x2432 .bf16) (ix3 0 k q) = (kargs m dv).w k ⟨q.val, h⟩ := by
  entry_read
  exact pad_read (m (dv, Proc.tc.devRef main_arg3)) _ k q h

/-- Their block. -/
theorem blk_w (t : Fin cfg0.N) (k : Fin 1024) (q : Fin 2432) (h : q.val < 2336) :
    (iblk m dv 3 t : Vec Ideal S1x1024x2432 .bf16) (ix3 0 k q) = (kargs m dv).w k ⟨q.val, h⟩ := by
  rw [← host_w]
  blk_ext [iblk, idx_win t]

/-- The first gate's table as the host hands it on. -/
theorem host_wf (a : Fin 128) (q : Fin 256) : (V m dv main_v10 : Vec Ideal S128x256 .bf16) (ix2 a q) =
    if h : 0 ≤ a.val ∧ a.val < 0 + 16 then (kargs m dv).wf ⟨a.val - 0, by omega⟩ q else 0 := by
  generalize hr : (if h : 0 ≤ a.val ∧ a.val < 0 + 16 then (kargs m dv).wf ⟨a.val - 0, by omega⟩ q else 0) = r
  unfold V
  after_reads_at
  refine (set_rows scatter_S128x256_S1_S16x256_01_n_0_0 rfl rfl rfl rfl _ _ _ 0 (by decide) a q).trans ?_
  rw [← hr]
  split_ifs with h
  · rfl
  · pointwise

/-- Its block. -/
theorem blk_wf (t : Fin cfg0.N) (a : Fin 128) (q : Fin 256) : (iblk m dv 4 t : Vec Ideal S128x256 .bf16) (ix2 a q) =
    if h : 0 ≤ a.val ∧ a.val < 0 + 16 then (kargs m dv).wf ⟨a.val - 0, by omega⟩ q else 0 := by
  rw [← host_wf]
  blk_ext [iblk, idx_win t]

/-- The second gate's table as the host hands it on. -/
theorem host_wb (a : Fin 128) (q : Fin 256) : (V m dv main_v19 : Vec Ideal S128x256 .bf16) (ix2 a q) =
    if h : 16 ≤ a.val ∧ a.val < 16 + 16 then (kargs m dv).wb ⟨a.val - 16, by omega⟩ q else 0 := by
  generalize hr : (if h : 16 ≤ a.val ∧ a.val < 16 + 16 then (kargs m dv).wb ⟨a.val - 16, by omega⟩ q else 0) = r
  unfold V
  after_reads_at
  refine (set_rows scatter_S128x256_S1_S16x256_01_n_0_0 rfl rfl rfl rfl _ _ _ 16 (by decide) a q).trans ?_
  rw [← hr]
  split_ifs with h
  · rfl
  · pointwise

/-- Its block. -/
theorem blk_wb (t : Fin cfg0.N) (a : Fin 128) (q : Fin 256) : (iblk m dv 6 t : Vec Ideal S128x256 .bf16) (ix2 a q) =
    if h : 16 ≤ a.val ∧ a.val < 16 + 16 then (kargs m dv).wb ⟨a.val - 16, by omega⟩ q else 0 := by
  rw [← host_wb]
  blk_ext [iblk, idx_win t]

/-- The projection's block of a point. -/
def block (t : Fin cfg0.N) : FVec Ideal S1024x2432 .f32 :=
  k0_pay7 (iblk m dv 0 t : Vec Ideal S1024x1024 .f32) (iblk m dv 2 t : Vec Ideal S1x1024 .f32)
    (Cert.Tail.modRow (iblk m dv 1 t : Vec Ideal S1x1x6x1024 .f32) 0 inb_S1x1x6x1024_S1x1x1x1024_0_0_0_0)
    (Cert.Tail.modRow (iblk m dv 1 t : Vec Ideal S1x1x6x1024 .f32) 1 inb_S1x1x6x1024_S1x1x1x1024_0_0_1_0) (iblk m dv 3 t : Vec Ideal S1x1024x2432 .bf16)

/-- It at a row and a column the projection has. -/
theorem block_apply (t : Fin cfg0.N) (p : Fin 1024) (q : Fin 2432) (h : q.val < 2336) :
    (block m dv t (ix2 p q) : EReal) = Spec.proj (kargs m dv) (rowOf t p) ⟨q.val, h⟩ := by
  unfold block
  rw [prod_apply]
  unfold Spec.proj Spec.normed
  refine Finset.sum_congr rfl fun k _ => ?_
  rw [blk_w _ _ _ _ _ h, blk_gn, Cert.Tail.modRow_apply _ 0 (by decide), Cert.Tail.modRow_apply _ 1 (by decide)]
  simp only [blk_x]
  refine congrArg (fun z : EReal => z * (kargs m dv).w k ⟨q.val, h⟩) ?_
  exact congrArg₂ (fun u v : EReal => (kargs m dv).x (rowOf t p) k * Cert.Tail.Spec.inv ((kargs m dv).x (rowOf t p)) * (kargs m dv).gn k * (1 + u) + v)
    (blk_mod m dv t 1 k) (blk_mod m dv t 0 k)

/-- The first gate's sum of a point. -/
theorem sum_f (t : Fin cfg0.N) (p : Fin 1024) (q : Fin 256) :
    (∑ a : Fin 128, (block m dv t (ix2 p ⟨2304 + a.val, by omega⟩) : EReal) * (iblk m dv 4 t : Vec Ideal S128x256 .bf16) (ix2 a q)) =
      ∑ a : Fin 16, Spec.cut (kargs m dv) 2304 16 (by decide) (rowOf t p) a * (kargs m dv).wf a q := by
  refine (sum_sixteen (fun a => block m dv t (ix2 p ⟨2304 + a.val, by omega⟩)) _ (fun a => (kargs m dv).wf a q) 0 (by decide) fun a => blk_wf m dv t a q).trans ?_
  refine Finset.sum_congr rfl fun a _ => ?_
  have ha := a.isLt
  rw [block_apply _ _ _ _ _ (by dsimp only; omega)]
  refine congrArg (fun z : EReal => z * (kargs m dv).wf a q) (congrArg (Spec.proj (kargs m dv) (rowOf t p)) (Fin.ext ?_))
  show 2304 + (0 + a.val) = 2304 + a.val
  omega

/-- The second gate's sum of a point. -/
theorem sum_b (t : Fin cfg0.N) (p : Fin 1024) (q : Fin 256) :
    (∑ a : Fin 128, (block m dv t (ix2 p ⟨2304 + a.val, by omega⟩) : EReal) * (iblk m dv 6 t : Vec Ideal S128x256 .bf16) (ix2 a q)) =
      ∑ a : Fin 16, Spec.cut (kargs m dv) 2320 16 (by decide) (rowOf t p) a * (kargs m dv).wb a q := by
  refine (sum_sixteen (fun a => block m dv t (ix2 p ⟨2304 + a.val, by omega⟩)) _ (fun a => (kargs m dv).wb a q) 16 (by decide) fun a => blk_wb m dv t a q).trans ?_
  refine Finset.sum_congr rfl fun a _ => ?_
  have ha := a.isLt
  rw [block_apply _ _ _ _ _ (by dsimp only; omega)]
  refine congrArg (fun z : EReal => z * (kargs m dv).wb a q) (congrArg (Spec.proj (kargs m dv) (rowOf t p)) (Fin.ext ?_))
  show 2304 + (16 + a.val) = 2320 + a.val
  omega

end Cert.In
-- ==== Proof.InOut.lean ====
module

public import proofs.«01_k».proof.Proof.InArrays

@[expose] public section

set_option maxRecDepth 16384

/-! The nine arrays an even layer's projections leave on the prompt's rows, as functions of the arguments. -/

noncomputable section

namespace Cert.In

open Cert.InKernelIdeal Cert.InKernelIdeal.Gen Cert.InKernelIdeal.Value Idealize.ShloMosaic Idealize.ShloMosaic.TcCoe Idealize.SL.Sem

variable (m : (ℓ : Loc nD τ sig) → Buf (Elt Ideal) ℓ) (dv : Dev nD)

/-- Columns of the projection as an array. -/
def cutArr {φ : FTy} (A : Spec.Args) (o n : ℕ) (h : o + n ≤ 2336) : FVec Ideal (⟨2, ![8192, n]⟩ : Shape) φ := fun j => Spec.cut A o n h (j 0) (j 1)

/-- The same an eighth as large. -/
def eighthArr {φ : FTy} (A : Spec.Args) (o n : ℕ) (h : o + n ≤ 2336) : FVec Ideal (⟨2, ![8192, n]⟩ : Shape) φ :=
  fun j => Spec.cut A o n h (j 0) (j 1) * Ideal.ofBits .f32 0x3E000000#32

/-- A gate's logarithms as an array. -/
def gateArr (A : Spec.Args) (o : ℕ) (h : o + 16 ≤ 2336) (W : Fin 16 → Fin 256 → EReal) (b : Fin 256 → EReal) : FVec Ideal S8192x256 .f32 :=
  fun j => Spec.gate A o h W b (j 0) (j 1)

variable (x0 : Vec Ideal S1024x1024 .f32) (x1 : Vec Ideal S1x1x6x1024 .f32) (x2 : Vec Ideal S1x1024 .f32) (x3 : Vec Ideal S1x1024x2432 .bf16)
  (x4 : Vec Ideal S128x256 .bf16) (x5 : Vec Ideal S1x256 .f32) (x6 : Vec Ideal S128x256 .bf16) (x7 : Vec Ideal S1x256 .f32)

/-- What a point leaves in window 8. -/
theorem out8_eq : out0_8 x0 x1 x2 x3 x4 x5 x6 x7 = k0_pay12 (k0_pay7 x0 x2 (Cert.Tail.modRow x1 0 inb_S1x1x6x1024_S1x1x1x1024_0_0_0_0) (Cert.Tail.modRow x1 1 inb_S1x1x6x1024_S1x1x1x1024_0_0_1_0) x3) := by
  unfold out0_8 k0_pay13
  frame_out
  unfold Cert.Tail.modRow
  rfl

/-- What a point leaves in window 9. -/
theorem out9_eq : out0_9 x0 x1 x2 x3 x4 x5 x6 x7 = k0_pay1 (k0_pay7 x0 x2 (Cert.Tail.modRow x1 0 inb_S1x1x6x1024_S1x1x1x1024_0_0_0_0) (Cert.Tail.modRow x1 1 inb_S1x1x6x1024_S1x1x1x1024_0_0_1_0) x3) := by
  unfold out0_9 k0_pay13
  frame_out
  unfold Cert.Tail.modRow
  rfl

/-- What a point leaves in window 10. -/
theorem out10_eq : out0_10 x0 x1 x2 x3 x4 x5 x6 x7 = k0_pay2 (k0_pay7 x0 x2 (Cert.Tail.modRow x1 0 inb_S1x1x6x1024_S1x1x1x1024_0_0_0_0) (Cert.Tail.modRow x1 1 inb_S1x1x6x1024_S1x1x1x1024_0_0_1_0) x3) := by
  unfold out0_10 k0_pay13
  frame_out
  unfold Cert.Tail.modRow
  rfl

/-- What a point leaves in window 11. -/
theorem out11_eq : out0_11 x0 x1 x2 x3 x4 x5 x6 x7 = k0_pay3 (k0_pay7 x0 x2 (Cert.Tail.modRow x1 0 inb_S1x1x6x1024_S1x1x1x1024_0_0_0_0) (Cert.Tail.modRow x1 1 inb_S1x1x6x1024_S1x1x1x1024_0_0_1_0) x3) := by
  unfold out0_11 k0_pay13
  frame_out
  unfold Cert.Tail.modRow
  rfl

/-- What a point leaves in window 12. -/
theorem out12_eq : out0_12 x0 x1 x2 x3 x4 x5 x6 x7 = k0_pay4 (k0_pay7 x0 x2 (Cert.Tail.modRow x1 0 inb_S1x1x6x1024_S1x1x1x1024_0_0_0_0) (Cert.Tail.modRow x1 1 inb_S1x1x6x1024_S1x1x1x1024_0_0_1_0) x3) := by
  unfold out0_12 k0_pay13
  frame_out
  unfold Cert.Tail.modRow
  rfl

/-- What a point leaves in window 13. -/
theorem out13_eq : out0_13 x0 x1 x2 x3 x4 x5 x6 x7 = k0_pay5 (k0_pay7 x0 x2 (Cert.Tail.modRow x1 0 inb_S1x1x6x1024_S1x1x1x1024_0_0_0_0) (Cert.Tail.modRow x1 1 inb_S1x1x6x1024_S1x1x1x1024_0_0_1_0) x3) := by
  unfold out0_13 k0_pay13
  frame_out
  unfold Cert.Tail.modRow
  rfl

/-- What a point leaves in window 14. -/
theorem out14_eq : out0_14 x0 x1 x2 x3 x4 x5 x6 x7 = k0_pay6 (k0_pay7 x0 x2 (Cert.Tail.modRow x1 0 inb_S1x1x6x1024_S1x1x1x1024_0_0_0_0) (Cert.Tail.modRow x1 1 inb_S1x1x6x1024_S1x1x1x1024_0_0_1_0) x3) := by
  unfold out0_14 k0_pay13
  frame_out
  unfold Cert.Tail.modRow
  rfl

/-- What a point leaves in window 15. -/
theorem out15_eq : out0_15 x0 x1 x2 x3 x4 x5 x6 x7 = k0_pay10 (k0_pay9 x0 x2 (Cert.Tail.modRow x1 0 inb_S1x1x6x1024_S1x1x1x1024_0_0_0_0) (Cert.Tail.modRow x1 1 inb_S1x1x6x1024_S1x1x1x1024_0_0_1_0) x3 x4) x5 := by
  unfold out0_15
  frame_out
  unfold Cert.Tail.modRow
  rfl

/-- What a point leaves in window 16. -/
theorem out16_eq : out0_16 x0 x1 x2 x3 x4 x5 x6 x7 = k0_pay11 (k0_pay8 x0 x2 (Cert.Tail.modRow x1 0 inb_S1x1x6x1024_S1x1x1x1024_0_0_0_0) (Cert.Tail.modRow x1 1 inb_S1x1x6x1024_S1x1x1x1024_0_0_1_0) x3) x6 x7 := by
  unfold out0_16
  frame_out
  unfold Cert.Tail.modRow
  rfl

/-- Window 8's columns of a point's projection. -/
theorem pay8_apply (X : FVec Ideal S1024x2432 .f32) (p : Fin 1024) (q : Fin 512) :
    (k0_pay12 X (ix2 p q) : EReal) = X (ix2 p ⟨q.val, by omega⟩) := by
  pointwise [k0_pay12]

/-- Window 8's array after the run. -/
theorem arr8 : (dats m 0 dv).arrAt 8 cfg0.N = cutArr (φ := .bf16) (kargs m dv) 0 512 (by decide) := by
  refine (dats m 0 dv).arrAt_eq_of_covers 8 _ (by decide +kernel) fun t hf y => ?_
  blk_simp
  rw [after0_8, out8_eq]
  obtain ⟨p, q, rfl⟩ : ∃ (p : Fin 1024) (q : Fin 512), y = ix2 p q := ⟨y 0, y 1, eq_ix2 y⟩
  refine (pay8_apply _ p q).trans ?_
  have hq : 0 + q.val < 2336 := by have := q.isLt; omega
  refine Eq.trans (block_apply m dv t p ⟨q.val, by omega⟩ (by show q.val < 2336; omega)) ?_
  unfold cutArr Spec.cut
  have ht := point_lt t
  refine congrArg₂ (Spec.proj (kargs m dv)) (Fin.ext ?_) (Fin.ext ?_)
  · blk_simp [idx_win t]
    show 1024 * t.val + p.val = t.val * 1024 + p.val
    omega
  · blk_simp [idx_win t]

/-- Window 9's columns of a point's projection. -/
theorem pay9_apply (X : FVec Ideal S1024x2432 .f32) (p : Fin 1024) (q : Fin 128) :
    (k0_pay1 X (ix2 p q) : EReal) = X (ix2 p ⟨512 + q.val, by omega⟩) := by
  pointwise [k0_pay1]

/-- Window 9's array after the run. -/
theorem arr9 : (dats m 0 dv).arrAt 9 cfg0.N = cutArr (φ := .f32) (kargs m dv) 512 128 (by decide) := by
  refine (dats m 0 dv).arrAt_eq_of_covers 9 _ (by decide +kernel) fun t hf y => ?_
  blk_simp
  rw [after0_9, out9_eq]
  obtain ⟨p, q, rfl⟩ : ∃ (p : Fin 1024) (q : Fin 128), y = ix2 p q := ⟨y 0, y 1, eq_ix2 y⟩
  refine (pay9_apply _ p q).trans ?_
  have hq : 512 + q.val < 2336 := by have := q.isLt; omega
  refine Eq.trans (block_apply m dv t p ⟨512 + q.val, by omega⟩ hq) ?_
  unfold cutArr Spec.cut
  have ht := point_lt t
  refine congrArg₂ (Spec.proj (kargs m dv)) (Fin.ext ?_) (Fin.ext ?_)
  · blk_simp [idx_win t]
    show 1024 * t.val + p.val = t.val * 1024 + p.val
    omega
  · blk_simp [idx_win t]

/-- Window 10's columns of a point's projection. -/
theorem pay10_apply (X : FVec Ideal S1024x2432 .f32) (p : Fin 1024) (q : Fin 128) :
    (k0_pay2 X (ix2 p q) : EReal) = X (ix2 p ⟨640 + q.val, by omega⟩) := by
  pointwise [k0_pay2]

/-- Window 10's array after the run. -/
theorem arr10 : (dats m 0 dv).arrAt 10 cfg0.N = cutArr (φ := .f32) (kargs m dv) 640 128 (by decide) := by
  refine (dats m 0 dv).arrAt_eq_of_covers 10 _ (by decide +kernel) fun t hf y => ?_
  blk_simp
  rw [after0_10, out10_eq]
  obtain ⟨p, q, rfl⟩ : ∃ (p : Fin 1024) (q : Fin 128), y = ix2 p q := ⟨y 0, y 1, eq_ix2 y⟩
  refine (pay10_apply _ p q).trans ?_
  have hq : 640 + q.val < 2336 := by have := q.isLt; omega
  refine Eq.trans (block_apply m dv t p ⟨640 + q.val, by omega⟩ hq) ?_
  unfold cutArr Spec.cut
  have ht := point_lt t
  refine congrArg₂ (Spec.proj (kargs m dv)) (Fin.ext ?_) (Fin.ext ?_)
  · blk_simp [idx_win t]
    show 1024 * t.val + p.val = t.val * 1024 + p.val
    omega
  · blk_simp [idx_win t]

/-- Window 11's columns of a point's projection. -/
theorem pay11_apply (X : FVec Ideal S1024x2432 .f32) (p : Fin 1024) (q : Fin 256) :
    (k0_pay3 X (ix2 p q) : EReal) = X (ix2 p ⟨768 + q.val, by omega⟩) * Ideal.ofBits .f32 0x3E000000#32 := by
  pointwise [k0_pay3]

/-- Window 11's array after the run. -/
theorem arr11 : (dats m 0 dv).arrAt 11 cfg0.N = eighthArr (φ := .bf16) (kargs m dv) 768 256 (by decide) := by
  refine (dats m 0 dv).arrAt_eq_of_covers 11 _ (by decide +kernel) fun t hf y => ?_
  blk_simp
  rw [after0_11, out11_eq]
  obtain ⟨p, q, rfl⟩ : ∃ (p : Fin 1024) (q : Fin 256), y = ix2 p q := ⟨y 0, y 1, eq_ix2 y⟩
  refine (pay11_apply _ p q).trans ?_
  have hq : 768 + q.val < 2336 := by have := q.isLt; omega
  refine Eq.trans (congrArg (fun z : EReal => z * Ideal.ofBits .f32 0x3E000000#32) (block_apply m dv t p ⟨768 + q.val, by omega⟩ hq)) ?_
  unfold eighthArr Spec.cut
  have ht := point_lt t
  refine congrArg (fun z : EReal => z * Ideal.ofBits .f32 0x3E000000#32) (congrArg₂ (Spec.proj (kargs m dv)) (Fin.ext ?_) (Fin.ext ?_))
  · blk_simp [idx_win t]
    show 1024 * t.val + p.val = t.val * 1024 + p.val
    omega
  · blk_simp [idx_win t]

/-- Window 12's columns of a point's projection. -/
theorem pay12_apply (X : FVec Ideal S1024x2432 .f32) (p : Fin 1024) (q : Fin 256) :
    (k0_pay4 X (ix2 p q) : EReal) = X (ix2 p ⟨1024 + q.val, by omega⟩) := by
  pointwise [k0_pay4]

/-- Window 12's array after the run. -/
theorem arr12 : (dats m 0 dv).arrAt 12 cfg0.N = cutArr (φ := .bf16) (kargs m dv) 1024 256 (by decide) := by
  refine (dats m 0 dv).arrAt_eq_of_covers 12 _ (by decide +kernel) fun t hf y => ?_
  blk_simp
  rw [after0_12, out12_eq]
  obtain ⟨p, q, rfl⟩ : ∃ (p : Fin 1024) (q : Fin 256), y = ix2 p q := ⟨y 0, y 1, eq_ix2 y⟩
  refine (pay12_apply _ p q).trans ?_
  have hq : 1024 + q.val < 2336 := by have := q.isLt; omega
  refine Eq.trans (block_apply m dv t p ⟨1024 + q.val, by omega⟩ hq) ?_
  unfold cutArr Spec.cut
  have ht := point_lt t
  refine congrArg₂ (Spec.proj (kargs m dv)) (Fin.ext ?_) (Fin.ext ?_)
  · blk_simp [idx_win t]
    show 1024 * t.val + p.val = t.val * 1024 + p.val
    omega
  · blk_simp [idx_win t]

/-- Window 13's columns of a point's projection. -/
theorem pay13_apply (X : FVec Ideal S1024x2432 .f32) (p : Fin 1024) (q : Fin 512) :
    (k0_pay5 X (ix2 p q) : EReal) = X (ix2 p ⟨1280 + q.val, by omega⟩) := by
  pointwise [k0_pay5]

/-- Window 13's array after the run. -/
theorem arr13 : (dats m 0 dv).arrAt 13 cfg0.N = cutArr (φ := .bf16) (kargs m dv) 1280 512 (by decide) := by
  refine (dats m 0 dv).arrAt_eq_of_covers 13 _ (by decide +kernel) fun t hf y => ?_
  blk_simp
  rw [after0_13, out13_eq]
  obtain ⟨p, q, rfl⟩ : ∃ (p : Fin 1024) (q : Fin 512), y = ix2 p q := ⟨y 0, y 1, eq_ix2 y⟩
  refine (pay13_apply _ p q).trans ?_
  have hq : 1280 + q.val < 2336 := by have := q.isLt; omega
  refine Eq.trans (block_apply m dv t p ⟨1280 + q.val, by omega⟩ hq) ?_
  unfold cutArr Spec.cut
  have ht := point_lt t
  refine congrArg₂ (Spec.proj (kargs m dv)) (Fin.ext ?_) (Fin.ext ?_)
  · blk_simp [idx_win t]
    show 1024 * t.val + p.val = t.val * 1024 + p.val
    omega
  · blk_simp [idx_win t]

/-- Window 14's columns of a point's projection. -/
theorem pay14_apply (X : FVec Ideal S1024x2432 .f32) (p : Fin 1024) (q : Fin 512) :
    (k0_pay6 X (ix2 p q) : EReal) = X (ix2 p ⟨1792 + q.val, by omega⟩) := by
  pointwise [k0_pay6]

/-- Window 14's array after the run. -/
theorem arr14 : (dats m 0 dv).arrAt 14 cfg0.N = cutArr (φ := .bf16) (kargs m dv) 1792 512 (by decide) := by
  refine (dats m 0 dv).arrAt_eq_of_covers 14 _ (by decide +kernel) fun t hf y => ?_
  blk_simp
  rw [after0_14, out14_eq]
  obtain ⟨p, q, rfl⟩ : ∃ (p : Fin 1024) (q : Fin 512), y = ix2 p q := ⟨y 0, y 1, eq_ix2 y⟩
  refine (pay14_apply _ p q).trans ?_
  have hq : 1792 + q.val < 2336 := by have := q.isLt; omega
  refine Eq.trans (block_apply m dv t p ⟨1792 + q.val, by omega⟩ hq) ?_
  unfold cutArr Spec.cut
  have ht := point_lt t
  refine congrArg₂ (Spec.proj (kargs m dv)) (Fin.ext ?_) (Fin.ext ?_)
  · blk_simp [idx_win t]
    show 1024 * t.val + p.val = t.val * 1024 + p.val
    omega
  · blk_simp [idx_win t]

/-- Window 15's array after the run. -/
theorem arr15 : (dats m 0 dv).arrAt 15 cfg0.N = gateArr (kargs m dv) 2304 (by decide) (kargs m dv).wf (kargs m dv).bf := by
  refine (dats m 0 dv).arrAt_eq_of_covers 15 _ (by decide +kernel) fun t hf y => ?_
  blk_simp
  rw [after0_15, out15_eq]
  obtain ⟨p, q, rfl⟩ : ∃ (p : Fin 1024) (q : Fin 256), y = ix2 p q := ⟨y 0, y 1, eq_ix2 y⟩
  refine (gate_f _ _ p q).trans ?_
  rw [prod_f]
  have e : (∑ a : Fin 128, (block m dv t (ix2 p ⟨2304 + a.val, by omega⟩) : EReal) * (iblk m dv 4 t : Vec Ideal S128x256 .bf16) (ix2 a q)) + (iblk m dv 5 t : Vec Ideal S1x256 .f32) (ix2 0 q)
      = (∑ a : Fin 16, Spec.cut (kargs m dv) 2304 16 (by decide) (rowOf t p) a * (kargs m dv).wf a q) + (kargs m dv).bf q := by
    rw [sum_f, blk_bf]
  refine (congrArg (fun z : EReal => Cert.Layer.logsig z * Ideal.ofBits .f32 0x3D800000#32) e).trans ?_
  unfold gateArr
  have ht := point_lt t
  refine congrArg₂ (Spec.gate (kargs m dv) 2304 (by decide) (kargs m dv).wf (kargs m dv).bf) (Fin.ext ?_) (Fin.ext ?_)
  · blk_simp [idx_win t]
    show 1024 * t.val + p.val = t.val * 1024 + p.val
    omega
  · blk_simp [idx_win t]

/-- Window 16's array after the run. -/
theorem arr16 : (dats m 0 dv).arrAt 16 cfg0.N = gateArr (kargs m dv) 2320 (by decide) (kargs m dv).wb (kargs m dv).bb := by
  refine (dats m 0 dv).arrAt_eq_of_covers 16 _ (by decide +kernel) fun t hf y => ?_
  blk_simp
  rw [after0_16, out16_eq]
  obtain ⟨p, q, rfl⟩ : ∃ (p : Fin 1024) (q : Fin 256), y = ix2 p q := ⟨y 0, y 1, eq_ix2 y⟩
  refine (gate_b _ _ _ _ _ _ _ p q).trans ?_
  have e : (∑ a : Fin 128, (block m dv t (ix2 p ⟨2304 + a.val, by omega⟩) : EReal) * (iblk m dv 6 t : Vec Ideal S128x256 .bf16) (ix2 a q)) + (iblk m dv 7 t : Vec Ideal S1x256 .f32) (ix2 0 q)
      = (∑ a : Fin 16, Spec.cut (kargs m dv) 2320 16 (by decide) (rowOf t p) a * (kargs m dv).wb a q) + (kargs m dv).bb q := by
    rw [sum_b, blk_bb]
  refine (congrArg (fun z : EReal => Cert.Layer.logsig z * Ideal.ofBits .f32 0x3D800000#32) e).trans ?_
  unfold gateArr
  have ht := point_lt t
  refine congrArg₂ (Spec.gate (kargs m dv) 2320 (by decide) (kargs m dv).wb (kargs m dv).bb) (Fin.ext ?_) (Fin.ext ?_)
  · blk_simp [idx_win t]
    show 1024 * t.val + p.val = t.val * 1024 + p.val
    omega
  · blk_simp [idx_win t]

/-- What the program leaves. -/
theorem run_kernel (ρ : Dev nD → PrngReg) :
    θ_run defs (onTc (τ := τ) (main (F := Ideal))) ⟨m, fun _ => 0, ρ⟩ fun r => ∀ c : Dev nD,
      r.2.mem ((c : Thread nD τ).loc main_v23_0) = cutArr (φ := .bf16) (kargs m c) 0 512 (by decide)
      ∧ r.2.mem ((c : Thread nD τ).loc main_v23_1) = cutArr (φ := .f32) (kargs m c) 512 128 (by decide)
      ∧ r.2.mem ((c : Thread nD τ).loc main_v23_2) = cutArr (φ := .f32) (kargs m c) 640 128 (by decide)
      ∧ r.2.mem ((c : Thread nD τ).loc main_v23_3) = eighthArr (φ := .bf16) (kargs m c) 768 256 (by decide)
      ∧ r.2.mem ((c : Thread nD τ).loc main_v23_4) = cutArr (φ := .bf16) (kargs m c) 1024 256 (by decide)
      ∧ r.2.mem ((c : Thread nD τ).loc main_v23_5) = cutArr (φ := .bf16) (kargs m c) 1280 512 (by decide)
      ∧ r.2.mem ((c : Thread nD τ).loc main_v23_6) = cutArr (φ := .bf16) (kargs m c) 1792 512 (by decide)
      ∧ r.2.mem ((c : Thread nD τ).loc main_v23_7) = gateArr (kargs m c) 2304 (by decide) (kargs m c).wf (kargs m c).bf
      ∧ r.2.mem ((c : Thread nD τ).loc main_v23_8) = gateArr (kargs m c) 2320 (by decide) (kargs m c).wb (kargs m c).bb
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run _ _ _).mono (fun _ h c => by
    obtain ⟨h8, h9, h10, h11, h12, h13, h14, h15, h16, rest⟩ := h c
    exact ⟨h8.trans (arr8 m c), h9.trans (arr9 m c), h10.trans (arr10 m c), h11.trans (arr11 m c), h12.trans (arr12 m c), h13.trans (arr13 m c), h14.trans (arr14 m c), h15.trans (arr15 m c), h16.trans (arr16 m c), rest⟩) (run_blocks m ρ)

end Cert.In

end
-- ==== Proof.InRef.lean ====
module

public import proofs.«01_k».proof.Proof.InSpec
public import proofs.«01_k».proof.Proof.Gen.InReferenceIdeal.Run
public import Idealize.ShloMosaic.Lib.Pipeline.ValueKit
public import Idealize.ShloMosaic.Lib.Pointwise
public import Idealize.ShloMosaic.Lib.IdealHost
public import Idealize.ShloMosaic.Lib.StableHlo.ReadAt

@[expose] public section

set_option maxRecDepth 8192

/-! The reference of an even layer's projections on the prompt's rows, read at a row and a column. -/

noncomputable section

namespace Cert.InRef

open Cert.InReferenceIdeal Cert.InReferenceIdeal.Gen Cert.InReferenceIdeal.Value Idealize.ShloMosaic Idealize.ShloMosaic.TcCoe Idealize.SL.Sem
open Idealize.ShloMosaic.StableHlo

variable (m : (ℓ : Loc nD τ sig) → Buf (Elt Ideal) ℓ) (c : Dev nD)

/-- The arguments the reference reads. -/
def args : Cert.In.Spec.Args where
  x r k := (m ((c.tc : Thread nD τ).loc main_arg0) : Vec Ideal S8192x1024 .f32) (ix2 r k)
  md a b k := (m ((c.tc : Thread nD τ).loc main_arg1) : Vec Ideal S4x8x6x1024 .f32) (ix4 0 a b k)
  gn k := (m ((c.tc : Thread nD τ).loc main_arg2) : Vec Ideal S4x1024 .f32) (ix2 0 k)
  w k q := (m ((c.tc : Thread nD τ).loc main_arg3) : Vec Ideal S2x1024x2336 .f32) (ix3 0 k q)
  wf a q := (m ((c.tc : Thread nD τ).loc main_arg4) : Vec Ideal S2x16x256 .f32) (ix3 0 a q)
  bf q := (m ((c.tc : Thread nD τ).loc main_arg5) : Vec Ideal S2x256 .f32) (ix2 0 q)
  wb a q := (m ((c.tc : Thread nD τ).loc main_arg6) : Vec Ideal S2x16x256 .f32) (ix3 0 a q)
  bb q := (m ((c.tc : Thread nD τ).loc main_arg7) : Vec Ideal S2x256 .f32) (ix2 0 q)

/-- The projection as the reference writes it. -/
def prod : FVec Ideal S8192x2336 .f32 :=
  Host.dotGeneral (φ₂ := .f32) dot_S8192x1024_S1024x2336_S8192x2336_1_0_0_1_n_n none (addf (mulf (mulf (mulf (m ((c.tc : Thread nD τ).loc main_arg0) : FVec Ideal S8192x1024 .f32) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0) : FVec Ideal S8192x1024 .f32) (m ((c.tc : Thread nD τ).loc main_arg0) : FVec Ideal S8192x1024 .f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![0, 0] (m ((c.tc : Thread nD τ).loc main_arg2) : FVec Ideal S4x1024 .f32) slices_S4x1024_S1x1024_0_0) shapeCasts_S1x1024_S1024)))) (broadcastInDim S8192x1024 ![0, 1] bcast_S1x1024_S8192x1024_0_1 (addf (broadcastInDim S1x1024 ![] bcast_S_S1x1024 (constant S_ .f32 0x3F800000#32)) (shapeCast _ (extractStridedSlice S1x1x1x1024 ![0, 0, 1, 0] (m ((c.tc : Thread nD τ).loc main_arg1) : FVec Ideal S4x8x6x1024 .f32) slices_S4x8x6x1024_S1x1x1x1024_0_0_1_0) shapeCasts_S1x1x1x1024_S1x1024)))) (broadcastInDim S8192x1024 ![0, 1] bcast_S1x1024_S8192x1024_0_1 (shapeCast _ (extractStridedSlice S1x1x1x1024 ![0, 0, 0, 0] (m ((c.tc : Thread nD τ).loc main_arg1) : FVec Ideal S4x8x6x1024 .f32) slices_S4x8x6x1024_S1x1x1x1024_0_0_0_0) shapeCasts_S1x1x1x1024_S1x1024))) (shapeCast _ (extractStridedSlice S1x1024x2336 ![0, 0, 0] (m ((c.tc : Thread nD τ).loc main_arg3) : FVec Ideal S2x1024x2336 .f32) slices_S2x1024x2336_S1x1024x2336_0_0_0) shapeCasts_S1x1024x2336_S1024x2336)

/-- The projection at a row and a column. -/
theorem prod_apply (r : Fin 8192) (q : Fin 2336) : (prod m c (ix2 r q) : EReal) = Cert.In.Spec.proj (args m c) r q := by
  unfold prod
  pointwise
  rfl

/-- The pattern of sixteen. -/
theorem lit_sixteen : Ideal.ofBits .f32 0x41800000#32 = ((16 : ℝ) : EReal) := by
  simp [Ideal.ofBits, Ideal.ieee]
  norm_num [← EReal.coe_mul]

/-- The pattern of one sixteenth. -/
theorem lit_sixteenth : Ideal.ofBits .f32 0x3D800000#32 = ((1 / 16 : ℝ) : EReal) := by
  simp [Ideal.ofBits, Ideal.ieee]
  norm_num [← EReal.coe_mul]

/-- Dividing by sixteen. -/
theorem div_sixteen (z : EReal) : Ideal.div z ((16 : ℝ) : EReal) = z * ((1 / 16 : ℝ) : EReal) := by
  unfold Ideal.div
  rw [if_neg (by norm_num), ← EReal.coe_inv]
  norm_num

/-- Sixteen of the projection's columns through a gate's weights, as the reference writes its logarithm. -/
theorem log_form (z : EReal) :
    Ideal.div (-(if -z ≠ -z then -z else max (-z) 0 + Ideal.log1p (Ideal.exp (-max (-z) (-(-z)))))) (Ideal.ofBits FTy.f32 0x41800000#32)
      = Cert.Layer.logsig z * Ideal.ofBits .f32 0x3D800000#32 := by
  rw [if_neg (by simp), neg_neg]
  have e : max (-z) z = max z (-z) := max_comm _ _
  rw [e, Cert.Layer.neg_logsig]
  rw [lit_sixteen, lit_sixteenth]
  exact div_sixteen _

/-- The logarithm of the logistic function, divided by sixteen, as the reference writes it. -/
def logs (z : FVec Ideal S8192x256 .f32) : FVec Ideal S8192x256 .f32 :=
  Host.divf (Host.negf (select (cmpf .une (subf (Host.negf z) (broadcastInDim S8192x256 ![] bcast_S_S8192x256 (constant S_ .f32 0x00000000#32))) (subf (Host.negf z) (broadcastInDim S8192x256 ![] bcast_S_S8192x256 (constant S_ .f32 0x00000000#32)))) (addf (Host.negf z) (broadcastInDim S8192x256 ![] bcast_S_S8192x256 (constant S_ .f32 0x00000000#32))) (addf (maximumf (Host.negf z) (broadcastInDim S8192x256 ![] bcast_S_S8192x256 (constant S_ .f32 0x00000000#32))) (Host.log1p (Host.exp (Host.negf (Host.absf (subf (Host.negf z) (broadcastInDim S8192x256 ![] bcast_S_S8192x256 (constant S_ .f32 0x00000000#32)))))))))) (broadcastInDim S8192x256 ![] bcast_S_S8192x256 (constant S_ .f32 0x41800000#32))

/-- It at a row and a column. -/
theorem logs_apply (z : FVec Ideal S8192x256 .f32) (r : Fin 8192) (q : Fin 256) :
    (logs z (ix2 r q) : EReal) = Cert.Layer.logsig (z (ix2 r q)) * Ideal.ofBits .f32 0x3D800000#32 := by
  rw [← log_form]
  unfold logs
  pointwise
  rfl

/-- The first gate's logarithm. -/
theorem gate_f (r : Fin 8192) (q : Fin 256) :
    ((res_main_v47 m c : Vec Ideal S8192x256 .f32) (ix2 r q) : EReal) = Cert.In.Spec.gate (args m c) 2304 (by decide) (args m c).wf (args m c).bf r q := by
  have h : res_main_v47 m c = (logs (addf (Host.dotGeneral (φ₂ := .f32) dot_S8192x16_S16x256_S8192x256_1_0_0_1_n_n none (extractStridedSlice S8192x16 ![0, 2304] (prod m c) slices_S8192x2336_S8192x16_0_2304) (shapeCast _ (extractStridedSlice S1x16x256 ![0, 0, 0] (m ((c.tc : Thread nD τ).loc main_arg4) : FVec Ideal S2x16x256 .f32) slices_S2x16x256_S1x16x256_0_0_0) shapeCasts_S1x16x256_S16x256)) (broadcastInDim S8192x256 ![0, 1] bcast_S1x256_S8192x256_0_1 (broadcastInDim S1x256 ![1] bcast_S256_S1x256_1 (shapeCast _ (extractStridedSlice S1x256 ![0, 0] (m ((c.tc : Thread nD τ).loc main_arg5) : FVec Ideal S2x256 .f32) slices_S2x256_S1x256_0_0) shapeCasts_S1x256_S256))))) := by
    unfold res_main_v47 prod logs
    rfl
  rw [h, logs_apply]
  unfold Cert.In.Spec.gate Cert.In.Spec.cut
  simp only [← prod_apply]
  generalize prod m c = P
  pointwise
  rfl

/-- The second gate's logarithm. -/
theorem gate_b (r : Fin 8192) (q : Fin 256) :
    ((res_main_v58 m c : Vec Ideal S8192x256 .f32) (ix2 r q) : EReal) = Cert.In.Spec.gate (args m c) 2320 (by decide) (args m c).wb (args m c).bb r q := by
  have h : res_main_v58 m c = (logs (addf (Host.dotGeneral (φ₂ := .f32) dot_S8192x16_S16x256_S8192x256_1_0_0_1_n_n none (extractStridedSlice S8192x16 ![0, 2320] (prod m c) slices_S8192x2336_S8192x16_0_2320) (shapeCast _ (extractStridedSlice S1x16x256 ![0, 0, 0] (m ((c.tc : Thread nD τ).loc main_arg6) : FVec Ideal S2x16x256 .f32) slices_S2x16x256_S1x16x256_0_0_0) shapeCasts_S1x16x256_S16x256)) (broadcastInDim S8192x256 ![0, 1] bcast_S1x256_S8192x256_0_1 (broadcastInDim S1x256 ![1] bcast_S256_S1x256_1 (shapeCast _ (extractStridedSlice S1x256 ![0, 0] (m ((c.tc : Thread nD τ).loc main_arg7) : FVec Ideal S2x256 .f32) slices_S2x256_S1x256_0_0) shapeCasts_S1x256_S256))))) := by
    unfold res_main_v58 prod logs
    rfl
  rw [h, logs_apply]
  unfold Cert.In.Spec.gate Cert.In.Spec.cut
  simp only [← prod_apply]
  generalize prod m c = P
  pointwise
  rfl

end Cert.InRef
-- ==== Proof.InSame.lean ====
module

public import proofs.«01_k».proof.Proof.InOut
public import proofs.«01_k».proof.Proof.InRef

@[expose] public section

set_option maxRecDepth 8192

/-! The nine results of the reference of an even layer's projections are the arrays the kernel leaves. -/

noncomputable section

namespace Cert.InRef

open Cert.InReferenceIdeal Cert.InReferenceIdeal.Gen Cert.InReferenceIdeal.Value Idealize.ShloMosaic Idealize.ShloMosaic.TcCoe Idealize.SL.Sem

variable (m : (ℓ : Loc nD τ sig) → Buf (Elt Ideal) ℓ) (c : Dev nD)

/-- 512 of the projection's columns from column 0 on. -/
theorem cut0 : (truncf (F := Ideal) .bf16 (extractStridedSlice S8192x512 ![0, 0] (prod m c) slices_S8192x2336_S8192x512_0_0 : FVec Ideal S8192x512 .f32) bitsLt_bf16_f32 : FVec Ideal S8192x512 .bf16) = Cert.In.cutArr (args m c) 0 512 (by decide) := by
  funext j
  obtain ⟨r, q, rfl⟩ : ∃ (r : Fin 8192) (q : Fin 512), j = ix2 r q := ⟨j 0, j 1, eq_ix2 j⟩
  have h : ((truncf (F := Ideal) .bf16 (extractStridedSlice S8192x512 ![0, 0] (prod m c) slices_S8192x2336_S8192x512_0_0 : FVec Ideal S8192x512 .f32) bitsLt_bf16_f32 : FVec Ideal S8192x512 .bf16) (ix2 r q) : EReal) = prod m c (ix2 r ⟨q.val, by omega⟩) := by pointwise
  refine h.trans ?_
  rw [prod_apply]
  unfold Cert.In.cutArr Cert.In.Spec.cut
  refine congrArg (Cert.In.Spec.proj (args m c) r) (Fin.ext ?_)
  show q.val = 0 + q.val
  omega

/-- 128 of the projection's columns from column 512 on. -/
theorem cut512 : (extractStridedSlice S8192x128 ![0, 512] (prod m c) slices_S8192x2336_S8192x128_0_512 : FVec Ideal S8192x128 .f32) = Cert.In.cutArr (args m c) 512 128 (by decide) := by
  funext j
  obtain ⟨r, q, rfl⟩ : ∃ (r : Fin 8192) (q : Fin 128), j = ix2 r q := ⟨j 0, j 1, eq_ix2 j⟩
  have h : ((extractStridedSlice S8192x128 ![0, 512] (prod m c) slices_S8192x2336_S8192x128_0_512 : FVec Ideal S8192x128 .f32) (ix2 r q) : EReal) = prod m c (ix2 r ⟨512 + q.val, by omega⟩) := by pointwise
  refine h.trans ?_
  rw [prod_apply]
  unfold Cert.In.cutArr Cert.In.Spec.cut
  refine congrArg (Cert.In.Spec.proj (args m c) r) (Fin.ext ?_)
  show 512 + q.val = 512 + q.val
  omega

/-- 128 of the projection's columns from column 640 on. -/
theorem cut640 : (extractStridedSlice S8192x128 ![0, 640] (prod m c) slices_S8192x2336_S8192x128_0_640 : FVec Ideal S8192x128 .f32) = Cert.In.cutArr (args m c) 640 128 (by decide) := by
  funext j
  obtain ⟨r, q, rfl⟩ : ∃ (r : Fin 8192) (q : Fin 128), j = ix2 r q := ⟨j 0, j 1, eq_ix2 j⟩
  have h : ((extractStridedSlice S8192x128 ![0, 640] (prod m c) slices_S8192x2336_S8192x128_0_640 : FVec Ideal S8192x128 .f32) (ix2 r q) : EReal) = prod m c (ix2 r ⟨640 + q.val, by omega⟩) := by pointwise
  refine h.trans ?_
  rw [prod_apply]
  unfold Cert.In.cutArr Cert.In.Spec.cut
  refine congrArg (Cert.In.Spec.proj (args m c) r) (Fin.ext ?_)
  show 640 + q.val = 640 + q.val
  omega

/-- 256 of the projection's columns from column 768 on, an eighth as large. -/
theorem cut768 : (truncf (F := Ideal) .bf16 (mulf (extractStridedSlice S8192x256 ![0, 768] (prod m c) slices_S8192x2336_S8192x256_0_768 : FVec Ideal S8192x256 .f32) (broadcastInDim S8192x256 ![] bcast_S_S8192x256 (constant (F := Ideal) S_ .f32 0x3E000000#32)) : FVec Ideal S8192x256 .f32) bitsLt_bf16_f32 : FVec Ideal S8192x256 .bf16) = Cert.In.eighthArr (args m c) 768 256 (by decide) := by
  funext j
  obtain ⟨r, q, rfl⟩ : ∃ (r : Fin 8192) (q : Fin 256), j = ix2 r q := ⟨j 0, j 1, eq_ix2 j⟩
  have h : ((truncf (F := Ideal) .bf16 (mulf (extractStridedSlice S8192x256 ![0, 768] (prod m c) slices_S8192x2336_S8192x256_0_768 : FVec Ideal S8192x256 .f32) (broadcastInDim S8192x256 ![] bcast_S_S8192x256 (constant (F := Ideal) S_ .f32 0x3E000000#32)) : FVec Ideal S8192x256 .f32) bitsLt_bf16_f32 : FVec Ideal S8192x256 .bf16) (ix2 r q) : EReal) = prod m c (ix2 r ⟨768 + q.val, by omega⟩) * Ideal.ofBits .f32 0x3E000000#32 := by pointwise
  refine h.trans ?_
  rw [prod_apply]
  unfold Cert.In.eighthArr Cert.In.Spec.cut
  refine congrArg (fun z : EReal => z * Ideal.ofBits .f32 0x3E000000#32) (congrArg (Cert.In.Spec.proj (args m c) r) (Fin.ext ?_))
  show 768 + q.val = 768 + q.val
  omega

/-- 256 of the projection's columns from column 1024 on. -/
theorem cut1024 : (truncf (F := Ideal) .bf16 (extractStridedSlice S8192x256 ![0, 1024] (prod m c) slices_S8192x2336_S8192x256_0_1024 : FVec Ideal S8192x256 .f32) bitsLt_bf16_f32 : FVec Ideal S8192x256 .bf16) = Cert.In.cutArr (args m c) 1024 256 (by decide) := by
  funext j
  obtain ⟨r, q, rfl⟩ : ∃ (r : Fin 8192) (q : Fin 256), j = ix2 r q := ⟨j 0, j 1, eq_ix2 j⟩
  have h : ((truncf (F := Ideal) .bf16 (extractStridedSlice S8192x256 ![0, 1024] (prod m c) slices_S8192x2336_S8192x256_0_1024 : FVec Ideal S8192x256 .f32) bitsLt_bf16_f32 : FVec Ideal S8192x256 .bf16) (ix2 r q) : EReal) = prod m c (ix2 r ⟨1024 + q.val, by omega⟩) := by pointwise
  refine h.trans ?_
  rw [prod_apply]
  unfold Cert.In.cutArr Cert.In.Spec.cut
  refine congrArg (Cert.In.Spec.proj (args m c) r) (Fin.ext ?_)
  show 1024 + q.val = 1024 + q.val
  omega

/-- 512 of the projection's columns from column 1280 on. -/
theorem cut1280 : (truncf (F := Ideal) .bf16 (extractStridedSlice S8192x512 ![0, 1280] (prod m c) slices_S8192x2336_S8192x512_0_1280 : FVec Ideal S8192x512 .f32) bitsLt_bf16_f32 : FVec Ideal S8192x512 .bf16) = Cert.In.cutArr (args m c) 1280 512 (by decide) := by
  funext j
  obtain ⟨r, q, rfl⟩ : ∃ (r : Fin 8192) (q : Fin 512), j = ix2 r q := ⟨j 0, j 1, eq_ix2 j⟩
  have h : ((truncf (F := Ideal) .bf16 (extractStridedSlice S8192x512 ![0, 1280] (prod m c) slices_S8192x2336_S8192x512_0_1280 : FVec Ideal S8192x512 .f32) bitsLt_bf16_f32 : FVec Ideal S8192x512 .bf16) (ix2 r q) : EReal) = prod m c (ix2 r ⟨1280 + q.val, by omega⟩) := by pointwise
  refine h.trans ?_
  rw [prod_apply]
  unfold Cert.In.cutArr Cert.In.Spec.cut
  refine congrArg (Cert.In.Spec.proj (args m c) r) (Fin.ext ?_)
  show 1280 + q.val = 1280 + q.val
  omega

/-- 512 of the projection's columns from column 1792 on. -/
theorem cut1792 : (truncf (F := Ideal) .bf16 (extractStridedSlice S8192x512 ![0, 1792] (prod m c) slices_S8192x2336_S8192x512_0_1792 : FVec Ideal S8192x512 .f32) bitsLt_bf16_f32 : FVec Ideal S8192x512 .bf16) = Cert.In.cutArr (args m c) 1792 512 (by decide) := by
  funext j
  obtain ⟨r, q, rfl⟩ : ∃ (r : Fin 8192) (q : Fin 512), j = ix2 r q := ⟨j 0, j 1, eq_ix2 j⟩
  have h : ((truncf (F := Ideal) .bf16 (extractStridedSlice S8192x512 ![0, 1792] (prod m c) slices_S8192x2336_S8192x512_0_1792 : FVec Ideal S8192x512 .f32) bitsLt_bf16_f32 : FVec Ideal S8192x512 .bf16) (ix2 r q) : EReal) = prod m c (ix2 r ⟨1792 + q.val, by omega⟩) := by pointwise
  refine h.trans ?_
  rw [prod_apply]
  unfold Cert.In.cutArr Cert.In.Spec.cut
  refine congrArg (Cert.In.Spec.proj (args m c) r) (Fin.ext ?_)
  show 1792 + q.val = 1792 + q.val
  omega

/-- The logarithms of the gate from column 2304 on. -/
theorem gates_f : (res_main_v47 m c : FVec Ideal S8192x256 .f32) = Cert.In.gateArr (args m c) 2304 (by decide) (args m c).wf (args m c).bf := by
  funext j
  obtain ⟨r, q, rfl⟩ : ∃ (r : Fin 8192) (q : Fin 256), j = ix2 r q := ⟨j 0, j 1, eq_ix2 j⟩
  exact gate_f m c r q

/-- The logarithms of the gate from column 2320 on. -/
theorem gates_b : (res_main_v58 m c : FVec Ideal S8192x256 .f32) = Cert.In.gateArr (args m c) 2320 (by decide) (args m c).wb (args m c).bb := by
  funext j
  obtain ⟨r, q, rfl⟩ : ∃ (r : Fin 8192) (q : Fin 256), j = ix2 r q := ⟨j 0, j 1, eq_ix2 j⟩
  exact gate_b m c r q

end Cert.InRef

end
-- ==== Proof.lean ====
/- What each program's run ends with, put together. The RG-LRU recurrence: the kernel's arrays are in Proof/Arrays.lean, the
   reference's in Proof/RefLoop.lean; both are the recurrence of Proof/Spec.lean over the arguments' elements. The tails of the
   layers: the kernels' arrays are in Proof/TailArrays.lean, PromptArrays.lean, MidArrays.lean, EvenArrays.lean and
   FirstArrays.lean, the references' in Proof/TailRef.lean, PromptRef.lean, MidRef.lean, EvenRef.lean and FirstRef.lean; all are the
   rows of Proof/TailSpec.lean (of Proof/PromptSpec.lean for the prompt), with the mixed input of Proof/EvenSpec.lean in an even
   layer. An even layer's projections on the prompt's rows: the kernel's arrays are in Proof/InArrays.lean and InOut.lean, the
   reference's in Proof/InRef.lean and InSame.lean; both are the columns and gates of Proof/InSpec.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.TailKernel
public import proofs.«01_k».proof.Proof.Gen.TailKernel.Frame
public import proofs.«01_k».proof.Proof.Gen.TailKernelIdeal
public import proofs.«01_k».proof.Proof.Gen.TailKernelIdeal.Frame
public import proofs.«01_k».proof.Proof.Gen.TailKernelIdeal.Value
public import proofs.«01_k».proof.Proof.Gen.TailReferenceIdeal
public import proofs.«01_k».proof.Proof.Gen.TailReferenceIdeal.Run
public import proofs.«01_k».proof.Proof.Gen.PromptKernel
public import proofs.«01_k».proof.Proof.Gen.PromptKernel.Frame
public import proofs.«01_k».proof.Proof.Gen.PromptKernelIdeal
public import proofs.«01_k».proof.Proof.Gen.PromptKernelIdeal.Frame
public import proofs.«01_k».proof.Proof.Gen.PromptKernelIdeal.Value
public import proofs.«01_k».proof.Proof.Gen.PromptReferenceIdeal
public import proofs.«01_k».proof.Proof.Gen.PromptReferenceIdeal.Run
public import proofs.«01_k».proof.Proof.Gen.MidKernel
public import proofs.«01_k».proof.Proof.Gen.MidKernel.Frame
public import proofs.«01_k».proof.Proof.Gen.MidKernelIdeal
public import proofs.«01_k».proof.Proof.Gen.MidKernelIdeal.Frame
public import proofs.«01_k».proof.Proof.Gen.MidKernelIdeal.Value
public import proofs.«01_k».proof.Proof.Gen.MidReferenceIdeal
public import proofs.«01_k».proof.Proof.Gen.MidReferenceIdeal.Run
public import proofs.«01_k».proof.Proof.Gen.EvenKernel
public import proofs.«01_k».proof.Proof.Gen.EvenKernelIdeal
public import proofs.«01_k».proof.Proof.Gen.EvenReferenceIdeal
public import proofs.«01_k».proof.Proof.Gen.EvenReferenceIdeal.Run
public import proofs.«01_k».proof.Proof.Gen.FirstKernel
public import proofs.«01_k».proof.Proof.Gen.FirstKernelIdeal
public import proofs.«01_k».proof.Proof.Gen.FirstReferenceIdeal
public import proofs.«01_k».proof.Proof.Gen.FirstReferenceIdeal.Run
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.ReferenceIdeal.Run
public import proofs.«01_k».proof.Proof.Arrays
public import proofs.«01_k».proof.Proof.RefLoop
public import proofs.«01_k».proof.Proof.TailArrays
public import proofs.«01_k».proof.Proof.TailRef
public import proofs.«01_k».proof.Proof.PromptArrays
public import proofs.«01_k».proof.Proof.PromptRef
public import proofs.«01_k».proof.Proof.MidArrays
public import proofs.«01_k».proof.Proof.MidRef
public import proofs.«01_k».proof.Proof.EvenFrame
public import proofs.«01_k».proof.Proof.EvenArrays
public import proofs.«01_k».proof.Proof.EvenRef
public import proofs.«01_k».proof.Proof.FirstFrame
public import proofs.«01_k».proof.Proof.FirstArrays
public import proofs.«01_k».proof.Proof.FirstRef
public import proofs.«01_k».proof.Proof.InSame
public import Idealize.ShloMosaic.Adequacy
public import Idealize.ShloMosaic.Init

@[expose] public section

noncomputable section

namespace Cert.Proof

open Idealize.ShloMosaic Idealize.ShloMosaic.TcCoe Idealize.SL.Sem

/-- The reference has no semaphore, so its counters are all zero. -/
theorem no_counter (f : GSem Cert.ReferenceIdeal.nD Cert.ReferenceIdeal.τ Cert.ReferenceIdeal.sig → ℤ) : f = fun _ => 0 :=
  funext fun g => by
    rcases g with ⟨_, s | s⟩
    · exact Fin.elim0 s
    · exact Fin.elim0 s

/-- The printed kernel runs, ends with its arguments unchanged and every counter at zero. -/
theorem frame_kernel : Cert.quiescent_Kernel (hKernel := Cert.Kernel.Gen.facts) := fun m ρ _ => Cert.Kernel.Gen.frame m ρ

/-- So does the kernel on the extended reals. -/
theorem frame_kernelIdeal : Cert.quiescent_KernelIdeal (hKernelIdeal := Cert.KernelIdeal.Gen.facts) :=
  fun m ρ _ => Cert.KernelIdeal.Gen.frame m ρ

/-- So does the reference. -/
theorem frame_referenceIdeal : Cert.quiescent_ReferenceIdeal (hReferenceIdeal := Cert.ReferenceIdeal.Gen.facts) :=
  fun m ρ _ => (θ_run _ _ _).mono (fun _ h => ⟨fun c => (h c).2.2.2, no_counter _⟩) (Cert.ReferenceIdeal.Value.run m ρ)

open Cert.Layer Cert.LayerRef in
/-- Arguments equal element by element. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    rX m' c = kX m c ∧ rWa m' c = kWa m c ∧ rba m' c = kba m c ∧ rWi m' c = kWi m c ∧ rbi m' c = kbi m c ∧ rlam m' c = klam m c :=
  ⟨funext fun r => funext fun k => congrFun hag.1 (ix2 r k),
    funext fun d => funext fun n => funext fun e => funext fun f => congrFun hag.2.1 (ix4 d n e f),
    funext fun d => funext fun k => congrFun hag.2.2.1 (ix2 d k),
    funext fun d => funext fun n => funext fun e => funext fun f => congrFun hag.2.2.2.1 (ix4 d n e f),
    funext fun d => funext fun k => congrFun hag.2.2.2.2.1 (ix2 d k),
    funext fun d => funext fun k => congrFun hag.2.2.2.2.2 (ix2 d k)⟩

open Cert.Layer Cert.LayerRef in
/-- Kernel and reference end with the same three arrays: the forward states, the backward states, the last states. -/
theorem same_values : Cert.algebraic_KernelIdeal_ReferenceIdeal (hKernelIdeal := Cert.KernelIdeal.Gen.facts) (hReferenceIdeal := Cert.ReferenceIdeal.Gen.facts) := by
  intro m ρ m' ρ' _ hag
  refine ⟨fun c => gF (kX m c) (kWa m c) (kWi m c) (kba m c) (kbi m c) (klam m c),
    fun c => gB (kX m c) (kWa m c) (kWi m c) (kba m c) (kbi m c) (klam m c),
    fun c => gS (kX m c) (kWa m c) (kWi m c) (kba m c) (kbi m c) (klam m c), run_kernel m ρ, ?_⟩
  refine (θ_run _ _ _).mono (fun _ h c => ?_) (Cert.ReferenceIdeal.Value.run m' ρ')
  obtain ⟨e0, e1, e2, e3, e4, e5⟩ := same_args m m' c (hag c)
  refine ⟨(h c).1.trans ((out_fwd m' c).trans ?_), (h c).2.1.trans ((out_bwd m' c).trans ?_), (h c).2.2.1.trans ((out_fin m' c).trans ?_), (h c).2.2.2⟩
  · rw [e0, e1, e2, e3, e4, e5]; rfl
  · rw [e0, e1, e2, e3, e4, e5]; rfl
  · rw [e0, e1, e2, e3, e4, e5]; rfl

/-- The reference of the last layer's tail has no semaphore either. -/
theorem no_counter_tail (f : GSem Cert.TailReferenceIdeal.nD Cert.TailReferenceIdeal.τ Cert.TailReferenceIdeal.sig → ℤ) : f = fun _ => 0 :=
  funext fun g => by
    rcases g with ⟨_, s | s⟩
    · exact Fin.elim0 s
    · exact Fin.elim0 s

/-- The last layer's tail, as printed, runs, ends with its arguments unchanged and every counter at zero. -/
theorem frame_tailKernel : Cert.quiescent_TailKernel (hTailKernel := Cert.TailKernel.Gen.facts) := fun m ρ _ => Cert.TailKernel.Gen.frame m ρ

/-- So it does on the extended reals. -/
theorem frame_tailKernelIdeal : Cert.quiescent_TailKernelIdeal (hTailKernelIdeal := Cert.TailKernelIdeal.Gen.facts) :=
  fun m ρ _ => Cert.TailKernelIdeal.Gen.frame m ρ

/-- So does its reference. -/
theorem frame_tailReferenceIdeal : Cert.quiescent_TailReferenceIdeal (hTailReferenceIdeal := Cert.TailReferenceIdeal.Gen.facts) :=
  fun m ρ _ => (θ_run _ _ _).mono (fun _ h => ⟨fun c => (h c).2, no_counter_tail _⟩) (Cert.TailReferenceIdeal.Value.run m ρ)

/-- The reference of the prompt's last tail has no semaphore either. -/
theorem no_counter_prompt (f : GSem Cert.PromptReferenceIdeal.nD Cert.PromptReferenceIdeal.τ Cert.PromptReferenceIdeal.sig → ℤ) : f = fun _ => 0 :=
  funext fun g => by
    rcases g with ⟨_, s | s⟩
    · exact Fin.elim0 s
    · exact Fin.elim0 s

/-- The prompt's last tail, as printed, runs, ends with its arguments unchanged and every counter at zero. -/
theorem frame_promptKernel : Cert.quiescent_PromptKernel (hPromptKernel := Cert.PromptKernel.Gen.facts) := fun m ρ _ => Cert.PromptKernel.Gen.frame m ρ

/-- So it does on the extended reals. -/
theorem frame_promptKernelIdeal : Cert.quiescent_PromptKernelIdeal (hPromptKernelIdeal := Cert.PromptKernelIdeal.Gen.facts) :=
  fun m ρ _ => Cert.PromptKernelIdeal.Gen.frame m ρ

/-- So does its reference. -/
theorem frame_promptReferenceIdeal : Cert.quiescent_PromptReferenceIdeal (hPromptReferenceIdeal := Cert.PromptReferenceIdeal.Gen.facts) :=
  fun m ρ _ => (θ_run _ _ _).mono (fun _ h => ⟨fun c => (h c).2, no_counter_prompt _⟩) (Cert.PromptReferenceIdeal.Value.run m ρ)

/-- The reference of the second layer's tail has no semaphore either. -/
theorem no_counter_mid (f : GSem Cert.MidReferenceIdeal.nD Cert.MidReferenceIdeal.τ Cert.MidReferenceIdeal.sig → ℤ) : f = fun _ => 0 :=
  funext fun g => by
    rcases g with ⟨_, s | s⟩
    · exact Fin.elim0 s
    · exact Fin.elim0 s

/-- The second layer's tail, as printed, runs, ends with its arguments unchanged and every counter at zero. -/
theorem frame_midKernel : Cert.quiescent_MidKernel (hMidKernel := Cert.MidKernel.Gen.facts) := fun m ρ _ => Cert.MidKernel.Gen.frame m ρ

/-- So it does on the extended reals. -/
theorem frame_midKernelIdeal : Cert.quiescent_MidKernelIdeal (hMidKernelIdeal := Cert.MidKernelIdeal.Gen.facts) :=
  fun m ρ _ => Cert.MidKernelIdeal.Gen.frame m ρ

/-- So does its reference. -/
theorem frame_midReferenceIdeal : Cert.quiescent_MidReferenceIdeal (hMidReferenceIdeal := Cert.MidReferenceIdeal.Gen.facts) :=
  fun m ρ _ => (θ_run _ _ _).mono (fun _ h => ⟨fun c => (h c).2, no_counter_mid _⟩) (Cert.MidReferenceIdeal.Value.run m ρ)

/-- The reference of the third layer's tail has no semaphore either. -/
theorem no_counter_even (f : GSem Cert.EvenReferenceIdeal.nD Cert.EvenReferenceIdeal.τ Cert.EvenReferenceIdeal.sig → ℤ) : f = fun _ => 0 :=
  funext fun g => by
    rcases g with ⟨_, s | s⟩
    · exact Fin.elim0 s
    · exact Fin.elim0 s

/-- The third layer's tail, as printed, runs, ends with its arguments unchanged and every counter at zero. -/
theorem frame_evenKernel : Cert.quiescent_EvenKernel (hEvenKernel := Cert.EvenKernel.Gen.facts) := fun m ρ _ => Cert.EvenKernel.Run.frame m ρ

/-- So it does on the extended reals. -/
theorem frame_evenKernelIdeal : Cert.quiescent_EvenKernelIdeal (hEvenKernelIdeal := Cert.EvenKernelIdeal.Gen.facts) :=
  fun m ρ _ => Cert.EvenKernelIdeal.Run.frame m ρ

/-- So does its reference. -/
theorem frame_evenReferenceIdeal : Cert.quiescent_EvenReferenceIdeal (hEvenReferenceIdeal := Cert.EvenReferenceIdeal.Gen.facts) :=
  fun m ρ _ => (θ_run _ _ _).mono (fun _ h => ⟨fun c => (h c).2, no_counter_even _⟩) (Cert.EvenReferenceIdeal.Value.run m ρ)

/-- The reference of the first layer's tail has no semaphore either. -/
theorem no_counter_first (f : GSem Cert.FirstReferenceIdeal.nD Cert.FirstReferenceIdeal.τ Cert.FirstReferenceIdeal.sig → ℤ) : f = fun _ => 0 :=
  funext fun g => by
    rcases g with ⟨_, s | s⟩
    · exact Fin.elim0 s
    · exact Fin.elim0 s

/-- The first layer's tail, as printed, runs, ends with its arguments unchanged and every counter at zero. -/
theorem frame_firstKernel : Cert.quiescent_FirstKernel (hFirstKernel := Cert.FirstKernel.Gen.facts) := fun m ρ _ => Cert.FirstKernel.Run.frame m ρ

/-- So it does on the extended reals. -/
theorem frame_firstKernelIdeal : Cert.quiescent_FirstKernelIdeal (hFirstKernelIdeal := Cert.FirstKernelIdeal.Gen.facts) :=
  fun m ρ _ => Cert.FirstKernelIdeal.Run.frame m ρ

/-- So does its reference. -/
theorem frame_firstReferenceIdeal : Cert.quiescent_FirstReferenceIdeal (hFirstReferenceIdeal := Cert.FirstReferenceIdeal.Gen.facts) :=
  fun m ρ _ => (θ_run _ _ _).mono (fun _ h => ⟨fun c => (h c).2, no_counter_first _⟩) (Cert.FirstReferenceIdeal.Value.run m ρ)

/-- The reference of an even layer's projections on the prompt's rows has no semaphore either. -/
theorem no_counter_in (f : GSem Cert.InReferenceIdeal.nD Cert.InReferenceIdeal.τ Cert.InReferenceIdeal.sig → ℤ) : f = fun _ => 0 :=
  funext fun g => by
    rcases g with ⟨_, s | s⟩
    · exact Fin.elim0 s
    · exact Fin.elim0 s

/-- An even layer's projections on the prompt's rows, as printed, run, end with their arguments unchanged and every counter at zero. -/
theorem frame_inKernel : Cert.quiescent_InKernel (hInKernel := Cert.InKernel.Gen.facts) := fun m ρ _ => Cert.InKernel.Gen.frame m ρ

/-- So they do on the extended reals. -/
theorem frame_inKernelIdeal : Cert.quiescent_InKernelIdeal (hInKernelIdeal := Cert.InKernelIdeal.Gen.facts) :=
  fun m ρ _ => Cert.InKernelIdeal.Gen.frame m ρ

/-- So does their reference. -/
theorem frame_inReferenceIdeal : Cert.quiescent_InReferenceIdeal (hInReferenceIdeal := Cert.InReferenceIdeal.Gen.facts) :=
  fun m ρ _ => (θ_run _ _ _).mono (fun _ h => ⟨fun c => (h c).2.2.2.2.2.2.2.2.2, no_counter_in _⟩) (Cert.InReferenceIdeal.Value.run m ρ)

/-- The arguments of the last layer's tail equal element by element. -/
theorem same_tail_args (m : (ℓ : Loc Cert.TailKernelIdeal.nD Cert.TailKernelIdeal.τ Cert.TailKernelIdeal.sig) → Buf (Elt Ideal) ℓ)
    (m' : (ℓ : Loc Cert.TailReferenceIdeal.nD Cert.TailReferenceIdeal.τ Cert.TailReferenceIdeal.sig) → Buf (Elt Ideal) ℓ) (c : Dev Cert.TailKernelIdeal.nD)
    (hag : m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)
      ∧ m' ((c.tc : Thread Cert.TailReferenceIdeal.nD Cert.TailReferenceIdeal.τ).loc Cert.TailReferenceIdeal.main_arg10) = m ((c.tc : Thread Cert.TailKernelIdeal.nD Cert.TailKernelIdeal.τ).loc Cert.TailKernelIdeal.main_arg10)
      ∧ m' ((c.tc : Thread Cert.TailReferenceIdeal.nD Cert.TailReferenceIdeal.τ).loc Cert.TailReferenceIdeal.main_arg11) = m ((c.tc : Thread Cert.TailKernelIdeal.nD Cert.TailKernelIdeal.τ).loc Cert.TailKernelIdeal.main_arg11)) :
    Cert.TailRef.args (StableHlo.launchContents m' c) = Cert.Tail.kargs m c := by
  have e0 : (Cert.TailRef.args (StableHlo.launchContents m' c)).x = (Cert.Tail.kargs m c).x :=
    funext fun r => funext fun k => congrFun hag.1 (ix2 r k)
  have e1 : (Cert.TailRef.args (StableHlo.launchContents m' c)).y = (Cert.Tail.kargs m c).y :=
    funext fun r => funext fun k => congrFun hag.2.1 (ix2 r k)
  have e2 : (Cert.TailRef.args (StableHlo.launchContents m' c)).hf = (Cert.Tail.kargs m c).hf :=
    funext fun r => funext fun k => congrFun hag.2.2.1 (ix2 r k)
  have e3 : (Cert.TailRef.args (StableHlo.launchContents m' c)).hb = (Cert.Tail.kargs m c).hb :=
    funext fun r => funext fun k => congrFun hag.2.2.2.1 (ix2 r k)
  have e4 : (Cert.TailRef.args (StableHlo.launchContents m' c)).md = (Cert.Tail.kargs m c).md :=
    funext fun a => funext fun b => funext fun k => congrFun hag.2.2.2.2.1 (ix4 3 a b k)
  have e5 : (Cert.TailRef.args (StableHlo.launchContents m' c)).wo = (Cert.Tail.kargs m c).wo :=
    funext fun j => funext fun k => congrFun hag.2.2.2.2.2.1 (ix3 1 j k)
  have e6 : (Cert.TailRef.args (StableHlo.launchContents m' c)).gn = (Cert.Tail.kargs m c).gn :=
    funext fun k => congrFun hag.2.2.2.2.2.2.1 (ix2 3 k)
  have e7 : (Cert.TailRef.args (StableHlo.launchContents m' c)).wu = (Cert.Tail.kargs m c).wu :=
    funext fun k => funext fun q => congrFun hag.2.2.2.2.2.2.2.1 (ix3 3 k q)
  have e8 : (Cert.TailRef.args (StableHlo.launchContents m' c)).cw = (Cert.Tail.kargs m c).cw :=
    funext fun j => funext fun q => congrFun hag.2.2.2.2.2.2.2.2.1 (ix3 3 j q)
  have e9 : (Cert.TailRef.args (StableHlo.launchContents m' c)).cb = (Cert.Tail.kargs m c).cb :=
    funext fun q => congrFun hag.2.2.2.2.2.2.2.2.2.1 (ix2 3 q)
  have e10 : (Cert.TailRef.args (StableHlo.launchContents m' c)).wd = (Cert.Tail.kargs m c).wd :=
    funext fun q => funext fun k => congrFun hag.2.2.2.2.2.2.2.2.2.2.1 (ix3 3 q k)
  have ext : ∀ a b : Cert.Tail.Spec.Args, a.x = b.x → a.y = b.y → a.hf = b.hf → a.hb = b.hb → a.md = b.md → a.wo = b.wo → a.gn = b.gn → a.wu = b.wu → a.cw = b.cw → a.cb = b.cb → a.wd = b.wd → a = b := by
    rintro ⟨⟨⟩⟩ ⟨⟨⟩⟩ h0 h1 h2 h3 h4 h5 h6 h7 h8 h9 h10
    dsimp only at h0 h1 h2 h3 h4 h5 h6 h7 h8 h9 h10
    subst h0 h1 h2 h3 h4 h5 h6 h7 h8 h9 h10
    rfl
  exact ext _ _ e0 e1 e2 e3 e4 e5 e6 e7 e8 e9 e10

/-- Kernel and reference of the last layer's tail end with the same array. -/
theorem same_tail : Cert.algebraic_TailKernelIdeal_TailReferenceIdeal (hTailKernelIdeal := Cert.TailKernelIdeal.Gen.facts) (hTailReferenceIdeal := Cert.TailReferenceIdeal.Gen.facts) := by
  intro m ρ m' ρ' _ hag
  refine ⟨fun c => Cert.Tail.result (Cert.Tail.kargs m c) (Cert.Tail.fnorm m c), Cert.Tail.run_kernel m ρ, ?_⟩
  refine (θ_run _ _ _).mono (fun _ h c => ⟨(h c).1.trans ?_, (h c).2⟩) (Cert.TailReferenceIdeal.Value.run m' ρ')
  funext j
  obtain ⟨r, k, rfl⟩ : ∃ (r : Fin 16384) (k : Fin 1024), j = ix2 r k := ⟨j 0, j 1, eq_ix2 j⟩
  refine (Cert.TailRef.final_apply (StableHlo.launchContents m' c) r k).trans ?_
  have hf : Cert.TailRef.fnorm (StableHlo.launchContents m' c) = Cert.Tail.fnorm m c :=
    funext fun k => congrFun ((hag c).2.2.2.2.2.2.2.2.2.2.2) (ix1 k)
  rw [same_tail_args m m' c (hag c), hf]
  rfl

/-- The arguments of the prompt's last tail equal element by element. -/
theorem same_prompt_args (m : (ℓ : Loc Cert.PromptKernelIdeal.nD Cert.PromptKernelIdeal.τ Cert.PromptKernelIdeal.sig) → Buf (Elt Ideal) ℓ)
    (m' : (ℓ : Loc Cert.PromptReferenceIdeal.nD Cert.PromptReferenceIdeal.τ Cert.PromptReferenceIdeal.sig) → Buf (Elt Ideal) ℓ) (c : Dev Cert.PromptKernelIdeal.nD)
    (hag : m' ((c.tc : Thread Cert.PromptReferenceIdeal.nD Cert.PromptReferenceIdeal.τ).loc Cert.PromptReferenceIdeal.main_arg0) = m ((c.tc : Thread Cert.PromptKernelIdeal.nD Cert.PromptKernelIdeal.τ).loc Cert.PromptKernelIdeal.main_arg0)
      ∧ m' ((c.tc : Thread Cert.PromptReferenceIdeal.nD Cert.PromptReferenceIdeal.τ).loc Cert.PromptReferenceIdeal.main_arg1) = m ((c.tc : Thread Cert.PromptKernelIdeal.nD Cert.PromptKernelIdeal.τ).loc Cert.PromptKernelIdeal.main_arg1)
      ∧ m' ((c.tc : Thread Cert.PromptReferenceIdeal.nD Cert.PromptReferenceIdeal.τ).loc Cert.PromptReferenceIdeal.main_arg2) = m ((c.tc : Thread Cert.PromptKernelIdeal.nD Cert.PromptKernelIdeal.τ).loc Cert.PromptKernelIdeal.main_arg2)
      ∧ m' ((c.tc : Thread Cert.PromptReferenceIdeal.nD Cert.PromptReferenceIdeal.τ).loc Cert.PromptReferenceIdeal.main_arg3) = m ((c.tc : Thread Cert.PromptKernelIdeal.nD Cert.PromptKernelIdeal.τ).loc Cert.PromptKernelIdeal.main_arg3)
      ∧ m' ((c.tc : Thread Cert.PromptReferenceIdeal.nD Cert.PromptReferenceIdeal.τ).loc Cert.PromptReferenceIdeal.main_arg4) = m ((c.tc : Thread Cert.PromptKernelIdeal.nD Cert.PromptKernelIdeal.τ).loc Cert.PromptKernelIdeal.main_arg4)
      ∧ m' ((c.tc : Thread Cert.PromptReferenceIdeal.nD Cert.PromptReferenceIdeal.τ).loc Cert.PromptReferenceIdeal.main_arg5) = m ((c.tc : Thread Cert.PromptKernelIdeal.nD Cert.PromptKernelIdeal.τ).loc Cert.PromptKernelIdeal.main_arg5)
      ∧ m' ((c.tc : Thread Cert.PromptReferenceIdeal.nD Cert.PromptReferenceIdeal.τ).loc Cert.PromptReferenceIdeal.main_arg6) = m ((c.tc : Thread Cert.PromptKernelIdeal.nD Cert.PromptKernelIdeal.τ).loc Cert.PromptKernelIdeal.main_arg6)
      ∧ m' ((c.tc : Thread Cert.PromptReferenceIdeal.nD Cert.PromptReferenceIdeal.τ).loc Cert.PromptReferenceIdeal.main_arg7) = m ((c.tc : Thread Cert.PromptKernelIdeal.nD Cert.PromptKernelIdeal.τ).loc Cert.PromptKernelIdeal.main_arg7)
      ∧ m' ((c.tc : Thread Cert.PromptReferenceIdeal.nD Cert.PromptReferenceIdeal.τ).loc Cert.PromptReferenceIdeal.main_arg8) = m ((c.tc : Thread Cert.PromptKernelIdeal.nD Cert.PromptKernelIdeal.τ).loc Cert.PromptKernelIdeal.main_arg8)
      ∧ m' ((c.tc : Thread Cert.PromptReferenceIdeal.nD Cert.PromptReferenceIdeal.τ).loc Cert.PromptReferenceIdeal.main_arg9) = m ((c.tc : Thread Cert.PromptKernelIdeal.nD Cert.PromptKernelIdeal.τ).loc Cert.PromptKernelIdeal.main_arg9)
      ∧ m' ((c.tc : Thread Cert.PromptReferenceIdeal.nD Cert.PromptReferenceIdeal.τ).loc Cert.PromptReferenceIdeal.main_arg10) = m ((c.tc : Thread Cert.PromptKernelIdeal.nD Cert.PromptKernelIdeal.τ).loc Cert.PromptKernelIdeal.main_arg10)
      ∧ m' ((c.tc : Thread Cert.PromptReferenceIdeal.nD Cert.PromptReferenceIdeal.τ).loc Cert.PromptReferenceIdeal.main_arg11) = m ((c.tc : Thread Cert.PromptKernelIdeal.nD Cert.PromptKernelIdeal.τ).loc Cert.PromptKernelIdeal.main_arg11)) :
    Cert.PromptRef.args (StableHlo.launchContents m' c) = Cert.Prompt.kargs m c := by
  have e0 : (Cert.PromptRef.args (StableHlo.launchContents m' c)).x = (Cert.Prompt.kargs m c).x :=
    funext fun r => funext fun k => congrFun hag.1 (ix2 r k)
  have e1 : (Cert.PromptRef.args (StableHlo.launchContents m' c)).y = (Cert.Prompt.kargs m c).y :=
    funext fun r => funext fun k => congrFun hag.2.1 (ix2 r k)
  have e2 : (Cert.PromptRef.args (StableHlo.launchContents m' c)).hf = (Cert.Prompt.kargs m c).hf :=
    funext fun r => funext fun k => congrFun hag.2.2.1 (ix2 r k)
  have e3 : (Cert.PromptRef.args (StableHlo.launchContents m' c)).hb = (Cert.Prompt.kargs m c).hb :=
    funext fun r => funext fun k => congrFun hag.2.2.2.1 (ix2 r k)
  have e4 : (Cert.PromptRef.args (StableHlo.launchContents m' c)).md = (Cert.Prompt.kargs m c).md :=
    funext fun a => funext fun b => funext fun k => congrFun hag.2.2.2.2.1 (ix4 3 a b k)
  have e5 : (Cert.PromptRef.args (StableHlo.launchContents m' c)).wo = (Cert.Prompt.kargs m c).wo :=
    funext fun j => funext fun k => congrFun hag.2.2.2.2.2.1 (ix3 1 j k)
  have e6 : (Cert.PromptRef.args (StableHlo.launchContents m' c)).gn = (Cert.Prompt.kargs m c).gn :=
    funext fun k => congrFun hag.2.2.2.2.2.2.1 (ix2 3 k)
  have e7 : (Cert.PromptRef.args (StableHlo.launchContents m' c)).wu = (Cert.Prompt.kargs m c).wu :=
    funext fun k => funext fun q => congrFun hag.2.2.2.2.2.2.2.1 (ix3 3 k q)
  have e8 : (Cert.PromptRef.args (StableHlo.launchContents m' c)).cw = (Cert.Prompt.kargs m c).cw :=
    funext fun j => funext fun q => congrFun hag.2.2.2.2.2.2.2.2.1 (ix3 3 j q)
  have e9 : (Cert.PromptRef.args (StableHlo.launchContents m' c)).cb = (Cert.Prompt.kargs m c).cb :=
    funext fun q => congrFun hag.2.2.2.2.2.2.2.2.2.1 (ix2 3 q)
  have e10 : (Cert.PromptRef.args (StableHlo.launchContents m' c)).wd = (Cert.Prompt.kargs m c).wd :=
    funext fun q => funext fun k => congrFun hag.2.2.2.2.2.2.2.2.2.2.1 (ix3 3 q k)
  have ext : ∀ a b : Cert.Prompt.Spec.Args, a.x = b.x → a.y = b.y → a.hf = b.hf → a.hb = b.hb → a.md = b.md → a.wo = b.wo → a.gn = b.gn → a.wu = b.wu → a.cw = b.cw → a.cb = b.cb → a.wd = b.wd → a = b := by
    rintro ⟨⟨⟩⟩ ⟨⟨⟩⟩ h0 h1 h2 h3 h4 h5 h6 h7 h8 h9 h10
    dsimp only at h0 h1 h2 h3 h4 h5 h6 h7 h8 h9 h10
    subst h0 h1 h2 h3 h4 h5 h6 h7 h8 h9 h10
    rfl
  exact ext _ _ e0 e1 e2 e3 e4 e5 e6 e7 e8 e9 e10

/-- Kernel and reference of the prompt's last tail end with the same array. -/
theorem same_prompt : Cert.algebraic_PromptKernelIdeal_PromptReferenceIdeal (hPromptKernelIdeal := Cert.PromptKernelIdeal.Gen.facts) (hPromptReferenceIdeal := Cert.PromptReferenceIdeal.Gen.facts) := by
  intro m ρ m' ρ' _ hag
  refine ⟨fun c => Cert.Prompt.result (Cert.Prompt.kargs m c) (Cert.Prompt.fnorm m c), Cert.Prompt.run_kernel m ρ, ?_⟩
  refine (θ_run _ _ _).mono (fun _ h c => ⟨(h c).1.trans ?_, (h c).2⟩) (Cert.PromptReferenceIdeal.Value.run m' ρ')
  funext j
  obtain ⟨r, k, rfl⟩ : ∃ (r : Fin 8192) (k : Fin 1024), j = ix2 r k := ⟨j 0, j 1, eq_ix2 j⟩
  refine (Cert.PromptRef.final_apply (StableHlo.launchContents m' c) r k).trans ?_
  have hf : Cert.PromptRef.fnorm (StableHlo.launchContents m' c) = Cert.Prompt.fnorm m c :=
    funext fun k => congrFun ((hag c).2.2.2.2.2.2.2.2.2.2.2) (ix1 k)
  rw [same_prompt_args m m' c (hag c), hf]
  rfl

/-- The arguments of the second layer's tail equal element by element. -/
theorem same_mid_args (m : (ℓ : Loc Cert.MidKernelIdeal.nD Cert.MidKernelIdeal.τ Cert.MidKernelIdeal.sig) → Buf (Elt Ideal) ℓ)
    (m' : (ℓ : Loc Cert.MidReferenceIdeal.nD Cert.MidReferenceIdeal.τ Cert.MidReferenceIdeal.sig) → Buf (Elt Ideal) ℓ) (c : Dev Cert.MidKernelIdeal.nD)
    (hag : m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)
      ∧ m' ((c.tc : Thread Cert.MidReferenceIdeal.nD Cert.MidReferenceIdeal.τ).loc Cert.MidReferenceIdeal.main_arg6) = m ((c.tc : Thread Cert.MidKernelIdeal.nD Cert.MidKernelIdeal.τ).loc Cert.MidKernelIdeal.main_arg6)
      ∧ m' ((c.tc : Thread Cert.MidReferenceIdeal.nD Cert.MidReferenceIdeal.τ).loc Cert.MidReferenceIdeal.main_arg7) = m ((c.tc : Thread Cert.MidKernelIdeal.nD Cert.MidKernelIdeal.τ).loc Cert.MidKernelIdeal.main_arg7)
      ∧ m' ((c.tc : Thread Cert.MidReferenceIdeal.nD Cert.MidReferenceIdeal.τ).loc Cert.MidReferenceIdeal.main_arg8) = m ((c.tc : Thread Cert.MidKernelIdeal.nD Cert.MidKernelIdeal.τ).loc Cert.MidKernelIdeal.main_arg8)
      ∧ m' ((c.tc : Thread Cert.MidReferenceIdeal.nD Cert.MidReferenceIdeal.τ).loc Cert.MidReferenceIdeal.main_arg9) = m ((c.tc : Thread Cert.MidKernelIdeal.nD Cert.MidKernelIdeal.τ).loc Cert.MidKernelIdeal.main_arg9)
      ∧ m' ((c.tc : Thread Cert.MidReferenceIdeal.nD Cert.MidReferenceIdeal.τ).loc Cert.MidReferenceIdeal.main_arg10) = m ((c.tc : Thread Cert.MidKernelIdeal.nD Cert.MidKernelIdeal.τ).loc Cert.MidKernelIdeal.main_arg10)) :
    Cert.MidRef.args (StableHlo.launchContents m' c) = Cert.Mid.kargs m c := by
  have e0 : (Cert.MidRef.args (StableHlo.launchContents m' c)).x = (Cert.Mid.kargs m c).x :=
    funext fun r => funext fun k => congrFun hag.1 (ix2 r k)
  have e1 : (Cert.MidRef.args (StableHlo.launchContents m' c)).y = (Cert.Mid.kargs m c).y :=
    funext fun r => funext fun k => congrFun hag.2.1 (ix2 r k)
  have e2 : (Cert.MidRef.args (StableHlo.launchContents m' c)).hf = (Cert.Mid.kargs m c).hf :=
    funext fun r => funext fun k => congrFun hag.2.2.1 (ix2 r k)
  have e3 : (Cert.MidRef.args (StableHlo.launchContents m' c)).hb = (Cert.Mid.kargs m c).hb :=
    funext fun r => funext fun k => congrFun hag.2.2.2.1 (ix2 r k)
  have e4 : (Cert.MidRef.args (StableHlo.launchContents m' c)).md = (Cert.Mid.kargs m c).md :=
    funext fun a => funext fun b => funext fun k => congrFun hag.2.2.2.2.1 (ix4 1 a b k)
  have e5 : (Cert.MidRef.args (StableHlo.launchContents m' c)).wo = (Cert.Mid.kargs m c).wo :=
    funext fun j => funext fun k => congrFun hag.2.2.2.2.2.1 (ix3 0 j k)
  have e6 : (Cert.MidRef.args (StableHlo.launchContents m' c)).gn = (Cert.Mid.kargs m c).gn :=
    funext fun k => congrFun hag.2.2.2.2.2.2.1 (ix2 1 k)
  have e7 : (Cert.MidRef.args (StableHlo.launchContents m' c)).wu = (Cert.Mid.kargs m c).wu :=
    funext fun k => funext fun q => congrFun hag.2.2.2.2.2.2.2.1 (ix3 1 k q)
  have e8 : (Cert.MidRef.args (StableHlo.launchContents m' c)).cw = (Cert.Mid.kargs m c).cw :=
    funext fun j => funext fun q => congrFun hag.2.2.2.2.2.2.2.2.1 (ix3 1 j q)
  have e9 : (Cert.MidRef.args (StableHlo.launchContents m' c)).cb = (Cert.Mid.kargs m c).cb :=
    funext fun q => congrFun hag.2.2.2.2.2.2.2.2.2.1 (ix2 1 q)
  have e10 : (Cert.MidRef.args (StableHlo.launchContents m' c)).wd = (Cert.Mid.kargs m c).wd :=
    funext fun q => funext fun k => congrFun hag.2.2.2.2.2.2.2.2.2.2 (ix3 1 q k)
  have ext : ∀ a b : Cert.Tail.Spec.Args, a.x = b.x → a.y = b.y → a.hf = b.hf → a.hb = b.hb → a.md = b.md → a.wo = b.wo → a.gn = b.gn → a.wu = b.wu → a.cw = b.cw → a.cb = b.cb → a.wd = b.wd → a = b := by
    rintro ⟨⟨⟩⟩ ⟨⟨⟩⟩ h0 h1 h2 h3 h4 h5 h6 h7 h8 h9 h10
    dsimp only at h0 h1 h2 h3 h4 h5 h6 h7 h8 h9 h10
    subst h0 h1 h2 h3 h4 h5 h6 h7 h8 h9 h10
    rfl
  exact ext _ _ e0 e1 e2 e3 e4 e5 e6 e7 e8 e9 e10

/-- Kernel and reference of the second layer's tail end with the same array. -/
theorem same_mid : Cert.algebraic_MidKernelIdeal_MidReferenceIdeal (hMidKernelIdeal := Cert.MidKernelIdeal.Gen.facts) (hMidReferenceIdeal := Cert.MidReferenceIdeal.Gen.facts) := by
  intro m ρ m' ρ' _ hag
  refine ⟨fun c => Cert.Mid.result (Cert.Mid.kargs m c) , Cert.Mid.run_kernel m ρ, ?_⟩
  refine (θ_run _ _ _).mono (fun _ h c => ⟨(h c).1.trans ?_, (h c).2⟩) (Cert.MidReferenceIdeal.Value.run m' ρ')
  funext j
  obtain ⟨r, k, rfl⟩ : ∃ (r : Fin 16384) (k : Fin 1024), j = ix2 r k := ⟨j 0, j 1, eq_ix2 j⟩
  refine (Cert.MidRef.result_apply m' c r k).trans ?_
  rw [same_mid_args m m' c (hag c)]
  rfl

/-- The arguments of the third layer's tail equal element by element. -/
theorem same_even_args (m : (ℓ : Loc Cert.EvenKernelIdeal.nD Cert.EvenKernelIdeal.τ Cert.EvenKernelIdeal.sig) → Buf (Elt Ideal) ℓ)
    (m' : (ℓ : Loc Cert.EvenReferenceIdeal.nD Cert.EvenReferenceIdeal.τ Cert.EvenReferenceIdeal.sig) → Buf (Elt Ideal) ℓ) (c : Dev Cert.EvenKernelIdeal.nD)
    (hag : m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)
      ∧ m' ((c.tc : Thread Cert.EvenReferenceIdeal.nD Cert.EvenReferenceIdeal.τ).loc Cert.EvenReferenceIdeal.main_arg7) = m ((c.tc : Thread Cert.EvenKernelIdeal.nD Cert.EvenKernelIdeal.τ).loc Cert.EvenKernelIdeal.main_arg7)
      ∧ m' ((c.tc : Thread Cert.EvenReferenceIdeal.nD Cert.EvenReferenceIdeal.τ).loc Cert.EvenReferenceIdeal.main_arg8) = m ((c.tc : Thread Cert.EvenKernelIdeal.nD Cert.EvenKernelIdeal.τ).loc Cert.EvenKernelIdeal.main_arg8)
      ∧ m' ((c.tc : Thread Cert.EvenReferenceIdeal.nD Cert.EvenReferenceIdeal.τ).loc Cert.EvenReferenceIdeal.main_arg9) = m ((c.tc : Thread Cert.EvenKernelIdeal.nD Cert.EvenKernelIdeal.τ).loc Cert.EvenKernelIdeal.main_arg9)
      ∧ m' ((c.tc : Thread Cert.EvenReferenceIdeal.nD Cert.EvenReferenceIdeal.τ).loc Cert.EvenReferenceIdeal.main_arg10) = m ((c.tc : Thread Cert.EvenKernelIdeal.nD Cert.EvenKernelIdeal.τ).loc Cert.EvenKernelIdeal.main_arg10)
      ∧ m' ((c.tc : Thread Cert.EvenReferenceIdeal.nD Cert.EvenReferenceIdeal.τ).loc Cert.EvenReferenceIdeal.main_arg11) = m ((c.tc : Thread Cert.EvenKernelIdeal.nD Cert.EvenKernelIdeal.τ).loc Cert.EvenKernelIdeal.main_arg11)
      ∧ m' ((c.tc : Thread Cert.EvenReferenceIdeal.nD Cert.EvenReferenceIdeal.τ).loc Cert.EvenReferenceIdeal.main_arg12) = m ((c.tc : Thread Cert.EvenKernelIdeal.nD Cert.EvenKernelIdeal.τ).loc Cert.EvenKernelIdeal.main_arg12)) :
    Cert.EvenRef.args (StableHlo.launchContents m' c) = Cert.Even.kargs m c := by
  have e0 : (Cert.EvenRef.args (StableHlo.launchContents m' c)).x = (Cert.Even.kargs m c).x :=
    funext fun r => funext fun k => congrFun hag.1 (ix2 r k)
  have e1 : (Cert.EvenRef.args (StableHlo.launchContents m' c)).oa = (Cert.Even.kargs m c).oa :=
    funext fun r => funext fun k => congrFun hag.2.1 (ix2 r k)
  have e2 : (Cert.EvenRef.args (StableHlo.launchContents m' c)).sf = (Cert.Even.kargs m c).sf :=
    funext fun r => funext fun k => congrFun hag.2.2.1 (ix2 r k)
  have e3 : (Cert.EvenRef.args (StableHlo.launchContents m' c)).sb = (Cert.Even.kargs m c).sb :=
    funext fun r => funext fun k => congrFun hag.2.2.2.1 (ix2 r k)
  have e4 : (Cert.EvenRef.args (StableHlo.launchContents m' c)).gb = (Cert.Even.kargs m c).gb :=
    funext fun r => funext fun k => congrFun hag.2.2.2.2.1 (ix2 r k)
  have e5 : (Cert.EvenRef.args (StableHlo.launchContents m' c)).md = (Cert.Even.kargs m c).md :=
    funext fun a => funext fun b => funext fun k => congrFun hag.2.2.2.2.2.1 (ix4 2 a b k)
  have e6 : (Cert.EvenRef.args (StableHlo.launchContents m' c)).nh = (Cert.Even.kargs m c).nh :=
    funext fun q => congrFun hag.2.2.2.2.2.2.1 (ix2 1 q)
  have e7 : (Cert.EvenRef.args (StableHlo.launchContents m' c)).wo = (Cert.Even.kargs m c).wo :=
    funext fun j => funext fun k => congrFun hag.2.2.2.2.2.2.2.1 (ix3 1 j k)
  have e8 : (Cert.EvenRef.args (StableHlo.launchContents m' c)).gn = (Cert.Even.kargs m c).gn :=
    funext fun k => congrFun hag.2.2.2.2.2.2.2.2.1 (ix2 2 k)
  have e9 : (Cert.EvenRef.args (StableHlo.launchContents m' c)).wu = (Cert.Even.kargs m c).wu :=
    funext fun k => funext fun q => congrFun hag.2.2.2.2.2.2.2.2.2.1 (ix3 2 k q)
  have e10 : (Cert.EvenRef.args (StableHlo.launchContents m' c)).cw = (Cert.Even.kargs m c).cw :=
    funext fun j => funext fun q => congrFun hag.2.2.2.2.2.2.2.2.2.2.1 (ix3 2 j q)
  have e11 : (Cert.EvenRef.args (StableHlo.launchContents m' c)).cb = (Cert.Even.kargs m c).cb :=
    funext fun q => congrFun hag.2.2.2.2.2.2.2.2.2.2.2.1 (ix2 2 q)
  have e12 : (Cert.EvenRef.args (StableHlo.launchContents m' c)).wd = (Cert.Even.kargs m c).wd :=
    funext fun q => funext fun k => congrFun hag.2.2.2.2.2.2.2.2.2.2.2.2 (ix3 2 q k)
  have ext : ∀ a b : Cert.Even.Spec.Args, a.x = b.x → a.oa = b.oa → a.sf = b.sf → a.sb = b.sb → a.gb = b.gb → a.md = b.md → a.nh = b.nh → a.wo = b.wo → a.gn = b.gn → a.wu = b.wu → a.cw = b.cw → a.cb = b.cb → a.wd = b.wd → a = b := by
    rintro ⟨⟨⟩⟩ ⟨⟨⟩⟩ h0 h1 h2 h3 h4 h5 h6 h7 h8 h9 h10 h11 h12
    dsimp only at h0 h1 h2 h3 h4 h5 h6 h7 h8 h9 h10 h11 h12
    subst h0 h1 h2 h3 h4 h5 h6 h7 h8 h9 h10 h11 h12
    rfl
  exact ext _ _ e0 e1 e2 e3 e4 e5 e6 e7 e8 e9 e10 e11 e12

/-- Kernel and reference of the third layer's tail end with the same array. -/
theorem same_even : Cert.algebraic_EvenKernelIdeal_EvenReferenceIdeal (hEvenKernelIdeal := Cert.EvenKernelIdeal.Gen.facts) (hEvenReferenceIdeal := Cert.EvenReferenceIdeal.Gen.facts) := by
  intro m ρ m' ρ' _ hag
  refine ⟨fun c => Cert.Even.result (Cert.Even.kargs m c) , Cert.Even.run_kernel m ρ, ?_⟩
  refine (θ_run _ _ _).mono (fun _ h c => ⟨(h c).1.trans ?_, (h c).2⟩) (Cert.EvenReferenceIdeal.Value.run m' ρ')
  funext j
  obtain ⟨r, k, rfl⟩ : ∃ (r : Fin 16384) (k : Fin 1024), j = ix2 r k := ⟨j 0, j 1, eq_ix2 j⟩
  refine (Cert.EvenRef.result_apply (StableHlo.launchContents m' c) r k).trans ?_
  rw [same_even_args m m' c (hag c)]
  rfl

/-- The arguments of the first layer's tail equal element by element. -/
theorem same_first_args (m : (ℓ : Loc Cert.FirstKernelIdeal.nD Cert.FirstKernelIdeal.τ Cert.FirstKernelIdeal.sig) → Buf (Elt Ideal) ℓ)
    (m' : (ℓ : Loc Cert.FirstReferenceIdeal.nD Cert.FirstReferenceIdeal.τ Cert.FirstReferenceIdeal.sig) → Buf (Elt Ideal) ℓ) (c : Dev Cert.FirstKernelIdeal.nD)
    (hag : m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)
      ∧ m' ((c.tc : Thread Cert.FirstReferenceIdeal.nD Cert.FirstReferenceIdeal.τ).loc Cert.FirstReferenceIdeal.main_arg7) = m ((c.tc : Thread Cert.FirstKernelIdeal.nD Cert.FirstKernelIdeal.τ).loc Cert.FirstKernelIdeal.main_arg7)
      ∧ m' ((c.tc : Thread Cert.FirstReferenceIdeal.nD Cert.FirstReferenceIdeal.τ).loc Cert.FirstReferenceIdeal.main_arg8) = m ((c.tc : Thread Cert.FirstKernelIdeal.nD Cert.FirstKernelIdeal.τ).loc Cert.FirstKernelIdeal.main_arg8)
      ∧ m' ((c.tc : Thread Cert.FirstReferenceIdeal.nD Cert.FirstReferenceIdeal.τ).loc Cert.FirstReferenceIdeal.main_arg9) = m ((c.tc : Thread Cert.FirstKernelIdeal.nD Cert.FirstKernelIdeal.τ).loc Cert.FirstKernelIdeal.main_arg9)
      ∧ m' ((c.tc : Thread Cert.FirstReferenceIdeal.nD Cert.FirstReferenceIdeal.τ).loc Cert.FirstReferenceIdeal.main_arg10) = m ((c.tc : Thread Cert.FirstKernelIdeal.nD Cert.FirstKernelIdeal.τ).loc Cert.FirstKernelIdeal.main_arg10)
      ∧ m' ((c.tc : Thread Cert.FirstReferenceIdeal.nD Cert.FirstReferenceIdeal.τ).loc Cert.FirstReferenceIdeal.main_arg11) = m ((c.tc : Thread Cert.FirstKernelIdeal.nD Cert.FirstKernelIdeal.τ).loc Cert.FirstKernelIdeal.main_arg11)
      ∧ m' ((c.tc : Thread Cert.FirstReferenceIdeal.nD Cert.FirstReferenceIdeal.τ).loc Cert.FirstReferenceIdeal.main_arg12) = m ((c.tc : Thread Cert.FirstKernelIdeal.nD Cert.FirstKernelIdeal.τ).loc Cert.FirstKernelIdeal.main_arg12)) :
    Cert.FirstRef.args (StableHlo.launchContents m' c) = Cert.First.kargs m c := by
  have e0 : (Cert.FirstRef.args (StableHlo.launchContents m' c)).x = (Cert.First.kargs m c).x :=
    funext fun r => funext fun k => congrFun hag.1 (ix2 r k)
  have e1 : (Cert.FirstRef.args (StableHlo.launchContents m' c)).oa = (Cert.First.kargs m c).oa :=
    funext fun r => funext fun k => congrFun hag.2.1 (ix2 r k)
  have e2 : (Cert.FirstRef.args (StableHlo.launchContents m' c)).sf = (Cert.First.kargs m c).sf :=
    funext fun r => funext fun k => congrFun hag.2.2.1 (ix2 r k)
  have e3 : (Cert.FirstRef.args (StableHlo.launchContents m' c)).sb = (Cert.First.kargs m c).sb :=
    funext fun r => funext fun k => congrFun hag.2.2.2.1 (ix2 r k)
  have e4 : (Cert.FirstRef.args (StableHlo.launchContents m' c)).gb = (Cert.First.kargs m c).gb :=
    funext fun r => funext fun k => congrFun hag.2.2.2.2.1 (ix2 r k)
  have e5 : (Cert.FirstRef.args (StableHlo.launchContents m' c)).md = (Cert.First.kargs m c).md :=
    funext fun a => funext fun b => funext fun k => congrFun hag.2.2.2.2.2.1 (ix4 0 a b k)
  have e6 : (Cert.FirstRef.args (StableHlo.launchContents m' c)).nh = (Cert.First.kargs m c).nh :=
    funext fun q => congrFun hag.2.2.2.2.2.2.1 (ix2 0 q)
  have e7 : (Cert.FirstRef.args (StableHlo.launchContents m' c)).wo = (Cert.First.kargs m c).wo :=
    funext fun j => funext fun k => congrFun hag.2.2.2.2.2.2.2.1 (ix3 0 j k)
  have e8 : (Cert.FirstRef.args (StableHlo.launchContents m' c)).gn = (Cert.First.kargs m c).gn :=
    funext fun k => congrFun hag.2.2.2.2.2.2.2.2.1 (ix2 0 k)
  have e9 : (Cert.FirstRef.args (StableHlo.launchContents m' c)).wu = (Cert.First.kargs m c).wu :=
    funext fun k => funext fun q => congrFun hag.2.2.2.2.2.2.2.2.2.1 (ix3 0 k q)
  have e10 : (Cert.FirstRef.args (StableHlo.launchContents m' c)).cw = (Cert.First.kargs m c).cw :=
    funext fun j => funext fun q => congrFun hag.2.2.2.2.2.2.2.2.2.2.1 (ix3 0 j q)
  have e11 : (Cert.FirstRef.args (StableHlo.launchContents m' c)).cb = (Cert.First.kargs m c).cb :=
    funext fun q => congrFun hag.2.2.2.2.2.2.2.2.2.2.2.1 (ix2 0 q)
  have e12 : (Cert.FirstRef.args (StableHlo.launchContents m' c)).wd = (Cert.First.kargs m c).wd :=
    funext fun q => funext fun k => congrFun hag.2.2.2.2.2.2.2.2.2.2.2.2 (ix3 0 q k)
  have ext : ∀ a b : Cert.Even.Spec.Args, a.x = b.x → a.oa = b.oa → a.sf = b.sf → a.sb = b.sb → a.gb = b.gb → a.md = b.md → a.nh = b.nh → a.wo = b.wo → a.gn = b.gn → a.wu = b.wu → a.cw = b.cw → a.cb = b.cb → a.wd = b.wd → a = b := by
    rintro ⟨⟨⟩⟩ ⟨⟨⟩⟩ h0 h1 h2 h3 h4 h5 h6 h7 h8 h9 h10 h11 h12
    dsimp only at h0 h1 h2 h3 h4 h5 h6 h7 h8 h9 h10 h11 h12
    subst h0 h1 h2 h3 h4 h5 h6 h7 h8 h9 h10 h11 h12
    rfl
  exact ext _ _ e0 e1 e2 e3 e4 e5 e6 e7 e8 e9 e10 e11 e12

/-- Kernel and reference of the first layer's tail end with the same array. -/
theorem same_first : Cert.algebraic_FirstKernelIdeal_FirstReferenceIdeal (hFirstKernelIdeal := Cert.FirstKernelIdeal.Gen.facts) (hFirstReferenceIdeal := Cert.FirstReferenceIdeal.Gen.facts) := by
  intro m ρ m' ρ' _ hag
  refine ⟨fun c => Cert.First.result (Cert.First.kargs m c) , Cert.First.run_kernel m ρ, ?_⟩
  refine (θ_run _ _ _).mono (fun _ h c => ⟨(h c).1.trans ?_, (h c).2⟩) (Cert.FirstReferenceIdeal.Value.run m' ρ')
  funext j
  obtain ⟨r, k, rfl⟩ : ∃ (r : Fin 16384) (k : Fin 1024), j = ix2 r k := ⟨j 0, j 1, eq_ix2 j⟩
  refine (Cert.FirstRef.result_apply (StableHlo.launchContents m' c) r k).trans ?_
  rw [same_first_args m m' c (hag c)]
  rfl

/-- The arguments of an even layer's projections equal element by element. -/
theorem same_in_args (m : (ℓ : Loc Cert.InKernelIdeal.nD Cert.InKernelIdeal.τ Cert.InKernelIdeal.sig) → Buf (Elt Ideal) ℓ)
    (m' : (ℓ : Loc Cert.InReferenceIdeal.nD Cert.InReferenceIdeal.τ Cert.InReferenceIdeal.sig) → Buf (Elt Ideal) ℓ) (c : Dev Cert.InKernelIdeal.nD)
    (hag : m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)) :
    Cert.InRef.args m' c = Cert.In.kargs m c := by
  have e0 : (Cert.InRef.args m' c).x = (Cert.In.kargs m c).x :=
    funext fun r => funext fun k => congrFun hag.1 (ix2 r k)
  have e1 : (Cert.InRef.args m' c).md = (Cert.In.kargs m c).md :=
    funext fun a => funext fun b => funext fun k => congrFun hag.2.1 (ix4 0 a b k)
  have e2 : (Cert.InRef.args m' c).gn = (Cert.In.kargs m c).gn :=
    funext fun k => congrFun hag.2.2.1 (ix2 0 k)
  have e3 : (Cert.InRef.args m' c).w = (Cert.In.kargs m c).w :=
    funext fun k => funext fun q => congrFun hag.2.2.2.1 (ix3 0 k q)
  have e4 : (Cert.InRef.args m' c).wf = (Cert.In.kargs m c).wf :=
    funext fun a => funext fun q => congrFun hag.2.2.2.2.1 (ix3 0 a q)
  have e5 : (Cert.InRef.args m' c).bf = (Cert.In.kargs m c).bf :=
    funext fun q => congrFun hag.2.2.2.2.2.1 (ix2 0 q)
  have e6 : (Cert.InRef.args m' c).wb = (Cert.In.kargs m c).wb :=
    funext fun a => funext fun q => congrFun hag.2.2.2.2.2.2.1 (ix3 0 a q)
  have e7 : (Cert.InRef.args m' c).bb = (Cert.In.kargs m c).bb :=
    funext fun q => congrFun hag.2.2.2.2.2.2.2 (ix2 0 q)
  have ext : ∀ a b : Cert.In.Spec.Args, a.x = b.x → a.md = b.md → a.gn = b.gn → a.w = b.w → a.wf = b.wf → a.bf = b.bf → a.wb = b.wb → a.bb = b.bb → a = b := by
    rintro ⟨⟩ ⟨⟩ h0 h1 h2 h3 h4 h5 h6 h7
    dsimp only at h0 h1 h2 h3 h4 h5 h6 h7
    subst h0 h1 h2 h3 h4 h5 h6 h7
    rfl
  exact ext _ _ e0 e1 e2 e3 e4 e5 e6 e7

/-- Kernel and reference of an even layer's projections on the prompt's rows end with the same nine arrays. -/
theorem same_in : Cert.algebraic_InKernelIdeal_InReferenceIdeal (hInKernelIdeal := Cert.InKernelIdeal.Gen.facts) (hInReferenceIdeal := Cert.InReferenceIdeal.Gen.facts) := by
  intro m ρ m' ρ' _ hag
  refine ⟨fun c => Cert.In.cutArr (φ := .bf16) (Cert.In.kargs m c) 0 512 (by decide),
    fun c => Cert.In.cutArr (φ := .f32) (Cert.In.kargs m c) 512 128 (by decide),
    fun c => Cert.In.cutArr (φ := .f32) (Cert.In.kargs m c) 640 128 (by decide),
    fun c => Cert.In.eighthArr (φ := .bf16) (Cert.In.kargs m c) 768 256 (by decide),
    fun c => Cert.In.cutArr (φ := .bf16) (Cert.In.kargs m c) 1024 256 (by decide),
    fun c => Cert.In.cutArr (φ := .bf16) (Cert.In.kargs m c) 1280 512 (by decide),
    fun c => Cert.In.cutArr (φ := .bf16) (Cert.In.kargs m c) 1792 512 (by decide),
    fun c => Cert.In.gateArr (Cert.In.kargs m c) 2304 (by decide) (Cert.In.kargs m c).wf (Cert.In.kargs m c).bf,
    fun c => Cert.In.gateArr (Cert.In.kargs m c) 2320 (by decide) (Cert.In.kargs m c).wb (Cert.In.kargs m c).bb, Cert.In.run_kernel m ρ, ?_⟩
  refine (θ_run _ _ _).mono (fun _ h c => ?_) (Cert.InReferenceIdeal.Value.run m' ρ')
  have e := same_in_args m m' c (hag c)
  obtain ⟨h0, h1, h2, h3, h4, h5, h6, h7, h8, rest⟩ := h c
  have g0 := Cert.InRef.cut0 m' c
  have g1 := Cert.InRef.cut512 m' c
  have g2 := Cert.InRef.cut640 m' c
  have g3 := Cert.InRef.cut768 m' c
  have g4 := Cert.InRef.cut1024 m' c
  have g5 := Cert.InRef.cut1280 m' c
  have g6 := Cert.InRef.cut1792 m' c
  have g7 := Cert.InRef.gates_f m' c
  have g8 := Cert.InRef.gates_b m' c
  rw [e] at g0 g1 g2 g3 g4 g5 g6 g7 g8
  exact ⟨h0.trans g0, h1.trans g1, h2.trans g2, h3.trans g3, h4.trans g4, h5.trans g5, h6.trans g6, h7.trans g7, h8.trans g8, rest⟩

/-- All the claims together. -/
theorem claim : Cert.Claim := ⟨Cert.Kernel.Gen.facts, Cert.KernelIdeal.Gen.facts, Cert.ReferenceIdeal.Gen.facts,
  Cert.TailKernel.Gen.facts, Cert.TailKernelIdeal.Gen.facts, Cert.TailReferenceIdeal.Gen.facts,
  Cert.PromptKernel.Gen.facts, Cert.PromptKernelIdeal.Gen.facts, Cert.PromptReferenceIdeal.Gen.facts,
  Cert.MidKernel.Gen.facts, Cert.MidKernelIdeal.Gen.facts, Cert.MidReferenceIdeal.Gen.facts,
  Cert.EvenKernel.Gen.facts, Cert.EvenKernelIdeal.Gen.facts, Cert.EvenReferenceIdeal.Gen.facts,
  Cert.FirstKernel.Gen.facts, Cert.FirstKernelIdeal.Gen.facts, Cert.FirstReferenceIdeal.Gen.facts,
  Cert.InKernel.Gen.facts, Cert.InKernelIdeal.Gen.facts, Cert.InReferenceIdeal.Gen.facts,
  frame_kernel, frame_kernelIdeal, frame_referenceIdeal,
  frame_tailKernel, frame_tailKernelIdeal, frame_tailReferenceIdeal,
  frame_promptKernel, frame_promptKernelIdeal, frame_promptReferenceIdeal,
  frame_midKernel, frame_midKernelIdeal, frame_midReferenceIdeal,
  frame_evenKernel, frame_evenKernelIdeal, frame_evenReferenceIdeal,
  frame_firstKernel, frame_firstKernelIdeal, frame_firstReferenceIdeal,
  frame_inKernel, frame_inKernelIdeal, frame_inReferenceIdeal,
  trivial, same_values, trivial, same_tail, trivial, same_prompt, trivial, same_mid, trivial, same_even, trivial, same_first, trivial, same_in⟩

end Cert.Proof

end
